-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v104)) (v1 : (c : Dev Cert.KernelIdeal.nD) → Buf (Elt Ideal) ((c.tc : Thread Cert.KernelIdeal.nD Cert.KernelIdeal.τ).loc Cert.KernelIdeal.main_v106)) (v2 : (c : Dev Cert.KernelIdeal.nD) → Buf (Elt Ideal) ((c.tc : Thread Cert.KernelIdeal.nD Cert.KernelIdeal.τ).loc Cert.KernelIdeal.main_v109)) (v3 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_v106) = v1 c
          ∧ r.2.mem ((c.tc : Thread Cert.KernelIdeal.nD Cert.KernelIdeal.τ).loc Cert.KernelIdeal.main_v109) = v2 c
          ∧ r.2.mem ((c.tc : Thread Cert.KernelIdeal.nD Cert.KernelIdeal.τ).loc Cert.KernelIdeal.main_v115) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v39_0)) (v1 : (c : Dev Cert.Kernel2Ideal.nD) → Buf (Elt Ideal) ((c.tc : Thread Cert.Kernel2Ideal.nD Cert.Kernel2Ideal.τ).loc Cert.Kernel2Ideal.main_v39_1)) (v2 : (c : Dev Cert.Kernel2Ideal.nD) → Buf (Elt Ideal) ((c.tc : Thread Cert.Kernel2Ideal.nD Cert.Kernel2Ideal.τ).loc Cert.Kernel2Ideal.main_v39_2)) (v3 : (c : Dev Cert.Kernel2Ideal.nD) → Buf (Elt Ideal) ((c.tc : Thread Cert.Kernel2Ideal.nD Cert.Kernel2Ideal.τ).loc Cert.Kernel2Ideal.main_v39_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v39_0) = v0 c
          ∧ r.2.mem ((c.tc : Thread Cert.Kernel2Ideal.nD Cert.Kernel2Ideal.τ).loc Cert.Kernel2Ideal.main_v39_1) = v1 c
          ∧ r.2.mem ((c.tc : Thread Cert.Kernel2Ideal.nD Cert.Kernel2Ideal.τ).loc Cert.Kernel2Ideal.main_v39_2) = v2 c
          ∧ r.2.mem ((c.tc : Thread Cert.Kernel2Ideal.nD Cert.Kernel2Ideal.τ).loc Cert.Kernel2Ideal.main_v39_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_v81) = v1 c
          ∧ r.2.mem ((c.tc : Thread Cert.Reference2Ideal.nD Cert.Reference2Ideal.τ).loc Cert.Reference2Ideal.main_v79) = v2 c
          ∧ r.2.mem ((c.tc : Thread Cert.Reference2Ideal.nD Cert.Reference2Ideal.τ).loc Cert.Reference2Ideal.main_v82) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v1_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_v1_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v84) = v0 c
          ∧ r.2.mem ((c.tc : Thread Cert.Reference3Ideal.nD Cert.Reference3Ideal.τ).loc Cert.Reference3Ideal.main_v85) = v1 c
          ∧ r.2.mem ((c.tc : Thread Cert.Reference3Ideal.nD Cert.Reference3Ideal.τ).loc Cert.Reference3Ideal.main_v82) = v2 c
          ∧ r.2.mem ((c.tc : Thread Cert.Reference3Ideal.nD Cert.Reference3Ideal.τ).loc Cert.Reference3Ideal.main_v86) = v3 c
          ∧ r.2.mem ((c.tc : Thread Cert.Reference3Ideal.nD Cert.Reference3Ideal.τ).loc Cert.Reference3Ideal.main_v83) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v40_0)) (v1 : (c : Dev Cert.Kernel4Ideal.nD) → Buf (Elt Ideal) ((c.tc : Thread Cert.Kernel4Ideal.nD Cert.Kernel4Ideal.τ).loc Cert.Kernel4Ideal.main_v40_1)) (v2 : (c : Dev Cert.Kernel4Ideal.nD) → Buf (Elt Ideal) ((c.tc : Thread Cert.Kernel4Ideal.nD Cert.Kernel4Ideal.τ).loc Cert.Kernel4Ideal.main_v40_2)) (v3 : (c : Dev Cert.Kernel4Ideal.nD) → Buf (Elt Ideal) ((c.tc : Thread Cert.Kernel4Ideal.nD Cert.Kernel4Ideal.τ).loc Cert.Kernel4Ideal.main_v40_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v40_0) = v0 c
          ∧ r.2.mem ((c.tc : Thread Cert.Kernel4Ideal.nD Cert.Kernel4Ideal.τ).loc Cert.Kernel4Ideal.main_v40_1) = v1 c
          ∧ r.2.mem ((c.tc : Thread Cert.Kernel4Ideal.nD Cert.Kernel4Ideal.τ).loc Cert.Kernel4Ideal.main_v40_2) = v2 c
          ∧ r.2.mem ((c.tc : Thread Cert.Kernel4Ideal.nD Cert.Kernel4Ideal.τ).loc Cert.Kernel4Ideal.main_v40_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v51) = v1 c
          ∧ r.2.mem ((c.tc : Thread Cert.Reference4Ideal.nD Cert.Reference4Ideal.τ).loc Cert.Reference4Ideal.main_v53) = v2 c
          ∧ r.2.mem ((c.tc : Thread Cert.Reference4Ideal.nD Cert.Reference4Ideal.τ).loc Cert.Reference4Ideal.main_v39) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_v18) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
-- ==== Pre_finite.lean ====
abbrev S8192x8x64 : Shape := ⟨3, ![8192, 8, 64]⟩
abbrev S8192x8 : Shape := ⟨2, ![8192, 8]⟩
abbrev S_ : Shape := ⟨0, ![]⟩

class Facts : Prop where
  bcast_S_S8192x8x64 : S_.BroadcastsInDim S8192x8x64 (![] : Fin 0 → Fin S8192x8x64.rank)
  bcast_S_S8192x8 : S_.BroadcastsInDim S8192x8 (![] : Fin 0 → Fin S8192x8.rank)

variable [Facts]

def fn {F : FTy → Type} [FloatOps F] (main_arg0 : FVec F S8192x8x64 .f32) (main_arg1 : FVec F S8192x8x64 .f32) (main_arg2 : FVec F S8192x8x64 .f32) (main_arg3 : FVec F S8192x8 .f32) (main_arg4 : FVec F S8192x8x64 .f32) : IVec S8192x8x64 1 × IVec S8192x8x64 1 × IVec S8192x8x64 1 × IVec S8192x8 1 × IVec S8192x8x64 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_v3 : FVec F S8192x8x64 .f32 := Host.absf main_arg1
  let main_cst_0 : FVec F S_ .f32 := constant S_ .f32 0x7F800000#32
  let main_v4 : FVec F S8192x8x64 .f32 := broadcastInDim S8192x8x64 ![] bcast_S_S8192x8x64 main_cst_0
  let main_v5 : IVec S8192x8x64 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S8192x8 .f32 := Host.absf main_arg3
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  let main_v12 : FVec F S8192x8x64 .f32 := Host.absf main_arg4
  let main_cst_3 : FVec F S_ .f32 := constant S_ .f32 0x7F800000#32
  let main_v13 : FVec F S8192x8x64 .f32 := broadcastInDim S8192x8x64 ![] bcast_S_S8192x8x64 main_cst_3
  let main_v14 : IVec S8192x8x64 1 := cmpf .olt main_v12 main_v13
  (main_v2, main_v5, main_v8, main_v11, main_v14)
-- ==== Pre_finite2.lean ====
abbrev S8192x1024 : Shape := ⟨2, ![8192, 1024]⟩
abbrev S1x1024 : Shape := ⟨2, ![1, 1024]⟩
abbrev S1024x2568 : Shape := ⟨2, ![1024, 2568]⟩
abbrev S1x8 : Shape := ⟨2, ![1, 8]⟩
abbrev S8192x8x64 : Shape := ⟨3, ![8192, 8, 64]⟩
abbrev S8192x8 : Shape := ⟨2, ![8192, 8]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2568 : S_.BroadcastsInDim S1024x2568 (![] : Fin 0 → Fin S1024x2568.rank)
  bcast_S_S1x8 : S_.BroadcastsInDim S1x8 (![] : Fin 0 → Fin S1x8.rank)
  bcast_S_S8192x8x64 : S_.BroadcastsInDim S8192x8x64 (![] : Fin 0 → Fin S8192x8x64.rank)
  bcast_S_S8192x8 : S_.BroadcastsInDim S8192x8 (![] : Fin 0 → Fin S8192x8.rank)

variable [Facts]

def fn_part1 {F : FTy → Type} [FloatOps F] (main_arg6 : FVec F S8192x8x64 .f32) (main_arg7 : FVec F S8192x8x64 .f32) (main_arg8 : FVec F S8192x8 .f32) (main_arg9 : FVec F S8192x8 .f32) (main_v2 : IVec S8192x1024 1) (main_v5 : IVec S1x1024 1) (main_v8 : IVec S1024x2568 1) (main_v11 : IVec S1x8 1) (main_v14 : IVec S8192x1024 1) (main_v17 : IVec S8192x8x64 1) : IVec S8192x1024 1 × IVec S1x1024 1 × IVec S1024x2568 1 × IVec S1x8 1 × IVec S8192x1024 1 × IVec S8192x8x64 1 × IVec S8192x8x64 1 × IVec S8192x8x64 1 × IVec S8192x8 1 × IVec S8192x8 1 :=
  let main_v18 : FVec F S8192x8x64 .f32 := Host.absf main_arg6
  let main_cst_5 : FVec F S_ .f32 := constant S_ .f32 0x7F800000#32
  let main_v19 : FVec F S8192x8x64 .f32 := broadcastInDim S8192x8x64 ![] bcast_S_S8192x8x64 main_cst_5
  let main_v20 : IVec S8192x8x64 1 := cmpf .olt main_v18 main_v19
  let main_v21 : FVec F S8192x8x64 .f32 := Host.absf main_arg7
  let main_cst_6 : FVec F S_ .f32 := constant S_ .f32 0x7F800000#32
  let main_v22 : FVec F S8192x8x64 .f32 := broadcastInDim S8192x8x64 ![] bcast_S_S8192x8x64 main_cst_6
  let main_v23 : IVec S8192x8x64 1 := cmpf .olt main_v21 main_v22
  let main_v24 : FVec F S8192x8 .f32 := Host.absf main_arg8
  let main_cst_7 : FVec F S_ .f32 := constant S_ .f32 0x7F800000#32
  let main_v25 : FVec F S8192x8 .f32 := broadcastInDim S8192x8 ![] bcast_S_S8192x8 main_cst_7
  let main_v26 : IVec S8192x8 1 := cmpf .olt main_v24 main_v25
  let main_v27 : FVec F S8192x8 .f32 := Host.absf main_arg9
  let main_cst_8 : FVec F S_ .f32 := constant S_ .f32 0x7F800000#32
  let main_v28 : FVec F S8192x8 .f32 := broadcastInDim S8192x8 ![] bcast_S_S8192x8 main_cst_8
  let main_v29 : IVec S8192x8 1 := cmpf .olt main_v27 main_v28
  (main_v2, main_v5, main_v8, main_v11, main_v14, main_v17, main_v20, main_v23, main_v26, main_v29)

def fn {F : FTy → Type} [FloatOps F] (main_arg0 : FVec F S8192x1024 .f32) (main_arg1 : FVec F S1x1024 .f32) (main_arg2 : FVec F S1024x2568 .f32) (main_arg3 : FVec F S1x8 .f32) (main_arg4 : FVec F S8192x1024 .f32) (main_arg5 : FVec F S8192x8x64 .f32) (main_arg6 : FVec F S8192x8x64 .f32) (main_arg7 : FVec F S8192x8x64 .f32) (main_arg8 : FVec F S8192x8 .f32) (main_arg9 : FVec F S8192x8 .f32) (main_arg10 : FVec F S8192x1024 .f32) : IVec S8192x1024 1 × IVec S1x1024 1 × IVec S1024x2568 1 × IVec S1x8 1 × IVec S8192x1024 1 × IVec S8192x8x64 1 × IVec S8192x8x64 1 × IVec S8192x8x64 1 × IVec S8192x8 1 × IVec S8192x8 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2568 .f32 := Host.absf main_arg2
  let main_cst_1 : FVec F S_ .f32 := constant S_ .f32 0x7F800000#32
  let main_v7 : FVec F S1024x2568 .f32 := broadcastInDim S1024x2568 ![] bcast_S_S1024x2568 main_cst_1
  let main_v8 : IVec S1024x2568 1 := cmpf .olt main_v6 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S8192x8x64 .f32 := Host.absf main_arg5
  let main_cst_4 : FVec F S_ .f32 := constant S_ .f32 0x7F800000#32
  let main_v16 : FVec F S8192x8x64 .f32 := broadcastInDim S8192x8x64 ![] bcast_S_S8192x8x64 main_cst_4
  let main_v17 : IVec S8192x8x64 1 := cmpf .olt main_v15 main_v16
  fn_part1 (F := F) main_arg6 main_arg7 main_arg8 main_arg9 main_v2 main_v5 main_v8 main_v11 main_v14 main_v17
-- ==== Pre_finite3.lean ====
abbrev S8192x5632 : Shape := ⟨2, ![8192, 5632]⟩
abbrev S8192x1024 : Shape := ⟨2, ![8192, 1024]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S_ : Shape := ⟨0, ![]⟩

class Facts : Prop where
  bcast_S_S8192x5632 : S_.BroadcastsInDim S8192x5632 (![] : Fin 0 → Fin S8192x5632.rank)
  bcast_S_S8192x1024 : S_.BroadcastsInDim S8192x1024 (![] : Fin 0 → Fin S8192x1024.rank)
  bcast_S_S3x5632 : S_.BroadcastsInDim S3x5632 (![] : Fin 0 → Fin S3x5632.rank)
  bcast_S_S1x5632 : S_.BroadcastsInDim S1x5632 (![] : Fin 0 → Fin S1x5632.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn_part1 {F : FTy → Type} [FloatOps F] (main_arg6 : FVec F S8192x1024 .f32) (main_v2 : IVec S8192x5632 1) (main_v5 : IVec S8192x1024 1) (main_v8 : IVec S3x5632 1) (main_v11 : IVec S1x5632 1) (main_v14 : IVec S2816x1024 1) (main_v17 : IVec S1x1024 1) : IVec S8192x5632 1 × IVec S8192x1024 1 × IVec S3x5632 1 × IVec S1x5632 1 × IVec S2816x1024 1 × IVec S1x1024 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x5632 .f32) (main_arg1 : FVec F S8192x1024 .f32) (main_arg2 : FVec F S3x5632 .f32) (main_arg3 : FVec F S1x5632 .f32) (main_arg4 : FVec F S2816x1024 .f32) (main_arg5 : FVec F S1x1024 .f32) (main_arg6 : FVec F S8192x1024 .f32) : IVec S8192x5632 1 × IVec S8192x1024 1 × IVec S3x5632 1 × IVec S1x5632 1 × IVec S2816x1024 1 × IVec S1x1024 1 × IVec S8192x1024 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S1x5632 .f32 := Host.absf main_arg3
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_v2 main_v5 main_v8 main_v11 main_v14 main_v17
-- ==== Pre_finite4.lean ====
abbrev S8192x1024 : Shape := ⟨2, ![8192, 1024]⟩
abbrev S1x1024 : Shape := ⟨2, ![1, 1024]⟩
abbrev S1024x5632 : Shape := ⟨2, ![1024, 5632]⟩
abbrev S1024x1024 : Shape := ⟨2, ![1024, 1024]⟩
abbrev S8192x512 : Shape := ⟨2, ![8192, 512]⟩
abbrev S8192x5632 : Shape := ⟨2, ![8192, 5632]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S1024x1024 : S_.BroadcastsInDim S1024x1024 (![] : Fin 0 → Fin S1024x1024.rank)
  bcast_S_S8192x512 : S_.BroadcastsInDim S8192x512 (![] : Fin 0 → Fin S8192x512.rank)
  bcast_S_S8192x5632 : S_.BroadcastsInDim S8192x5632 (![] : Fin 0 → Fin S8192x5632.rank)

variable [Facts]

def fn_part1 {F : FTy → Type} [FloatOps F] (main_arg6 : FVec F S8192x1024 .f32) (main_v2 : IVec S8192x1024 1) (main_v5 : IVec S1x1024 1) (main_v8 : IVec S1024x5632 1) (main_v11 : IVec S1024x1024 1) (main_v14 : IVec S8192x512 1) (main_v17 : IVec S8192x5632 1) : IVec S8192x1024 1 × IVec S1x1024 1 × IVec S1024x5632 1 × IVec S1024x1024 1 × IVec S8192x512 1 × IVec S8192x5632 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x1024 .f32) (main_arg1 : FVec F S1x1024 .f32) (main_arg2 : FVec F S1024x5632 .f32) (main_arg3 : FVec F S1024x1024 .f32) (main_arg4 : FVec F S8192x512 .f32) (main_arg5 : FVec F S8192x5632 .f32) (main_arg6 : FVec F S8192x1024 .f32) : IVec S8192x1024 1 × IVec S1x1024 1 × IVec S1024x5632 1 × IVec S1024x1024 1 × IVec S8192x512 1 × IVec S8192x5632 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x5632 .f32 := Host.absf main_arg5
  let main_cst_4 : FVec F S_ .f32 := constant S_ .f32 0x7F800000#32
  let main_v16 : FVec F S8192x5632 .f32 := broadcastInDim S8192x5632 ![] bcast_S_S8192x5632 main_cst_4
  let main_v17 : IVec S8192x5632 1 := cmpf .olt main_v15 main_v16
  fn_part1 (F := F) main_arg6 main_v2 main_v5 main_v8 main_v11 main_v14 main_v17
-- ==== Kernel.lean ====
abbrev S8192x8x64 : Shape := ⟨3, ![8192, 8, 64]⟩
abbrev S8192x8 : Shape := ⟨2, ![8192, 8]⟩
abbrev S_ : Shape := ⟨0, ![]⟩
abbrev S8x8192x8192 : Shape := ⟨3, ![8, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192x64 : Shape := ⟨3, ![8, 8192, 64]⟩
abbrev S8x8192x3 : Shape := ⟨3, ![8, 8192, 3]⟩
abbrev S8x8192x58 : Shape := ⟨3, ![8, 8192, 58]⟩
abbrev S8x8192x128 : Shape := ⟨3, ![8, 8192, 128]⟩
abbrev S8x8192x55 : Shape := ⟨3, ![8, 8192, 55]⟩
abbrev S8x8192x61 : Shape := ⟨3, ![8, 8192, 61]⟩
abbrev S8x8192x70 : Shape := ⟨3, ![8, 8192, 70]⟩
abbrev S2x8192x128 : Shape := ⟨3, ![2, 8192, 128]⟩
abbrev S2x512x128 : Shape := ⟨3, ![2, 512, 128]⟩
abbrev S512x512 : Shape := ⟨2, ![512, 512]⟩
abbrev S1x512x128 : Shape := ⟨3, ![1, 512, 128]⟩
abbrev S512x128 : Shape := ⟨2, ![512, 128]⟩

abbrev nBuf : Space → Nat
  | .hbm => 157
  | .vmem => 17
  | .smem => 0
  | _ => 0

abbrev hbmTy0_0 (i : Nat) : BufTy := match i % 128 with
  | 0 => ⟨S8192x8x64, .f32⟩
  | 1 => ⟨S8192x8x64, .f32⟩
  | 2 => ⟨S8192x8x64, .f32⟩
  | 3 => ⟨S8192x8, .f32⟩
  | 4 => ⟨S8192x8x64, .f32⟩
  | 5 => ⟨S8192x8, .f32⟩
  | 6 => ⟨S_, .f32⟩
  | 7 => ⟨S8192x8, .f32⟩
  | 8 => ⟨S8192x8, .f32⟩
  | 9 => ⟨S8192x8, .f32⟩
  | 10 => ⟨S8192x8, .f32⟩
  | 11 => ⟨S8192x8, .i1⟩
  | 12 => ⟨S8192x8, .f32⟩
  | 13 => ⟨S8192x8, .f32⟩
  | 14 => ⟨S8192x8, .f32⟩
  | 15 => ⟨S8192x8, .f32⟩
  | 16 => ⟨S8192x8, .f32⟩
  | 17 => ⟨S8192x8, .f32⟩
  | 18 => ⟨S8192x8, .f32⟩
  | 19 => ⟨S8192x8, .f32⟩
  | 20 => ⟨S8192x8, .f32⟩
  | 21 => ⟨S_, .f32⟩
  | 22 => ⟨S_, .f32⟩
  | 23 => ⟨S8192x8, .f32⟩
  | 24 => ⟨S8x8192x8192, .f32⟩
  | 25 => ⟨S_, .f32⟩
  | 26 => ⟨S8x8192x8192, .f32⟩
  | 27 => ⟨S8x8192x8192, .f32⟩
  | 28 => ⟨S8x8192, .f32⟩
  | 29 => ⟨S8x8192x1, .f32⟩
  | 30 => ⟨S8x8192x8192, .f32⟩
  | 31 => ⟨S8x8192x8192, .f32⟩
  | 32 => ⟨S8x1x8192, .f32⟩
  | 33 => ⟨S8x8192x8192, .f32⟩
  | 34 => ⟨S8x8192x8192, .f32⟩
  | 35 => ⟨S8192, .i32⟩
  | 36 => ⟨S1x8192, .i32⟩
  | 37 => ⟨S8192x1, .i32⟩
  | 38 => ⟨S8192x8192, .i32⟩
  | 39 => ⟨S8192x8192, .i32⟩
  | 40 => ⟨S8192x8192, .i1⟩
  | 41 => ⟨S_, .f32⟩
  | 42 => ⟨S_, .f32⟩
  | 43 => ⟨S8x8192x8192, .i1⟩
  | 44 => ⟨S8x8192x8192, .f32⟩
  | 45 => ⟨S8x8192x8192, .f32⟩
  | 46 => ⟨S_, .f32⟩
  | 47 => ⟨S8x8192, .f32⟩
  | 48 => ⟨S8x8192x1, .f32⟩
  | 49 => ⟨S8x8192x8192, .f32⟩
  | 50 => ⟨S8x8192x8192, .f32⟩
  | 51 => ⟨S8x8192x8192, .f32⟩
  | 52 => ⟨S_, .f32⟩
  | 53 => ⟨S8x8192, .f32⟩
  | 54 => ⟨S8x8192x1, .f32⟩
  | 55 => ⟨S8x8192x8192, .f32⟩
  | 56 => ⟨S8x8192x8192, .f32⟩
  | 57 => ⟨S8x8192x64, .f32⟩
  | 58 => ⟨S8x8192x64, .f32⟩
  | 59 => ⟨S8x8192x64, .f32⟩
  | 60 => ⟨S8x8192x64, .f32⟩
  | 61 => ⟨S8x8192x64, .f32⟩
  | 62 => ⟨S8x8192x64, .f32⟩
  | 63 => ⟨S_, .f32⟩
  | 64 => ⟨S8x8192, .f32⟩
  | 65 => ⟨S8x8192x1, .f32⟩
  | 66 => ⟨S_, .f32⟩
  | 67 => ⟨S8x8192x3, .f32⟩
  | 68 => ⟨S_, .f32⟩
  | 69 => ⟨S8x8192x64, .f32⟩
  | 70 => ⟨S8x8192x64, .f32⟩
  | 71 => ⟨S8x8192x1, .f32⟩
  | 72 => ⟨S8x8192x1, .bf16⟩
  | 73 => ⟨S8x8192x1, .f32⟩
  | 74 => ⟨S8x8192x1, .f32⟩
  | 75 => ⟨S8x8192x1, .bf16⟩
  | 76 => ⟨S8x8192x1, .f32⟩
  | 77 => ⟨S8x8192x1, .f32⟩
  | 78 => ⟨S8x8192x1, .f32⟩
  | 79 => ⟨S8x8192x1, .bf16⟩
  | 80 => ⟨S8x8192x1, .f32⟩
  | 81 => ⟨S_, .f32⟩
  | 82 => ⟨S8x8192x58, .f32⟩
  | 83 => ⟨S8x8192x128, .f32⟩
  | 84 => ⟨S8x8192x128, .bf16⟩
  | 85 => ⟨S8x8192x1, .f32⟩
  | 86 => ⟨S8x8192x1, .bf16⟩
  | 87 => ⟨S8x8192x1, .f32⟩
  | 88 => ⟨S8x8192x1, .f32⟩
  | 89 => ⟨S8x8192x1, .bf16⟩
  | 90 => ⟨S8x8192x1, .f32⟩
  | 91 => ⟨S8x8192x1, .f32⟩
  | 92 => ⟨S8x8192x1, .f32⟩
  | 93 => ⟨S8x8192x1, .bf16⟩
  | 94 => ⟨S8x8192x1, .f32⟩
  | 95 => ⟨S8x8192x1, .f32⟩
  | 96 => ⟨S8x8192x1, .f32⟩
  | 97 => ⟨S8x8192x1, .f32⟩
  | 98 => ⟨S_, .f32⟩
  | 99 => ⟨S8x8192x55, .f32⟩
  | 100 => ⟨S8x8192x128, .f32⟩
  | 101 => ⟨S8x8192x128, .bf16⟩
  | 102 => ⟨S_, .f32⟩
  | 103 => ⟨S8x8192x61, .f32⟩
  | 104 => ⟨S8x8192x128, .f32⟩
  | 105 => ⟨S8x8192x128, .bf16⟩
  | 106 => ⟨S_, .f32⟩
  | 107 => ⟨S8x8192x70, .f32⟩
  | 108 => ⟨S8x8192x1, .f32⟩
  | 109 => ⟨S8x8192x1, .f32⟩
  | 110 => ⟨S8x8192x1, .f32⟩
  | 111 => ⟨S8x8192x1, .bf16⟩
  | 112 => ⟨S8x8192x1, .f32⟩
  | 113 => ⟨S8x8192x1, .f32⟩
  | 114 => ⟨S8x8192x1, .bf16⟩
  | 115 => ⟨S8x8192x1, .f32⟩
  | 116 => ⟨S8x8192x1, .f32⟩
  | 117 => ⟨S8x8192x1, .f32⟩
  | 118 => ⟨S8x8192x1, .bf16⟩
  | 119 => ⟨S8x8192x1, .f32⟩
  | 120 => ⟨S_, .f32⟩
  | 121 => ⟨S8x8192x55, .f32⟩
  | 122 => ⟨S8x8192x128, .f32⟩
  | 123 => ⟨S8x8192x128, .bf16⟩
  | 124 => ⟨S8x8192x1, .f32⟩
  | 125 => ⟨S8x8192x1, .bf16⟩
  | 126 => ⟨S8x8192x1, .f32⟩
  | 127 => ⟨S8x8192x1, .f32⟩
  | _ => ⟨S8192x8x64, .f32⟩

abbrev hbmTy0_1 (i : Nat) : BufTy := match i % 128 with
  | 0 => ⟨S8x8192x1, .bf16⟩
  | 1 => ⟨S8x8192x1, .f32⟩
  | 2 => ⟨S8x8192x1, .f32⟩
  | 3 => ⟨S8x8192x1, .f32⟩
  | 4 => ⟨S8x8192x1, .bf16⟩
  | 5 => ⟨S8x8192x1, .f32⟩
  | 6 => ⟨S_, .f32⟩
  | 7 => ⟨S8x8192x61, .f32⟩
  | 8 => ⟨S8x8192x128, .f32⟩
  | 9 => ⟨S8x8192x128, .bf16⟩
  | 10 => ⟨S8x8192x128, .f32⟩
  | 11 => ⟨S8x8192x128, .f32⟩
  | 12 => ⟨S8x8192x128, .bf16⟩
  | 13 => ⟨S8x8192x64, .f32⟩
  | 14 => ⟨S8192x8x64, .f32⟩
  | 15 => ⟨S_, .f32⟩
  | 16 => ⟨S8192x8x64, .f32⟩
  | 17 => ⟨S8192x8x64, .f32⟩
  | 18 => ⟨S8x8192x64, .f32⟩
  | 19 => ⟨S8192x8x64, .f32⟩
  | 20 => ⟨S8x8192x64, .bf16⟩
  | 21 => ⟨S8x8192x64, .f32⟩
  | 22 => ⟨S8192x8x64, .f32⟩
  | 23 => ⟨S8x8192x1, .f32⟩
  | 24 => ⟨S8x8192, .f32⟩
  | 25 => ⟨S8x8192x1, .f32⟩
  | 26 => ⟨S8x8192, .f32⟩
  | 27 => ⟨S8x8192, .f32⟩
  | 28 => ⟨S8192x8, .f32⟩
  | _ => ⟨S8192x8x64, .f32⟩

abbrev hbmTy (i : Nat) : BufTy := match i / 128 with
  | 0 => hbmTy0_0 i
  | 1 => hbmTy0_1 i
  | _ => ⟨S8192x8x64, .f32⟩

abbrev bufTy : (tb : Table) → Fin (tcTables nBuf tb) → BufTy
  | .hbm, ⟨i, _⟩ => hbmTy i
  | .local _ .vmem, ⟨0, _⟩ => ⟨S2x8192x128, .bf16⟩
  | .local _ .vmem, ⟨1, _⟩ => ⟨S2x8192x128, .bf16⟩
  | .local _ .vmem, ⟨2, _⟩ => ⟨S2x8192x128, .bf16⟩
  | .local _ .vmem, ⟨3, _⟩ => ⟨S2x8192x128, .bf16⟩
  | .local _ .vmem, ⟨4, _⟩ => ⟨S2x8192x128, .bf16⟩
  | .local _ .vmem, ⟨5, _⟩ => ⟨S2x8192x128, .bf16⟩
  | .local _ .vmem, ⟨6, _⟩ => ⟨S2x512x128, .bf16⟩
  | .local _ .vmem, ⟨7, _⟩ => ⟨S2x512x128, .bf16⟩
  | .local _ .vmem, ⟨8, _⟩ => ⟨S2x512x128, .bf16⟩
  | .local _ .vmem, ⟨9, _⟩ => ⟨S2x512x128, .bf16⟩
  | .local _ .vmem, ⟨10, _⟩ => ⟨S2x8192x128, .f32⟩
  | .local _ .vmem, ⟨11, _⟩ => ⟨S2x8192x128, .f32⟩
  | .local _ .vmem, ⟨12, _⟩ => ⟨S2x512x128, .f32⟩
  | .local _ .vmem, ⟨13, _⟩ => ⟨S2x512x128, .f32⟩
  | .local _ .vmem, ⟨14, _⟩ => ⟨S2x512x128, .bf16⟩
  | .local _ .vmem, ⟨15, _⟩ => ⟨S2x512x128, .bf16⟩
  | .local _ .vmem, ⟨16, _⟩ => ⟨S2x512x128, .f32⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v0 : Ref sig .tc := ⟨.hbm, 20, rfl⟩
abbrev main_call1_call0_cst : Ref sig .tc := ⟨.hbm, 21, rfl⟩
abbrev main_call1_call0_v0 : Ref sig .tc := ⟨.hbm, 22, rfl⟩
abbrev main_v1 : Ref sig .tc := ⟨.hbm, 23, rfl⟩
abbrev main_v2 : Ref sig .tc := ⟨.hbm, 24, rfl⟩
abbrev main_cst : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_0 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_v18 : Ref sig .tc := ⟨.hbm, 45, rfl⟩
abbrev main_cst_1 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_2 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_3 : Ref sig .tc := ⟨.hbm, 63, rfl⟩
abbrev main_v34 : Ref sig .tc := ⟨.hbm, 64, rfl⟩
abbrev main_v35 : Ref sig .tc := ⟨.hbm, 65, rfl⟩
abbrev main_cst_4 : Ref sig .tc := ⟨.hbm, 66, rfl⟩
abbrev main_v36 : Ref sig .tc := ⟨.hbm, 67, rfl⟩
abbrev main_cst_5 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_6 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_7 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_8 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_9 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_10 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_11 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100_0 : Ref sig .tc := ⟨.hbm, 138, rfl⟩
abbrev main_v100_1 : Ref sig .tc := ⟨.hbm, 139, rfl⟩
abbrev main_v100_2 : Ref sig .tc := ⟨.hbm, 140, rfl⟩
abbrev main_v101 : Ref sig .tc := ⟨.hbm, 141, rfl⟩
abbrev main_v102 : Ref sig .tc := ⟨.hbm, 142, rfl⟩
abbrev main_cst_12 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v19 : BitVec 32 := Scalar.muli arg1 c512_i32
  v19
def k0_off1 (i : grid0.Coords) : Fin 3 → Nat :=
  let c0_18 : Index := 0#32
  let arg1 : BitVec 32 := BitVec.ofNat 32 (i 1).val
  let c512_i32 : BitVec 32 := 512#32
  let v19 : BitVec 32 := Scalar.muli arg1 c512_i32
  let v20 : BitVec 32 := v19
  let v21 : Index := Scalar.indexCast v20
  let c0_19 : Index := 0#32
  ![0, v21.toNat, 0]
def k0_off2 (i : grid0.Coords) : Fin 3 → Nat :=
  let c1_26 : Index := 1#32
  let arg1 : BitVec 32 := BitVec.ofNat 32 (i 1).val
  let c512_i32 : BitVec 32 := 512#32
  let v19 : BitVec 32 := Scalar.muli arg1 c512_i32
  let v20 : BitVec 32 := v19
  let v33 : Index := Scalar.indexCast v20
  let c0_27 : Index := 0#32
  ![1, v33.toNat, 0]
@[reducible] def k0_t1_loop (i : grid0.Coords) : Scf.Loop 32 :=
  let c0_i32_85 : BitVec 32 := 0#32
  let c15_i32 : BitVec 32 := 15#32
  let arg1 : BitVec 32 := BitVec.ofNat 32 (i 1).val
  let v105 : BitVec 32 := Scalar.subi c15_i32 arg1
  let c0_i32_74 : BitVec 32 := 0#32
  let v107 : BitVec 1 := Scalar.cmpi .sgt v105 c0_i32_74
  let v108 : BitVec 32 := Scalar.extui v107
  let c0_i32_75 : BitVec 32 := 0#32
  let v109 : BitVec 1 := Scalar.cmpi .slt v105 c0_i32_75
  let v110 : BitVec 32 := Scalar.extui v109
  let v111 : BitVec 32 := Scalar.subi v108 v110
  let c2_i32 : BitVec 32 := 2#32
  let c0_i32_76 : BitVec 32 := 0#32
  let v112 : BitVec 1 := Scalar.cmpi .sgt c2_i32 c0_i32_76
  let v113 : BitVec 32 := Scalar.extui v112
  let c0_i32_77 : BitVec 32 := 0#32
  let v114 : BitVec 1 := Scalar.cmpi .slt c2_i32 c0_i32_77
  let v115 : BitVec 32 := Scalar.extui v114
  let v116 : BitVec 32 := Scalar.subi v113 v115
  let v117 : BitVec 1 := Scalar.cmpi .ne v111 v116
  let v118 : BitVec 32 := Scalar.remsi v105 c2_i32
  let c0_i32_78 : BitVec 32 := 0#32
  let v119 : BitVec 1 := Scalar.cmpi .ne v118 c0_i32_78
  let v120 : BitVec 1 := Scalar.andi v117 v119
  let v106 : BitVec 32 := Scalar.divsi v105 c2_i32
  let c1_i32 : BitVec 32 := 1#32
  let v121 : BitVec 32 := Scalar.subi v106 c1_i32
  let v122 : BitVec 32 := Scalar.select v120 v121 v106
  let c0_i32_79 : BitVec 32 := 0#32
  let v123 : BitVec 32 := Scalar.subi v122 c0_i32_79
  let c1_i32_80 : BitVec 32 := 1#32
  let c1_i32_81 : BitVec 32 := 1#32
  let v124 : BitVec 32 := Scalar.subi c1_i32_80 c1_i32_81
  let v125 : BitVec 32 := Scalar.addi v123 v124
  let c1_i32_82 : BitVec 32 := 1#32
  let v126 : BitVec 32 := Scalar.divsi v125 c1_i32_82
  let v127 : BitVec 32 := Scalar.subi v126 c0_i32_85
  let c1_i32_86 : BitVec 32 := 1#32
  let v129 : BitVec 32 := Scalar.divsi v127 c1_i32_86
  let v130 : BitVec 32 := Scalar.muli v129 c1_i32_86
  let v131 : BitVec 32 := Scalar.addi c0_i32_85 v130
  let c1_i32_87 : BitVec 32 := 1#32
  ⟨c0_i32_85, v131, c1_i32_87⟩
def k0_mult2 (i : grid0.Coords) (k0_t1 : Fin (k0_t1_loop i).trips) : BitVec 32 :=
  let arg1 : BitVec 32 := BitVec.ofNat 32 (i 1).val
  let c1_i32_110 : BitVec 32 := 1#32
  let v157 : BitVec 32 := Scalar.addi arg1 c1_i32_110
  let c2_i32_111 : BitVec 32 := 2#32
  let c0_i32_84 : BitVec 32 := 0#32
  let c0_i32_85 : BitVec 32 := 0#32
  let c1_i32_87 : BitVec 32 := 1#32
  let arg11 : BitVec 32 := Scf.iv c0_i32_85 c1_i32_87 k0_t1
  let c1_i32_83 : BitVec 32 := 1#32
  let v155 : BitVec 32 := Scalar.muli arg11 c1_i32_83
  let v156 : BitVec 32 := Scalar.addi c0_i32_84 v155
  let v158 : BitVec 32 := Scalar.muli c2_i32_111 v156
  let v159 : BitVec 32 := Scalar.addi v157 v158
  let c0_i32_112 : BitVec 32 := 0#32
  let v160 : BitVec 32 := Scalar.addi v159 c0_i32_112
  let c512_i32_116 : BitVec 32 := 512#32
  let v165 : BitVec 32 := Scalar.muli v160 c512_i32_116
  v165
def k0_off3 (i : grid0.Coords) (k0_t1 : Fin (k0_t1_loop i).trips) (c0_i32_112 : BitVec 32) : Fin 3 → Nat :=
  let c0_117 : Index := 0#32
  let arg1 : BitVec 32 := BitVec.ofNat 32 (i 1).val
  let c1_i32_110 : BitVec 32 := 1#32
  let v157 : BitVec 32 := Scalar.addi arg1 c1_i32_110
  let c2_i32_111 : BitVec 32 := 2#32
  let c0_i32_84 : BitVec 32 := 0#32
  let c0_i32_85 : BitVec 32 := 0#32
  let c1_i32_87 : BitVec 32 := 1#32
  let arg11 : BitVec 32 := Scf.iv c0_i32_85 c1_i32_87 k0_t1
  let c1_i32_83 : BitVec 32 := 1#32
  let v155 : BitVec 32 := Scalar.muli arg11 c1_i32_83
  let v156 : BitVec 32 := Scalar.addi c0_i32_84 v155
  let v158 : BitVec 32 := Scalar.muli c2_i32_111 v156
  let v159 : BitVec 32 := Scalar.addi v157 v158
  let v160 : BitVec 32 := Scalar.addi v159 c0_i32_112
  let c512_i32_116 : BitVec 32 := 512#32
  let v165 : BitVec 32 := Scalar.muli v160 c512_i32_116
  let v166 : BitVec 32 := v165
  let v167 : Index := Scalar.indexCast v166
  let c0_118 : Index := 0#32
  ![0, v167.toNat, 0]
def k0_off4 (i : grid0.Coords) (k0_t1 : Fin (k0_t1_loop i).trips) (c0_i32_112 : BitVec 32) : Fin 3 → Nat :=
  let c1_125 : Index := 1#32
  let arg1 : BitVec 32 := BitVec.ofNat 32 (i 1).val
  let c1_i32_110 : BitVec 32 := 1#32
  let v157 : BitVec 32 := Scalar.addi arg1 c1_i32_110
  let c2_i32_111 : BitVec 32 := 2#32
  let c0_i32_84 : BitVec 32 := 0#32
  let c0_i32_85 : BitVec 32 := 0#32
  let c1_i32_87 : BitVec 32 := 1#32
  let arg11 : BitVec 32 := Scf.iv c0_i32_85 c1_i32_87 k0_t1
  let c1_i32_83 : BitVec 32 := 1#32
  let v155 : BitVec 32 := Scalar.muli arg11 c1_i32_83
  let v156 : BitVec 32 := Scalar.addi c0_i32_84 v155
  let v158 : BitVec 32 := Scalar.muli c2_i32_111 v156
  let v159 : BitVec 32 := Scalar.addi v157 v158
  let v160 : BitVec 32 := Scalar.addi v159 c0_i32_112
  let c512_i32_116 : BitVec 32 := 512#32
  let v165 : BitVec 32 := Scalar.muli v160 c512_i32_116
  let v166 : BitVec 32 := v165
  let v179 : Index := Scalar.indexCast v166
  let c0_126 : Index := 0#32
  ![1, v179.toNat, 0]
def k0_mult3 (i : grid0.Coords) (k0_t1 : Fin (k0_t1_loop i).trips) : BitVec 32 :=
  let arg1 : BitVec 32 := BitVec.ofNat 32 (i 1).val
  let c1_i32_113 : BitVec 32 := 1#32
  let v161 : BitVec 32 := Scalar.addi arg1 c1_i32_113
  let c2_i32_114 : BitVec 32 := 2#32
  let c0_i32_84 : BitVec 32 := 0#32
  let c0_i32_85 : BitVec 32 := 0#32
  let c1_i32_87 : BitVec 32 := 1#32
  let arg11 : BitVec 32 := Scf.iv c0_i32_85 c1_i32_87 k0_t1
  let c1_i32_83 : BitVec 32 := 1#32
  let v155 : BitVec 32 := Scalar.muli arg11 c1_i32_83
  let v156 : BitVec 32 := Scalar.addi c0_i32_84 v155
  let v162 : BitVec 32 := Scalar.muli c2_i32_114 v156
  let v163 : BitVec 32 := Scalar.addi v161 v162
  let c1_i32_115 : BitVec 32 := 1#32
  let v164 : BitVec 32 := Scalar.addi v163 c1_i32_115
  let c512_i32_133 : BitVec 32 := 512#32
  let v191 : BitVec 32 := Scalar.muli v164 c512_i32_133
  v191
@[reducible] def k0_t2_loop (i : grid0.Coords) : Scf.Loop 32 :=
  let c0_i32_85 : BitVec 32 := 0#32
  let c15_i32 : BitVec 32 := 15#32
  let arg1 : BitVec 32 := BitVec.ofNat 32 (i 1).val
  let v105 : BitVec 32 := Scalar.subi c15_i32 arg1
  let c0_i32_74 : BitVec 32 := 0#32
  let v107 : BitVec 1 := Scalar.cmpi .sgt v105 c0_i32_74
  let v108 : BitVec 32 := Scalar.extui v107
  let c0_i32_75 : BitVec 32 := 0#32
  let v109 : BitVec 1 := Scalar.cmpi .slt v105 c0_i32_75
  let v110 : BitVec 32 := Scalar.extui v109
  let v111 : BitVec 32 := Scalar.subi v108 v110
  let c2_i32 : BitVec 32 := 2#32
  let c0_i32_76 : BitVec 32 := 0#32
  let v112 : BitVec 1 := Scalar.cmpi .sgt c2_i32 c0_i32_76
  let v113 : BitVec 32 := Scalar.extui v112
  let c0_i32_77 : BitVec 32 := 0#32
  let v114 : BitVec 1 := Scalar.cmpi .slt c2_i32 c0_i32_77
  let v115 : BitVec 32 := Scalar.extui v114
  let v116 : BitVec 32 := Scalar.subi v113 v115
  let v117 : BitVec 1 := Scalar.cmpi .ne v111 v116
  let v118 : BitVec 32 := Scalar.remsi v105 c2_i32
  let c0_i32_78 : BitVec 32 := 0#32
  let v119 : BitVec 1 := Scalar.cmpi .ne v118 c0_i32_78
  let v120 : BitVec 1 := Scalar.andi v117 v119
  let v106 : BitVec 32 := Scalar.divsi v105 c2_i32
  let c1_i32 : BitVec 32 := 1#32
  let v121 : BitVec 32 := Scalar.subi v106 c1_i32
  let v122 : BitVec 32 := Scalar.select v120 v121 v106
  let c0_i32_79 : BitVec 32 := 0#32
  let v123 : BitVec 32 := Scalar.subi v122 c0_i32_79
  let c1_i32_80 : BitVec 32 := 1#32
  let c1_i32_81 : BitVec 32 := 1#32
  let v124 : BitVec 32 := Scalar.subi c1_i32_80 c1_i32_81
  let v125 : BitVec 32 := Scalar.addi v123 v124
  let c1_i32_82 : BitVec 32 := 1#32
  let v126 : BitVec 32 := Scalar.divsi v125 c1_i32_82
  let v127 : BitVec 32 := Scalar.subi v126 c0_i32_85
  let c1_i32_86 : BitVec 32 := 1#32
  let v129 : BitVec 32 := Scalar.divsi v127 c1_i32_86
  let v130 : BitVec 32 := Scalar.muli v129 c1_i32_86
  let v131 : BitVec 32 := Scalar.addi c0_i32_85 v130
  let v128 : BitVec 32 := Scalar.addi c0_i32_85 v127
  let c1_i32_88 : BitVec 32 := 1#32
  ⟨v131, v128, c1_i32_88⟩
def k0_mult4 (i : grid0.Coords) (k0_t2 : Fin (k0_t2_loop i).trips) : BitVec 32 :=
  let arg1 : BitVec 32 := BitVec.ofNat 32 (i 1).val
  let c1_i32_110 : BitVec 32 := 1#32
  let v157 : BitVec 32 := Scalar.addi arg1 c1_i32_110
  let c2_i32_111 : BitVec 32 := 2#32
  let c0_i32_84 : BitVec 32 := 0#32
  let c0_i32_85 : BitVec 32 := 0#32
  let c15_i32 : BitVec 32 := 15#32
  let v105 : BitVec 32 := Scalar.subi c15_i32 arg1
  let c0_i32_74 : BitVec 32 := 0#32
  let v107 : BitVec 1 := Scalar.cmpi .sgt v105 c0_i32_74
  let v108 : BitVec 32 := Scalar.extui v107
  let c0_i32_75 : BitVec 32 := 0#32
  let v109 : BitVec 1 := Scalar.cmpi .slt v105 c0_i32_75
  let v110 : BitVec 32 := Scalar.extui v109
  let v111 : BitVec 32 := Scalar.subi v108 v110
  let c2_i32 : BitVec 32 := 2#32
  let c0_i32_76 : BitVec 32 := 0#32
  let v112 : BitVec 1 := Scalar.cmpi .sgt c2_i32 c0_i32_76
  let v113 : BitVec 32 := Scalar.extui v112
  let c0_i32_77 : BitVec 32 := 0#32
  let v114 : BitVec 1 := Scalar.cmpi .slt c2_i32 c0_i32_77
  let v115 : BitVec 32 := Scalar.extui v114
  let v116 : BitVec 32 := Scalar.subi v113 v115
  let v117 : BitVec 1 := Scalar.cmpi .ne v111 v116
  let v118 : BitVec 32 := Scalar.remsi v105 c2_i32
  let c0_i32_78 : BitVec 32 := 0#32
  let v119 : BitVec 1 := Scalar.cmpi .ne v118 c0_i32_78
  let v120 : BitVec 1 := Scalar.andi v117 v119
  let v106 : BitVec 32 := Scalar.divsi v105 c2_i32
  let c1_i32 : BitVec 32 := 1#32
  let v121 : BitVec 32 := Scalar.subi v106 c1_i32
  let v122 : BitVec 32 := Scalar.select v120 v121 v106
  let c0_i32_79 : BitVec 32 := 0#32
  let v123 : BitVec 32 := Scalar.subi v122 c0_i32_79
  let c1_i32_80 : BitVec 32 := 1#32
  let c1_i32_81 : BitVec 32 := 1#32
  let v124 : BitVec 32 := Scalar.subi c1_i32_80 c1_i32_81
  let v125 : BitVec 32 := Scalar.addi v123 v124
  let c1_i32_82 : BitVec 32 := 1#32
  let v126 : BitVec 32 := Scalar.divsi v125 c1_i32_82
  let v127 : BitVec 32 := Scalar.subi v126 c0_i32_85
  let c1_i32_86 : BitVec 32 := 1#32
  let v129 : BitVec 32 := Scalar.divsi v127 c1_i32_86
  let v130 : BitVec 32 := Scalar.muli v129 c1_i32_86
  let v131 : BitVec 32 := Scalar.addi c0_i32_85 v130
  let c1_i32_88 : BitVec 32 := 1#32
  let arg11 : BitVec 32 := Scf.iv v131 c1_i32_88 k0_t2
  let c1_i32_83 : BitVec 32 := 1#32
  let v155 : BitVec 32 := Scalar.muli arg11 c1_i32_83
  let v156 : BitVec 32 := Scalar.addi c0_i32_84 v155
  let v158 : BitVec 32 := Scalar.muli c2_i32_111 v156
  let v159 : BitVec 32 := Scalar.addi v157 v158
  let c0_i32_112 : BitVec 32 := 0#32
  let v160 : BitVec 32 := Scalar.addi v159 c0_i32_112
  let c512_i32_116 : BitVec 32 := 512#32
  let v165 : BitVec 32 := Scalar.muli v160 c512_i32_116
  v165
def k0_off5 (i : grid0.Coords) (k0_t2 : Fin (k0_t2_loop i).trips) (c0_i32_112 : BitVec 32) : Fin 3 → Nat :=
  let c0_117 : Index := 0#32
  let arg1 : BitVec 32 := BitVec.ofNat 32 (i 1).val
  let c1_i32_110 : BitVec 32 := 1#32
  let v157 : BitVec 32 := Scalar.addi arg1 c1_i32_110
  let c2_i32_111 : BitVec 32 := 2#32
  let c0_i32_84 : BitVec 32 := 0#32
  let c0_i32_85 : BitVec 32 := 0#32
  let c15_i32 : BitVec 32 := 15#32
  let v105 : BitVec 32 := Scalar.subi c15_i32 arg1
  let c0_i32_74 : BitVec 32 := 0#32
  let v107 : BitVec 1 := Scalar.cmpi .sgt v105 c0_i32_74
  let v108 : BitVec 32 := Scalar.extui v107
  let c0_i32_75 : BitVec 32 := 0#32
  let v109 : BitVec 1 := Scalar.cmpi .slt v105 c0_i32_75
  let v110 : BitVec 32 := Scalar.extui v109
  let v111 : BitVec 32 := Scalar.subi v108 v110
  let c2_i32 : BitVec 32 := 2#32
  let c0_i32_76 : BitVec 32 := 0#32
  let v112 : BitVec 1 := Scalar.cmpi .sgt c2_i32 c0_i32_76
  let v113 : BitVec 32 := Scalar.extui v112
  let c0_i32_77 : BitVec 32 := 0#32
  let v114 : BitVec 1 := Scalar.cmpi .slt c2_i32 c0_i32_77
  let v115 : BitVec 32 := Scalar.extui v114
  let v116 : BitVec 32 := Scalar.subi v113 v115
  let v117 : BitVec 1 := Scalar.cmpi .ne v111 v116
  let v118 : BitVec 32 := Scalar.remsi v105 c2_i32
  let c0_i32_78 : BitVec 32 := 0#32
  let v119 : BitVec 1 := Scalar.cmpi .ne v118 c0_i32_78
  let v120 : BitVec 1 := Scalar.andi v117 v119
  let v106 : BitVec 32 := Scalar.divsi v105 c2_i32
  let c1_i32 : BitVec 32 := 1#32
  let v121 : BitVec 32 := Scalar.subi v106 c1_i32
  let v122 : BitVec 32 := Scalar.select v120 v121 v106
  let c0_i32_79 : BitVec 32 := 0#32
  let v123 : BitVec 32 := Scalar.subi v122 c0_i32_79
  let c1_i32_80 : BitVec 32 := 1#32
  let c1_i32_81 : BitVec 32 := 1#32
  let v124 : BitVec 32 := Scalar.subi c1_i32_80 c1_i32_81
  let v125 : BitVec 32 := Scalar.addi v123 v124
  let c1_i32_82 : BitVec 32 := 1#32
  let v126 : BitVec 32 := Scalar.divsi v125 c1_i32_82
  let v127 : BitVec 32 := Scalar.subi v126 c0_i32_85
  let c1_i32_86 : BitVec 32 := 1#32
  let v129 : BitVec 32 := Scalar.divsi v127 c1_i32_86
  let v130 : BitVec 32 := Scalar.muli v129 c1_i32_86
  let v131 : BitVec 32 := Scalar.addi c0_i32_85 v130
  let c1_i32_88 : BitVec 32 := 1#32
  let arg11 : BitVec 32 := Scf.iv v131 c1_i32_88 k0_t2
  let c1_i32_83 : BitVec 32 := 1#32
  let v155 : BitVec 32 := Scalar.muli arg11 c1_i32_83
  let v156 : BitVec 32 := Scalar.addi c0_i32_84 v155
  let v158 : BitVec 32 := Scalar.muli c2_i32_111 v156
  let v159 : BitVec 32 := Scalar.addi v157 v158
  let v160 : BitVec 32 := Scalar.addi v159 c0_i32_112
  let c512_i32_116 : BitVec 32 := 512#32
  let v165 : BitVec 32 := Scalar.muli v160 c512_i32_116
  let v166 : BitVec 32 := v165
  let v167 : Index := Scalar.indexCast v166
  let c0_118 : Index := 0#32
  ![0, v167.toNat, 0]
def k0_off6 (i : grid0.Coords) (k0_t2 : Fin (k0_t2_loop i).trips) (c0_i32_112 : BitVec 32) : Fin 3 → Nat :=
  let c1_125 : Index := 1#32
  let arg1 : BitVec 32 := BitVec.ofNat 32 (i 1).val
  let c1_i32_110 : BitVec 32 := 1#32
  let v157 : BitVec 32 := Scalar.addi arg1 c1_i32_110
  let c2_i32_111 : BitVec 32 := 2#32
  let c0_i32_84 : BitVec 32 := 0#32
  let c0_i32_85 : BitVec 32 := 0#32
  let c15_i32 : BitVec 32 := 15#32
  let v105 : BitVec 32 := Scalar.subi c15_i32 arg1
  let c0_i32_74 : BitVec 32 := 0#32
  let v107 : BitVec 1 := Scalar.cmpi .sgt v105 c0_i32_74
  let v108 : BitVec 32 := Scalar.extui v107
  let c0_i32_75 : BitVec 32 := 0#32
  let v109 : BitVec 1 := Scalar.cmpi .slt v105 c0_i32_75
  let v110 : BitVec 32 := Scalar.extui v109
  let v111 : BitVec 32 := Scalar.subi v108 v110
  let c2_i32 : BitVec 32 := 2#32
  let c0_i32_76 : BitVec 32 := 0#32
  let v112 : BitVec 1 := Scalar.cmpi .sgt c2_i32 c0_i32_76
  let v113 : BitVec 32 := Scalar.extui v112
  let c0_i32_77 : BitVec 32 := 0#32
  let v114 : BitVec 1 := Scalar.cmpi .slt c2_i32 c0_i32_77
  let v115 : BitVec 32 := Scalar.extui v114
  let v116 : BitVec 32 := Scalar.subi v113 v115
  let v117 : BitVec 1 := Scalar.cmpi .ne v111 v116
  let v118 : BitVec 32 := Scalar.remsi v105 c2_i32
  let c0_i32_78 : BitVec 32 := 0#32
  let v119 : BitVec 1 := Scalar.cmpi .ne v118 c0_i32_78
  let v120 : BitVec 1 := Scalar.andi v117 v119
  let v106 : BitVec 32 := Scalar.divsi v105 c2_i32
  let c1_i32 : BitVec 32 := 1#32
  let v121 : BitVec 32 := Scalar.subi v106 c1_i32
  let v122 : BitVec 32 := Scalar.select v120 v121 v106
  let c0_i32_79 : BitVec 32 := 0#32
  let v123 : BitVec 32 := Scalar.subi v122 c0_i32_79
  let c1_i32_80 : BitVec 32 := 1#32
  let c1_i32_81 : BitVec 32 := 1#32
  let v124 : BitVec 32 := Scalar.subi c1_i32_80 c1_i32_81
  let v125 : BitVec 32 := Scalar.addi v123 v124
  let c1_i32_82 : BitVec 32 := 1#32
  let v126 : BitVec 32 := Scalar.divsi v125 c1_i32_82
  let v127 : BitVec 32 := Scalar.subi v126 c0_i32_85
  let c1_i32_86 : BitVec 32 := 1#32
  let v129 : BitVec 32 := Scalar.divsi v127 c1_i32_86
  let v130 : BitVec 32 := Scalar.muli v129 c1_i32_86
  let v131 : BitVec 32 := Scalar.addi c0_i32_85 v130
  let c1_i32_88 : BitVec 32 := 1#32
  let arg11 : BitVec 32 := Scf.iv v131 c1_i32_88 k0_t2
  let c1_i32_83 : BitVec 32 := 1#32
  let v155 : BitVec 32 := Scalar.muli arg11 c1_i32_83
  let v156 : BitVec 32 := Scalar.addi c0_i32_84 v155
  let v158 : BitVec 32 := Scalar.muli c2_i32_111 v156
  let v159 : BitVec 32 := Scalar.addi v157 v158
  let v160 : BitVec 32 := Scalar.addi v159 c0_i32_112
  let c512_i32_116 : BitVec 32 := 512#32
  let v165 : BitVec 32 := Scalar.muli v160 c512_i32_116
  let v166 : BitVec 32 := v165
  let v179 : Index := Scalar.indexCast v166
  let c0_126 : Index := 0#32
  ![1, v179.toNat, 0]
def k0_mult5 (i : grid0.Coords) (k0_t2 : Fin (k0_t2_loop i).trips) : BitVec 32 :=
  let arg1 : BitVec 32 := BitVec.ofNat 32 (i 1).val
  let c1_i32_113 : BitVec 32 := 1#32
  let v161 : BitVec 32 := Scalar.addi arg1 c1_i32_113
  let c2_i32_114 : BitVec 32 := 2#32
  let c0_i32_84 : BitVec 32 := 0#32
  let c0_i32_85 : BitVec 32 := 0#32
  let c15_i32 : BitVec 32 := 15#32
  let v105 : BitVec 32 := Scalar.subi c15_i32 arg1
  let c0_i32_74 : BitVec 32 := 0#32
  let v107 : BitVec 1 := Scalar.cmpi .sgt v105 c0_i32_74
  let v108 : BitVec 32 := Scalar.extui v107
  let c0_i32_75 : BitVec 32 := 0#32
  let v109 : BitVec 1 := Scalar.cmpi .slt v105 c0_i32_75
  let v110 : BitVec 32 := Scalar.extui v109
  let v111 : BitVec 32 := Scalar.subi v108 v110
  let c2_i32 : BitVec 32 := 2#32
  let c0_i32_76 : BitVec 32 := 0#32
  let v112 : BitVec 1 := Scalar.cmpi .sgt c2_i32 c0_i32_76
  let v113 : BitVec 32 := Scalar.extui v112
  let c0_i32_77 : BitVec 32 := 0#32
  let v114 : BitVec 1 := Scalar.cmpi .slt c2_i32 c0_i32_77
  let v115 : BitVec 32 := Scalar.extui v114
  let v116 : BitVec 32 := Scalar.subi v113 v115
  let v117 : BitVec 1 := Scalar.cmpi .ne v111 v116
  let v118 : BitVec 32 := Scalar.remsi v105 c2_i32
  let c0_i32_78 : BitVec 32 := 0#32
  let v119 : BitVec 1 := Scalar.cmpi .ne v118 c0_i32_78
  let v120 : BitVec 1 := Scalar.andi v117 v119
  let v106 : BitVec 32 := Scalar.divsi v105 c2_i32
  let c1_i32 : BitVec 32 := 1#32
  let v121 : BitVec 32 := Scalar.subi v106 c1_i32
  let v122 : BitVec 32 := Scalar.select v120 v121 v106
  let c0_i32_79 : BitVec 32 := 0#32
  let v123 : BitVec 32 := Scalar.subi v122 c0_i32_79
  let c1_i32_80 : BitVec 32 := 1#32
  let c1_i32_81 : BitVec 32 := 1#32
  let v124 : BitVec 32 := Scalar.subi c1_i32_80 c1_i32_81
  let v125 : BitVec 32 := Scalar.addi v123 v124
  let c1_i32_82 : BitVec 32 := 1#32
  let v126 : BitVec 32 := Scalar.divsi v125 c1_i32_82
  let v127 : BitVec 32 := Scalar.subi v126 c0_i32_85
  let c1_i32_86 : BitVec 32 := 1#32
  let v129 : BitVec 32 := Scalar.divsi v127 c1_i32_86
  let v130 : BitVec 32 := Scalar.muli v129 c1_i32_86
  let v131 : BitVec 32 := Scalar.addi c0_i32_85 v130
  let c1_i32_88 : BitVec 32 := 1#32
  let arg11 : BitVec 32 := Scf.iv v131 c1_i32_88 k0_t2
  let c1_i32_83 : BitVec 32 := 1#32
  let v155 : BitVec 32 := Scalar.muli arg11 c1_i32_83
  let v156 : BitVec 32 := Scalar.addi c0_i32_84 v155
  let v162 : BitVec 32 := Scalar.muli c2_i32_114 v156
  let v163 : BitVec 32 := Scalar.addi v161 v162
  let c1_i32_115 : BitVec 32 := 1#32
  let v164 : BitVec 32 := Scalar.addi v163 c1_i32_115
  let c512_i32_133 : BitVec 32 := 512#32
  let v191 : BitVec 32 := Scalar.muli v164 c512_i32_133
  v191
@[reducible] def k0_t3_loop (i : grid0.Coords) : Scf.Loop 32 :=
  let c0_i32_100 : BitVec 32 := 0#32
  let c16_i32_95 : BitVec 32 := 16#32
  let c16_i32 : BitVec 32 := 16#32
  let c15_i32 : BitVec 32 := 15#32
  let arg1 : BitVec 32 := BitVec.ofNat 32 (i 1).val
  let v105 : BitVec 32 := Scalar.subi c15_i32 arg1
  let c2_i32_89 : BitVec 32 := 2#32
  let c0_i32_90 : BitVec 32 := 0#32
  let v132 : BitVec 1 := Scalar.cmpi .eq c2_i32_89 c0_i32_90
  let c1_i32_91 : BitVec 32 := 1#32
  let v133 : BitVec 32 := Scalar.select v132 c1_i32_91 c2_i32_89
  let v134 : BitVec 32 := Scalar.remsi v105 v133
  let c0_i32_93 : BitVec 32 := 0#32
  let v136 : BitVec 1 := Scalar.cmpi .slt v134 c0_i32_93
  let c0_i32_94 : BitVec 32 := 0#32
  let v137 : BitVec 1 := Scalar.cmpi .slt v133 c0_i32_94
  let v138 : BitVec 1 := Scalar.xori v136 v137
  let c0_i32_92 : BitVec 32 := 0#32
  let v135 : BitVec 1 := Scalar.cmpi .ne v134 c0_i32_92
  let v139 : BitVec 1 := Scalar.andi v138 v135
  let v140 : BitVec 32 := Scalar.addi v134 v133
  let v141 : BitVec 32 := Scalar.select v139 v140 v134
  let v142 : BitVec 32 := Scalar.subi c16_i32 v141
  let v143 : BitVec 32 := Scalar.subi c16_i32_95 v142
  let c1_i32_96 : BitVec 32 := 1#32
  let c1_i32_97 : BitVec 32 := 1#32
  let v144 : BitVec 32 := Scalar.subi c1_i32_96 c1_i32_97
  let v145 : BitVec 32 := Scalar.addi v143 v144
  let c1_i32_98 : BitVec 32 := 1#32
  let v146 : BitVec 32 := Scalar.divsi v145 c1_i32_98
  let v147 : BitVec 32 := Scalar.subi v146 c0_i32_100
  let c1_i32_101 : BitVec 32 := 1#32
  let v149 : BitVec 32 := Scalar.divsi v147 c1_i32_101
  let v150 : BitVec 32 := Scalar.muli v149 c1_i32_101
  let v151 : BitVec 32 := Scalar.addi c0_i32_100 v150
  let c1_i32_102 : BitVec 32 := 1#32
  ⟨c0_i32_100, v151, c1_i32_102⟩
def k0_mult6 (i : grid0.Coords) (k0_t3 : Fin (k0_t3_loop i).trips) : BitVec 32 :=
  let c16_i32 : BitVec 32 := 16#32
  let c15_i32 : BitVec 32 := 15#32
  let arg1 : BitVec 32 := BitVec.ofNat 32 (i 1).val
  let v105 : BitVec 32 := Scalar.subi c15_i32 arg1
  let c2_i32_89 : BitVec 32 := 2#32
  let c0_i32_90 : BitVec 32 := 0#32
  let v132 : BitVec 1 := Scalar.cmpi .eq c2_i32_89 c0_i32_90
  let c1_i32_91 : BitVec 32 := 1#32
  let v133 : BitVec 32 := Scalar.select v132 c1_i32_91 c2_i32_89
  let v134 : BitVec 32 := Scalar.remsi v105 v133
  let c0_i32_93 : BitVec 32 := 0#32
  let v136 : BitVec 1 := Scalar.cmpi .slt v134 c0_i32_93
  let c0_i32_94 : BitVec 32 := 0#32
  let v137 : BitVec 1 := Scalar.cmpi .slt v133 c0_i32_94
  let v138 : BitVec 1 := Scalar.xori v136 v137
  let c0_i32_92 : BitVec 32 := 0#32
  let v135 : BitVec 1 := Scalar.cmpi .ne v134 c0_i32_92
  let v139 : BitVec 1 := Scalar.andi v138 v135
  let v140 : BitVec 32 := Scalar.addi v134 v133
  let v141 : BitVec 32 := Scalar.select v139 v140 v134
  let v142 : BitVec 32 := Scalar.subi c16_i32 v141
  let c0_i32_100 : BitVec 32 := 0#32
  let c1_i32_102 : BitVec 32 := 1#32
  let arg11 : BitVec 32 := Scf.iv c0_i32_100 c1_i32_102 k0_t3
  let c1_i32_99 : BitVec 32 := 1#32
  let v155 : BitVec 32 := Scalar.muli arg11 c1_i32_99
  let v156 : BitVec 32 := Scalar.addi v142 v155
  let c512_i32_110 : BitVec 32 := 512#32
  let v157 : BitVec 32 := Scalar.muli v156 c512_i32_110
  v157
def k0_off7 (i : grid0.Coords) (k0_t3 : Fin (k0_t3_loop i).trips) : Fin 3 → Nat :=
  let c0_111 : Index := 0#32
  let c16_i32 : BitVec 32 := 16#32
  let c15_i32 : BitVec 32 := 15#32
  let arg1 : BitVec 32 := BitVec.ofNat 32 (i 1).val
  let v105 : BitVec 32 := Scalar.subi c15_i32 arg1
  let c2_i32_89 : BitVec 32 := 2#32
  let c0_i32_90 : BitVec 32 := 0#32
  let v132 : BitVec 1 := Scalar.cmpi .eq c2_i32_89 c0_i32_90
  let c1_i32_91 : BitVec 32 := 1#32
  let v133 : BitVec 32 := Scalar.select v132 c1_i32_91 c2_i32_89
  let v134 : BitVec 32 := Scalar.remsi v105 v133
  let c0_i32_93 : BitVec 32 := 0#32
  let v136 : BitVec 1 := Scalar.cmpi .slt v134 c0_i32_93
  let c0_i32_94 : BitVec 32 := 0#32
  let v137 : BitVec 1 := Scalar.cmpi .slt v133 c0_i32_94
  let v138 : BitVec 1 := Scalar.xori v136 v137
  let c0_i32_92 : BitVec 32 := 0#32
  let v135 : BitVec 1 := Scalar.cmpi .ne v134 c0_i32_92
  let v139 : BitVec 1 := Scalar.andi v138 v135
  let v140 : BitVec 32 := Scalar.addi v134 v133
  let v141 : BitVec 32 := Scalar.select v139 v140 v134
  let v142 : BitVec 32 := Scalar.subi c16_i32 v141
  let c0_i32_100 : BitVec 32 := 0#32
  let c1_i32_102 : BitVec 32 := 1#32
  let arg11 : BitVec 32 := Scf.iv c0_i32_100 c1_i32_102 k0_t3
  let c1_i32_99 : BitVec 32 := 1#32
  let v155 : BitVec 32 := Scalar.muli arg11 c1_i32_99
  let v156 : BitVec 32 := Scalar.addi v142 v155
  let c512_i32_110 : BitVec 32 := 512#32
  let v157 : BitVec 32 := Scalar.muli v156 c512_i32_110
  let v158 : BitVec 32 := v157
  let v159 : Index := Scalar.indexCast v158
  let c0_112 : Index := 0#32
  ![0, v159.toNat, 0]
def k0_off8 (i : grid0.Coords) (k0_t3 : Fin (k0_t3_loop i).trips) : Fin 3 → Nat :=
  let c1_119 : Index := 1#32
  let c16_i32 : BitVec 32 := 16#32
  let c15_i32 : BitVec 32 := 15#32
  let arg1 : BitVec 32 := BitVec.ofNat 32 (i 1).val
  let v105 : BitVec 32 := Scalar.subi c15_i32 arg1
  let c2_i32_89 : BitVec 32 := 2#32
  let c0_i32_90 : BitVec 32 := 0#32
  let v132 : BitVec 1 := Scalar.cmpi .eq c2_i32_89 c0_i32_90
  let c1_i32_91 : BitVec 32 := 1#32
  let v133 : BitVec 32 := Scalar.select v132 c1_i32_91 c2_i32_89
  let v134 : BitVec 32 := Scalar.remsi v105 v133
  let c0_i32_93 : BitVec 32 := 0#32
  let v136 : BitVec 1 := Scalar.cmpi .slt v134 c0_i32_93
  let c0_i32_94 : BitVec 32 := 0#32
  let v137 : BitVec 1 := Scalar.cmpi .slt v133 c0_i32_94
  let v138 : BitVec 1 := Scalar.xori v136 v137
  let c0_i32_92 : BitVec 32 := 0#32
  let v135 : BitVec 1 := Scalar.cmpi .ne v134 c0_i32_92
  let v139 : BitVec 1 := Scalar.andi v138 v135
  let v140 : BitVec 32 := Scalar.addi v134 v133
  let v141 : BitVec 32 := Scalar.select v139 v140 v134
  let v142 : BitVec 32 := Scalar.subi c16_i32 v141
  let c0_i32_100 : BitVec 32 := 0#32
  let c1_i32_102 : BitVec 32 := 1#32
  let arg11 : BitVec 32 := Scf.iv c0_i32_100 c1_i32_102 k0_t3
  let c1_i32_99 : BitVec 32 := 1#32
  let v155 : BitVec 32 := Scalar.muli arg11 c1_i32_99
  let v156 : BitVec 32 := Scalar.addi v142 v155
  let c512_i32_110 : BitVec 32 := 512#32
  let v157 : BitVec 32 := Scalar.muli v156 c512_i32_110
  let v158 : BitVec 32 := v157
  let v171 : Index := Scalar.indexCast v158
  let c0_120 : Index := 0#32
  ![1, v171.toNat, 0]
@[reducible] def k0_t4_loop (i : grid0.Coords) : Scf.Loop 32 :=
  let c0_i32_100 : BitVec 32 := 0#32
  let c16_i32_95 : BitVec 32 := 16#32
  let c16_i32 : BitVec 32 := 16#32
  let c15_i32 : BitVec 32 := 15#32
  let arg1 : BitVec 32 := BitVec.ofNat 32 (i 1).val
  let v105 : BitVec 32 := Scalar.subi c15_i32 arg1
  let c2_i32_89 : BitVec 32 := 2#32
  let c0_i32_90 : BitVec 32 := 0#32
  let v132 : BitVec 1 := Scalar.cmpi .eq c2_i32_89 c0_i32_90
  let c1_i32_91 : BitVec 32 := 1#32
  let v133 : BitVec 32 := Scalar.select v132 c1_i32_91 c2_i32_89
  let v134 : BitVec 32 := Scalar.remsi v105 v133
  let c0_i32_93 : BitVec 32 := 0#32
  let v136 : BitVec 1 := Scalar.cmpi .slt v134 c0_i32_93
  let c0_i32_94 : BitVec 32 := 0#32
  let v137 : BitVec 1 := Scalar.cmpi .slt v133 c0_i32_94
  let v138 : BitVec 1 := Scalar.xori v136 v137
  let c0_i32_92 : BitVec 32 := 0#32
  let v135 : BitVec 1 := Scalar.cmpi .ne v134 c0_i32_92
  let v139 : BitVec 1 := Scalar.andi v138 v135
  let v140 : BitVec 32 := Scalar.addi v134 v133
  let v141 : BitVec 32 := Scalar.select v139 v140 v134
  let v142 : BitVec 32 := Scalar.subi c16_i32 v141
  let v143 : BitVec 32 := Scalar.subi c16_i32_95 v142
  let c1_i32_96 : BitVec 32 := 1#32
  let c1_i32_97 : BitVec 32 := 1#32
  let v144 : BitVec 32 := Scalar.subi c1_i32_96 c1_i32_97
  let v145 : BitVec 32 := Scalar.addi v143 v144
  let c1_i32_98 : BitVec 32 := 1#32
  let v146 : BitVec 32 := Scalar.divsi v145 c1_i32_98
  let v147 : BitVec 32 := Scalar.subi v146 c0_i32_100
  let c1_i32_101 : BitVec 32 := 1#32
  let v149 : BitVec 32 := Scalar.divsi v147 c1_i32_101
  let v150 : BitVec 32 := Scalar.muli v149 c1_i32_101
  let v151 : BitVec 32 := Scalar.addi c0_i32_100 v150
  let v148 : BitVec 32 := Scalar.addi c0_i32_100 v147
  let c1_i32_103 : BitVec 32 := 1#32
  ⟨v151, v148, c1_i32_103⟩
def k0_mult7 (i : grid0.Coords) (k0_t4 : Fin (k0_t4_loop i).trips) : BitVec 32 :=
  let c16_i32 : BitVec 32 := 16#32
  let c15_i32 : BitVec 32 := 15#32
  let arg1 : BitVec 32 := BitVec.ofNat 32 (i 1).val
  let v105 : BitVec 32 := Scalar.subi c15_i32 arg1
  let c2_i32_89 : BitVec 32 := 2#32
  let c0_i32_90 : BitVec 32 := 0#32
  let v132 : BitVec 1 := Scalar.cmpi .eq c2_i32_89 c0_i32_90
  let c1_i32_91 : BitVec 32 := 1#32
  let v133 : BitVec 32 := Scalar.select v132 c1_i32_91 c2_i32_89
  let v134 : BitVec 32 := Scalar.remsi v105 v133
  let c0_i32_93 : BitVec 32 := 0#32
  let v136 : BitVec 1 := Scalar.cmpi .slt v134 c0_i32_93
  let c0_i32_94 : BitVec 32 := 0#32
  let v137 : BitVec 1 := Scalar.cmpi .slt v133 c0_i32_94
  let v138 : BitVec 1 := Scalar.xori v136 v137
  let c0_i32_92 : BitVec 32 := 0#32
  let v135 : BitVec 1 := Scalar.cmpi .ne v134 c0_i32_92
  let v139 : BitVec 1 := Scalar.andi v138 v135
  let v140 : BitVec 32 := Scalar.addi v134 v133
  let v141 : BitVec 32 := Scalar.select v139 v140 v134
  let v142 : BitVec 32 := Scalar.subi c16_i32 v141
  let c0_i32_100 : BitVec 32 := 0#32
  let c16_i32_95 : BitVec 32 := 16#32
  let v143 : BitVec 32 := Scalar.subi c16_i32_95 v142
  let c1_i32_96 : BitVec 32 := 1#32
  let c1_i32_97 : BitVec 32 := 1#32
  let v144 : BitVec 32 := Scalar.subi c1_i32_96 c1_i32_97
  let v145 : BitVec 32 := Scalar.addi v143 v144
  let c1_i32_98 : BitVec 32 := 1#32
  let v146 : BitVec 32 := Scalar.divsi v145 c1_i32_98
  let v147 : BitVec 32 := Scalar.subi v146 c0_i32_100
  let c1_i32_101 : BitVec 32 := 1#32
  let v149 : BitVec 32 := Scalar.divsi v147 c1_i32_101
  let v150 : BitVec 32 := Scalar.muli v149 c1_i32_101
  let v151 : BitVec 32 := Scalar.addi c0_i32_100 v150
  let c1_i32_103 : BitVec 32 := 1#32
  let arg11 : BitVec 32 := Scf.iv v151 c1_i32_103 k0_t4
  let c1_i32_99 : BitVec 32 := 1#32
  let v155 : BitVec 32 := Scalar.muli arg11 c1_i32_99
  let v156 : BitVec 32 := Scalar.addi v142 v155
  let c512_i32_110 : BitVec 32 := 512#32
  let v157 : BitVec 32 := Scalar.muli v156 c512_i32_110
  v157
def k0_off9 (i : grid0.Coords) (k0_t4 : Fin (k0_t4_loop i).trips) : Fin 3 → Nat :=
  let c0_111 : Index := 0#32
  let c16_i32 : BitVec 32 := 16#32
  let c15_i32 : BitVec 32 := 15#32
  let arg1 : BitVec 32 := BitVec.ofNat 32 (i 1).val
  let v105 : BitVec 32 := Scalar.subi c15_i32 arg1
  let c2_i32_89 : BitVec 32 := 2#32
  let c0_i32_90 : BitVec 32 := 0#32
  let v132 : BitVec 1 := Scalar.cmpi .eq c2_i32_89 c0_i32_90
  let c1_i32_91 : BitVec 32 := 1#32
  let v133 : BitVec 32 := Scalar.select v132 c1_i32_91 c2_i32_89
  let v134 : BitVec 32 := Scalar.remsi v105 v133
  let c0_i32_93 : BitVec 32 := 0#32
  let v136 : BitVec 1 := Scalar.cmpi .slt v134 c0_i32_93
  let c0_i32_94 : BitVec 32 := 0#32
  let v137 : BitVec 1 := Scalar.cmpi .slt v133 c0_i32_94
  let v138 : BitVec 1 := Scalar.xori v136 v137
  let c0_i32_92 : BitVec 32 := 0#32
  let v135 : BitVec 1 := Scalar.cmpi .ne v134 c0_i32_92
  let v139 : BitVec 1 := Scalar.andi v138 v135
  let v140 : BitVec 32 := Scalar.addi v134 v133
  let v141 : BitVec 32 := Scalar.select v139 v140 v134
  let v142 : BitVec 32 := Scalar.subi c16_i32 v141
  let c0_i32_100 : BitVec 32 := 0#32
  let c16_i32_95 : BitVec 32 := 16#32
  let v143 : BitVec 32 := Scalar.subi c16_i32_95 v142
  let c1_i32_96 : BitVec 32 := 1#32
  let c1_i32_97 : BitVec 32 := 1#32
  let v144 : BitVec 32 := Scalar.subi c1_i32_96 c1_i32_97
  let v145 : BitVec 32 := Scalar.addi v143 v144
  let c1_i32_98 : BitVec 32 := 1#32
  let v146 : BitVec 32 := Scalar.divsi v145 c1_i32_98
  let v147 : BitVec 32 := Scalar.subi v146 c0_i32_100
  let c1_i32_101 : BitVec 32 := 1#32
  let v149 : BitVec 32 := Scalar.divsi v147 c1_i32_101
  let v150 : BitVec 32 := Scalar.muli v149 c1_i32_101
  let v151 : BitVec 32 := Scalar.addi c0_i32_100 v150
  let c1_i32_103 : BitVec 32 := 1#32
  let arg11 : BitVec 32 := Scf.iv v151 c1_i32_103 k0_t4
  let c1_i32_99 : BitVec 32 := 1#32
  let v155 : BitVec 32 := Scalar.muli arg11 c1_i32_99
  let v156 : BitVec 32 := Scalar.addi v142 v155
  let c512_i32_110 : BitVec 32 := 512#32
  let v157 : BitVec 32 := Scalar.muli v156 c512_i32_110
  let v158 : BitVec 32 := v157
  let v159 : Index := Scalar.indexCast v158
  let c0_112 : Index := 0#32
  ![0, v159.toNat, 0]
def k0_off10 (i : grid0.Coords) (k0_t4 : Fin (k0_t4_loop i).trips) : Fin 3 → Nat :=
  let c1_119 : Index := 1#32
  let c16_i32 : BitVec 32 := 16#32
  let c15_i32 : BitVec 32 := 15#32
  let arg1 : BitVec 32 := BitVec.ofNat 32 (i 1).val
  let v105 : BitVec 32 := Scalar.subi c15_i32 arg1
  let c2_i32_89 : BitVec 32 := 2#32
  let c0_i32_90 : BitVec 32 := 0#32
  let v132 : BitVec 1 := Scalar.cmpi .eq c2_i32_89 c0_i32_90
  let c1_i32_91 : BitVec 32 := 1#32
  let v133 : BitVec 32 := Scalar.select v132 c1_i32_91 c2_i32_89
  let v134 : BitVec 32 := Scalar.remsi v105 v133
  let c0_i32_93 : BitVec 32 := 0#32
  let v136 : BitVec 1 := Scalar.cmpi .slt v134 c0_i32_93
  let c0_i32_94 : BitVec 32 := 0#32
  let v137 : BitVec 1 := Scalar.cmpi .slt v133 c0_i32_94
  let v138 : BitVec 1 := Scalar.xori v136 v137
  let c0_i32_92 : BitVec 32 := 0#32
  let v135 : BitVec 1 := Scalar.cmpi .ne v134 c0_i32_92
  let v139 : BitVec 1 := Scalar.andi v138 v135
  let v140 : BitVec 32 := Scalar.addi v134 v133
  let v141 : BitVec 32 := Scalar.select v139 v140 v134
  let v142 : BitVec 32 := Scalar.subi c16_i32 v141
  let c0_i32_100 : BitVec 32 := 0#32
  let c16_i32_95 : BitVec 32 := 16#32
  let v143 : BitVec 32 := Scalar.subi c16_i32_95 v142
  let c1_i32_96 : BitVec 32 := 1#32
  let c1_i32_97 : BitVec 32 := 1#32
  let v144 : BitVec 32 := Scalar.subi c1_i32_96 c1_i32_97
  let v145 : BitVec 32 := Scalar.addi v143 v144
  let c1_i32_98 : BitVec 32 := 1#32
  let v146 : BitVec 32 := Scalar.divsi v145 c1_i32_98
  let v147 : BitVec 32 := Scalar.subi v146 c0_i32_100
  let c1_i32_101 : BitVec 32 := 1#32
  let v149 : BitVec 32 := Scalar.divsi v147 c1_i32_101
  let v150 : BitVec 32 := Scalar.muli v149 c1_i32_101
  let v151 : BitVec 32 := Scalar.addi c0_i32_100 v150
  let c1_i32_103 : BitVec 32 := 1#32
  let arg11 : BitVec 32 := Scf.iv v151 c1_i32_103 k0_t4
  let c1_i32_99 : BitVec 32 := 1#32
  let v155 : BitVec 32 := Scalar.muli arg11 c1_i32_99
  let v156 : BitVec 32 := Scalar.addi v142 v155
  let c512_i32_110 : BitVec 32 := 512#32
  let v157 : BitVec 32 := Scalar.muli v156 c512_i32_110
  let v158 : BitVec 32 := v157
  let v171 : Index := Scalar.indexCast v158
  let c0_120 : Index := 0#32
  ![1, v171.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x8x64 : Shape := ⟨3, ![8192, 8, 64]⟩
abbrev S8192x8 : Shape := ⟨2, ![8192, 8]⟩
abbrev S_ : Shape := ⟨0, ![]⟩
abbrev S8x8192x8192 : Shape := ⟨3, ![8, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x64 : Shape := ⟨3, ![8, 8192, 64]⟩

abbrev nBuf : Space → Nat
  | .hbm => 129
  | .vmem => 0
  | .smem => 0
  | _ => 0

abbrev hbmTy0_0 (i : Nat) : BufTy := match i % 128 with
  | 0 => ⟨S8192x8x64, .f32⟩
  | 1 => ⟨S8192x8x64, .f32⟩
  | 2 => ⟨S8192x8x64, .f32⟩
  | 3 => ⟨S8192x8, .f32⟩
  | 4 => ⟨S8192x8x64, .f32⟩
  | 5 => ⟨S8192x8, .f32⟩
  | 6 => ⟨S_, .f32⟩
  | 7 => ⟨S8192x8, .f32⟩
  | 8 => ⟨S8192x8, .f32⟩
  | 9 => ⟨S8192x8, .f32⟩
  | 10 => ⟨S8192x8, .f32⟩
  | 11 => ⟨S8192x8, .i1⟩
  | 12 => ⟨S8192x8, .f32⟩
  | 13 => ⟨S8192x8, .f32⟩
  | 14 => ⟨S8192x8, .f32⟩
  | 15 => ⟨S8192x8, .f32⟩
  | 16 => ⟨S8192x8, .f32⟩
  | 17 => ⟨S8192x8, .f32⟩
  | 18 => ⟨S8192x8, .f32⟩
  | 19 => ⟨S8192x8, .f32⟩
  | 20 => ⟨S8192x8, .f32⟩
  | 21 => ⟨S_, .f32⟩
  | 22 => ⟨S_, .f32⟩
  | 23 => ⟨S8192x8, .f32⟩
  | 24 => ⟨S8x8192x8192, .f32⟩
  | 25 => ⟨S_, .f32⟩
  | 26 => ⟨S8x8192x8192, .f32⟩
  | 27 => ⟨S8x8192x8192, .f32⟩
  | 28 => ⟨S8x8192, .f32⟩
  | 29 => ⟨S8x8192x1, .f32⟩
  | 30 => ⟨S8x8192x8192, .f32⟩
  | 31 => ⟨S8x8192x8192, .f32⟩
  | 32 => ⟨S8x1x8192, .f32⟩
  | 33 => ⟨S8x8192x8192, .f32⟩
  | 34 => ⟨S8x8192x8192, .f32⟩
  | 35 => ⟨S8192, .i32⟩
  | 36 => ⟨S1x8192, .i32⟩
  | 37 => ⟨S8192x1, .i32⟩
  | 38 => ⟨S8192x8192, .i32⟩
  | 39 => ⟨S8192x8192, .i32⟩
  | 40 => ⟨S8192x8192, .i1⟩
  | 41 => ⟨S_, .f32⟩
  | 42 => ⟨S_, .f32⟩
  | 43 => ⟨S8x8192x8192, .i1⟩
  | 44 => ⟨S8x8192x8192, .f32⟩
  | 45 => ⟨S8x8192x8192, .f32⟩
  | 46 => ⟨S_, .f32⟩
  | 47 => ⟨S8x8192x8192, .f32⟩
  | 48 => ⟨S_, .f32⟩
  | 49 => ⟨S8x8192, .f32⟩
  | 50 => ⟨S8x8192x1, .f32⟩
  | 51 => ⟨S8x8192x8192, .f32⟩
  | 52 => ⟨S8x8192x8192, .i1⟩
  | 53 => ⟨S8x8192x8192, .f32⟩
  | 54 => ⟨S_, .f32⟩
  | 55 => ⟨S8x8192, .f32⟩
  | 56 => ⟨S_, .f32⟩
  | 57 => ⟨S8x8192, .f32⟩
  | 58 => ⟨S8x8192, .f32⟩
  | 59 => ⟨S_, .f32⟩
  | 60 => ⟨S8x8192, .f32⟩
  | 61 => ⟨S8x8192, .i1⟩
  | 62 => ⟨S_, .f32⟩
  | 63 => ⟨S8x8192, .f32⟩
  | 64 => ⟨S8x8192, .i1⟩
  | 65 => ⟨S_, .f32⟩
  | 66 => ⟨S8x8192, .f32⟩
  | 67 => ⟨S_, .f32⟩
  | 68 => ⟨S8x8192, .f32⟩
  | 69 => ⟨S_, .f32⟩
  | 70 => ⟨S8x8192, .f32⟩
  | 71 => ⟨S8x8192, .f32⟩
  | 72 => ⟨S8x8192, .f32⟩
  | 73 => ⟨S8x8192x1, .f32⟩
  | 74 => ⟨S8x8192x8192, .f32⟩
  | 75 => ⟨S8x8192x8192, .f32⟩
  | 76 => ⟨S8x8192x8192, .f32⟩
  | 77 => ⟨S_, .f32⟩
  | 78 => ⟨S8x8192, .f32⟩
  | 79 => ⟨S8x8192x1, .f32⟩
  | 80 => ⟨S8x8192x8192, .f32⟩
  | 81 => ⟨S8x8192x8192, .f32⟩
  | 82 => ⟨S8x8192x1, .f32⟩
  | 83 => ⟨S_, .f32⟩
  | 84 => ⟨S8x8192x1, .f32⟩
  | 85 => ⟨S8x8192x1, .f32⟩
  | 86 => ⟨S8x64x8192, .f32⟩
  | 87 => ⟨S8192x8x64, .f32⟩
  | 88 => ⟨S8x64x8192, .f32⟩
  | 89 => ⟨S8x8192x8192, .f32⟩
  | 90 => ⟨S8x64x8192, .f32⟩
  | 91 => ⟨S8192x8x64, .f32⟩
  | 92 => ⟨S8x8192x8192, .f32⟩
  | 93 => ⟨S8x8192x8192, .f32⟩
  | 94 => ⟨S8x8192x8192, .f32⟩
  | 95 => ⟨S_, .f32⟩
  | 96 => ⟨S8x8192, .f32⟩
  | 97 => ⟨S8x8192x1, .f32⟩
  | 98 => ⟨S8x8192x1, .f32⟩
  | 99 => ⟨S8x8192x8192, .f32⟩
  | 100 => ⟨S8x8192x8192, .f32⟩
  | 101 => ⟨S_, .f32⟩
  | 102 => ⟨S8x8192, .f32⟩
  | 103 => ⟨S8x8192x8192, .f32⟩
  | 104 => ⟨S8x8192x8192, .f32⟩
  | 105 => ⟨S8x8192x8192, .f32⟩
  | 106 => ⟨S_, .f32⟩
  | 107 => ⟨S8x8192x8192, .f32⟩
  | 108 => ⟨S8x8192x8192, .f32⟩
  | 109 => ⟨S8x8192x8192, .f32⟩
  | 110 => ⟨S_, .f32⟩
  | 111 => ⟨S8x8192, .f32⟩
  | 112 => ⟨S8x1x8192, .f32⟩
  | 113 => ⟨S_, .f32⟩
  | 114 => ⟨S8x8192, .f32⟩
  | 115 => ⟨S_, .f32⟩
  | 116 => ⟨S8x8192, .f32⟩
  | 117 => ⟨S8x8192x1, .f32⟩
  | 118 => ⟨S_, .f32⟩
  | 119 => ⟨S8x8192, .f32⟩
  | 120 => ⟨S8x8192, .f32⟩
  | 121 => ⟨S8192x8, .f32⟩
  | 122 => ⟨S_, .f32⟩
  | 123 => ⟨S8x8192x8192, .f32⟩
  | 124 => ⟨S8x8192x8192, .f32⟩
  | 125 => ⟨S8x8192x64, .f32⟩
  | 126 => ⟨S8192x8x64, .f32⟩
  | 127 => ⟨S8x8192x64, .f32⟩
  | _ => ⟨S8192x8x64, .f32⟩

abbrev hbmTy0_1 (i : Nat) : BufTy := match i % 128 with
  | 0 => ⟨S8192x8x64, .f32⟩
  | _ => ⟨S8192x8x64, .f32⟩

abbrev hbmTy (i : Nat) : BufTy := match i / 128 with
  | 0 => hbmTy0_0 i
  | 1 => hbmTy0_1 i
  | _ => ⟨S8192x8x64, .f32⟩

abbrev bufTy : (tb : Table) → Fin (tcTables nBuf tb) → BufTy
  | .hbm, ⟨i, _⟩ => hbmTy i
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v0 : Ref sig .tc := ⟨.hbm, 20, rfl⟩
abbrev main_call1_call0_cst : Ref sig .tc := ⟨.hbm, 21, rfl⟩
abbrev main_call1_call0_v0 : Ref sig .tc := ⟨.hbm, 22, rfl⟩
abbrev main_v1 : Ref sig .tc := ⟨.hbm, 23, rfl⟩
abbrev main_v2 : Ref sig .tc := ⟨.hbm, 24, rfl⟩
abbrev main_cst : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_0 : Ref sig .tc := ⟨.hbm, 41, rfl⟩
abbrev main_call2_v0 : Ref sig .tc := ⟨.hbm, 42, rfl⟩
abbrev main_v18_1 : Ref sig .tc := ⟨.hbm, 43, rfl⟩
abbrev main_call2_v2 : Ref sig .tc := ⟨.hbm, 44, rfl⟩
abbrev main_v18_0 : Ref sig .tc := ⟨.hbm, 45, rfl⟩
abbrev main_call2_cst : Ref sig .tc := ⟨.hbm, 46, rfl⟩
abbrev main_v18_2 : Ref sig .tc := ⟨.hbm, 47, rfl⟩
abbrev main_cst_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_2 : Ref sig .tc := ⟨.hbm, 54, rfl⟩
abbrev main_v24 : Ref sig .tc := ⟨.hbm, 55, rfl⟩
abbrev main_cst_3 : Ref sig .tc := ⟨.hbm, 56, rfl⟩
abbrev main_v25 : Ref sig .tc := ⟨.hbm, 57, rfl⟩
abbrev main_v26 : Ref sig .tc := ⟨.hbm, 58, rfl⟩
abbrev main_cst_4 : Ref sig .tc := ⟨.hbm, 59, rfl⟩
abbrev main_v27 : Ref sig .tc := ⟨.hbm, 60, rfl⟩
abbrev main_v28 : Ref sig .tc := ⟨.hbm, 61, rfl⟩
abbrev main_cst_5 : Ref sig .tc := ⟨.hbm, 62, rfl⟩
abbrev main_v29 : Ref sig .tc := ⟨.hbm, 63, rfl⟩
abbrev main_v30 : Ref sig .tc := ⟨.hbm, 64, rfl⟩
abbrev main_cst_6 : Ref sig .tc := ⟨.hbm, 65, rfl⟩
abbrev main_v31 : Ref sig .tc := ⟨.hbm, 66, rfl⟩
abbrev main_cst_7 : Ref sig .tc := ⟨.hbm, 67, rfl⟩
abbrev main_v32 : Ref sig .tc := ⟨.hbm, 68, rfl⟩
abbrev main_cst_8 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_9 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_10 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_cst_11 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_12 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_call3_cst : Ref sig .tc := ⟨.hbm, 106, rfl⟩
abbrev main_call3_v0 : Ref sig .tc := ⟨.hbm, 107, rfl⟩
abbrev main_v65 : Ref sig .tc := ⟨.hbm, 108, rfl⟩
abbrev main_v66 : Ref sig .tc := ⟨.hbm, 109, rfl⟩
abbrev main_cst_13 : Ref sig .tc := ⟨.hbm, 110, rfl⟩
abbrev main_v67 : Ref sig .tc := ⟨.hbm, 111, rfl⟩
abbrev main_v68 : Ref sig .tc := ⟨.hbm, 112, rfl⟩
abbrev main_cst_14 : Ref sig .tc := ⟨.hbm, 113, rfl⟩
abbrev main_v69 : Ref sig .tc := ⟨.hbm, 114, rfl⟩
abbrev main_cst_15 : Ref sig .tc := ⟨.hbm, 115, rfl⟩
abbrev main_v70 : Ref sig .tc := ⟨.hbm, 116, rfl⟩
abbrev main_v71 : Ref sig .tc := ⟨.hbm, 117, rfl⟩
abbrev main_cst_16 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_17 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x2568 : Shape := ⟨2, ![1024, 2568]⟩
abbrev S1x8 : Shape := ⟨2, ![1, 8]⟩
abbrev S8192x8x64 : Shape := ⟨3, ![8192, 8, 64]⟩
abbrev S8192x8 : Shape := ⟨2, ![8192, 8]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2568 : Shape := ⟨2, ![8192, 2568]⟩
abbrev S8 : Shape := ⟨1, ![8]⟩
abbrev S8192x128 : Shape := ⟨2, ![8192, 128]⟩
abbrev S1024x2688 : Shape := ⟨2, ![1024, 2688]⟩
abbrev S8x8192x64 : Shape := ⟨3, ![8, 8192, 64]⟩
abbrev S8x8192 : Shape := ⟨2, ![8, 8192]⟩
abbrev S8x8192x1 : Shape := ⟨3, ![8, 8192, 1]⟩
abbrev S8x8192x63 : Shape := ⟨3, ![8, 8192, 63]⟩
abbrev S8x8192x128 : Shape := ⟨3, ![8, 8192, 128]⟩
abbrev S8x8192x3 : Shape := ⟨3, ![8, 8192, 3]⟩
abbrev S8x8192x60 : Shape := ⟨3, ![8, 8192, 60]⟩
abbrev S8192x2688 : Shape := ⟨2, ![8192, 2688]⟩
abbrev S1x128 : Shape := ⟨2, ![1, 128]⟩
abbrev S256x1024 : Shape := ⟨2, ![256, 1024]⟩
abbrev S8x256x128 : Shape := ⟨3, ![8, 256, 128]⟩
abbrev S256x128 : Shape := ⟨2, ![256, 128]⟩
abbrev S256x2688 : Shape := ⟨2, ![256, 2688]⟩
abbrev S1x256x128 : Shape := ⟨3, ![1, 256, 128]⟩
abbrev S256x1 : Shape := ⟨2, ![256, 1]⟩
abbrev S256x256 : Shape := ⟨2, ![256, 256]⟩
abbrev S128 : Shape := ⟨1, ![128]⟩
abbrev S256 : Shape := ⟨1, ![256]⟩

abbrev nBuf : Space → Nat
  | .hbm => 65
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2568, .f32⟩
  | .hbm, ⟨3, _⟩ => ⟨S1x8, .f32⟩
  | .hbm, ⟨4, _⟩ => ⟨S8192x1024, .f32⟩
  | .hbm, ⟨5, _⟩ => ⟨S8192x8x64, .f32⟩
  | .hbm, ⟨6, _⟩ => ⟨S8192x8x64, .f32⟩
  | .hbm, ⟨7, _⟩ => ⟨S8192x8x64, .f32⟩
  | .hbm, ⟨8, _⟩ => ⟨S8192x8, .f32⟩
  | .hbm, ⟨9, _⟩ => ⟨S8192x8, .f32⟩
  | .hbm, ⟨10, _⟩ => ⟨S8192x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x2568, .f32⟩
  | .hbm, ⟨29, _⟩ => ⟨S8192x8, .f32⟩
  | .hbm, ⟨30, _⟩ => ⟨S8, .f32⟩
  | .hbm, ⟨31, _⟩ => ⟨S1x8, .f32⟩
  | .hbm, ⟨32, _⟩ => ⟨S8192x8, .f32⟩
  | .hbm, ⟨33, _⟩ => ⟨S8192x8, .f32⟩
  | .hbm, ⟨34, _⟩ => ⟨S_, .i32⟩
  | .hbm, ⟨35, _⟩ => ⟨S_, .f32⟩
  | .hbm, ⟨36, _⟩ => ⟨S8192x128, .f32⟩
  | .hbm, ⟨37, _⟩ => ⟨S1024x2568, .bf16⟩
  | .hbm, ⟨38, _⟩ => ⟨S_, .i32⟩
  | .hbm, ⟨39, _⟩ => ⟨S_, .bf16⟩
  | .hbm, ⟨40, _⟩ => ⟨S1024x2688, .bf16⟩
  | .hbm, ⟨41, _⟩ => ⟨S8x8192x64, .f32⟩
  | .hbm, ⟨42, _⟩ => ⟨S8x8192x64, .f32⟩
  | .hbm, ⟨43, _⟩ => ⟨S8x8192x64, .f32⟩
  | .hbm, ⟨44, _⟩ => ⟨S8x8192, .f32⟩
  | .hbm, ⟨45, _⟩ => ⟨S8x8192x1, .f32⟩
  | .hbm, ⟨46, _⟩ => ⟨S8x8192, .f32⟩
  | .hbm, ⟨47, _⟩ => ⟨S8x8192x1, .f32⟩
  | .hbm, ⟨48, _⟩ => ⟨S_, .f32⟩
  | .hbm, ⟨49, _⟩ => ⟨S8x8192x63, .f32⟩
  | .hbm, ⟨50, _⟩ => ⟨S8x8192x128, .f32⟩
  | .hbm, ⟨51, _⟩ => ⟨S_, .f32⟩
  | .hbm, ⟨52, _⟩ => ⟨S8x8192x3, .f32⟩
  | .hbm, ⟨53, _⟩ => ⟨S_, .f32⟩
  | .hbm, ⟨54, _⟩ => ⟨S8x8192x60, .f32⟩
  | .hbm, ⟨55, _⟩ => ⟨S8x8192x128, .f32⟩
  | .hbm, ⟨56, _⟩ => ⟨S_, .f32⟩
  | .hbm, ⟨57, _⟩ => ⟨S8x8192x64, .f32⟩
  | .hbm, ⟨58, _⟩ => ⟨S8x8192x128, .f32⟩
  | .hbm, ⟨59, _⟩ => ⟨S8x8192x128, .bf16⟩
  | .hbm, ⟨60, _⟩ => ⟨S8192x1024, .bf16⟩
  | .hbm, ⟨61, _⟩ => ⟨S8192x1024, .f32⟩
  | .hbm, ⟨62, _⟩ => ⟨S8192x2688, .bf16⟩
  | .hbm, ⟨63, _⟩ => ⟨S1x1024, .f32⟩
  | .hbm, ⟨64, _⟩ => ⟨S1x128, .f32⟩
  | .local _ .vmem, ⟨0, _⟩ => ⟨S256x1024, .bf16⟩
  | .local _ .vmem, ⟨1, _⟩ => ⟨S256x1024, .bf16⟩
  | .local _ .vmem, ⟨2, _⟩ => ⟨S8x256x128, .f32⟩
  | .local _ .vmem, ⟨3, _⟩ => ⟨S8x256x128, .f32⟩
  | .local _ .vmem, ⟨4, _⟩ => ⟨S8x256x128, .f32⟩
  | .local _ .vmem, ⟨5, _⟩ => ⟨S8x256x128, .f32⟩
  | .local _ .vmem, ⟨6, _⟩ => ⟨S8x256x128, .bf16⟩
  | .local _ .vmem, ⟨7, _⟩ => ⟨S8x256x128, .bf16⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1024x2688, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x2688, .bf16⟩
  | .local _ .vmem, ⟨19, _⟩ => ⟨S256x2688, .bf16⟩
  | .local _ .vmem, ⟨20, _⟩ => ⟨S1x1024, .f32⟩
  | .local _ .vmem, ⟨21, _⟩ => ⟨S1x128, .f32⟩
  | .local _ .vmem, ⟨22, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_call0_v0 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_call1_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39_0 : Ref sig .tc := ⟨.hbm, 61, rfl⟩
abbrev main_v39_1 : Ref sig .tc := ⟨.hbm, 62, rfl⟩
abbrev main_v39_2 : Ref sig .tc := ⟨.hbm, 63, rfl⟩
abbrev main_v39_3 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2688 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2688 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S8192x1024 : Shape := ⟨2, ![8192, 1024]⟩
abbrev S1x1024 : Shape := ⟨2, ![1, 1024]⟩
abbrev S1024x2568 : Shape := ⟨2, ![1024, 2568]⟩
abbrev S1x8 : Shape := ⟨2, ![1, 8]⟩
abbrev S8192x8x64 : Shape := ⟨3, ![8192, 8, 64]⟩
abbrev S8192x8 : Shape := ⟨2, ![8192, 8]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2568 : Shape := ⟨2, ![8192, 2568]⟩
abbrev S8192x512 : Shape := ⟨2, ![8192, 512]⟩
abbrev S8 : Shape := ⟨1, ![8]⟩
abbrev S8192x2688 : Shape := ⟨2, ![8192, 2688]⟩
abbrev S1x128 : Shape := ⟨2, ![1, 128]⟩

abbrev nBuf : Space → Nat
  | .hbm => 169
  | .vmem => 0
  | .smem => 0
  | _ => 0

abbrev hbmTy0_0 (i : Nat) : BufTy := match i % 128 with
  | 0 => ⟨S8192x1024, .f32⟩
  | 1 => ⟨S1x1024, .f32⟩
  | 2 => ⟨S1024x2568, .f32⟩
  | 3 => ⟨S1x8, .f32⟩
  | 4 => ⟨S8192x1024, .f32⟩
  | 5 => ⟨S8192x8x64, .f32⟩
  | 6 => ⟨S8192x8x64, .f32⟩
  | 7 => ⟨S8192x8x64, .f32⟩
  | 8 => ⟨S8192x8, .f32⟩
  | 9 => ⟨S8192x8, .f32⟩
  | 10 => ⟨S8192x1024, .f32⟩
  | 11 => ⟨S1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S1x1024, .f32⟩
  | 30 => ⟨S8192x1024, .f32⟩
  | 31 => ⟨S8192x1024, .f32⟩
  | 32 => ⟨S8192x2568, .f32⟩
  | 33 => ⟨S8192x1024, .f32⟩
  | 34 => ⟨S8192x512, .f32⟩
  | 35 => ⟨S8192x8x64, .f32⟩
  | 36 => ⟨S8192x512, .f32⟩
  | 37 => ⟨S8192x8x64, .f32⟩
  | 38 => ⟨S8192x512, .f32⟩
  | 39 => ⟨S8192x8x64, .f32⟩
  | 40 => ⟨S8192x8, .f32⟩
  | 41 => ⟨S8, .f32⟩
  | 42 => ⟨S1x8, .f32⟩
  | 43 => ⟨S8192x8, .f32⟩
  | 44 => ⟨S8192x8, .f32⟩
  | 45 => ⟨S8192x8, .f32⟩
  | 46 => ⟨S_, .f32⟩
  | 47 => ⟨S8192x8, .f32⟩
  | 48 => ⟨S8192x8, .f32⟩
  | 49 => ⟨S8192x8, .f32⟩
  | 50 => ⟨S8192x8, .f32⟩
  | 51 => ⟨S8192x8, .i1⟩
  | 52 => ⟨S8192x8, .f32⟩
  | 53 => ⟨S8192x8, .f32⟩
  | 54 => ⟨S8192x8, .f32⟩
  | 55 => ⟨S8192x8, .f32⟩
  | 56 => ⟨S8192x8, .f32⟩
  | 57 => ⟨S8192x8, .f32⟩
  | 58 => ⟨S8192x8, .f32⟩
  | 59 => ⟨S8192x8, .f32⟩
  | 60 => ⟨S_, .f32⟩
  | 61 => ⟨S8192x8, .f32⟩
  | 62 => ⟨S8192x8, .i1⟩
  | 63 => ⟨S_, .f32⟩
  | 64 => ⟨S8192x8, .f32⟩
  | 65 => ⟨S8192x8, .f32⟩
  | 66 => ⟨S_, .f32⟩
  | 67 => ⟨S8192x8, .f32⟩
  | 68 => ⟨S8192x8, .i1⟩
  | 69 => ⟨S_, .f32⟩
  | 70 => ⟨S8192x8, .f32⟩
  | 71 => ⟨S8192x8, .f32⟩
  | 72 => ⟨S8192x8, .f32⟩
  | 73 => ⟨S8192x8, .f32⟩
  | 74 => ⟨S_, .f32⟩
  | 75 => ⟨S_, .f32⟩
  | 76 => ⟨S_, .i1⟩
  | 77 => ⟨S_, .f32⟩
  | 78 => ⟨S_, .f32⟩
  | 79 => ⟨S_, .f32⟩
  | 80 => ⟨S_, .f32⟩
  | 81 => ⟨S8192x8, .f32⟩
  | 82 => ⟨S8192x8, .i1⟩
  | 83 => ⟨S_, .f32⟩
  | 84 => ⟨S8192x8, .f32⟩
  | 85 => ⟨S8192x8, .f32⟩
  | 86 => ⟨S8192x8, .f32⟩
  | 87 => ⟨S8192x8, .f32⟩
  | 88 => ⟨S8192x8, .f32⟩
  | 89 => ⟨S_, .f32⟩
  | 90 => ⟨S8192x8, .f32⟩
  | 91 => ⟨S8192x8, .f32⟩
  | 92 => ⟨S8192x8, .f32⟩
  | 93 => ⟨S_, .f32⟩
  | 94 => ⟨S_, .f32⟩
  | 95 => ⟨S8192x8, .f32⟩
  | 96 => ⟨S_, .f32⟩
  | 97 => ⟨S8192x8x64, .f32⟩
  | 98 => ⟨S8192x8x64, .f32⟩
  | 99 => ⟨S8192x8, .f32⟩
  | 100 => ⟨S8192x8, .f32⟩
  | 101 => ⟨S8192x8, .f32⟩
  | 102 => ⟨S_, .f32⟩
  | 103 => ⟨S8192x8x64, .f32⟩
  | 104 => ⟨S8192x8x64, .f32⟩
  | 105 => ⟨S_, .f32⟩
  | 106 => ⟨S_, .f32⟩
  | 107 => ⟨S8192x8, .f32⟩
  | 108 => ⟨S8192x8, .f32⟩
  | 109 => ⟨S8192x8, .f32⟩
  | 110 => ⟨S8192x8, .f32⟩
  | 111 => ⟨S_, .f32⟩
  | 112 => ⟨S8, .f32⟩
  | 113 => ⟨S1x8, .f32⟩
  | 114 => ⟨S_, .f32⟩
  | 115 => ⟨S8, .f32⟩
  | 116 => ⟨S1x8, .f32⟩
  | 117 => ⟨S_, .f32⟩
  | 118 => ⟨S8192x2568, .f32⟩
  | 119 => ⟨S8192x512, .f32⟩
  | 120 => ⟨S_, .f32⟩
  | 121 => ⟨S8192x2568, .f32⟩
  | 122 => ⟨S8192x2568, .f32⟩
  | 123 => ⟨S8192x512, .f32⟩
  | 124 => ⟨S_, .f32⟩
  | 125 => ⟨S8192x2568, .f32⟩
  | 126 => ⟨S8192x2568, .f32⟩
  | 127 => ⟨S8192x512, .f32⟩
  | _ => ⟨S8192x1024, .f32⟩

abbrev hbmTy0_1 (i : Nat) : BufTy := match i % 128 with
  | 0 => ⟨S_, .f32⟩
  | 1 => ⟨S8192x2568, .f32⟩
  | 2 => ⟨S8192x2568, .f32⟩
  | 3 => ⟨S_, .f32⟩
  | 4 => ⟨S8192x2568, .f32⟩
  | 5 => ⟨S8192x2568, .f32⟩
  | 6 => ⟨S8192x1024, .f32⟩
  | 7 => ⟨S8192x1024, .f32⟩
  | 8 => ⟨S_, .f32⟩
  | 9 => ⟨S1024, .f32⟩
  | 10 => ⟨S1x1024, .f32⟩
  | 11 => ⟨S8192x1024, .f32⟩
  | 12 => ⟨S8192x1024, .f32⟩
  | 13 => ⟨S_, .f32⟩
  | 14 => ⟨S1024, .f32⟩
  | 15 => ⟨S8192x1024, .f32⟩
  | 16 => ⟨S_, .f32⟩
  | 17 => ⟨S8192, .f32⟩
  | 18 => ⟨S8192x1, .f32⟩
  | 19 => ⟨S8192x1024, .f32⟩
  | 20 => ⟨S8192x1024, .f32⟩
  | 21 => ⟨S8192x1024, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S1x1024, .f32⟩
  | 34 => ⟨S_, .i32⟩
  | 35 => ⟨S_, .f32⟩
  | 36 => ⟨S8192x2688, .f32⟩
  | 37 => ⟨S8192x2688, .bf16⟩
  | 38 => ⟨S_, .i32⟩
  | 39 => ⟨S_, .f32⟩
  | 40 => ⟨S1x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_call0_cst : Ref sig .tc := ⟨.hbm, 46, rfl⟩
abbrev main_call0_call0_v0 : Ref sig .tc := ⟨.hbm, 47, rfl⟩
abbrev main_call0_call0_v1 : Ref sig .tc := ⟨.hbm, 48, rfl⟩
abbrev main_call0_call0_v2 : Ref sig .tc := ⟨.hbm, 49, rfl⟩
abbrev main_call0_call0_v3 : Ref sig .tc := ⟨.hbm, 50, rfl⟩
abbrev main_call0_call0_v4 : Ref sig .tc := ⟨.hbm, 51, rfl⟩
abbrev main_call0_call0_v5 : Ref sig .tc := ⟨.hbm, 52, rfl⟩
abbrev main_call0_call0_v6 : Ref sig .tc := ⟨.hbm, 53, rfl⟩
abbrev main_call0_call0_v7 : Ref sig .tc := ⟨.hbm, 54, rfl⟩
abbrev main_call0_call0_v8 : Ref sig .tc := ⟨.hbm, 55, rfl⟩
abbrev main_call0_call0_v9 : Ref sig .tc := ⟨.hbm, 56, rfl⟩
abbrev main_call0_call0_v10 : Ref sig .tc := ⟨.hbm, 57, rfl⟩
abbrev main_call0_call0_v11 : Ref sig .tc := ⟨.hbm, 58, rfl⟩
abbrev main_call0_v1_0 : Ref sig .tc := ⟨.hbm, 59, rfl⟩
abbrev main_call0_call0_cst_0 : Ref sig .tc := ⟨.hbm, 60, rfl⟩
abbrev main_call0_call0_v13 : Ref sig .tc := ⟨.hbm, 61, rfl⟩
abbrev main_call0_call0_v14 : Ref sig .tc := ⟨.hbm, 62, rfl⟩
abbrev main_call0_call0_cst_1 : Ref sig .tc := ⟨.hbm, 63, rfl⟩
abbrev main_call0_call0_v15 : Ref sig .tc := ⟨.hbm, 64, rfl⟩
abbrev main_call0_call0_v16 : Ref sig .tc := ⟨.hbm, 65, rfl⟩
abbrev main_call0_call0_cst_2 : Ref sig .tc := ⟨.hbm, 66, rfl⟩
abbrev main_call0_call0_v17 : Ref sig .tc := ⟨.hbm, 67, rfl⟩
abbrev main_call0_call0_v18 : Ref sig .tc := ⟨.hbm, 68, rfl⟩
abbrev main_call0_call0_cst_3 : Ref sig .tc := ⟨.hbm, 69, rfl⟩
abbrev main_call0_call0_v19 : Ref sig .tc := ⟨.hbm, 70, rfl⟩
abbrev main_call0_call0_v20 : Ref sig .tc := ⟨.hbm, 71, rfl⟩
abbrev main_call0_call0_v21 : Ref sig .tc := ⟨.hbm, 72, rfl⟩
abbrev main_v30_1 : Ref sig .tc := ⟨.hbm, 73, rfl⟩
abbrev main_call0_call0_cst_4 : Ref sig .tc := ⟨.hbm, 74, rfl⟩
abbrev main_call0_call0_cst_5 : Ref sig .tc := ⟨.hbm, 75, rfl⟩
abbrev main_call0_call0_v23 : Ref sig .tc := ⟨.hbm, 76, rfl⟩
abbrev main_call0_call0_cst_6 : Ref sig .tc := ⟨.hbm, 77, rfl⟩
abbrev main_call0_call0_cst_7 : Ref sig .tc := ⟨.hbm, 78, rfl⟩
abbrev main_call0_call0_v24 : Ref sig .tc := ⟨.hbm, 79, rfl⟩
abbrev main_call0_call0_cst_8 : Ref sig .tc := ⟨.hbm, 80, rfl⟩
abbrev main_call0_call0_v25 : Ref sig .tc := ⟨.hbm, 81, rfl⟩
abbrev main_call0_call0_v26 : Ref sig .tc := ⟨.hbm, 82, rfl⟩
abbrev main_call0_call0_cst_9 : Ref sig .tc := ⟨.hbm, 83, rfl⟩
abbrev main_call0_call0_v27 : Ref sig .tc := ⟨.hbm, 84, rfl⟩
abbrev main_call0_call0_v28 : Ref sig .tc := ⟨.hbm, 85, rfl⟩
abbrev main_call0_call0_v29 : Ref sig .tc := ⟨.hbm, 86, rfl⟩
abbrev main_call0_call0_v30 : Ref sig .tc := ⟨.hbm, 87, rfl⟩
abbrev main_call0_call0_v31 : Ref sig .tc := ⟨.hbm, 88, rfl⟩
abbrev main_call0_call0_cst_10 : Ref sig .tc := ⟨.hbm, 89, rfl⟩
abbrev main_call0_call0_v32 : Ref sig .tc := ⟨.hbm, 90, rfl⟩
abbrev main_v30_2 : Ref sig .tc := ⟨.hbm, 91, rfl⟩
abbrev main_v30_0 : Ref sig .tc := ⟨.hbm, 92, rfl⟩
abbrev main_call1_call0_cst : Ref sig .tc := ⟨.hbm, 93, rfl⟩
abbrev main_call1_call0_v0 : Ref sig .tc := ⟨.hbm, 94, rfl⟩
abbrev main_v31 : Ref sig .tc := ⟨.hbm, 95, rfl⟩
abbrev main_cst_3 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_cst_4 : Ref sig .tc := ⟨.hbm, 102, rfl⟩
abbrev main_v37 : Ref sig .tc := ⟨.hbm, 103, rfl⟩
abbrev main_v38 : Ref sig .tc := ⟨.hbm, 104, rfl⟩
abbrev main_call2_call0_cst : Ref sig .tc := ⟨.hbm, 105, rfl⟩
abbrev main_call2_call0_v0 : Ref sig .tc := ⟨.hbm, 106, rfl⟩
abbrev main_v39 : Ref sig .tc := ⟨.hbm, 107, rfl⟩
abbrev main_call3_v0 : Ref sig .tc := ⟨.hbm, 108, rfl⟩
abbrev main_call3_v1 : Ref sig .tc := ⟨.hbm, 109, rfl⟩
abbrev main_v40 : Ref sig .tc := ⟨.hbm, 110, rfl⟩
abbrev main_cst_5 : Ref sig .tc := ⟨.hbm, 111, rfl⟩
abbrev main_v41 : Ref sig .tc := ⟨.hbm, 112, rfl⟩
abbrev main_v42 : Ref sig .tc := ⟨.hbm, 113, rfl⟩
abbrev main_cst_6 : Ref sig .tc := ⟨.hbm, 114, rfl⟩
abbrev main_v43 : Ref sig .tc := ⟨.hbm, 115, rfl⟩
abbrev main_v44 : Ref sig .tc := ⟨.hbm, 116, rfl⟩
abbrev main_cst_7 : Ref sig .tc := ⟨.hbm, 117, rfl⟩
abbrev main_v45 : Ref sig .tc := ⟨.hbm, 118, rfl⟩
abbrev main_v46 : Ref sig .tc := ⟨.hbm, 119, rfl⟩
abbrev main_cst_8 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_cst_9 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_cst_10 : Ref sig .tc := ⟨.hbm, 128, rfl⟩
abbrev main_v53 : Ref sig .tc := ⟨.hbm, 129, rfl⟩
abbrev main_v54 : Ref sig .tc := ⟨.hbm, 130, rfl⟩
abbrev main_cst_11 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_v58 : Ref sig .tc := ⟨.hbm, 135, rfl⟩
abbrev main_cst_12 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_cst_13 : Ref sig .tc := ⟨.hbm, 141, rfl⟩
abbrev main_v63 : Ref sig .tc := ⟨.hbm, 142, rfl⟩
abbrev main_v64 : Ref sig .tc := ⟨.hbm, 143, rfl⟩
abbrev main_cst_14 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_cst_15 : Ref sig .tc := ⟨.hbm, 151, rfl⟩
abbrev main_v71 : Ref sig .tc := ⟨.hbm, 152, rfl⟩
abbrev main_v72 : Ref sig .tc := ⟨.hbm, 153, rfl⟩
abbrev main_cst_16 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_c : Ref sig .tc := ⟨.hbm, 162, rfl⟩
abbrev main_call4_v0 : Ref sig .tc := ⟨.hbm, 163, rfl⟩
abbrev main_v80 : Ref sig .tc := ⟨.hbm, 164, rfl⟩
abbrev main_v81 : Ref sig .tc := ⟨.hbm, 165, rfl⟩
abbrev main_c_17 : Ref sig .tc := ⟨.hbm, 166, rfl⟩
abbrev main_call5_v0 : Ref sig .tc := ⟨.hbm, 167, rfl⟩
abbrev main_v82 : Ref sig .tc := ⟨.hbm, 168, rfl⟩

abbrev nD : Nat := 1
abbrev τ : Topo := Topo.v7x

variable {F : FTy → Type} [FloatOps F]
-- ==== Kernel3.lean ====
abbrev S8192x5632 : Shape := ⟨2, ![8192, 5632]⟩
abbrev S8192x1024 : Shape := ⟨2, ![8192, 1024]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S8192x2816 : Shape := ⟨2, ![8192, 2816]⟩
abbrev S8x128 : Shape := ⟨2, ![8, 128]⟩
abbrev S256x5632 : Shape := ⟨2, ![256, 5632]⟩
abbrev S256x1024 : Shape := ⟨2, ![256, 1024]⟩
abbrev S256x2816 : Shape := ⟨2, ![256, 2816]⟩
abbrev S8x5632 : Shape := ⟨2, ![8, 5632]⟩
abbrev S256x256 : Shape := ⟨2, ![256, 256]⟩
abbrev S8x256 : Shape := ⟨2, ![8, 256]⟩
abbrev S1x256 : Shape := ⟨2, ![1, 256]⟩
abbrev S248x256 : Shape := ⟨2, ![248, 256]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 13
  | .vmem => 19
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S3x5632, .f32⟩
  | .hbm, ⟨3, _⟩ => ⟨S1x5632, .f32⟩
  | .hbm, ⟨4, _⟩ => ⟨S2816x1024, .f32⟩
  | .hbm, ⟨5, _⟩ => ⟨S1x1024, .f32⟩
  | .hbm, ⟨6, _⟩ => ⟨S8192x1024, .f32⟩
  | .hbm, ⟨7, _⟩ => ⟨S2816x1024, .bf16⟩
  | .hbm, ⟨8, _⟩ => ⟨S8192x5632, .bf16⟩
  | .hbm, ⟨9, _⟩ => ⟨S8192x2816, .bf16⟩
  | .hbm, ⟨10, _⟩ => ⟨S8192x1024, .f32⟩
  | .hbm, ⟨11, _⟩ => ⟨S8x128, .f32⟩
  | .hbm, ⟨12, _⟩ => ⟨S1x1024, .f32⟩
  | .local _ .vmem, ⟨0, _⟩ => ⟨S256x5632, .f32⟩
  | .local _ .vmem, ⟨1, _⟩ => ⟨S256x5632, .f32⟩
  | .local _ .vmem, ⟨2, _⟩ => ⟨S256x1024, .f32⟩
  | .local _ .vmem, ⟨3, _⟩ => ⟨S256x1024, .f32⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x5632, .bf16⟩
  | .local _ .vmem, ⟨11, _⟩ => ⟨S256x5632, .bf16⟩
  | .local _ .vmem, ⟨12, _⟩ => ⟨S256x2816, .bf16⟩
  | .local _ .vmem, ⟨13, _⟩ => ⟨S256x2816, .bf16⟩
  | .local _ .vmem, ⟨14, _⟩ => ⟨S256x1024, .f32⟩
  | .local _ .vmem, ⟨15, _⟩ => ⟨S256x1024, .f32⟩
  | .local _ .vmem, ⟨16, _⟩ => ⟨S8x128, .f32⟩
  | .local _ .vmem, ⟨17, _⟩ => ⟨S1x1024, .f32⟩
  | .local _ .vmem, ⟨18, _⟩ => ⟨S8x5632, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S8192x5632 : Shape := ⟨2, ![8192, 5632]⟩
abbrev S8192x1024 : Shape := ⟨2, ![8192, 1024]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S_ : Shape := ⟨0, ![]⟩
abbrev S8194x5632 : Shape := ⟨2, ![8194, 5632]⟩
abbrev S5632 : Shape := ⟨1, ![5632]⟩
abbrev S8192x2816 : Shape := ⟨2, ![8192, 2816]⟩
abbrev S1024 : Shape := ⟨1, ![1024]⟩
abbrev S8192 : Shape := ⟨1, ![8192]⟩
abbrev S8192x1 : Shape := ⟨2, ![8192, 1]⟩
abbrev S8x128 : Shape := ⟨2, ![8, 128]⟩

abbrev nBuf : Space → Nat
  | .hbm => 121
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S3x5632, .f32⟩
  | .hbm, ⟨3, _⟩ => ⟨S1x5632, .f32⟩
  | .hbm, ⟨4, _⟩ => ⟨S2816x1024, .f32⟩
  | .hbm, ⟨5, _⟩ => ⟨S1x1024, .f32⟩
  | .hbm, ⟨6, _⟩ => ⟨S8192x1024, .f32⟩
  | .hbm, ⟨7, _⟩ => ⟨S_, .i32⟩
  | .hbm, ⟨8, _⟩ => ⟨S_, .f32⟩
  | .hbm, ⟨9, _⟩ => ⟨S8194x5632, .f32⟩
  | .hbm, ⟨10, _⟩ => ⟨S1x5632, .f32⟩
  | .hbm, ⟨11, _⟩ => ⟨S5632, .f32⟩
  | .hbm, ⟨12, _⟩ => ⟨S8192x5632, .f32⟩
  | .hbm, ⟨13, _⟩ => ⟨S1x5632, .f32⟩
  | .hbm, ⟨14, _⟩ => ⟨S8192x5632, .f32⟩
  | .hbm, ⟨15, _⟩ => ⟨S8192x5632, .f32⟩
  | .hbm, ⟨16, _⟩ => ⟨S1x5632, .f32⟩
  | .hbm, ⟨17, _⟩ => ⟨S5632, .f32⟩
  | .hbm, ⟨18, _⟩ => ⟨S8192x5632, .f32⟩
  | .hbm, ⟨19, _⟩ => ⟨S1x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S1x5632, .f32⟩
  | .hbm, ⟨24, _⟩ => ⟨S5632, .f32⟩
  | .hbm, ⟨25, _⟩ => ⟨S8192x5632, .f32⟩
  | .hbm, ⟨26, _⟩ => ⟨S1x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S5632, .f32⟩
  | .hbm, ⟨31, _⟩ => ⟨S1x5632, .f32⟩
  | .hbm, ⟨32, _⟩ => ⟨S8192x5632, .f32⟩
  | .hbm, ⟨33, _⟩ => ⟨S8192x5632, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x1024, .f32⟩
  | .hbm, ⟨47, _⟩ => ⟨S8192x1024, .f32⟩
  | .hbm, ⟨48, _⟩ => ⟨S1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S8192, .f32⟩
  | .hbm, ⟨87, _⟩ => ⟨S_, .f32⟩
  | .hbm, ⟨88, _⟩ => ⟨S8192, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S1024, .f32⟩
  | .hbm, ⟨100, _⟩ => ⟨S8192x1024, .f32⟩
  | .hbm, ⟨101, _⟩ => ⟨S_, .f32⟩
  | .hbm, ⟨102, _⟩ => ⟨S8192, .f32⟩
  | .hbm, ⟨103, _⟩ => ⟨S8192x1, .f32⟩
  | .hbm, ⟨104, _⟩ => ⟨S8192x1024, .f32⟩
  | .hbm, ⟨105, _⟩ => ⟨S8192x1024, .f32⟩
  | .hbm, ⟨106, _⟩ => ⟨S8192x1, .f32⟩
  | .hbm, ⟨107, _⟩ => ⟨S_, .f32⟩
  | .hbm, ⟨108, _⟩ => ⟨S8192x1, .f32⟩
  | .hbm, ⟨109, _⟩ => ⟨S8192x1, .f32⟩
  | .hbm, ⟨110, _⟩ => ⟨S_, .f32⟩
  | .hbm, ⟨111, _⟩ => ⟨S8192, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S1x1024, .f32⟩
  | .hbm, ⟨118, _⟩ => ⟨S8192x5632, .bf16⟩
  | .hbm, ⟨119, _⟩ => ⟨S8192x2816, .bf16⟩
  | .hbm, ⟨120, _⟩ => ⟨S8x128, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst : Ref sig .tc := ⟨.hbm, 50, rfl⟩
abbrev main_v33 : Ref sig .tc := ⟨.hbm, 51, rfl⟩
abbrev main_v34 : Ref sig .tc := ⟨.hbm, 52, rfl⟩
abbrev main_cst_0 : Ref sig .tc := ⟨.hbm, 53, rfl⟩
abbrev main_v35 : Ref sig .tc := ⟨.hbm, 54, rfl⟩
abbrev main_v36 : Ref sig .tc := ⟨.hbm, 55, rfl⟩
abbrev main_cst_1 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_2 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_3 : Ref sig .tc := ⟨.hbm, 71, rfl⟩
abbrev main_v50 : Ref sig .tc := ⟨.hbm, 72, rfl⟩
abbrev main_v51 : Ref sig .tc := ⟨.hbm, 73, rfl⟩
abbrev main_cst_4 : Ref sig .tc := ⟨.hbm, 74, rfl⟩
abbrev main_v52 : Ref sig .tc := ⟨.hbm, 75, rfl⟩
abbrev main_cst_5 : Ref sig .tc := ⟨.hbm, 76, rfl⟩
abbrev main_v53 : Ref sig .tc := ⟨.hbm, 77, rfl⟩
abbrev main_v54 : Ref sig .tc := ⟨.hbm, 78, rfl⟩
abbrev main_cst_6 : Ref sig .tc := ⟨.hbm, 79, rfl⟩
abbrev main_v55 : Ref sig .tc := ⟨.hbm, 80, rfl⟩
abbrev main_cst_7 : Ref sig .tc := ⟨.hbm, 81, rfl⟩
abbrev main_v56 : Ref sig .tc := ⟨.hbm, 82, rfl⟩
abbrev main_cst_8 : Ref sig .tc := ⟨.hbm, 83, rfl⟩
abbrev main_cst_9 : Ref sig .tc := ⟨.hbm, 84, rfl⟩
abbrev main_v57 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_14 : Ref sig .tc := ⟨.hbm, 107, rfl⟩
abbrev main_v75 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x5632 : Shape := ⟨2, ![1024, 5632]⟩
abbrev S1024x1024 : Shape := ⟨2, ![1024, 1024]⟩
abbrev S8192x512 : Shape := ⟨2, ![8192, 512]⟩
abbrev S8192x5632 : Shape := ⟨2, ![8192, 5632]⟩
abbrev S8192x2816 : Shape := ⟨2, ![8192, 2816]⟩
abbrev S512 : Shape := ⟨1, ![512]⟩
abbrev S512x1 : Shape := ⟨2, ![512, 1]⟩
abbrev S_ : Shape := ⟨0, ![]⟩
abbrev S128 : Shape := ⟨1, ![128]⟩
abbrev S1x128 : Shape := ⟨2, ![1, 128]⟩
abbrev S512x128 : Shape := ⟨2, ![512, 128]⟩
abbrev S384 : Shape := ⟨1, ![384]⟩
abbrev S1024 : Shape := ⟨1, ![1024]⟩
abbrev S384x1 : Shape := ⟨2, ![384, 1]⟩
abbrev S384x1024 : Shape := ⟨2, ![384, 1024]⟩
abbrev S8x8192x128 : Shape := ⟨3, ![8, 8192, 128]⟩
abbrev S256x2816 : Shape := ⟨2, ![256, 2816]⟩
abbrev S256x1024 : Shape := ⟨2, ![256, 1024]⟩
abbrev S256x512 : Shape := ⟨2, ![256, 512]⟩
abbrev S8x256x128 : Shape := ⟨3, ![8, 256, 128]⟩
abbrev S1024x2816 : Shape := ⟨2, ![1024, 2816]⟩
abbrev S256 : Shape := ⟨1, ![256]⟩
abbrev S256x1 : Shape := ⟨2, ![256, 1]⟩
abbrev S256x128 : Shape := ⟨2, ![256, 128]⟩
abbrev S256x384 : Shape := ⟨2, ![256, 384]⟩
abbrev S1x256x128 : Shape := ⟨3, ![1, 256, 128]⟩

abbrev nBuf : Space → Nat
  | .hbm => 57
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S1024x1024, .f32⟩
  | .hbm, ⟨4, _⟩ => ⟨S8192x512, .f32⟩
  | .hbm, ⟨5, _⟩ => ⟨S8192x5632, .f32⟩
  | .hbm, ⟨6, _⟩ => ⟨S8192x1024, .f32⟩
  | .hbm, ⟨7, _⟩ => ⟨S8192x2816, .f32⟩
  | .hbm, ⟨8, _⟩ => ⟨S8192x2816, .bf16⟩
  | .hbm, ⟨9, _⟩ => ⟨S8192x2816, .f32⟩
  | .hbm, ⟨10, _⟩ => ⟨S8192x2816, .bf16⟩
  | .hbm, ⟨11, _⟩ => ⟨S1024x5632, .bf16⟩
  | .hbm, ⟨12, _⟩ => ⟨S1024x1024, .bf16⟩
  | .hbm, ⟨13, _⟩ => ⟨S512, .i32⟩
  | .hbm, ⟨14, _⟩ => ⟨S512x1, .i32⟩
  | .hbm, ⟨15, _⟩ => ⟨S_, .i32⟩
  | .hbm, ⟨16, _⟩ => ⟨S512x1, .i32⟩
  | .hbm, ⟨17, _⟩ => ⟨S512x1, .i32⟩
  | .hbm, ⟨18, _⟩ => ⟨S128, .i32⟩
  | .hbm, ⟨19, _⟩ => ⟨S1x128, .i32⟩
  | .hbm, ⟨20, _⟩ => ⟨S512x128, .i32⟩
  | .hbm, ⟨21, _⟩ => ⟨S512x128, .i32⟩
  | .hbm, ⟨22, _⟩ => ⟨S512x128, .i1⟩
  | .hbm, ⟨23, _⟩ => ⟨S512x128, .bf16⟩
  | .hbm, ⟨24, _⟩ => ⟨S384, .i32⟩
  | .hbm, ⟨25, _⟩ => ⟨S_, .i32⟩
  | .hbm, ⟨26, _⟩ => ⟨S384, .i32⟩
  | .hbm, ⟨27, _⟩ => ⟨S384, .i32⟩
  | .hbm, ⟨28, _⟩ => ⟨S384, .i32⟩
  | .hbm, ⟨29, _⟩ => ⟨S_, .i32⟩
  | .hbm, ⟨30, _⟩ => ⟨S384, .i32⟩
  | .hbm, ⟨31, _⟩ => ⟨S384, .i32⟩
  | .hbm, ⟨32, _⟩ => ⟨S1024, .i32⟩
  | .hbm, ⟨33, _⟩ => ⟨S1x1024, .i32⟩
  | .hbm, ⟨34, _⟩ => ⟨S384x1, .i32⟩
  | .hbm, ⟨35, _⟩ => ⟨S_, .i32⟩
  | .hbm, ⟨36, _⟩ => ⟨S384x1, .i32⟩
  | .hbm, ⟨37, _⟩ => ⟨S384x1, .i1⟩
  | .hbm, ⟨38, _⟩ => ⟨S384x1, .i32⟩
  | .hbm, ⟨39, _⟩ => ⟨S_, .i32⟩
  | .hbm, ⟨40, _⟩ => ⟨S384x1, .i32⟩
  | .hbm, ⟨41, _⟩ => ⟨S384x1, .i32⟩
  | .hbm, ⟨42, _⟩ => ⟨S_, .i32⟩
  | .hbm, ⟨43, _⟩ => ⟨S384x1, .i32⟩
  | .hbm, ⟨44, _⟩ => ⟨S384x1, .i32⟩
  | .hbm, ⟨45, _⟩ => ⟨S384x1, .i32⟩
  | .hbm, ⟨46, _⟩ => ⟨S384x1, .i32⟩
  | .hbm, ⟨47, _⟩ => ⟨S384x1024, .i32⟩
  | .hbm, ⟨48, _⟩ => ⟨S384x1024, .i32⟩
  | .hbm, ⟨49, _⟩ => ⟨S384x1024, .i1⟩
  | .hbm, ⟨50, _⟩ => ⟨S384x1024, .i1⟩
  | .hbm, ⟨51, _⟩ => ⟨S384x1024, .i1⟩
  | .hbm, ⟨52, _⟩ => ⟨S384x1024, .bf16⟩
  | .hbm, ⟨53, _⟩ => ⟨S8192x1024, .f32⟩
  | .hbm, ⟨54, _⟩ => ⟨S8192x512, .f32⟩
  | .hbm, ⟨55, _⟩ => ⟨S8x8192x128, .bf16⟩
  | .hbm, ⟨56, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S1024x5632, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1024x1024, .bf16⟩
  | .local _ .vmem, ⟨11, _⟩ => ⟨S256x512, .f32⟩
  | .local _ .vmem, ⟨12, _⟩ => ⟨S256x512, .f32⟩
  | .local _ .vmem, ⟨13, _⟩ => ⟨S512x128, .bf16⟩
  | .local _ .vmem, ⟨14, _⟩ => ⟨S384x1024, .bf16⟩
  | .local _ .vmem, ⟨15, _⟩ => ⟨S256x1024, .f32⟩
  | .local _ .vmem, ⟨16, _⟩ => ⟨S256x1024, .f32⟩
  | .local _ .vmem, ⟨17, _⟩ => ⟨S256x512, .f32⟩
  | .local _ .vmem, ⟨18, _⟩ => ⟨S256x512, .f32⟩
  | .local _ .vmem, ⟨19, _⟩ => ⟨S8x256x128, .bf16⟩
  | .local _ .vmem, ⟨20, _⟩ => ⟨S8x256x128, .bf16⟩
  | .local _ .vmem, ⟨21, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40_0 : Ref sig .tc := ⟨.hbm, 53, rfl⟩
abbrev main_v40_1 : Ref sig .tc := ⟨.hbm, 54, rfl⟩
abbrev main_v40_2 : Ref sig .tc := ⟨.hbm, 55, rfl⟩
abbrev main_v40_3 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S8192x1024 : Shape := ⟨2, ![8192, 1024]⟩
abbrev S1x1024 : Shape := ⟨2, ![1, 1024]⟩
abbrev S1024x5632 : Shape := ⟨2, ![1024, 5632]⟩
abbrev S1024x1024 : Shape := ⟨2, ![1024, 1024]⟩
abbrev S8192x512 : Shape := ⟨2, ![8192, 512]⟩
abbrev S8192x5632 : Shape := ⟨2, ![8192, 5632]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x8x64 : Shape := ⟨3, ![8192, 8, 64]⟩
abbrev S8192x8 : Shape := ⟨2, ![8192, 8]⟩
abbrev S8192x8x1 : Shape := ⟨3, ![8192, 8, 1]⟩
abbrev S8192x8x63 : Shape := ⟨3, ![8192, 8, 63]⟩
abbrev S8192x8x128 : Shape := ⟨3, ![8192, 8, 128]⟩
abbrev S8x8192x128 : Shape := ⟨3, ![8, 8192, 128]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S1024x1024, .f32⟩
  | .hbm, ⟨4, _⟩ => ⟨S8192x512, .f32⟩
  | .hbm, ⟨5, _⟩ => ⟨S8192x5632, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x5632, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x512, .f32⟩
  | .hbm, ⟨59, _⟩ => ⟨S8192x8x64, .f32⟩
  | .hbm, ⟨60, _⟩ => ⟨S8192x8x64, .f32⟩
  | .hbm, ⟨61, _⟩ => ⟨S8192x8x64, .f32⟩
  | .hbm, ⟨62, _⟩ => ⟨S_, .f32⟩
  | .hbm, ⟨63, _⟩ => ⟨S8192x8, .f32⟩
  | .hbm, ⟨64, _⟩ => ⟨S8192x8x1, .f32⟩
  | .hbm, ⟨65, _⟩ => ⟨S8192x8x1, .f32⟩
  | .hbm, ⟨66, _⟩ => ⟨S_, .f32⟩
  | .hbm, ⟨67, _⟩ => ⟨S8192x8x63, .f32⟩
  | .hbm, ⟨68, _⟩ => ⟨S8192x8x128, .f32⟩
  | .hbm, ⟨69, _⟩ => ⟨S8192x512, .f32⟩
  | .hbm, ⟨70, _⟩ => ⟨S8x8192x128, .f32⟩
  | .hbm, ⟨71, _⟩ => ⟨S8x8192x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Kernel5.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S1024x5632 : Shape := ⟨2, ![1024, 5632]⟩
abbrev S8192x5632 : Shape := ⟨2, ![8192, 5632]⟩
abbrev S512x1024 : Shape := ⟨2, ![512, 1024]⟩
abbrev S512x512 : Shape := ⟨2, ![512, 512]⟩
abbrev S512x5632 : Shape := ⟨2, ![512, 5632]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1x1024, .f32⟩
  | .hbm, ⟨5, _⟩ => ⟨S1024x5632, .f32⟩
  | .hbm, ⟨6, _⟩ => ⟨S8192x512, .bf16⟩
  | .hbm, ⟨7, _⟩ => ⟨S1024x1024, .bf16⟩
  | .hbm, ⟨8, _⟩ => ⟨S1024x5632, .bf16⟩
  | .hbm, ⟨9, _⟩ => ⟨S8192x1024, .f32⟩
  | .hbm, ⟨10, _⟩ => ⟨S8192x1024, .bf16⟩
  | .hbm, ⟨11, _⟩ => ⟨S8192x5632, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x5632, .f32⟩
  | .local _ .vmem, ⟨14, _⟩ => ⟨S512x5632, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S1024x5632 : Shape := ⟨2, ![1024, 5632]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1x1024, .f32⟩
  | .hbm, ⟨5, _⟩ => ⟨S1024x5632, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | .hbm, ⟨27, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Proof.Offsets.lean ====
/- Closed forms of the counted loops' trip counts and of the row offsets the kernel computes for the tiles it visits. -/
module

public import proofs.«01_k».proof.Proof.Gen.KernelIdeal

@[expose] public section

namespace Cert.KernelIdeal.Value

open Cert.KernelIdeal Cert.KernelIdeal.Gen
open Idealize.ShloMosaic Idealize.ShloMosaic.Tactic

/-- The loop over pairs of row tiles makes half as many trips (rounded down) as there are tiles below the diagonal one. -/
theorem trips1_eq : ∀ i : grid0.Coords, (k0_t1_loop i).trips = (15 - (i 1).val) / 2 := by decide +kernel

/-- The loop over the tile left over makes one trip when the number of tiles below the diagonal one is odd. -/
theorem trips3_eq : ∀ i : grid0.Coords, (k0_t3_loop i).trips = (15 - (i 1).val) % 2 := by decide +kernel

/-- The first loop behind the pairs makes no trip. -/
theorem trips2_eq : ∀ i : grid0.Coords, (k0_t2_loop i).trips = 0 := by decide +kernel

/-- The last loop makes no trip. -/
theorem trips4_eq : ∀ i : grid0.Coords, (k0_t4_loop i).trips = 0 := by decide +kernel

/-- Head 0's rows of the pair loop's tiles. -/
theorem off3_eq : ∀ (i : grid0.Coords) (k : Fin (k0_t1_loop i).trips) (r : Fin 2),
    k0_off3 i k (BitVec.ofNat 32 r.val) = ![0, 512 * ((i 1).val + 1 + 2 * k.val + r.val), 0] := by decide +kernel

/-- Head 1's rows of the pair loop's tiles. -/
theorem off4_eq : ∀ (i : grid0.Coords) (k : Fin (k0_t1_loop i).trips) (r : Fin 2),
    k0_off4 i k (BitVec.ofNat 32 r.val) = ![1, 512 * ((i 1).val + 1 + 2 * k.val + r.val), 0] := by decide +kernel

/-- Head 0's rows of the tile left over: the last one. -/
theorem off1_eq : ∀ i : grid0.Coords, k0_off1 i = ![0, 512 * (i 1).val, 0] := by decide +kernel
theorem off2_eq : ∀ i : grid0.Coords, k0_off2 i = ![1, 512 * (i 1).val, 0] := by decide +kernel
theorem off7_eq : ∀ (i : grid0.Coords) (k : Fin (k0_t3_loop i).trips), k0_off7 i k = ![0, 7680, 0] := by decide +kernel

/-- Head 1's rows of the tile left over: the last one. -/
theorem off8_eq : ∀ (i : grid0.Coords) (k : Fin (k0_t3_loop i).trips), k0_off8 i k = ![1, 7680, 0] := by decide +kernel

theorem off3_0 (i : grid0.Coords) (k : Fin (k0_t1_loop i).trips) : k0_off3 i k 0#32 = ![0, 512 * ((i 1).val + 1 + 2 * k.val), 0] := off3_eq i k 0
theorem off3_1 (i : grid0.Coords) (k : Fin (k0_t1_loop i).trips) : k0_off3 i k 1#32 = ![0, 512 * ((i 1).val + 1 + 2 * k.val + 1), 0] := off3_eq i k 1
theorem off4_0 (i : grid0.Coords) (k : Fin (k0_t1_loop i).trips) : k0_off4 i k 0#32 = ![1, 512 * ((i 1).val + 1 + 2 * k.val), 0] := off4_eq i k 0
theorem off4_1 (i : grid0.Coords) (k : Fin (k0_t1_loop i).trips) : k0_off4 i k 1#32 = ![1, 512 * ((i 1).val + 1 + 2 * k.val + 1), 0] := off4_eq i k 1

instance closedOff3_0 (i : grid0.Coords) (k : Fin (k0_t1_loop i).trips) : ClosedOff (k0_off3 i k 0#32) := ⟨_, off3_0 i k⟩
instance closedOff3_1 (i : grid0.Coords) (k : Fin (k0_t1_loop i).trips) : ClosedOff (k0_off3 i k 1#32) := ⟨_, off3_1 i k⟩
instance closedOff4_0 (i : grid0.Coords) (k : Fin (k0_t1_loop i).trips) : ClosedOff (k0_off4 i k 0#32) := ⟨_, off4_0 i k⟩
instance closedOff4_1 (i : grid0.Coords) (k : Fin (k0_t1_loop i).trips) : ClosedOff (k0_off4 i k 1#32) := ⟨_, off4_1 i k⟩
instance closedOff1 (i : grid0.Coords) : ClosedOff (k0_off1 i) := ⟨_, off1_eq i⟩
instance closedOff2 (i : grid0.Coords) : ClosedOff (k0_off2 i) := ⟨_, off2_eq i⟩
instance closedOff7 (i : grid0.Coords) (k : Fin (k0_t3_loop i).trips) : ClosedOff (k0_off7 i k) := ⟨_, off7_eq i k⟩
instance closedOff8 (i : grid0.Coords) (k : Fin (k0_t3_loop i).trips) : ClosedOff (k0_off8 i k) := ⟨_, off8_eq i k⟩

/-- The tiles a trip of the pair loop visits are tiles of the array. -/
theorem pair_lt (i : grid0.Coords) (k : Fin (k0_t1_loop i).trips) : (i 1).val + 1 + 2 * k.val + 1 < 16 := by
  have h := k.isLt
  have e := trips1_eq i
  omega

end Cert.KernelIdeal.Value
-- ==== Proof.Step.lean ====
/- One tile of the attention gradient as a function of the three accumulators' values. A tile pairs a block of 512 keys
   with a block of 512 query rows of one head. -/
module

public import proofs.«01_k».proof.Proof.Offsets
public import Idealize.ShloMosaic.Lib.VecWindow

@[expose] public section

noncomputable section

namespace Cert.KernelIdeal.Value

open Cert.KernelIdeal Cert.KernelIdeal.Gen
open Idealize.ShloMosaic Idealize.ShloMosaic.Tactic

variable {F : FTy → Type} [FloatOps F] [Named F]

/-- The accumulators' values: the gradients of the augmented queries (all rows of both heads), of the augmented keys and
    of the augmented values (the point's 512 keys of both heads). -/
@[ext] structure St (F : FTy → Type) where
  dq : Vec F S2x8192x128 .f32
  dk : Vec F S2x512x128 .f32
  dv : Vec F S2x512x128 .f32

/-- The three operands that hold all rows: the augmented queries, the part that subtracts the row's log-sum, the
    augmented cotangent. -/
structure Rows (F : FTy → Type) where
  qa : Vec F S2x8192x128 .bf16
  lse : Vec F S2x8192x128 .bf16
  doa : Vec F S2x8192x128 .bf16

/-- Where block `n` of the rows of head `h` starts. -/
abbrev rowOff (h : Fin 2) (n : ℕ) : Fin 3 → ℕ := ![h.val, 512 * n, 0]
/-- Where head `h` of the point's keys starts. -/
abbrev keyOff (h : Fin 2) : Fin 3 → ℕ := ![h.val, 0, 0]

theorem key0 : ![0, 0, 0] = keyOff 0 := rfl
theorem key1 : ![1, 0, 0] = keyOff 1 := rfl

theorem row_inb (h : Fin 2) {n : ℕ} (hn : n < 16) : ∀ a, rowOff h n a + S1x512x128.size a ≤ S2x8192x128.size a := by
  intro a
  have := h.isLt
  fin_cases a
  · show h.val + 1 ≤ 2; omega
  · show 512 * n + 512 ≤ 8192; omega
  · show 0 + 128 ≤ 128; omega

theorem key_inb (h : Fin 2) : ∀ a, keyOff h a + S1x512x128.size a ≤ S2x512x128.size a := by
  intro a
  have := h.isLt
  fin_cases a
  · show h.val + 1 ≤ 2; omega
  · show 0 + 512 ≤ 512; omega
  · show 0 + 128 ≤ 128; omega

/-- Block `n` of head `h`'s rows. -/
def rowBlk {e : EltTy} (x : Vec F S2x8192x128 e) (h : Fin 2) {n : ℕ} (hn : n < 16) : Vec F S512x128 e :=
  shapeCast S512x128 (VecWindow.window x (rowOff h n) S1x512x128.size (row_inb h hn)) shapeCasts_S1x512x128_S512x128
/-- Head `h`'s keys. -/
def keyBlk {e : EltTy} (x : Vec F S2x512x128 e) (h : Fin 2) : Vec F S512x128 e :=
  shapeCast S512x128 (VecWindow.window x (keyOff h) S1x512x128.size (key_inb h)) shapeCasts_S1x512x128_S512x128
/-- `x` with block `n` of head `h`'s rows replaced. -/
def putRow {e : EltTy} (x : Vec F S2x8192x128 e) (h : Fin 2) (n : ℕ) (w : Vec F S1x512x128 e) : Vec F S2x8192x128 e :=
  VecWindow.put x (rowOff h n) S1x512x128.size w
/-- `x` with head `h`'s keys replaced. -/
def putKey {e : EltTy} (x : Vec F S2x512x128 e) (h : Fin 2) (w : Vec F S1x512x128 e) : Vec F S2x512x128 e :=
  VecWindow.put x (keyOff h) S1x512x128.size w
/-- A block with the leading axis a buffer's window has. -/
abbrev up {e : EltTy} (w : Vec F S512x128 e) : Vec F S1x512x128 e := shapeCast S1x512x128 w shapeCasts_S512x128_S1x512x128

/-- The mask of the tile on the diagonal: a query sees the keys up to its own. -/
def diagMask (s : FVec F S512x512 .f32) : FVec F S512x512 .f32 :=
  select (cmpi .sle (iota .tc S512x512 32 [0] iota_S512x512_d0_w32) (iota .tc S512x512 32 [1] iota_S512x512_d1_w32)) s
    (broadcast S512x512 (Named.named κ "mask" 0xF149F2CA#32))

/-- The query rows of a tile with their log-sums subtracted. -/
def tileQ (R : Rows F) (h : Fin 2) {n : ℕ} (hn : n < 16) : FVec F S512x128 .bf16 := addf (rowBlk R.qa h hn) (rowBlk R.lse h hn)

/-- The tile's probabilities, keys by queries. -/
def tileP (m : FVec F S512x512 .f32 → FVec F S512x512 .f32) (R : Rows F) (ks : FVec F S512x128 .bf16) (h : Fin 2) {n : ℕ} (hn : n < 16) : FVec F S512x512 .f32 :=
  exp (m (matmul dot_S512x128_S512x128_S512x512_1_1_0_0_n_n none ks (tileQ R h hn) (constant S512x512 .f32 0x00000000#32)))

/-- The tile's gradient of the scores. -/
def tileDs (m : FVec F S512x512 .f32 → FVec F S512x512 .f32) (R : Rows F) (ks vs : FVec F S512x128 .bf16) (h : Fin 2) {n : ℕ} (hn : n < 16) : FVec F S512x512 .bf16 :=
  truncf .bf16 (mulf (tileP m R ks h hn)
    (matmul dot_S512x128_S512x128_S512x512_1_1_0_0_n_n none vs (rowBlk R.doa h hn) (constant S512x512 .f32 0x00000000#32))) bitsLt_bf16_f32

/-- What a tile adds to the gradient of the values, -/
def addDv (m : FVec F S512x512 .f32 → FVec F S512x512 .f32) (R : Rows F) (ks : FVec F S512x128 .bf16) (h : Fin 2) {n : ℕ} (hn : n < 16) : FVec F S512x128 .f32 :=
  matmul dot_S512x512_S512x128_S512x128_1_0_0_1_n_n none (truncf .bf16 (tileP m R ks h hn) bitsLt_bf16_f32) (rowBlk R.doa h hn) (constant S512x128 .f32 0x00000000#32)
/-- of the keys, -/
def addDk (m : FVec F S512x512 .f32 → FVec F S512x512 .f32) (R : Rows F) (ks vs : FVec F S512x128 .bf16) (h : Fin 2) {n : ℕ} (hn : n < 16) : FVec F S512x128 .f32 :=
  matmul dot_S512x512_S512x128_S512x128_1_0_0_1_n_n none (tileDs m R ks vs h hn) (tileQ R h hn) (constant S512x128 .f32 0x00000000#32)
/-- and of the queries. -/
def addDq (m : FVec F S512x512 .f32 → FVec F S512x512 .f32) (R : Rows F) (ks vs : FVec F S512x128 .bf16) (h : Fin 2) {n : ℕ} (hn : n < 16) : FVec F S512x128 .f32 :=
  matmul dot_S512x512_S512x128_S512x128_0_0_1_1_n_n none (tileDs m R ks vs h hn) ks (constant S512x128 .f32 0x00000000#32)

/-- A tile: its three contributions added to the accumulators. -/
def step (m : FVec F S512x512 .f32 → FVec F S512x512 .f32) (R : Rows F) (ks vs : FVec F S512x128 .bf16) (h : Fin 2) {n : ℕ} (hn : n < 16) (s : St F) : St F where
  dv := putKey s.dv h (up <| addf (keyBlk s.dv h) (addDv m R ks h hn))
  dk := putKey s.dk h (up <| addf (keyBlk s.dk h) (addDk m R ks vs h hn))
  dq := putRow s.dq h n (up <| addf (rowBlk s.dq h hn) (addDq m R ks vs h hn))

/-- The keys and values of the point, by head. -/
structure Keys (F : FTy → Type) where
  k0 : FVec F S512x128 .bf16
  k1 : FVec F S512x128 .bf16
  v0 : FVec F S512x128 .bf16
  v1 : FVec F S512x128 .bf16

/-- Both heads' tiles of row block `n`. -/
def both (m : FVec F S512x512 .f32 → FVec F S512x512 .f32) (R : Rows F) (K : Keys F) {n : ℕ} (hn : n < 16) (s : St F) : St F :=
  step m R K.k1 K.v1 1 hn (step m R K.k0 K.v0 0 hn s)

/-! ## What a tile reads of what the tile before left -/

theorem keyBlk_putKey_same {e : EltTy} (x : Vec F S2x512x128 e) (h : Fin 2) (w : Vec F S1x512x128 e) :
    keyBlk (putKey x h w) h = shapeCast S512x128 w shapeCasts_S1x512x128_S512x128 :=
  congrArg (shapeCast S512x128 · shapeCasts_S1x512x128_S512x128) (VecWindow.window_put_same x (keyOff h) S1x512x128.size (key_inb h) w)

theorem keyBlk_putKey_ne {e : EltTy} (x : Vec F S2x512x128 e) {h h' : Fin 2} (hh : h ≠ h') (w : Vec F S1x512x128 e) :
    keyBlk (putKey x h w) h' = keyBlk x h' := by
  have := Fin.val_ne_of_ne hh
  exact congrArg (shapeCast S512x128 · shapeCasts_S1x512x128_S512x128)
    (VecWindow.window_put_of_disjoint _ _ _ _ _ _ _ 0 (by show h'.val + 1 ≤ h.val ∨ h.val + 1 ≤ h'.val; omega))

theorem rowBlk_putRow_ne {e : EltTy} (x : Vec F S2x8192x128 e) {h h' : Fin 2} (hh : h ≠ h') {n n' : ℕ} (hn' : n' < 16) (w : Vec F S1x512x128 e) :
    rowBlk (putRow x h n w) h' hn' = rowBlk x h' hn' := by
  have := Fin.val_ne_of_ne hh
  exact congrArg (shapeCast S512x128 · shapeCasts_S1x512x128_S512x128)
    (VecWindow.window_put_of_disjoint _ _ _ _ _ _ _ 0 (by show h'.val + 1 ≤ h.val ∨ h.val + 1 ≤ h'.val; omega))

theorem rowBlk_putRow_lt {e : EltTy} (x : Vec F S2x8192x128 e) (h h' : Fin 2) {n n' : ℕ} (hn : n ≠ n') (hn' : n' < 16) (w : Vec F S1x512x128 e) :
    rowBlk (putRow x h n w) h' hn' = rowBlk x h' hn' :=
  congrArg (shapeCast S512x128 · shapeCasts_S1x512x128_S512x128)
    (VecWindow.window_put_of_disjoint _ _ _ _ _ _ _ 1 (by show 512 * n' + 512 ≤ 512 * n ∨ 512 * n + 512 ≤ 512 * n'; omega))

/-! ## Loads and stores of a memref, as blocks of its values -/

theorem inb_of_eq {off : Fin 3 → ℕ} {h : Fin 2} {n : ℕ} (eq : off = rowOff h n) (hn : n < 16) :
    ∀ a, off a + S1x512x128.size a ≤ S2x8192x128.size a := eq ▸ row_inb h hn

theorem rowBlk_read {e : EltTy} (M : Memref sig .tc .vmem S2x8192x128 e) (f : M.view.ty.Contents (Elt F)) {off : Fin 3 → ℕ} {h : Fin 2} {n : ℕ} (hn : n < 16)
    (eq : off = rowOff h n) :
    rowBlk (M.view.read (Elt F) f) h hn
      = shapeCast S512x128 (M.view.readAt (Elt F) (Rect.unit (s := S2x8192x128) off S1x512x128.size (inb_of_eq eq hn)).toLoadRect f) shapeCasts_S1x512x128_S512x128 := by
  subst eq; rfl

theorem keyBlk_read {e : EltTy} (M : Memref sig .tc .vmem S2x512x128 e) (f : M.view.ty.Contents (Elt F)) {off : Fin 3 → ℕ} {h : Fin 2}
    (inb : ∀ a, off a + S1x512x128.size a ≤ S2x512x128.size a) (eq : off = keyOff h) :
    keyBlk (M.view.read (Elt F) f) h
      = shapeCast S512x128 (M.view.readAt (Elt F) (Rect.unit (s := S2x512x128) off S1x512x128.size inb).toLoadRect f) shapeCasts_S1x512x128_S512x128 := by
  subst eq; rfl

/-- A block of the rows a buffer holds, loaded back. -/
theorem rowBlk_rep {e : EltTy} (M : Memref sig .tc .vmem S2x8192x128 e) (x : Vec F S2x8192x128 e) {off : Fin 3 → ℕ} {h : Fin 2} {n : ℕ} (hn : n < 16)
    (eq : off = rowOff h n) :
    rowBlk x h hn
      = shapeCast S512x128 (M.view.readAt (Elt F) (Rect.unit (s := S2x8192x128) off S1x512x128.size (inb_of_eq eq hn)).toLoadRect (M.view.rep x)) shapeCasts_S1x512x128_S512x128 := by
  rw [← rowBlk_read M (M.view.rep x) hn eq, View.read_rep]

/-- The keys a buffer holds, loaded back. -/
theorem keyBlk_rep {e : EltTy} (M : Memref sig .tc .vmem S2x512x128 e) (x : Vec F S2x512x128 e) {off : Fin 3 → ℕ} {h : Fin 2}
    (inb : ∀ a, off a + S1x512x128.size a ≤ S2x512x128.size a) (eq : off = keyOff h) :
    keyBlk x h
      = shapeCast S512x128 (M.view.readAt (Elt F) (Rect.unit (s := S2x512x128) off S1x512x128.size inb).toLoadRect (M.view.rep x)) shapeCasts_S1x512x128_S512x128 := by
  rw [← keyBlk_read M (M.view.rep x) inb eq, View.read_rep]

theorem read_row {e : EltTy} (M : Memref sig .tc .vmem S2x8192x128 e) (f : M.view.ty.Contents (Elt F)) {off : Fin 3 → ℕ} {h : Fin 2} {n : ℕ}
    (inb : ∀ a, off a + S1x512x128.size a ≤ S2x8192x128.size a) (w : Vec F S1x512x128 e) (L : List (View.Piece (Elt F) S2x8192x128 e)) (eq : off = rowOff h n) :
    M.view.read (Elt F) (M.view.writes (Elt F) f (⟨Rect.unit (s := S2x8192x128) off S1x512x128.size inb, w⟩ :: L))
      = putRow (M.view.read (Elt F) (M.view.writes (Elt F) f L)) h n w :=
  View.read_writes_cons_put _ _ _ _ _ eq

theorem read_key {e : EltTy} (M : Memref sig .tc .vmem S2x512x128 e) (f : M.view.ty.Contents (Elt F)) {off : Fin 3 → ℕ} {h : Fin 2}
    (inb : ∀ a, off a + S1x512x128.size a ≤ S2x512x128.size a) (w : Vec F S1x512x128 e) (L : List (View.Piece (Elt F) S2x512x128 e)) (eq : off = keyOff h) :
    M.view.read (Elt F) (M.view.writes (Elt F) f (⟨Rect.unit (s := S2x512x128) off S1x512x128.size inb, w⟩ :: L))
      = putKey (M.view.read (Elt F) (M.view.writes (Elt F) f L)) h w :=
  View.read_writes_cons_put _ _ _ _ _ eq

/-- Stores of both heads' keys leave nothing of what was there. -/
theorem putKey_cover {e : EltTy} (x y : Vec F S2x512x128 e) (a b : Vec F S1x512x128 e) : putKey (putKey x 0 a) 1 b = putKey (putKey y 0 a) 1 b := by
  funext z
  unfold putKey VecWindow.put
  split
  · rfl
  · next h1 =>
    have z0 : (z 0).val < 2 := (z 0).isLt
    have z1 : (z 1).val < 512 := (z 1).isLt
    have z2 : (z 2).val < 128 := (z 2).isLt
    have h0 : ∀ a, keyOff 0 a ≤ (z a).val ∧ (z a).val < keyOff 0 a + S1x512x128.size a := by
      have h1' : ¬ (z 0).val = 1 := fun e => h1 fun a => match a with
        | 0 => (⟨by omega, by omega⟩ : 1 ≤ (z 0).val ∧ (z 0).val < 1 + 1)
        | 1 => (⟨by omega, by omega⟩ : 0 ≤ (z 1).val ∧ (z 1).val < 0 + 512)
        | 2 => (⟨by omega, by omega⟩ : 0 ≤ (z 2).val ∧ (z 2).val < 0 + 128)
      exact fun a => match a with
        | 0 => (⟨by omega, by omega⟩ : 0 ≤ (z 0).val ∧ (z 0).val < 0 + 1)
        | 1 => (⟨by omega, by omega⟩ : 0 ≤ (z 1).val ∧ (z 1).val < 0 + 512)
        | 2 => (⟨by omega, by omega⟩ : 0 ≤ (z 2).val ∧ (z 2).val < 0 + 128)
    rw [dif_pos h0, dif_pos h0]

/-- What two stores, one of each head's keys, leave: the same as over any other contents. -/
theorem read_keys {e : EltTy} (M : Memref sig .tc .vmem S2x512x128 e) (f : M.view.ty.Contents (Elt F)) {off off' : Fin 3 → ℕ}
    (inb : ∀ a, off a + S1x512x128.size a ≤ S2x512x128.size a) (inb' : ∀ a, off' a + S1x512x128.size a ≤ S2x512x128.size a)
    (a b : Vec F S1x512x128 e) (eq : off = keyOff 0) (eq' : off' = keyOff 1) (x : Vec F S2x512x128 e) :
    M.view.read (Elt F) (M.view.writes (Elt F) f [⟨Rect.unit (s := S2x512x128) off' S1x512x128.size inb', b⟩, ⟨Rect.unit (s := S2x512x128) off S1x512x128.size inb, a⟩])
      = putKey (putKey x 0 a) 1 b := by
  rw [read_key M f inb' b _ eq', read_key M f inb a _ eq]
  exact putKey_cover _ _ _ _

/-- A head's keys, loaded from a list of stores the newest of which is the other head's. -/
theorem cov_key_ne {e : EltTy} (M : Memref sig .tc .vmem S2x512x128 e) {off off' : Fin 3 → ℕ} {h h' : Fin 2}
    (inb : ∀ a, off a + S1x512x128.size a ≤ S2x512x128.size a) (w : Vec F S1x512x128 e) (L : List (View.Piece (Elt F) S2x512x128 e)) (eq : off = keyOff h)
    (inb' : ∀ a, off' a + S1x512x128.size a ≤ S2x512x128.size a) (eq' : off' = keyOff h') (hh : h ≠ h') :
    M.view.readCov (⟨Rect.unit (s := S2x512x128) off S1x512x128.size inb, w⟩ :: L) (Rect.unit (s := S2x512x128) off' S1x512x128.size inb').toLoadRect
      = M.view.readCov L (Rect.unit (s := S2x512x128) off' S1x512x128.size inb').toLoadRect := by
  subst eq'
  have := Fin.val_ne_of_ne hh
  have H := VecWindow.window_put_of_disjoint (M.view.read (Elt F) (M.view.writes (Elt F) M.view.junk L)) (keyOff h) S1x512x128.size
    (keyOff h') S1x512x128.size inb' w 0 (by show h'.val + 1 ≤ h.val ∨ h.val + 1 ≤ h'.val; omega)
  rw [show VecWindow.put (M.view.read (Elt F) (M.view.writes (Elt F) M.view.junk L)) (keyOff h) S1x512x128.size w
    = M.view.read (Elt F) (M.view.writes (Elt F) M.view.junk (⟨Rect.unit (s := S2x512x128) off S1x512x128.size inb, w⟩ :: L)) from (read_key M _ inb w L eq).symm] at H
  exact H

end Cert.KernelIdeal.Value
-- ==== Proof.Tile.lean ====
/- One tile of the attention gradient over the extended reals, where its operands are real: every value in it is real, and
   is the formula's. -/
module

public import proofs.«01_k».proof.Proof.Step
public import Idealize.ShloMosaic.Lib.ValueIdx
public import Idealize.ShloMosaic.Lib.ValueLayout
public import Idealize.ShloMosaic.Lib.WordCmp
public import Idealize.ShloMosaic.PureOps.Ideal.Laws

@[expose] public section

set_option maxRecDepth 16384

noncomputable section

namespace Cert.KernelIdeal.Value

open Cert.KernelIdeal Cert.KernelIdeal.Gen
open Idealize.ShloMosaic Idealize.ShloMosaic.ValueIdx
open Finset

/-- A sum of reals, taken in the extended reals. -/
theorem coe_sum_range (n : ℕ) (f : ℕ → ℝ) : ((∑ i ∈ range n, f i : ℝ) : EReal) = ∑ i : Fin n, ((f i.val : ℝ) : EReal) := by
  rw [Finset.sum_range]
  exact map_sum (⟨⟨Real.toEReal, EReal.coe_zero⟩, EReal.coe_add⟩ : ℝ →+ EReal) _ _

/-- The table's elements are the reals `r`. -/
def Is2 {a b : ℕ} (x : (⟨2, ![a, b]⟩ : Shape).Idx → EReal) (r : ℕ → ℕ → ℝ) : Prop := ∀ i, x i = ((r (i 0).val (i 1).val : ℝ) : EReal)
/-- The same of a table with three axes. -/
def Is3 {a b c : ℕ} (x : (⟨3, ![a, b, c]⟩ : Shape).Idx → EReal) (r : ℕ → ℕ → ℕ → ℝ) : Prop :=
  ∀ i, x i = ((r (i 0).val (i 1).val (i 2).val : ℝ) : EReal)

/-- Rows against rows. -/
theorem dot_rows {x y : FVec Ideal S512x128 .bf16} {A B : ℕ → ℕ → ℝ} (hx : Is2 x A) (hy : Is2 y B) :
    Is2 (matmul (F := Ideal) dot_S512x128_S512x128_S512x512_1_1_0_0_n_n none x y (constant S512x512 .f32 0x00000000#32))
      (fun a b => ∑ l ∈ range 128, A a l * B b l) := fun j => by
  refine (Ideal.matmul_constant_zero_apply _ none x y j).trans ?_
  rw [← Equiv.sum_comp (contrEquiv1 dot_S512x128_S512x128_S512x512_1_1_0_0_n_n 128 rfl rfl).symm, coe_sum_range]
  refine Finset.sum_congr rfl fun l _ => ?_
  rw [hx, hy, ← EReal.coe_mul]
  rfl

/-- Rows against columns. -/
theorem dot_plain {x : FVec Ideal S512x512 .bf16} {y : FVec Ideal S512x128 .bf16} {A B : ℕ → ℕ → ℝ} (hx : Is2 x A) (hy : Is2 y B) :
    Is2 (matmul (F := Ideal) dot_S512x512_S512x128_S512x128_1_0_0_1_n_n none x y (constant S512x128 .f32 0x00000000#32))
      (fun a l => ∑ b ∈ range 512, A a b * B b l) := fun j => by
  refine (Ideal.matmul_constant_zero_apply _ none x y j).trans ?_
  rw [← Equiv.sum_comp (contrEquiv1 dot_S512x512_S512x128_S512x128_1_0_0_1_n_n 512 rfl rfl).symm, coe_sum_range]
  refine Finset.sum_congr rfl fun l _ => ?_
  rw [hx, hy, ← EReal.coe_mul]
  rfl

/-- Columns against columns. -/
theorem dot_cols {x : FVec Ideal S512x512 .bf16} {y : FVec Ideal S512x128 .bf16} {A B : ℕ → ℕ → ℝ} (hx : Is2 x A) (hy : Is2 y B) :
    Is2 (matmul (F := Ideal) dot_S512x512_S512x128_S512x128_0_0_1_1_n_n none x y (constant S512x128 .f32 0x00000000#32))
      (fun b l => ∑ a ∈ range 512, A a b * B a l) := fun j => by
  refine (Ideal.matmul_constant_zero_apply _ none x y j).trans ?_
  rw [← Equiv.sum_comp (contrEquiv1 dot_S512x512_S512x128_S512x128_0_0_1_1_n_n 512 rfl rfl).symm, coe_sum_range]
  refine Finset.sum_congr rfl fun l _ => ?_
  rw [hx, hy, ← EReal.coe_mul]
  rfl

theorem Is2.congr {a b : ℕ} {x : (⟨2, ![a, b]⟩ : Shape).Idx → EReal} {r r' : ℕ → ℕ → ℝ} (h : Is2 x r) (e : ∀ i < a, ∀ j < b, r i j = r' i j) : Is2 x r' :=
  fun i => (h i).trans (congrArg _ (e _ (i 0).isLt _ (i 1).isLt))
theorem Is3.congr {a b c : ℕ} {x : (⟨3, ![a, b, c]⟩ : Shape).Idx → EReal} {r r' : ℕ → ℕ → ℕ → ℝ} (h : Is3 x r)
    (e : ∀ i < a, ∀ j < b, ∀ k < c, r i j k = r' i j k) : Is3 x r' :=
  fun i => (h i).trans (congrArg _ (e _ (i 0).isLt _ (i 1).isLt _ (i 2).isLt))

/-- Block `n` of head `h`'s rows holds rows `512 n` on. -/
theorem rowBlk_apply {e : EltTy} (x : Vec Ideal S2x8192x128 e) (h : Fin 2) {n : ℕ} (hn : n < 16) (j : S512x128.Idx) :
    ∃ i, rowBlk x h hn j = x i ∧ (i 0).val = h.val ∧ (i 1).val = 512 * n + (j 0).val ∧ (i 2).val = (j 1).val := by
  refine ⟨_, (congrArg _ (eq_ix2 j)).trans (shapeCast_1ab_ab_apply _ _ _ _), rfl, ?_, ?_⟩
  · show 512 * n + 1 * (j 0).val = _; omega
  · show 0 + 1 * (j 1).val = _; omega

/-- Head `h`'s keys. -/
theorem keyBlk_apply {e : EltTy} (x : Vec Ideal S2x512x128 e) (h : Fin 2) (j : S512x128.Idx) :
    ∃ i, keyBlk x h j = x i ∧ (i 0).val = h.val ∧ (i 1).val = (j 0).val ∧ (i 2).val = (j 1).val := by
  refine ⟨_, (congrArg _ (eq_ix2 j)).trans (shapeCast_1ab_ab_apply _ _ _ _), rfl, ?_, ?_⟩
  · show 0 + 1 * (j 0).val = _; omega
  · show 0 + 1 * (j 1).val = _; omega

theorem rowBlk_is {x : FVec Ideal S2x8192x128 .bf16} {r : ℕ → ℕ → ℕ → ℝ} (hx : Is3 x r) (h : Fin 2) {n : ℕ} (hn : n < 16) :
    Is2 (rowBlk (F := Ideal) (e := .bf16) x h hn : FVec Ideal S512x128 .bf16) (fun b l => r h.val (512 * n + b) l) := fun j => by
  obtain ⟨i, e, e0, e1, e2⟩ := rowBlk_apply (e := .bf16) x h hn j
  dsimp only
  rw [← e0, ← e1, ← e2]
  exact e.trans (hx i)

theorem up_apply {e : EltTy} (w : Vec Ideal S512x128 e) (y : S1x512x128.Idx) : up w y = w (ix2 (y 1) (y 2)) :=
  (congrArg _ (eq_ix3 y)).trans (shapeCast_ab_1ab_apply _ _ _ _ _)

/-- Adding to a block of a head's rows adds to those rows and leaves the others. -/
theorem putRow_add {x : FVec Ideal S2x8192x128 .f32} {w : FVec Ideal S512x128 .f32} {r : ℕ → ℕ → ℕ → ℝ} {a : ℕ → ℕ → ℝ} (hx : Is3 x r) (hw : Is2 w a)
    (h : Fin 2) {n : ℕ} (hn : n < 16) :
    Is3 (putRow (F := Ideal) (e := .f32) x h n (up (F := Ideal) (e := .f32) (addf (rowBlk (F := Ideal) (e := .f32) x h hn) w)) : FVec Ideal S2x8192x128 .f32)
      (fun i t l => r i t l + if i = h.val ∧ 512 * n ≤ t ∧ t < 512 * n + 512 then a (t - 512 * n) l else 0) := fun z => by
  have b2 : (z 2).val < 128 := (z 2).isLt
  unfold putRow VecWindow.put
  dsimp only
  split
  · next hz =>
    have z0 : h.val ≤ (z 0).val ∧ (z 0).val < h.val + 1 := hz 0
    have z1 : 512 * n ≤ (z 1).val ∧ (z 1).val < 512 * n + 512 := hz 1
    have z2 : 0 ≤ (z 2).val ∧ (z 2).val < 0 + 128 := hz 2
    rw [if_pos ⟨by omega, z1.1, z1.2⟩]
    refine (up_apply (e := .f32) _ _).trans ?_
    obtain ⟨i, e, e0, e1, e2⟩ := rowBlk_apply (e := .f32) x h hn (ix2 ⟨(z 1).val - 512 * n, by omega⟩ ⟨(z 2).val - 0, by omega⟩)
    refine (congrArg₂ (· + ·) (e.trans (hx i)) (hw _)).trans ?_
    rw [e0, e1, e2, ← EReal.coe_add]
    congr 2
    congr 1
    · omega
    · show 512 * n + ((z 1).val - 512 * n) = (z 1).val; omega
  · next hz =>
    rw [if_neg, add_zero]; · exact hx z
    rintro ⟨h0, h1, h2⟩
    exact hz fun a => match a with
      | 0 => (⟨by omega, by omega⟩ : h.val ≤ (z 0).val ∧ (z 0).val < h.val + 1)
      | 1 => (⟨h1, h2⟩ : 512 * n ≤ (z 1).val ∧ (z 1).val < 512 * n + 512)
      | 2 => (⟨by omega, by omega⟩ : 0 ≤ (z 2).val ∧ (z 2).val < 0 + 128)

/-- Adding to a head's keys adds to those and leaves the other head's. -/
theorem putKey_add {x : FVec Ideal S2x512x128 .f32} {w : FVec Ideal S512x128 .f32} {r : ℕ → ℕ → ℕ → ℝ} {a : ℕ → ℕ → ℝ} (hx : Is3 x r) (hw : Is2 w a) (h : Fin 2) :
    Is3 (putKey (F := Ideal) (e := .f32) x h (up (F := Ideal) (e := .f32) (addf (keyBlk (F := Ideal) (e := .f32) x h) w)) : FVec Ideal S2x512x128 .f32)
      (fun i t l => r i t l + if i = h.val then a t l else 0) := fun z => by
  have b1 : (z 1).val < 512 := (z 1).isLt
  have b2 : (z 2).val < 128 := (z 2).isLt
  unfold putKey VecWindow.put
  dsimp only
  split
  · next hz =>
    have z0 : h.val ≤ (z 0).val ∧ (z 0).val < h.val + 1 := hz 0
    rw [if_pos (by omega)]
    refine (up_apply (e := .f32) _ _).trans ?_
    obtain ⟨i, e, e0, e1, e2⟩ := keyBlk_apply (e := .f32) x h (ix2 ⟨(z 1).val - 0, by omega⟩ ⟨(z 2).val - 0, by omega⟩)
    refine (congrArg₂ (· + ·) (e.trans (hx i)) (hw _)).trans ?_
    rw [e0, e1, e2, ← EReal.coe_add]
    congr 2
    congr 1
    omega
  · next hz =>
    rw [if_neg, add_zero]; · exact hx z
    intro h0
    exact hz fun a => match a with
      | 0 => (⟨by omega, by omega⟩ : h.val ≤ (z 0).val ∧ (z 0).val < h.val + 1)
      | 1 => (⟨by omega, by omega⟩ : 0 ≤ (z 1).val ∧ (z 1).val < 0 + 512)
      | 2 => (⟨by omega, by omega⟩ : 0 ≤ (z 2).val ∧ (z 2).val < 0 + 128)

/-! ## The tile's values -/

/-- A mask and the exponential: the exponential where a key is seen, else nothing. -/
def Masks (m : FVec Ideal S512x512 .f32 → FVec Ideal S512x512 .f32) (vis : ℕ → ℕ → Prop) [∀ a b, Decidable (vis a b)] : Prop :=
  ∀ x A, Is2 x A → Is2 (exp (F := Ideal) (m x)) (fun a b => if vis a b then Real.exp (A a b) else 0)

theorem masks_id : Masks id (fun _ _ => True) := fun x A hx i => by
  show Ideal.exp (x i) = _
  rw [hx i, Ideal.exp_coe]
  simp only [if_true]

theorem masks_diag : Masks (diagMask (F := Ideal)) (fun a b => a ≤ b) := fun x A hx i => by
  have h0 : (i 0).val < 512 := (i 0).isLt
  have h1 : (i 1).val < 512 := (i 1).isLt
  have hc : cmpi .sle (iota .tc S512x512 32 [0] iota_S512x512_d0_w32) (iota .tc S512x512 32 [1] iota_S512x512_d1_w32) i
      = BitVec.ofBool (decide ((i 0).val ≤ (i 1).val)) := by
    refine Eq.trans ?_ (Idealize.ShloMosaic.WordCmp.cmpi_sle_ofNat (w := 32) (a := (i 0).val) (b := (i 1).val) (by omega) (by omega))
    show IntOp.cmpi _ (iota .tc S512x512 32 [0] _ i) (iota .tc S512x512 32 [1] _ i) = _
    rw [iota_single_apply, iota_single_apply]
  show Ideal.exp (Scalar.select _ (x i) _) = _
  rw [hc]
  dsimp only
  by_cases h : (i 0).val ≤ (i 1).val
  · rw [if_pos h, decide_eq_true h]
    exact (congrArg Ideal.exp (hx i)).trans (Ideal.exp_coe _)
  · rw [if_neg h, decide_eq_false h]
    refine (congrArg Ideal.exp (?_ : _ = (⊥ : EReal))).trans Ideal.exp_bot
    exact IdealRules.named_const.ideal_named_scalar _ _ _ _ rfl

end Cert.KernelIdeal.Value
-- ==== Proof.Trip.lean ====
/- The loops of the attention gradient: one trip of each at a symbolic trip, and their invariants. -/
module

public import proofs.«01_k».proof.Proof.Step
public import proofs.«01_k».proof.Proof.Gen.KernelIdeal.Loops
public import Idealize.ShloMosaic.Lib.LoopRemainder

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A memref held whole at given contents. -/
abbrev pt {s : Shape} {e : EltTy} (c : Dev nD) (M : Memref sig .tc .vmem s e) (f : Buf (Elt F) (M.view.loc (c : Thread nD τ))) : sProp 𝕄 :=
  M.view.loc (c : Thread nD τ) ↦[M.view.set]{fullShare} f

section Loops

variable (c : Dev nD) (i : grid0.Coords)
  (arg2 : Memref sig .tc .vmem S2x8192x128 .bf16) (harg2 : arg2.IsWhole) (arg3 : Memref sig .tc .vmem S2x8192x128 .bf16) (harg3 : arg3.IsWhole)
  (arg4 : Memref sig .tc .vmem S2x8192x128 .bf16) (harg4 : arg4.IsWhole) (arg5 : Memref sig .tc .vmem S2x512x128 .bf16) (harg5 : arg5.IsWhole)
  (arg6 : Memref sig .tc .vmem S2x512x128 .bf16) (harg6 : arg6.IsWhole) (arg7 : Memref sig .tc .vmem S2x8192x128 .f32) (harg7 : arg7.IsWhole)
  (arg8 : Memref sig .tc .vmem S2x512x128 .f32) (harg8 : arg8.IsWhole) (arg9 : Memref sig .tc .vmem S2x512x128 .bf16) (harg9 : arg9.IsWhole)
  (arg10 : Memref sig .tc .vmem S2x512x128 .f32) (harg10 : arg10.IsWhole)

/-- What a trip holds: the three operands and the three accumulators. -/
abbrev held (f2 : Buf (Elt F) (arg2.view.loc (c : Thread nD τ))) (f3 : Buf (Elt F) (arg3.view.loc (c : Thread nD τ)))
    (f4 : Buf (Elt F) (arg4.view.loc (c : Thread nD τ))) (f7 : Buf (Elt F) (arg7.view.loc (c : Thread nD τ)))
    (f8 : Buf (Elt F) (arg8.view.loc (c : Thread nD τ))) (f10 : Buf (Elt F) (arg10.view.loc (c : Thread nD τ))) : sProp 𝕄 :=
  iprop(pt c arg2 f2 ∗ pt c arg3 f3 ∗ pt c arg4 f4 ∗ pt c arg7 f7 ∗ pt c arg8 f8 ∗ pt c arg10 f10)

/-- The operands' values. -/
abbrev rows (f2 : Buf (Elt F) (arg2.view.loc (c : Thread nD τ))) (f3 : Buf (Elt F) (arg3.view.loc (c : Thread nD τ)))
    (f4 : Buf (Elt F) (arg4.view.loc (c : Thread nD τ))) : Rows F where
  qa := arg2.view.read (Elt F) f2
  lse := arg3.view.read (Elt F) f3
  doa := arg4.view.read (Elt F) f4

/-- The accumulators' values. -/
abbrev accs (f7 : Buf (Elt F) (arg7.view.loc (c : Thread nD τ))) (f8 : Buf (Elt F) (arg8.view.loc (c : Thread nD τ)))
    (f10 : Buf (Elt F) (arg10.view.loc (c : Thread nD τ))) : St F where
  dq := arg7.view.read (Elt F) f7
  dk := arg8.view.read (Elt F) f8
  dv := arg10.view.read (Elt F) f10

/-- What a trip leaves: the operands as they were, the accumulators at the values `s`. -/
abbrev left (f2 : Buf (Elt F) (arg2.view.loc (c : Thread nD τ))) (f3 : Buf (Elt F) (arg3.view.loc (c : Thread nD τ)))
    (f4 : Buf (Elt F) (arg4.view.loc (c : Thread nD τ))) (s : St F) : sProp 𝕄 :=
  held c arg2 arg3 arg4 arg7 arg8 arg10 f2 f3 f4 (arg7.view.rep s.dq) (arg8.view.rep s.dk) (arg10.view.rep s.dv)

theorem row7 (k : Fin (k0_t3_loop i).trips) : k0_off7 i k = rowOff 0 15 := off7_eq i k
theorem row8 (k : Fin (k0_t3_loop i).trips) : k0_off8 i k = rowOff 1 15 := off8_eq i k

/-- The trip over the tile left over, at any contents. -/
theorem trip3 (v6 v8 v10 v12 : FVec F S512x128 .bf16) (v142 : BitVec 32) (k : Fin (k0_t3_loop i).trips)
    (f2 : Buf (Elt F) (arg2.view.loc (c : Thread nD τ))) (f3 : Buf (Elt F) (arg3.view.loc (c : Thread nD τ)))
    (f4 : Buf (Elt F) (arg4.view.loc (c : Thread nD τ))) (f7 : Buf (Elt F) (arg7.view.loc (c : Thread nD τ)))
    (f8 : Buf (Elt F) (arg8.view.loc (c : Thread nD τ))) (f10 : Buf (Elt F) (arg10.view.loc (c : Thread nD τ))) :
    held c arg2 arg3 arg4 arg7 arg8 arg10 f2 f3 f4 f7 f8 f10
      ⊢ wp frame (wpE (defs₀ (F := F)) Variants.none (c : Thread nD τ) none) Set.univ
          (k0_t3_body i arg2 harg2 arg3 harg3 arg4 harg4 arg5 harg5 arg6 harg6 arg7 harg7 arg8 harg8 arg9 harg9 arg10 harg10 v6 v8 v10 v12 v142 k ())
          (fun _ => left c arg2 arg3 arg4 arg7 arg8 arg10 f2 f3 f4
            (both id (rows c arg2 arg3 arg4 f2 f3 f4) ⟨v6, v8, v10, v12⟩ (n := 15) (by decide) (accs c arg7 arg8 arg10 f7 f8 f10))) := by
  unfold k0_t3_body
  iintro ⟨H2, H3, H4, H7, H8, H10⟩
  sl_exec_parts
  sl_step
  isplitl [H2]; · iexact H2
  isplitl [H3]; · iexact H3
  isplitl [H4]; · iexact H4
  isplitl [H7]
  · iapply (pointsTo_rep_of_read (c : Thread nD τ) arg7 _ fullShare _ ?_) $$ H7
    rw [read_row _ _ _ _ _ (row8 i k), read_row _ _ _ _ _ (row7 i k), View.writes_nil]
    unfold both step
    simp only [rowBlk_putRow_ne _ (show (0 : Fin 2) ≠ 1 by decide), tileDs, tileP, tileQ, addDq, rows, accs,
      rowBlk_read _ _ _ (row7 i k), rowBlk_read _ _ _ (row8 i k)]
    rfl
  isplitl [H8]
  · iapply (pointsTo_rep_of_read (c : Thread nD τ) arg8 _ fullShare _ ?_) $$ H8
    rw [read_key _ _ _ _ _ key1, read_key _ _ _ _ _ key0, View.writes_nil]
    unfold both step
    simp only [keyBlk_putKey_ne _ (show (0 : Fin 2) ≠ 1 by decide), tileDs, tileP, tileQ, addDk, rows, accs,
      rowBlk_read _ _ _ (row7 i k), rowBlk_read _ _ _ (row8 i k)]
    rfl
  · iapply (pointsTo_rep_of_read (c : Thread nD τ) arg10 _ fullShare _ ?_) $$ H10
    rw [read_key _ _ _ _ _ key1, read_key _ _ _ _ _ key0, View.writes_nil]
    unfold both step
    simp only [keyBlk_putKey_ne _ (show (0 : Fin 2) ≠ 1 by decide), tileP, tileQ, addDv, rows, accs,
      rowBlk_read _ _ _ (row7 i k), rowBlk_read _ _ _ (row8 i k)]
    rfl

theorem row3_0 (k : Fin (k0_t1_loop i).trips) : k0_off3 i k 0#32 = rowOff 0 ((i 1).val + 1 + 2 * k.val) := off3_0 i k
theorem row3_1 (k : Fin (k0_t1_loop i).trips) : k0_off3 i k 1#32 = rowOff 0 ((i 1).val + 1 + 2 * k.val + 1) := off3_1 i k
theorem row4_0 (k : Fin (k0_t1_loop i).trips) : k0_off4 i k 0#32 = rowOff 1 ((i 1).val + 1 + 2 * k.val) := off4_0 i k
theorem row4_1 (k : Fin (k0_t1_loop i).trips) : k0_off4 i k 1#32 = rowOff 1 ((i 1).val + 1 + 2 * k.val + 1) := off4_1 i k

/-- The trip over two tiles, at any contents. -/
theorem trip1 (arg1 : BitVec 32) (v6 v8 v10 v12 : FVec F S512x128 .bf16) (v20 : BitVec 32) (v88 : FVec F S512x512 .bf16) (k : Fin (k0_t1_loop i).trips)
    (f2 : Buf (Elt F) (arg2.view.loc (c : Thread nD τ))) (f3 : Buf (Elt F) (arg3.view.loc (c : Thread nD τ)))
    (f4 : Buf (Elt F) (arg4.view.loc (c : Thread nD τ))) (f7 : Buf (Elt F) (arg7.view.loc (c : Thread nD τ)))
    (f8 : Buf (Elt F) (arg8.view.loc (c : Thread nD τ))) (f10 : Buf (Elt F) (arg10.view.loc (c : Thread nD τ))) :
    held c arg2 arg3 arg4 arg7 arg8 arg10 f2 f3 f4 f7 f8 f10
      ⊢ wp frame (wpE (defs₀ (F := F)) Variants.none (c : Thread nD τ) none) Set.univ
          (k0_t1_body i arg2 harg2 arg3 harg3 arg4 harg4 arg5 harg5 arg6 harg6 arg7 harg7 arg8 harg8 arg9 harg9 arg10 harg10 arg1 v6 v8 v10 v12 v20 v88 k ())
          (fun _ => left c arg2 arg3 arg4 arg7 arg8 arg10 f2 f3 f4
            (both id (rows c arg2 arg3 arg4 f2 f3 f4) ⟨v6, v8, v10, v12⟩ (n := (i 1).val + 1 + 2 * k.val + 1) (pair_lt i k)
              (both id (rows c arg2 arg3 arg4 f2 f3 f4) ⟨v6, v8, v10, v12⟩ (n := (i 1).val + 1 + 2 * k.val) (Nat.lt_of_succ_lt (pair_lt i k))
                (accs c arg7 arg8 arg10 f7 f8 f10)))) := by
  have ne : (i 1).val + 1 + 2 * k.val ≠ (i 1).val + 1 + 2 * k.val + 1 := Nat.ne_of_lt (Nat.lt_succ_self _)
  unfold k0_t1_body
  iintro ⟨H2, H3, H4, H7, H8, H10⟩
  sl_exec_parts
  sl_step
  isplitl [H2]; · iexact H2
  isplitl [H3]; · iexact H3
  isplitl [H4]; · iexact H4
  isplitl [H7]
  · iapply (pointsTo_rep_of_read (c : Thread nD τ) arg7 _ fullShare _ ?_) $$ H7
    unfold trip1.sl.H7_1
    rw [read_row _ _ _ _ _ (row4_1 i k), read_row _ _ _ _ _ (row3_1 i k), read_row _ _ _ _ _ (row4_0 i k), read_row _ _ _ _ _ (row3_0 i k), View.writes_nil]
    unfold both step
    simp only [rowBlk_putRow_ne _ (show (0 : Fin 2) ≠ 1 by decide), rowBlk_putRow_lt _ _ _ ne, tileDs, tileP, tileQ, addDq, rows, accs,
      rowBlk_read _ _ _ (row3_0 i k), rowBlk_read _ _ _ (row3_1 i k),
      rowBlk_read _ _ _ (row4_0 i k), rowBlk_read _ _ _ (row4_1 i k)]
    rfl
  isplitl [H8]
  · iapply (pointsTo_rep_of_read (c : Thread nD τ) arg8 _ fullShare _ ?_) $$ H8
    unfold trip1.sl.H8_3 trip1.sl.H8_2 trip1.sl.H8_1
    rw [read_key _ _ _ _ _ key1, read_key _ _ _ _ _ key0, read_key _ _ _ _ _ key1, read_key _ _ _ _ _ key0, View.writes_nil]
    unfold trip1.sl.v288 trip1.sl.v285 trip1.sl.v283 trip1.sl.v282 trip1.sl.v315 trip1.sl.v312 trip1.sl.v310 trip1.sl.v309
    unfold trip1.sl.H8_3 trip1.sl.H8_2 trip1.sl.H8_1
    simp only [cov_key_ne arg8 _ _ _ key1 _ key0 (show (1 : Fin 2) ≠ 0 by decide), cov_key_ne arg8 _ _ _ key0 _ key1 (show (0 : Fin 2) ≠ 1 by decide),
      View.readCov_cons_toLoadRect]
    unfold both step
    simp only [keyBlk_putKey_ne _ (show (0 : Fin 2) ≠ 1 by decide), keyBlk_putKey_ne _ (show (1 : Fin 2) ≠ 0 by decide), keyBlk_putKey_same,
      tileDs, tileP, tileQ, addDk, rows, accs,
      rowBlk_read _ _ _ (row3_0 i k), rowBlk_read _ _ _ (row3_1 i k), rowBlk_read _ _ _ (row4_0 i k), rowBlk_read _ _ _ (row4_1 i k)]
    rfl
  · iapply (pointsTo_rep_of_read (c : Thread nD τ) arg10 _ fullShare _ ?_) $$ H10
    unfold trip1.sl.H10_3 trip1.sl.H10_2 trip1.sl.H10_1
    rw [read_key _ _ _ _ _ key1, read_key _ _ _ _ _ key0, read_key _ _ _ _ _ key1, read_key _ _ _ _ _ key0, View.writes_nil]
    unfold trip1.sl.v279 trip1.sl.v276 trip1.sl.v273 trip1.sl.v272 trip1.sl.v306 trip1.sl.v303 trip1.sl.v300 trip1.sl.v299
    unfold trip1.sl.H10_3 trip1.sl.H10_2 trip1.sl.H10_1
    simp only [cov_key_ne arg10 _ _ _ key1 _ key0 (show (1 : Fin 2) ≠ 0 by decide), cov_key_ne arg10 _ _ _ key0 _ key1 (show (0 : Fin 2) ≠ 1 by decide),
      View.readCov_cons_toLoadRect]
    unfold both step
    simp only [keyBlk_putKey_ne _ (show (0 : Fin 2) ≠ 1 by decide), keyBlk_putKey_ne _ (show (1 : Fin 2) ≠ 0 by decide), keyBlk_putKey_same,
      tileP, tileQ, addDv, rows, accs,
      rowBlk_read _ _ _ (row3_0 i k), rowBlk_read _ _ _ (row3_1 i k), rowBlk_read _ _ _ (row4_0 i k), rowBlk_read _ _ _ (row4_1 i k)]
    rfl

end Loops

end Cert.KernelIdeal.Value
-- ==== Proof.Sweep.lean ====
/- The body of the attention gradient at one point of the grid: its loops' invariants and what the run leaves. -/
module

public import proofs.«01_k».proof.Proof.Trip

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The tiles of one point, in order -/

/-- One unmasked tile, for a tile number that is in range. -/
def tileAt (R : Rows F) (K : Keys F) (n : ℕ) (s : St F) : St F := if hn : n < 16 then both id R K hn s else s

/-- `k` unmasked tiles from tile `a` on. -/
def tiles (R : Rows F) (K : Keys F) (a : ℕ) : ℕ → St F → St F
  | 0, s => s
  | k + 1, s => tileAt R K (a + k) (tiles R K a k s)

/-- `k` times tile 15. -/
def lasts (R : Rows F) (K : Keys F) : ℕ → St F → St F
  | 0, s => s
  | k + 1, s => tileAt R K 15 (lasts R K k s)

theorem lasts_tiles (R : Rows F) (K : Keys F) {j : ℕ} (hj : j < 16) (s : St F) :
    lasts R K ((15 - j) % 2) (tiles R K (j + 1) (2 * ((15 - j) / 2)) s) = tiles R K (j + 1) (15 - j) s := by
  rcases Nat.mod_two_eq_zero_or_one (15 - j) with h | h
  · rw [h, show 2 * ((15 - j) / 2) = 15 - j by omega]; rfl
  · rw [h]
    conv_rhs => rw [show 15 - j = 2 * ((15 - j) / 2) + 1 by omega]
    show tileAt R K 15 _ = tileAt R K (j + 1 + 2 * ((15 - j) / 2)) _
    rw [show j + 1 + 2 * ((15 - j) / 2) = 15 by omega]; rfl

theorem tileAt_of_lt (R : Rows F) (K : Keys F) {n : ℕ} (hn : n < 16) (s : St F) : tileAt R K n s = both id R K hn s := dif_pos hn

theorem tiles_two (R : Rows F) (K : Keys F) {a k : ℕ} (h : a + k + 1 < 16) (s : St F) :
    tiles R K a (k + 1 + 1) s = both id R K h (both id R K (Nat.lt_of_succ_lt h) (tiles R K a k s)) := by
  show tileAt R K (a + k + 1) (tileAt R K (a + k) _) = _
  rw [tileAt_of_lt R K h, tileAt_of_lt R K (Nat.lt_of_succ_lt h)]

section Loops

variable (c : Dev nD) (i : grid0.Coords)
  (arg2 : Memref sig .tc .vmem S2x8192x128 .bf16) (harg2 : arg2.IsWhole) (arg3 : Memref sig .tc .vmem S2x8192x128 .bf16) (harg3 : arg3.IsWhole)
  (arg4 : Memref sig .tc .vmem S2x8192x128 .bf16) (harg4 : arg4.IsWhole) (arg5 : Memref sig .tc .vmem S2x512x128 .bf16) (harg5 : arg5.IsWhole)
  (arg6 : Memref sig .tc .vmem S2x512x128 .bf16) (harg6 : arg6.IsWhole) (arg7 : Memref sig .tc .vmem S2x8192x128 .f32) (harg7 : arg7.IsWhole)
  (arg8 : Memref sig .tc .vmem S2x512x128 .f32) (harg8 : arg8.IsWhole) (arg9 : Memref sig .tc .vmem S2x512x128 .bf16) (harg9 : arg9.IsWhole)
  (arg10 : Memref sig .tc .vmem S2x512x128 .f32) (harg10 : arg10.IsWhole)

theorem accs_rep (s : St F) : accs c arg7 arg8 arg10 (arg7.view.rep s.dq) (arg8.view.rep s.dk) (arg10.view.rep s.dv) = s := by
  unfold accs; rw [View.read_rep, View.read_rep, View.read_rep]

/-- What the loop over pairs of tiles holds before trip `k`, from the values `s` on. -/
abbrev pairsInv (K : Keys F) (f2 : Buf (Elt F) (arg2.view.loc (c : Thread nD τ))) (f3 : Buf (Elt F) (arg3.view.loc (c : Thread nD τ)))
    (f4 : Buf (Elt F) (arg4.view.loc (c : Thread nD τ))) (s : St F) (k : ℕ) : sProp 𝕄 :=
  left c arg2 arg3 arg4 arg7 arg8 arg10 f2 f3 f4 (tiles (rows c arg2 arg3 arg4 f2 f3 f4) K ((i 1).val + 1) (2 * k) s)

/-- What the loop over the tile left over holds before trip `k`, from the values `s` on. -/
abbrev lastsInv (K : Keys F) (f2 : Buf (Elt F) (arg2.view.loc (c : Thread nD τ))) (f3 : Buf (Elt F) (arg3.view.loc (c : Thread nD τ)))
    (f4 : Buf (Elt F) (arg4.view.loc (c : Thread nD τ))) (s : St F) (k : ℕ) : sProp 𝕄 :=
  left c arg2 arg3 arg4 arg7 arg8 arg10 f2 f3 f4 (lasts (rows c arg2 arg3 arg4 f2 f3 f4) K k s)

/-- One trip of the loop over pairs of tiles keeps its invariant. -/
theorem pairs_step (arg1 : BitVec 32) (v6 v8 v10 v12 : FVec F S512x128 .bf16) (v20 : BitVec 32) (v88 : FVec F S512x512 .bf16) (k : Fin (k0_t1_loop i).trips)
    (f2 : Buf (Elt F) (arg2.view.loc (c : Thread nD τ))) (f3 : Buf (Elt F) (arg3.view.loc (c : Thread nD τ)))
    (f4 : Buf (Elt F) (arg4.view.loc (c : Thread nD τ))) (s : St F) :
    pairsInv c i arg2 arg3 arg4 arg7 arg8 arg10 ⟨v6, v8, v10, v12⟩ f2 f3 f4 s k.val
      ⊢ wp frame (wpE (defs₀ (F := F)) Variants.none (c : Thread nD τ) none) Set.univ
          (k0_t1_body i arg2 harg2 arg3 harg3 arg4 harg4 arg5 harg5 arg6 harg6 arg7 harg7 arg8 harg8 arg9 harg9 arg10 harg10 arg1 v6 v8 v10 v12 v20 v88 k ())
          (fun _ => pairsInv c i arg2 arg3 arg4 arg7 arg8 arg10 ⟨v6, v8, v10, v12⟩ f2 f3 f4 s (k.val + 1)) := by
  have h := trip1 c i arg2 harg2 arg3 harg3 arg4 harg4 arg5 harg5 arg6 harg6 arg7 harg7 arg8 harg8 arg9 harg9 arg10 harg10 arg1 v6 v8 v10 v12 v20 v88 k f2 f3 f4
    (arg7.view.rep (tiles (rows c arg2 arg3 arg4 f2 f3 f4) ⟨v6, v8, v10, v12⟩ ((i 1).val + 1) (2 * k.val) s).dq)
    (arg8.view.rep (tiles (rows c arg2 arg3 arg4 f2 f3 f4) ⟨v6, v8, v10, v12⟩ ((i 1).val + 1) (2 * k.val) s).dk)
    (arg10.view.rep (tiles (rows c arg2 arg3 arg4 f2 f3 f4) ⟨v6, v8, v10, v12⟩ ((i 1).val + 1) (2 * k.val) s).dv)
  rw [accs_rep, ← tiles_two _ _ (pair_lt i k)] at h
  exact h

/-- The trip over the tile left over keeps its invariant. -/
theorem lasts_step (v6 v8 v10 v12 : FVec F S512x128 .bf16) (v142 : BitVec 32) (k : Fin (k0_t3_loop i).trips)
    (f2 : Buf (Elt F) (arg2.view.loc (c : Thread nD τ))) (f3 : Buf (Elt F) (arg3.view.loc (c : Thread nD τ)))
    (f4 : Buf (Elt F) (arg4.view.loc (c : Thread nD τ))) (s : St F) :
    lastsInv c arg2 arg3 arg4 arg7 arg8 arg10 ⟨v6, v8, v10, v12⟩ f2 f3 f4 s k.val
      ⊢ wp frame (wpE (defs₀ (F := F)) Variants.none (c : Thread nD τ) none) Set.univ
          (k0_t3_body i arg2 harg2 arg3 harg3 arg4 harg4 arg5 harg5 arg6 harg6 arg7 harg7 arg8 harg8 arg9 harg9 arg10 harg10 v6 v8 v10 v12 v142 k ())
          (fun _ => lastsInv c arg2 arg3 arg4 arg7 arg8 arg10 ⟨v6, v8, v10, v12⟩ f2 f3 f4 s (k.val + 1)) := by
  have h := trip3 c i arg2 harg2 arg3 harg3 arg4 harg4 arg5 harg5 arg6 harg6 arg7 harg7 arg8 harg8 arg9 harg9 arg10 harg10 v6 v8 v10 v12 v142 k f2 f3 f4
    (arg7.view.rep (lasts (rows c arg2 arg3 arg4 f2 f3 f4) ⟨v6, v8, v10, v12⟩ k.val s).dq)
    (arg8.view.rep (lasts (rows c arg2 arg3 arg4 f2 f3 f4) ⟨v6, v8, v10, v12⟩ k.val s).dk)
    (arg10.view.rep (lasts (rows c arg2 arg3 arg4 f2 f3 f4) ⟨v6, v8, v10, v12⟩ k.val s).dv)
  rw [accs_rep, ← tileAt_of_lt (rows c arg2 arg3 arg4 f2 f3 f4) ⟨v6, v8, v10, v12⟩ (n := 15) (by decide)] at h
  exact h

end Loops

end Cert.KernelIdeal.Value
-- ==== Proof.Body.lean ====
/- The body of the attention gradient at one point of the grid, run through. -/
module

public import proofs.«01_k».proof.Proof.Sweep

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Body

variable (c : Dev nD) (i : grid0.Coords)
  (arg2 : Memref sig .tc .vmem S2x8192x128 .bf16) (harg2 : arg2.IsWhole) (arg3 : Memref sig .tc .vmem S2x8192x128 .bf16) (harg3 : arg3.IsWhole)
  (arg4 : Memref sig .tc .vmem S2x8192x128 .bf16) (harg4 : arg4.IsWhole) (arg5 : Memref sig .tc .vmem S2x512x128 .bf16) (harg5 : arg5.IsWhole)
  (arg6 : Memref sig .tc .vmem S2x512x128 .bf16) (harg6 : arg6.IsWhole) (arg7 : Memref sig .tc .vmem S2x8192x128 .f32) (harg7 : arg7.IsWhole)
  (arg8 : Memref sig .tc .vmem S2x512x128 .f32) (harg8 : arg8.IsWhole) (arg9 : Memref sig .tc .vmem S2x512x128 .bf16) (harg9 : arg9.IsWhole)
  (arg10 : Memref sig .tc .vmem S2x512x128 .f32) (harg10 : arg10.IsWhole)

theorem blk_lt : (i 1).val < 16 := (i 1).isLt

theorem row1 : k0_off1 i = rowOff 0 (i 1).val := off1_eq i
theorem row2 : k0_off2 i = rowOff 1 (i 1).val := off2_eq i

/-- The keys and the values of a point's block of keys. -/
abbrev keys (f5 : Buf (Elt F) (arg5.view.loc (c : Thread nD τ))) (f6 : Buf (Elt F) (arg6.view.loc (c : Thread nD τ))) : Keys F where
  k0 := keyBlk (arg5.view.read (Elt F) f5) 0
  k1 := keyBlk (arg5.view.read (Elt F) f5) 1
  v0 := keyBlk (arg6.view.read (Elt F) f6) 0
  v1 := keyBlk (arg6.view.read (Elt F) f6) 1

/-- The values a point's run starts from: the query gradient of the points before it, or zero at a row's first point; zero for the keys and values. -/
def start (first : Prop) [Decidable first] (X : FVec F S2x8192x128 .f32) : St F where
  dq := if first then broadcast S2x8192x128 (Scalar.ofBits .f32 0x00000000#32) else X
  dk := broadcast S2x512x128 (Scalar.ofBits .f32 0x00000000#32)
  dv := broadcast S2x512x128 (Scalar.ofBits .f32 0x00000000#32)

/-- The point is a row's first. -/
abbrev First : Prop := (Scalar.cmpi .ne (Scalar.extui (Scalar.cmpi .eq (BitVec.ofNat 32 (i 1).val) 0#32) : BitVec 32) 0#32) = 1#1

/-- What a point's run leaves in the accumulators: the masked tile on the diagonal, then one tile for each later block of queries. -/
def point (R : Rows F) (K : Keys F) {j : ℕ} (hj : j < 16) (s : St F) : St F := tiles R K (j + 1) (15 - j) (both diagMask R K hj s)

/-- The values' gradient as the point stores it. -/
abbrev dvOut (x : FVec F S2x512x128 .f32) : FVec F S2x512x128 .bf16 := truncf .bf16 x bitsLt_bf16_f32

/-- The head of the body: the accumulators set to their first values, the keys and values read. -/
theorem start_run
    (f2 : Buf (Elt F) (arg2.view.loc (c : Thread nD τ))) (f3 : Buf (Elt F) (arg3.view.loc (c : Thread nD τ)))
    (f5 : Buf (Elt F) (arg5.view.loc (c : Thread nD τ)))
    (f6 : Buf (Elt F) (arg6.view.loc (c : Thread nD τ))) (f7 : Buf (Elt F) (arg7.view.loc (c : Thread nD τ)))
    (f8 : Buf (Elt F) (arg8.view.loc (c : Thread nD τ)))
    (f10 : Buf (Elt F) (arg10.view.loc (c : Thread nD τ))) :
    iprop(pt c arg2 f2 ∗ pt c arg3 f3 ∗ pt c arg5 f5 ∗ pt c arg6 f6 ∗ pt c arg7 f7 ∗ pt c arg8 f8 ∗ pt c arg10 f10)
      ⊢ wp frame (wpE (defs₀ (F := F)) Variants.none (c : Thread nD τ) none) Set.univ
          (k0_part15 i arg2 harg2 arg3 harg3 arg4 harg4 arg5 harg5 arg6 harg6 arg7 harg7 arg8 harg8 arg9 harg9 arg10 harg10)
          (fun r => iprop(pt c arg2 f2 ∗ pt c arg3 f3 ∗ pt c arg5 f5 ∗ pt c arg6 f6
            ∗ pt c arg7 (arg7.view.rep (start (First i) (arg7.view.read (Elt F) f7)).dq)
            ∗ pt c arg8 (arg8.view.rep (start (First i) (arg7.view.read (Elt F) f7)).dk)
            ∗ pt c arg10 (arg10.view.rep (start (First i) (arg7.view.read (Elt F) f7)).dv)
            ∗ ⌜r = ⟨BitVec.ofNat 32 (i 1).val, iota .tc S512x512 32 [0] iota_S512x512_d0_w32, iota .tc S512x512 32 [1] iota_S512x512_d1_w32,
                keyBlk (arg5.view.read (Elt F) f5) 0, keyBlk (arg5.view.read (Elt F) f5) 1, keyBlk (arg6.view.read (Elt F) f6) 0,
                keyBlk (arg6.view.read (Elt F) f6) 1, Scalar.muli (BitVec.ofNat 32 (i 1).val) 512#32,
                addf (rowBlk (arg2.view.read (Elt F) f2) 0 (blk_lt i)) (rowBlk (arg3.view.read (Elt F) f3) 0 (blk_lt i))⟩⌝)) := by
  iintro ⟨H2, H3, H5, H6, H7, H8, H10⟩
  by_cases hC : First i
  · unfold First at hC
    unfold k0_part15
    sl_exec
    sl_step
    isplitl [H2]; · iexact H2
    isplitl [H3]; · iexact H3
    isplitl [H5]; · iexact H5
    isplitl [H6]; · iexact H6
    isplitl [H7]
    · iapply (pointsTo_rep_of_read (c : Thread nD τ) arg7 _ fullShare _ ?_) $$ H7
      rw [View.read_writes_full]; exact (if_pos hC).symm
    isplitl [H8]
    · iapply (pointsTo_rep_of_read (c : Thread nD τ) arg8 _ fullShare _ ?_) $$ H8
      rw [View.read_writes_full]; rfl
    isplitl [H10]
    · iapply (pointsTo_rep_of_read (c : Thread nD τ) arg10 _ fullShare _ ?_) $$ H10
      rw [View.read_writes_full]; rfl
    ipureintro
    rw [rowBlk_read arg2 f2 (blk_lt i) (row1 i), rowBlk_read arg3 f3 (blk_lt i) (row1 i)]
    rfl
  · unfold First at hC
    unfold k0_part15
    sl_exec
    sl_step
    isplitl [H2]; · iexact H2
    isplitl [H3]; · iexact H3
    isplitl [H5]; · iexact H5
    isplitl [H6]; · iexact H6
    isplitl [H7]
    · iapply (pointsTo_rep_of_read (c : Thread nD τ) arg7 _ fullShare _ ?_) $$ H7
      exact (if_neg hC).symm
    isplitl [H8]
    · iapply (pointsTo_rep_of_read (c : Thread nD τ) arg8 _ fullShare _ ?_) $$ H8
      rw [View.read_writes_full]; rfl
    isplitl [H10]
    · iapply (pointsTo_rep_of_read (c : Thread nD τ) arg10 _ fullShare _ ?_) $$ H10
      rw [View.read_writes_full]; rfl
    ipureintro
    rw [rowBlk_read arg2 f2 (blk_lt i) (row1 i), rowBlk_read arg3 f3 (blk_lt i) (row1 i)]
    rfl

/-- The body at a point, run through: the accumulators at their first values, then every tile of the point. -/
theorem body_run
    (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ)))
    (f10 : Buf (Elt F) (arg10.view.loc (c : Thread nD τ))) :
    iprop(held c arg2 arg3 arg4 arg7 arg8 arg10 f2 f3 f4 f7 f8 f10 ∗ pt c arg5 f5 ∗ pt c arg6 f6 ∗ pt c arg9 f9)
      ⊢ wp frame (wpE (defs₀ (F := F)) Variants.none (c : Thread nD τ) none) Set.univ
          (cc0_fox_bwd i arg2 harg2 arg3 harg3 arg4 harg4 arg5 harg5 arg6 harg6 arg7 harg7 arg8 harg8 arg9 harg9 arg10 harg10)
          (fun _ => iprop(left c arg2 arg3 arg4 arg7 arg8 arg10 f2 f3 f4
              (point (rows c arg2 arg3 arg4 f2 f3 f4) (keys c arg5 arg6 f5 f6) (blk_lt i) (start (First i) (arg7.view.read (Elt F) f7)))
            ∗ pt c arg5 f5 ∗ pt c arg6 f6
            ∗ pt c arg9 (arg9.view.rep (dvOut
              (point (rows c arg2 arg3 arg4 f2 f3 f4) (keys c arg5 arg6 f5 f6) (blk_lt i) (start (First i) (arg7.view.read (Elt F) f7))).dv)))) := by
  have hcut := start_run c i arg2 harg2 arg3 harg3 arg4 harg4 arg5 harg5 arg6 harg6 arg7 harg7 arg8 harg8 arg9 harg9 arg10 harg10 f2 f3 f5 f6 f7 f8 f10
  iintro ⟨⟨H2, H3, H4, H7, H8, H10⟩, H5, H6, H9⟩
  sl_exec_parts
  clear hcut
  cases hk0_part15_7
  ihave H7 := (pointsTo_rep_of_read (c : Thread nD τ) arg7 _ fullShare (both diagMask (rows c arg2 arg3 arg4 f2 f3 f4) (keys c arg5 arg6 f5 f6) (blk_lt i)
    (start (First i) (arg7.view.read (Elt F) f7))).dq ?_) $$ Hk0_part15_4
  · rw [read_row _ _ _ _ _ (row2 i)]
    unfold body_run.sl.Hk0_part15_4_1
    rw [read_row _ _ _ _ _ (row1 i), View.writes_nil, View.read_rep]
    unfold body_run.sl.v104 body_run.sl.v100 body_run.sl.v99 body_run.sl.v98 body_run.sl.v97 body_run.sl.r_6 body_run.sl.r_4 body_run.sl.r_3 body_run.sl.r_2 body_run.sl.v67 body_run.sl.cst_71
    unfold both step
    simp only [rowBlk_putRow_ne _ (show (0 : Fin 2) ≠ 1 by decide), tileDs, tileP, tileQ, addDq, rows, keys, rowBlk_rep arg7 (start (F := F) (First i) (arg7.view.read (Elt F) f7)).dq (blk_lt i) (row1 i),
      rowBlk_rep arg7 (start (F := F) (First i) (arg7.view.read (Elt F) f7)).dq (blk_lt i) (row2 i),
      rowBlk_read _ _ (blk_lt i) (row1 i), rowBlk_read _ _ (blk_lt i) (row2 i)]
    rfl
  ihave H8 := (pointsTo_rep_of_read (c : Thread nD τ) arg8 _ fullShare (both diagMask (rows c arg2 arg3 arg4 f2 f3 f4) (keys c arg5 arg6 f5 f6) (blk_lt i)
    (start (First i) (arg7.view.read (Elt F) f7))).dk ?_) $$ Hk0_part15_5
  · unfold body_run.sl.Hk0_part15_5_2
    rw [read_keys arg8 _ _ _ _ _ key0 key1 (start (F := F) (First i) (arg7.view.read (Elt F) f7)).dk]
    unfold body_run.sl.v89 body_run.sl.r_5 body_run.sl.v59 body_run.sl.r_3 body_run.sl.r_2 body_run.sl.r
    unfold both step
    simp only [keyBlk_putKey_ne _ (show (0 : Fin 2) ≠ 1 by decide), tileDs, tileP, tileQ, addDk, rows, keys, keyBlk_rep arg8 (start (F := F) (First i) (arg7.view.read (Elt F) f7)).dk inb_S2x512x128_S1x512x128_0_0_0 key0,
      keyBlk_rep arg8 (start (F := F) (First i) (arg7.view.read (Elt F) f7)).dk inb_S2x512x128_S1x512x128_1_0_0 key1,
      rowBlk_read _ _ (blk_lt i) (row1 i), rowBlk_read _ _ (blk_lt i) (row2 i)]
    rfl
  ihave H10 := (pointsTo_rep_of_read (c : Thread nD τ) arg10 _ fullShare (both diagMask (rows c arg2 arg3 arg4 f2 f3 f4) (keys c arg5 arg6 f5 f6) (blk_lt i)
    (start (First i) (arg7.view.read (Elt F) f7))).dv ?_) $$ Hk0_part15_6
  · unfold body_run.sl.Hk0_part15_6_2 body_run.sl.Hk0_part15_6_1
    rw [read_keys arg10 _ _ _ _ _ key0 key1 (start (F := F) (First i) (arg7.view.read (Elt F) f7)).dv]
    unfold body_run.sl.v79 body_run.sl.v49 body_run.sl.r_2 body_run.sl.r_1
    unfold both step
    simp only [keyBlk_putKey_ne _ (show (0 : Fin 2) ≠ 1 by decide), tileDs, tileP, tileQ, addDv, rows, keys, keyBlk_rep arg10 (start (F := F) (First i) (arg7.view.read (Elt F) f7)).dv inb_S2x512x128_S1x512x128_0_0_0 key0,
      keyBlk_rep arg10 (start (F := F) (First i) (arg7.view.read (Elt F) f7)).dv inb_S2x512x128_S1x512x128_1_0_0 key1,
      rowBlk_read _ _ (blk_lt i) (row1 i), rowBlk_read _ _ (blk_lt i) (row2 i)]
    rfl
  obtain ⟨sD, hD⟩ : ∃ s, s = both diagMask (rows c arg2 arg3 arg4 f2 f3 f4) (keys c arg5 arg6 f5 f6) (blk_lt i) (start (First i) (arg7.view.read (Elt F) f7)) := ⟨_, rfl⟩
  rw [← hD]
  sl_for (fun k _ => pairsInv c i arg2 arg3 arg4 arg7 arg8 arg10 (keys c arg5 arg6 f5 f6) f2 f3 f4 sD k) $$ [Hk0_part15_0 Hk0_part15_1 H4 H7 H8 H10]
  · intro k _
    exact pairs_step c i arg2 harg2 arg3 harg3 arg4 harg4 arg5 harg5 arg6 harg6 arg7 harg7 arg8 harg8 arg9 harg9 arg10 harg10 (BitVec.ofNat 32 (i 1).val)
      _ _ _ _ 0#32 (constant S512x512 .bf16 0#16) k f2 f3 f4 sD
  · isplitl [Hk0_part15_0]; · iexact Hk0_part15_0
    isplitl [Hk0_part15_1]; · iexact Hk0_part15_1
    isplitl [H4]; · iexact H4
    isplitl [H7]; · iexact H7
    isplitl [H8]; · iexact H8
    iexact H10
  iintro %_ ⟨H2, H3, H4, H7, H8, H10⟩
  sl_exec
  obtain ⟨sT, hT⟩ : ∃ s, s = tiles (rows c arg2 arg3 arg4 f2 f3 f4) (keys c arg5 arg6 f5 f6) ((i 1).val + 1) (2 * (k0_t1_loop i).trips) sD := ⟨_, rfl⟩
  rw [← hT]
  sl_for (fun k _ => lastsInv c arg2 arg3 arg4 arg7 arg8 arg10 (keys c arg5 arg6 f5 f6) f2 f3 f4 sT k) $$ [H2 H3 H4 H7 H8 H10]
  · intro k _
    exact lasts_step c i arg2 harg2 arg3 harg3 arg4 harg4 arg5 harg5 arg6 harg6 arg7 harg7 arg8 harg8 arg9 harg9 arg10 harg10
      _ _ _ _ _ k f2 f3 f4 sT
  · isplitl [H2]; · iexact H2
    isplitl [H3]; · iexact H3
    isplitl [H4]; · iexact H4
    isplitl [H7]; · iexact H7
    isplitl [H8]; · iexact H8
    iexact H10
  iintro %_ ⟨H2, H3, H4, H7, H8, H10⟩
  have hP : lasts (rows c arg2 arg3 arg4 f2 f3 f4) (keys c arg5 arg6 f5 f6) (k0_t3_loop i).trips sT
      = point (rows c arg2 arg3 arg4 f2 f3 f4) (keys c arg5 arg6 f5 f6) (blk_lt i) (start (First i) (arg7.view.read (Elt F) f7)) := by
    rw [hT, hD, trips1_eq, trips3_eq, lasts_tiles _ _ (blk_lt i)]; rfl
  rw [hP]
  clear hP hT hD
  sl_exec
  sl_step
  isplitl [H2 H3 H4 H7 H8 H10]
  · isplitl [H2]; · iexact H2
    isplitl [H3]; · iexact H3
    isplitl [H4]; · iexact H4
    isplitl [H7]; · iexact H7
    isplitl [H8]; · iexact H8
    iexact H10
  isplitl [Hk0_part15_2]; · iexact Hk0_part15_2
  isplitl [Hk0_part15_3]; · iexact Hk0_part15_3
  iapply (pointsTo_rep_of_read (c : Thread nD τ) arg9 _ fullShare _ ?_) $$ H9
  rw [View.read_writes_full]
  unfold body_run.sl.v152
  exact congrArg dvOut ((View.readAt_full arg10.view _ inb_S2x512x128_S2x512x128_0_0_0).trans (View.read_rep _ _))

end Body

end Cert.KernelIdeal.Value
-- ==== Proof.Sums.lean ====
/- A point's tiles over the extended reals: the accumulators hold the sums over the query rows met so far. -/
module

public import proofs.«01_k».proof.Proof.Tile
public import proofs.«01_k».proof.Proof.Body

@[expose] public section

set_option maxRecDepth 16384

noncomputable section

namespace Cert.KernelIdeal.Value

open Cert.KernelIdeal Cert.KernelIdeal.Gen
open Idealize.ShloMosaic Idealize.ShloMosaic.ValueIdx
open Finset

/-- The kernel's five operands, by head, row and lane. -/
structure Ops where
  qa : ℕ → ℕ → ℕ → ℝ
  lse : ℕ → ℕ → ℕ → ℝ
  doa : ℕ → ℕ → ℕ → ℝ
  ka : ℕ → ℕ → ℕ → ℝ
  va : ℕ → ℕ → ℕ → ℝ

namespace Ops

variable (O : Ops) (g t u : ℕ)

/-- A query row with its log-sum's lanes. -/
def ql (l : ℕ) : ℝ := O.qa g t l + O.lse g t l
/-- The probability of key `u` for query `t`. -/
def pr : ℝ := if u ≤ t then Real.exp (∑ l ∈ range 128, O.ka g u l * O.ql g t l) else 0
/-- The gradient of the score. -/
def ds : ℝ := O.pr g t u * ∑ l ∈ range 128, O.va g u l * O.doa g t l

theorem pr_late (h : t < u) : O.pr g t u = 0 := if_neg (by omega)
theorem ds_late (h : t < u) : O.ds g t u = 0 := by unfold ds; rw [O.pr_late g t u h, zero_mul]

end Ops

/-- The rows of a pair of heads. -/
structure RowsAre (O : Ops) (p : ℕ) (R : Rows Ideal) : Prop where
  qa : Is3 (show FVec Ideal S2x8192x128 .bf16 from R.qa) fun h t l => O.qa (2 * p + h) t l
  lse : Is3 (show FVec Ideal S2x8192x128 .bf16 from R.lse) fun h t l => O.lse (2 * p + h) t l
  doa : Is3 (show FVec Ideal S2x8192x128 .bf16 from R.doa) fun h t l => O.doa (2 * p + h) t l

/-- Block `j` of the keys of a pair of heads. -/
structure KeysAre (O : Ops) (p j : ℕ) (K : Keys Ideal) : Prop where
  k0 : Is2 K.k0 fun a l => O.ka (2 * p + 0) (512 * j + a) l
  k1 : Is2 K.k1 fun a l => O.ka (2 * p + 1) (512 * j + a) l
  v0 : Is2 K.v0 fun a l => O.va (2 * p + 0) (512 * j + a) l
  v1 : Is2 K.v1 fun a l => O.va (2 * p + 1) (512 * j + a) l

section Tile

variable {O : Ops} {p j n : ℕ} {R : Rows Ideal} (hR : RowsAre O p R) (h : Fin 2) (hn : n < 16)
include hR

theorem tileQ_is : Is2 (tileQ R h hn) fun b l => O.ql (2 * p + h.val) (512 * n + b) l := fun i => by
  refine (congrArg₂ (· + ·) (rowBlk_is hR.qa h hn i) (rowBlk_is hR.lse h hn i)).trans ?_
  rw [← EReal.coe_add]; rfl

variable {ks vs : FVec Ideal S512x128 .bf16} (hk : Is2 ks fun a l => O.ka (2 * p + h.val) (512 * j + a) l)
  (hv : Is2 vs fun a l => O.va (2 * p + h.val) (512 * j + a) l)
  {m : FVec Ideal S512x512 .f32 → FVec Ideal S512x512 .f32} {vis : ℕ → ℕ → Prop} [∀ a b, Decidable (vis a b)] (hm : Masks m vis)
  (hvis : ∀ a < 512, ∀ b < 512, vis a b ↔ 512 * j + a ≤ 512 * n + b)
include hk hm hvis

theorem tileP_is : Is2 (tileP m R ks h hn) fun a b => O.pr (2 * p + h.val) (512 * n + b) (512 * j + a) :=
  Is2.congr (hm _ _ (dot_rows hk (tileQ_is hR h hn))) fun a ha b hb => by
    simp only [hvis a ha b hb]; rfl

theorem addDv_is : Is2 (addDv m R ks h hn) fun a l =>
    ∑ b ∈ range 512, O.pr (2 * p + h.val) (512 * n + b) (512 * j + a) * O.doa (2 * p + h.val) (512 * n + b) l :=
  dot_plain (x := truncf .bf16 (tileP m R ks h hn) bitsLt_bf16_f32) (tileP_is hR h hn hk hm hvis) (rowBlk_is hR.doa h hn)

include hv

theorem tileDs_is : Is2 (tileDs m R ks vs h hn) fun a b => O.ds (2 * p + h.val) (512 * n + b) (512 * j + a) := fun i => by
  refine (congrArg₂ (· * ·) (tileP_is hR h hn hk hm hvis i) (dot_rows hv (rowBlk_is hR.doa h hn) i)).trans ?_
  rw [← EReal.coe_mul]; rfl

theorem addDk_is : Is2 (addDk m R ks vs h hn) fun a l =>
    ∑ b ∈ range 512, O.ds (2 * p + h.val) (512 * n + b) (512 * j + a) * O.ql (2 * p + h.val) (512 * n + b) l :=
  dot_plain (tileDs_is hR h hn hk hv hm hvis) (tileQ_is hR h hn)

theorem addDq_is : Is2 (addDq m R ks vs h hn) fun b l =>
    ∑ a ∈ range 512, O.ds (2 * p + h.val) (512 * n + b) (512 * j + a) * O.ka (2 * p + h.val) (512 * j + a) l :=
  dot_cols (tileDs_is hR h hn hk hv hm hvis) hk

end Tile

/-- The accumulators after the query blocks below `N`, where the queries' gradient began at `X`. -/
structure Upto (O : Ops) (p j N : ℕ) (X : ℕ → ℕ → ℕ → ℝ) (s : St Ideal) : Prop where
  dv : Is3 (show FVec Ideal S2x512x128 .f32 from s.dv) fun h a l =>
    ∑ t ∈ range (512 * N), O.pr (2 * p + h) t (512 * j + a) * O.doa (2 * p + h) t l
  dk : Is3 (show FVec Ideal S2x512x128 .f32 from s.dk) fun h a l =>
    ∑ t ∈ range (512 * N), O.ds (2 * p + h) t (512 * j + a) * O.ql (2 * p + h) t l
  dq : Is3 (show FVec Ideal S2x8192x128 .f32 from s.dq) fun h t l =>
    X h t l + if t < 512 * N then ∑ a ∈ range 512, O.ds (2 * p + h) t (512 * j + a) * O.ka (2 * p + h) (512 * j + a) l else 0

theorem both_upto {O : Ops} {p j n : ℕ} {X : ℕ → ℕ → ℕ → ℝ} {R : Rows Ideal} {K : Keys Ideal} {s : St Ideal} (hR : RowsAre O p R) (hK : KeysAre O p j K)
    (hn : n < 16) {m : FVec Ideal S512x512 .f32 → FVec Ideal S512x512 .f32} {vis : ℕ → ℕ → Prop} [∀ a b, Decidable (vis a b)] (hm : Masks m vis)
    (hvis : ∀ a < 512, ∀ b < 512, vis a b ↔ 512 * j + a ≤ 512 * n + b) (hs : Upto O p j n X s) : Upto O p j (n + 1) X (both m R K hn s) where
  dv := Is3.congr (putKey_add (putKey_add hs.dv (addDv_is hR 0 hn hK.k0 hm hvis) 0) (addDv_is hR 1 hn hK.k1 hm hvis) 1) fun i hi a _ l _ => by
    rw [Nat.mul_succ, sum_range_add]
    interval_cases i <;> simp
  dk := Is3.congr (putKey_add (putKey_add hs.dk (addDk_is hR 0 hn hK.k0 hK.v0 hm hvis) 0) (addDk_is hR 1 hn hK.k1 hK.v1 hm hvis) 1) fun i hi a _ l _ => by
    rw [Nat.mul_succ, sum_range_add]
    interval_cases i <;> simp
  dq := Is3.congr (putRow_add (putRow_add hs.dq (addDq_is hR 0 hn hK.k0 hK.v0 hm hvis) 0 hn) (addDq_is hR 1 hn hK.k1 hK.v1 hm hvis) 1 hn) fun i hi t _ l _ => by
    have e : ∀ h' : 512 * n ≤ t, 512 * n + (t - 512 * n) = t := fun _ => by omega
    by_cases h1 : t < 512 * n
    · have h2 : ¬ 512 * n ≤ t := by omega
      have h3 : t < 512 * (n + 1) := by omega
      simp [h1, h2, h3]
    · have h2 : 512 * n ≤ t := by omega
      by_cases h3 : t < 512 * n + 512
      · have h4 : t < 512 * (n + 1) := by omega
        interval_cases i <;> simp [h1, h2, h3, h4, e h2]
      · have h4 : ¬ t < 512 * (n + 1) := by omega
        simp [h1, h3, h4]

end Cert.KernelIdeal.Value
-- ==== Proof.Run.lean ====
/- The whole run of the attention gradient: the proof data of its pipeline, the body's obligation at a generic point, the launch. -/
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Value

open Cert.KernelIdeal Cert.KernelIdeal.Gen
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Values, point by point -/

/-- The queries' rows a point reads. -/
def rowsAt (c : Dev nD) (t : Fin cfg0.N) : Rows F := ⟨iblk m c 0 t, iblk m c 1 t, iblk m c 2 t⟩

/-- The keys and values a point reads. -/
def keysAt (c : Dev nD) (t : Fin cfg0.N) : Keys F :=
  ⟨keyBlk (iblk m c 3 t : Vec F S2x512x128 .bf16) 0, keyBlk (iblk m c 3 t : Vec F S2x512x128 .bf16) 1,
    keyBlk (iblk m c 4 t : Vec F S2x512x128 .bf16) 0, keyBlk (iblk m c 4 t : Vec F S2x512x128 .bf16) 1⟩

/-- What a point leaves in the accumulators, its queries' gradient starting from `X`. -/
def pointAt (c : Dev nD) (t : Fin cfg0.N) (X : FVec F S2x8192x128 .f32) : St F :=
  point (rowsAt m c t) (keysAt m c t) (blk_lt (grid0.coords t)) (start (First (grid0.coords t)) X)

/-- The accumulators after each point: the queries' gradient is handed on from point to point. -/
def outAt (c : Dev nD) : (n : ℕ) → n < cfg0.N → St F
  | 0, h => pointAt m c ⟨0, h⟩ (broadcast S2x8192x128 (Scalar.ofBits .f32 0x00000000#32))
  | n + 1, h => pointAt m c ⟨n + 1, h⟩ (outAt c n (Nat.lt_of_succ_lt h)).dq

theorem coord1 : ∀ t : Fin grid0.N, (grid0.coords t 1).val = t.val % 16 := by decide +kernel
theorem first_iff : ∀ i : grid0.Coords, First i ↔ (i 1).val = 0 := by decide +kernel

/-- A row's first point starts from zero, whatever was there. -/
theorem pointAt_first (c : Dev nD) (t : Fin cfg0.N) (h0 : t.val % 16 = 0) (X Y : FVec F S2x8192x128 .f32) : pointAt m c t X = pointAt m c t Y := by
  have hf : First (grid0.coords t) := (first_iff _).mpr ((coord1 t).trans h0)
  unfold pointAt start
  rw [if_pos hf, if_pos hf]

theorem outAt_first (c : Dev nD) (t : Fin cfg0.N) (h0 : t.val % 16 = 0) (X : FVec F S2x8192x128 .f32) : outAt m c t.val t.isLt = pointAt m c t X := by
  obtain ⟨n, h⟩ := t
  cases n with
  | zero => exact pointAt_first m c ⟨0, h⟩ h0 _ _
  | succ n => exact pointAt_first m c ⟨n + 1, h⟩ h0 _ _

theorem outAt_next (c : Dev nD) (t : Fin cfg0.N) (h0 : t.val ≠ 0) :
    outAt m c t.val t.isLt = pointAt m c t (outAt m c (t.val - 1) (Nat.lt_of_le_of_lt (Nat.sub_le _ _) t.isLt)).dq := by
  obtain ⟨n, h⟩ := t
  cases n with
  | zero => exact absurd rfl h0
  | succ n => rfl

/-! ## The proof data -/

/-- The pipeline's proof data: the inputs stay at their blocks, the outputs end each point at the accumulators' values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outAt m c t.val t.isLt).dq
    | ⟨6, _⟩ => (outAt m c t.val t.isLt).dk
    | ⟨7, _⟩ => dvOut (outAt m c t.val t.isLt).dv
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outAt m c t.val t.isLt).dq := by dsimp only [dats]
theorem after0_6 (c : Dev nD) (t : Fin cfg0.N) : (dats m 0 c).after 6 t = (outAt m c t.val t.isLt).dk := by dsimp only [dats]
theorem after0_7 (c : Dev nD) (t : Fin cfg0.N) : (dats m 0 c).after 7 t = dvOut (outAt m c t.val t.isLt).dv := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d

/-- Whatever the queries' gradient buffer held before, the point leaves what `outAt` says. -/
theorem pointAt_before (c : Dev nD) (t : Fin cfg0.N) (d) : pointAt m c t ((dats m 0 c).before 5 t d) = outAt m c t.val t.isLt := by
  by_cases h0 : t.val % 16 = 0
  · exact (outAt_first m c t h0 _).symm
  · have hz : t.val ≠ 0 := fun h => h0 (by rw [h])
    rw [outAt_next m c t hz]
    congr 1
    have hfl : (cfg0.win 5).flush ⟨t.val - 1, Nat.lt_of_le_of_lt (Nat.sub_le _ _) t.isLt⟩ = false := by
      rw [Bool.eq_false_iff]
      intro h
      have := (flush0_5 _).mp h
      dsimp only at this
      omega
    refine (Dat.before_out_acc _ 5 rfl t hz hfl (fun _ => rfl) d).trans ?_
    unfold Dat.kept; dsimp only [dats]; rfl

/-! ## The body at a generic point -/

/-- The scratch buffer a point sums the values' gradient in. -/
abbrev scr : Memref sig .tc .vmem S2x512x128 .f32 := Memref.whole cc0_scratch0

/-- The invariant between points: the scratch buffer at something, the generator's register at something. -/
theorem PhiA0_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs at their blocks and the queries' gradient at what the point before left are what `body_run` takes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq,
    after0_0, after0_1, after0_2, after0_3, after0_4, after0_5, after0_6, after0_7]
  unfold owns
  iintro ⟨⟨⟨%ds, %fs, %hs, HS⟩, Hg⟩, Ho, ⟨%d0, %f0, %h0, H0⟩, ⟨%d1, %f1, %h1, H1⟩, ⟨%d2, %f2, %h2, H2⟩, ⟨%d3, %f3, %h3, H3⟩, ⟨%d4, %f4, %h4, H4⟩,
    ⟨%d5, %f5, %h5, H5⟩, ⟨%d6, %f6, %h6, H6⟩, ⟨%d7, %f7, %h7, H7⟩⟩
  have hR : rows c (st0_0 t) (st0_1 t) (st0_2 t) f0 f1 f2 = rowsAt m c t := by
    unfold rows rowsAt; rw [h0, h1, h2]
  have hK : keys c (st0_3 t) (st0_4 t) f3 f4 = keysAt m c t := by
    unfold keys keysAt; rw [h3, h4]
  have hP : point (rows c (st0_0 t) (st0_1 t) (st0_2 t) f0 f1 f2) (keys c (st0_3 t) (st0_4 t) f3 f4) (blk_lt (grid0.coords t))
      (start (First (grid0.coords t)) ((st0_5 t).view.read (Elt F) f5)) = outAt m c t.val t.isLt := by
    rw [hR, hK, h5]; exact pointAt_before m c t d5
  iapply (wp_wand_r Idealize.ShloMosaic.frame (wpE (defs₀ (F := F)) Variants.none (c : Thread nD τ) none) Set.univ)
  isplitl [HS H0 H1 H2 H3 H4 H5 H6 H7]
  · iapply (body_run c (grid0.coords t) (st0_0 t) _ (st0_1 t) _ (st0_2 t) _ (st0_3 t) _ (st0_4 t) _ (st0_5 t) _ (st0_6 t) _ (st0_7 t) _ scr _
      f0 f1 f2 f3 f4 f5 f6 f7 fs)
    isplitl [H0 H1 H2 H5 H6 HS]
    · isplitl [H0]; · iexact H0
      isplitl [H1]; · iexact H1
      isplitl [H2]; · iexact H2
      isplitl [H5]; · iexact H5
      isplitl [H6]; · iexact H6
      iexact HS
    isplitl [H3]; · iexact H3
    isplitl [H4]; · iexact H4
    iexact H7
  · rw [hP]
    iintro %_ ⟨⟨H0, H1, H2, H5, H6, HS⟩, H3, H4, H7⟩
    isplitl [HS Hg]
    · isplitl [HS]
      · iexists _; iexists _; isplitr
        swap; · iexact HS
        ipureintro; rfl
      · iexact Hg
    isplitl [Ho]; · iexact Ho
    isplitl [H0]
    · iexists f0; isplitr
      swap; · iexact H0
      ipureintro; exact h0
    isplitl [H1]
    · iexists f1; isplitr
      swap; · iexact H1
      ipureintro; exact h1
    isplitl [H2]
    · iexists f2; isplitr
      swap; · iexact H2
      ipureintro; exact h2
    isplitl [H3]
    · iexists f3; isplitr
      swap; · iexact H3
      ipureintro; exact h3
    isplitl [H4]
    · iexists f4; isplitr
      swap; · iexact H4
      ipureintro; exact h4
    isplitl [H5]
    · iexists _; isplitr
      swap; · iexact H5
      ipureintro; exact View.read_rep _ _
    isplitl [H6]
    · iexists _; isplitr
      swap; · iexact H6
      ipureintro; exact View.read_rep _ _
    iexists _; isplitr
    swap; · iexact H7
    ipureintro; exact View.read_rep _ _

/-- The body table's row at a point's slots is the body. -/
theorem defs₀_row (t : Fin cfg0.N) : defs₀ (F := F) .tc cfg0.body (cfg0.bodyArgs t (cfg0.slots t)) = bodyAt0 t := by
  unfold defs₀; rw [Defs.onTc_tc]

/-- The pipeline's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- What is known of every final state: the arrays of the pipeline and the host's results, and every counter at zero. -/
def Done (r : PUnit × MemSt nD τ sig (Elt F)) : Prop :=
  Pipeline.FramePost cfgs (dats m) 0 (Pipeline.afterTail₀ cfgs (dats m) 0 (V0 m) [hostOps1]) r ∧ r.2.sem = fun _ => 0

set_option backward.isDefEq.respectTransparency.types false in
/-- Every run of the program ends in such a state. -/
theorem run_main : θ_run defs (onTc (τ := τ) (main (F := F))) (s₀ m ρ) (Done m) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (Q' := Done m) (hQ' := fun _ h => h)

/-- Every run ends, with the arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Value
-- ==== Proof.Arrays.lean ====
/- The kernel's three output arrays over the extended reals, where its five operands are real: the attention gradient's sums,
   lane by lane of the augmented arrays. -/
module

public import proofs.«01_k».proof.Proof.Sums
public import proofs.«01_k».proof.Proof.Run
public import Idealize.ShloMosaic.Lib.Pipeline.ValueKit.Geometry

@[expose] public section

set_option maxRecDepth 16384

noncomputable section

namespace Cert.KernelIdeal.Value

open Cert.KernelIdeal Cert.KernelIdeal.Gen
open Idealize.ShloMosaic Idealize.ShloMosaic.ValueIdx Idealize.ShloMosaic.Pipeline Idealize.ShloMosaic.TcCoe
open Finset

/-! ## A point's accumulators -/

theorem zeros_is {s : Shape} (i : s.Idx) : (broadcast s (Scalar.ofBits .f32 0x00000000#32) : FVec Ideal s .f32) i = ((0 : ℝ) : EReal) :=
  Ideal.ofBits_zero_f32

/-- Before the tile on the diagonal nothing is summed: no earlier query sees the point's keys. -/
theorem start_upto (O : Ops) (p j : ℕ) {first : Prop} [Decidable first] {X : FVec Ideal S2x8192x128 .f32} {r : ℕ → ℕ → ℕ → ℝ}
    (hX : Is3 (show FVec Ideal S2x8192x128 .f32 from (start first X).dq) r) : Upto O p j j r (start first X) where
  dv i := (zeros_is i).trans (congrArg _ (sum_eq_zero fun t ht => by
    rw [O.pr_late _ _ _ (by have := mem_range.mp ht; omega), zero_mul]).symm)
  dk i := (zeros_is i).trans (congrArg _ (sum_eq_zero fun t ht => by
    rw [O.ds_late _ _ _ (by have := mem_range.mp ht; omega), zero_mul]).symm)
  dq := hX.congr fun h _ t _ l _ => by
    split
    · rw [sum_eq_zero, add_zero]; intro a _; rw [O.ds_late _ _ _ (by omega), zero_mul]
    · rw [add_zero]

section Point

variable {O : Ops} {p j : ℕ} {X : ℕ → ℕ → ℕ → ℝ} {R : Rows Ideal} {K : Keys Ideal} {s : St Ideal} (hR : RowsAre O p R) (hK : KeysAre O p j K)
include hR hK

theorem tiles_upto {a : ℕ} (ha : j < a) (hs : Upto O p j a X s) : ∀ k, a + k ≤ 16 → Upto O p j (a + k) X (tiles R K a k s)
  | 0, _ => hs
  | k + 1, hk => by
    show Upto O p j (a + k + 1) X (tileAt R K (a + k) (tiles R K a k s))
    rw [tileAt_of_lt _ _ (show a + k < 16 by omega)]
    exact both_upto hR hK _ masks_id (fun _ _ _ _ => iff_of_true trivial (by omega)) (tiles_upto ha hs k (by omega))

/-- After its tiles a point's accumulators hold the sums over all queries. -/
theorem point_upto {j' : ℕ} (e : j' = j) (hj' : j' < 16) (hs : Upto O p j j X s) : Upto O p j 16 X (point R K hj' s) := by
  subst e
  have h := tiles_upto hR hK (Nat.lt_succ_self j')
    (both_upto hR hK hj' masks_diag (fun _ _ _ _ => (Nat.add_le_add_iff_left).symm) hs) (15 - j') (by omega)
  rwa [show j' + 1 + (15 - j') = 16 by omega] at h

end Point

/-! ## The blocks of the operands -/

/-- The operands of the call hold reals. -/
structure Operands (m : (ℓ : Loc nD τ sig) → Buf (Elt Ideal) ℓ) (c : Dev nD) (O : Ops) : Prop where
  qa : Is3 (show FVec Ideal S8x8192x128 .bf16 from V m c (Pipeline.arrRef spec0 0)) O.qa
  lse : Is3 (show FVec Ideal S8x8192x128 .bf16 from V m c (Pipeline.arrRef spec0 1)) O.lse
  doa : Is3 (show FVec Ideal S8x8192x128 .bf16 from V m c (Pipeline.arrRef spec0 2)) O.doa
  ka : Is3 (show FVec Ideal S8x8192x128 .bf16 from V m c (Pipeline.arrRef spec0 3)) O.ka
  va : Is3 (show FVec Ideal S8x8192x128 .bf16 from V m c (Pipeline.arrRef spec0 4)) O.va

theorem index0 : ∀ t : Fin grid0.N, win0_0.index t 0 = t.val / 16 ∧ win0_0.index t 1 = 0 ∧ win0_0.index t 2 = 0 := by decide +kernel
theorem index1 : ∀ t : Fin grid0.N, win0_1.index t 0 = t.val / 16 ∧ win0_1.index t 1 = 0 ∧ win0_1.index t 2 = 0 := by decide +kernel
theorem index2 : ∀ t : Fin grid0.N, win0_2.index t 0 = t.val / 16 ∧ win0_2.index t 1 = 0 ∧ win0_2.index t 2 = 0 := by decide +kernel
theorem index3 : ∀ t : Fin grid0.N, win0_3.index t 0 = t.val / 16 ∧ win0_3.index t 1 = t.val % 16 ∧ win0_3.index t 2 = 0 := by decide +kernel
theorem index4 : ∀ t : Fin grid0.N, win0_4.index t 0 = t.val / 16 ∧ win0_4.index t 1 = t.val % 16 ∧ win0_4.index t 2 = 0 := by decide +kernel
theorem index5 : ∀ t : Fin grid0.N, win0_5.index t 0 = t.val / 16 ∧ win0_5.index t 1 = 0 ∧ win0_5.index t 2 = 0 := by decide +kernel
theorem index6 : ∀ t : Fin grid0.N, win0_6.index t 0 = t.val / 16 ∧ win0_6.index t 1 = t.val % 16 ∧ win0_6.index t 2 = 0 := by decide +kernel
theorem index7 : ∀ t : Fin grid0.N, win0_7.index t 0 = t.val / 16 ∧ win0_7.index t 1 = t.val % 16 ∧ win0_7.index t 2 = 0 := by decide +kernel

variable {m : (ℓ : Loc nD τ sig) → Buf (Elt Ideal) ℓ} {c : Dev nD} {O : Ops}

/-- A pair's rows of an array. -/
theorem rows_block {x : FVec Ideal S8x8192x128 .bf16} {r : ℕ → ℕ → ℕ → ℝ} (hx : Is3 x r) (p : ℕ) {y : FVec Ideal S2x8192x128 .bf16}
    (e : S2x8192x128.Idx → S8x8192x128.Idx) (hy : ∀ i, y i = x (e i))
    (h0 : ∀ i, (e i 0).val = p * 2 + (i 0).val) (h1 : ∀ i, (e i 1).val = (i 1).val) (h2 : ∀ i, (e i 2).val = (i 2).val) :
    Is3 y (fun h t l => r (2 * p + h) t l) := fun i => by
  rw [hy, hx, h0, h1, h2, Nat.mul_comm]

theorem rowsAt_are (hO : Operands m c O) (t : Fin cfg0.N) : RowsAre O (t.val / 16) (rowsAt m c t) where
  qa := rows_block hO.qa _ (fun i => (win0_0.blk t).view.emb i) (fun _ => rfl) (fun i => by blk_simp; have := index0 t; omega)
    (fun i => by blk_simp; have := index0 t; omega) (fun i => by blk_simp; have := index0 t; omega)
  lse := rows_block hO.lse _ (fun i => (win0_1.blk t).view.emb i) (fun _ => rfl) (fun i => by blk_simp; have := index1 t; omega)
    (fun i => by blk_simp; have := index1 t; omega) (fun i => by blk_simp; have := index1 t; omega)
  doa := rows_block hO.doa _ (fun i => (win0_2.blk t).view.emb i) (fun _ => rfl) (fun i => by blk_simp; have := index2 t; omega)
    (fun i => by blk_simp; have := index2 t; omega) (fun i => by blk_simp; have := index2 t; omega)

/-- A pair's block of keys, by head. -/
theorem keys_block {x : FVec Ideal S8x8192x128 .bf16} {r : ℕ → ℕ → ℕ → ℝ} (hx : Is3 x r) (p j : ℕ) {y : FVec Ideal S2x512x128 .bf16}
    (e : S2x512x128.Idx → S8x8192x128.Idx) (hy : ∀ i, y i = x (e i))
    (h0 : ∀ i, (e i 0).val = p * 2 + (i 0).val) (h1 : ∀ i, (e i 1).val = j * 512 + (i 1).val) (h2 : ∀ i, (e i 2).val = (i 2).val) (h : Fin 2) :
    Is2 (show FVec Ideal S512x128 .bf16 from keyBlk (F := Ideal) (e := .bf16) y h) (fun a l => r (2 * p + h.val) (512 * j + a) l) := fun i => by
  obtain ⟨z, ez, z0, z1, z2⟩ := keyBlk_apply (e := .bf16) y h i
  refine ez.trans ?_
  rw [hy, hx, h0, h1, h2, z0, z1, z2, Nat.mul_comm 2, Nat.mul_comm 512]

theorem keys3 (hO : Operands m c O) (t : Fin cfg0.N) (h : Fin 2) :
    Is2 (show FVec Ideal S512x128 .bf16 from keyBlk (F := Ideal) (e := .bf16) (iblk m c 3 t) h) (fun a l => O.ka (2 * (t.val / 16) + h.val) (512 * (t.val % 16) + a) l) :=
  keys_block hO.ka _ _ (fun i => (win0_3.blk t).view.emb i) (fun _ => rfl) (fun i => by blk_simp; have := index3 t; omega)
    (fun i => by blk_simp; have := index3 t; omega) (fun i => by blk_simp; have := index3 t; omega) h

theorem keys4 (hO : Operands m c O) (t : Fin cfg0.N) (h : Fin 2) :
    Is2 (show FVec Ideal S512x128 .bf16 from keyBlk (F := Ideal) (e := .bf16) (iblk m c 4 t) h) (fun a l => O.va (2 * (t.val / 16) + h.val) (512 * (t.val % 16) + a) l) :=
  keys_block hO.va _ _ (fun i => (win0_4.blk t).view.emb i) (fun _ => rfl) (fun i => by blk_simp; have := index4 t; omega)
    (fun i => by blk_simp; have := index4 t; omega) (fun i => by blk_simp; have := index4 t; omega) h

theorem keysAt_are (hO : Operands m c O) (t : Fin cfg0.N) : KeysAre O (t.val / 16) (t.val % 16) (keysAt m c t) where
  k0 := keys3 hO t 0
  k1 := keys3 hO t 1
  v0 := keys4 hO t 0
  v1 := keys4 hO t 1

/-! ## The accumulators after each point -/

/-- The queries' gradient from the keys below `U`. -/
def Ops.dqTo (O : Ops) (p U : ℕ) (h t l : ℕ) : ℝ := ∑ u ∈ range U, O.ds (2 * p + h) t u * O.ka (2 * p + h) u l

/-- Point `t` adds its keys' part to the queries' gradient, and holds the gradients of its own keys. -/
theorem pointAt_upto (hO : Operands m c O) (t : Fin cfg0.N) {X : FVec Ideal S2x8192x128 .f32}
    (hX : t.val % 16 ≠ 0 → Is3 X (O.dqTo (t.val / 16) (512 * (t.val % 16)))) :
    Upto O (t.val / 16) (t.val % 16) 16 (O.dqTo (t.val / 16) (512 * (t.val % 16))) (pointAt m c t X) := by
  have hj : (grid0.coords t 1).val = t.val % 16 := coord1 t
  exact point_upto (rowsAt_are hO t) (keysAt_are hO t) hj (blk_lt (grid0.coords t))
    (start_upto O (t.val / 16) _ (first := First (grid0.coords t)) (X := X) (r := O.dqTo (t.val / 16) (512 * (t.val % 16))) (by
      unfold start
      dsimp only
      by_cases h0 : t.val % 16 = 0
      · rw [if_pos ((first_iff _).mpr (hj.trans h0)), h0]
        exact fun i => zeros_is i
      · rw [if_neg (fun hf => h0 (hj.symm.trans ((first_iff _).mp hf)))]
        exact hX h0))

theorem dqTo_succ (p j : ℕ) {s : St Ideal} (h : Upto O p j 16 (O.dqTo p (512 * j)) s) :
    Is3 (show FVec Ideal S2x8192x128 .f32 from s.dq) (O.dqTo p (512 * (j + 1))) :=
  h.dq.congr fun i _ t ht l _ => by
    rw [if_pos (show t < 512 * 16 by omega), Nat.mul_succ]
    exact (sum_range_add _ _ _).symm

theorem outAt_upto (hO : Operands m c O) : ∀ (n : ℕ) (hn : n < cfg0.N),
    Upto O (n / 16) (n % 16) 16 (O.dqTo (n / 16) (512 * (n % 16))) (outAt m c n hn)
  | 0, hn => pointAt_upto hO ⟨0, hn⟩ (fun h => absurd rfl h)
  | n + 1, hn => pointAt_upto hO ⟨n + 1, hn⟩ (fun h => by
      have h' : (n + 1) % 16 ≠ 0 := h
      have := dqTo_succ _ _ (outAt_upto hO n (Nat.lt_of_succ_lt hn))
      rw [show n / 16 = (n + 1) / 16 by omega, show n % 16 + 1 = (n + 1) % 16 by omega] at this
      exact this)

/-! ## The arrays after the run -/

/-- The queries' gradient is written back after a pair's last point. -/
theorem arr5 {r : ℕ → ℕ → ℕ → ℝ} (h : ∀ t : Fin cfg0.N, t.val % 16 = 15 →
      Is3 (show FVec Ideal S2x8192x128 .f32 from (outAt m c t.val t.isLt).dq) fun i a l => r (2 * (t.val / 16) + i) a l) :
    Is3 (show FVec Ideal S8x8192x128 .f32 from (dats m 0 c).arrAt 5 cfg0.N) r := fun i => by
  refine (dats m 0 c).arrAt_forall_of_covers 5 (fun i v => v = ((r (i 0).val (i 1).val (i 2).val : ℝ) : EReal)) (by decide +kernel) (fun t hf y => ?_) i
  have e0 : ((win0_5.blk t).view.emb y 0 : ℕ) = 2 * (t.val / 16) + (y 0).val := by blk_simp; have := index5 t; omega
  have e1 : ((win0_5.blk t).view.emb y 1 : ℕ) = (y 1).val := by blk_simp; have := index5 t; omega
  have e2 : ((win0_5.blk t).view.emb y 2 : ℕ) = (y 2).val := by blk_simp; have := index5 t; omega
  refine (congrFun (after0_5 m c t) _).trans ((h t ((flush0_5 t).mp hf) y).trans (congrArg Real.toEReal ?_))
  exact (congr (congr (congrArg r e0) e1) e2).symm

/-- The keys' gradient is written back at every point, -/
theorem arr6 {r : ℕ → ℕ → ℕ → ℝ} (h : ∀ t : Fin cfg0.N,
      Is3 (show FVec Ideal S2x512x128 .f32 from (outAt m c t.val t.isLt).dk) fun i a l => r (2 * (t.val / 16) + i) (512 * (t.val % 16) + a) l) :
    Is3 (show FVec Ideal S8x8192x128 .f32 from (dats m 0 c).arrAt 6 cfg0.N) r := fun i => by
  refine (dats m 0 c).arrAt_forall_of_covers 6 (fun i v => v = ((r (i 0).val (i 1).val (i 2).val : ℝ) : EReal)) (by decide +kernel) (fun t hf y => ?_) i
  have e0 : ((win0_6.blk t).view.emb y 0 : ℕ) = 2 * (t.val / 16) + (y 0).val := by blk_simp; have := index6 t; omega
  have e1 : ((win0_6.blk t).view.emb y 1 : ℕ) = 512 * (t.val % 16) + (y 1).val := by blk_simp; have := index6 t; omega
  have e2 : ((win0_6.blk t).view.emb y 2 : ℕ) = (y 2).val := by blk_simp; have := index6 t; omega
  refine (congrFun (after0_6 m c t) _).trans ((h t y).trans (congrArg Real.toEReal ?_))
  exact (congr (congr (congrArg r e0) e1) e2).symm

/-- and so is the values'. -/
theorem arr7 {r : ℕ → ℕ → ℕ → ℝ} (h : ∀ t : Fin cfg0.N,
      Is3 (show FVec Ideal S2x512x128 .f32 from (outAt m c t.val t.isLt).dv) fun i a l => r (2 * (t.val / 16) + i) (512 * (t.val % 16) + a) l) :
    Is3 (show FVec Ideal S8x8192x128 .bf16 from (dats m 0 c).arrAt 7 cfg0.N) r := fun i => by
  refine (dats m 0 c).arrAt_forall_of_covers 7 (fun i v => v = ((r (i 0).val (i 1).val (i 2).val : ℝ) : EReal)) (by decide +kernel) (fun t hf y => ?_) i
  have e0 : ((win0_7.blk t).view.emb y 0 : ℕ) = 2 * (t.val / 16) + (y 0).val := by blk_simp; have := index7 t; omega
  have e1 : ((win0_7.blk t).view.emb y 1 : ℕ) = 512 * (t.val % 16) + (y 1).val := by blk_simp; have := index7 t; omega
  have e2 : ((win0_7.blk t).view.emb y 2 : ℕ) = (y 2).val := by blk_simp; have := index7 t; omega
  refine (congrFun (after0_7 m c t) _).trans ((h t y).trans (congrArg Real.toEReal ?_))
  exact (congr (congr (congrArg r e0) e1) e2).symm

/-- The gradient of the augmented queries, -/
theorem arr_dq (hO : Operands m c O) :
    Is3 (show FVec Ideal S8x8192x128 .f32 from (dats m 0 c).arrAt 5 cfg0.N) fun g t l => ∑ u ∈ range 8192, O.ds g t u * O.ka g u l :=
  arr5 (r := fun g t l => ∑ u ∈ range 8192, O.ds g t u * O.ka g u l) fun t ht => by
    have h := dqTo_succ _ _ (outAt_upto hO t.val t.isLt)
    rw [ht] at h
    exact h

/-- of the augmented keys, -/
theorem arr_dk (hO : Operands m c O) :
    Is3 (show FVec Ideal S8x8192x128 .f32 from (dats m 0 c).arrAt 6 cfg0.N) fun g u l => ∑ t ∈ range 8192, O.ds g t u * O.ql g t l :=
  arr6 (r := fun g u l => ∑ t ∈ range 8192, O.ds g t u * O.ql g t l) fun t => (outAt_upto hO t.val t.isLt).dk

/-- and of the augmented values. -/
theorem arr_dv (hO : Operands m c O) :
    Is3 (show FVec Ideal S8x8192x128 .bf16 from (dats m 0 c).arrAt 7 cfg0.N) fun g u l => ∑ t ∈ range 8192, O.pr g t u * O.doa g t l :=
  arr7 (r := fun g u l => ∑ t ∈ range 8192, O.pr g t u * O.doa g t l) fun t => (outAt_upto hO t.val t.isLt).dv

end Cert.KernelIdeal.Value
-- ==== Proof.Spec.lean ====
/- The gradient of the forgetting attention over the real numbers: its formulas, and what the softmax and the row sums of
   the cotangent satisfy. -/
module

public import Mathlib.Analysis.SpecialFunctions.Log.Basic
public import Mathlib.Algebra.BigOperators.Field
public import Mathlib.Algebra.Order.BigOperators.Group.Finset

@[expose] public section

noncomputable section

namespace Cert.Fox

open Finset

/-- The attention's arguments and its cotangent, as real functions of row, head and lane; `c` is the running sum of the
    log forget gates. -/
structure Data where
  q : ℕ → ℕ → ℕ → ℝ
  k : ℕ → ℕ → ℕ → ℝ
  v : ℕ → ℕ → ℕ → ℝ
  g : ℕ → ℕ → ℕ → ℝ
  c : ℕ → ℕ → ℝ

namespace Data

variable (D : Data) (h t u : ℕ)

/-- The score of query `t` with key `u`. -/
def score : ℝ := (∑ d ∈ range 64, D.q t h d * D.k u h d) * (1 / 8) + D.c t h - D.c u h

/-- The weight of key `u` for query `t`, against a reference value `M`: nothing for a later key. -/
def weight (M : ℝ) : ℝ := if u ≤ t then Real.exp (D.score h t u - M) else 0

/-- The sum of a query's weights. -/
def total (M : ℝ) : ℝ := ∑ u ∈ range 8192, D.weight h t u M

/-- The probability of key `u` for query `t`. -/
def prob : ℝ := D.weight h t u 0 / D.total h t 0

/-- The gradient of a probability. -/
def dprob : ℝ := ∑ d ∈ range 64, D.g t h d * D.v u h d

/-- The row's sum of the probabilities' gradients, weighted with the probabilities. -/
def delta : ℝ := ∑ u ∈ range 8192, D.prob h t u * D.dprob h t u

/-- The gradient of a score. -/
def dscore : ℝ := D.prob h t u * (D.dprob h t u - D.delta h t)

/-- The gradient of the queries, -/
def dq (d : ℕ) : ℝ := ∑ u ∈ range 8192, D.dscore h t u * (1 / 8) * D.k u h d
/-- of the keys, -/
def dk (d : ℕ) : ℝ := ∑ t ∈ range 8192, D.dscore h t u * (1 / 8) * D.q t h d
/-- of the values, -/
def dv (d : ℕ) : ℝ := ∑ t ∈ range 8192, D.prob h t u * D.g t h d
/-- and of the gates' running sum. -/
def dc : ℝ := ∑ u ∈ range 8192, D.dscore h t u - ∑ s ∈ range 8192, D.dscore h s t

variable {h t u}

theorem weight_nonneg (M : ℝ) : 0 ≤ D.weight h t u M := by
  unfold weight; split
  · exact (Real.exp_pos _).le
  · exact le_rfl

theorem weight_self_pos (M : ℝ) : 0 < D.weight h t t M := by
  unfold weight; rw [if_pos le_rfl]; exact Real.exp_pos _

theorem total_pos (ht : t < 8192) (M : ℝ) : 0 < D.total h t M :=
  sum_pos' (fun _ _ => D.weight_nonneg M) ⟨t, mem_range.mpr ht, D.weight_self_pos M⟩

/-- The reference value scales a query's weights, -/
theorem weight_shift (M : ℝ) : D.weight h t u M = D.weight h t u 0 * Real.exp (-M) := by
  unfold weight; split
  · rw [← Real.exp_add]; congr 1; ring
  · rw [zero_mul]

/-- and so their sum, -/
theorem total_shift (M : ℝ) : D.total h t M = D.total h t 0 * Real.exp (-M) := by
  unfold total; rw [sum_mul]; exact sum_congr rfl fun _ _ => D.weight_shift M

/-- and leaves the probability. -/
theorem prob_eq (M : ℝ) : D.weight h t u M / D.total h t M = D.prob h t u := by
  rw [weight_shift, total_shift, prob, mul_div_mul_right _ _ (Real.exp_ne_zero _)]

/-- The same with the row's log-sum inside the exponential. -/
theorem prob_exp (ht : t < 8192) (M : ℝ) :
    (if u ≤ t then Real.exp (D.score h t u - (M + Real.log (D.total h t M))) else 0) = D.prob h t u := by
  rw [← D.prob_eq M, weight]
  split
  · rw [← sub_sub, Real.exp_sub, Real.exp_log (D.total_pos ht M)]
  · rw [zero_div]

/-- A later key has no probability, -/
theorem prob_late (h' : t < u) : D.prob h t u = 0 := by
  unfold prob weight; rw [if_neg (by omega), zero_div]

/-- and no gradient. -/
theorem dscore_late (h' : t < u) : D.dscore h t u = 0 := by
  unfold dscore; rw [D.prob_late h', zero_mul]

/-- The row's sum is the cotangent's product with the attention's output. -/
theorem delta_out : ∑ d ∈ range 64, D.g t h d * ∑ u ∈ range 8192, D.prob h t u * D.v u h d = D.delta h t := by
  unfold delta dprob
  simp only [mul_sum]
  rw [sum_comm]
  exact sum_congr rfl fun _ _ => sum_congr rfl fun _ _ => by ring

/-- The gradient of a score by the softmax's own derivative, with the weights and their sum in it. -/
theorem dscore_softmax (ht : t < 8192) (M : ℝ) :
    (D.dprob h t u * (1 / D.total h t M) + -∑ w ∈ range 8192, D.dprob h t w * (1 / (D.total h t M * D.total h t M)) * D.weight h t w M) * D.weight h t u M
      = D.dscore h t u := by
  have hT := (D.total_pos (h := h) ht M).ne'
  have : ∑ w ∈ range 8192, D.dprob h t w * (1 / (D.total h t M * D.total h t M)) * D.weight h t w M = D.delta h t / D.total h t M := by
    unfold delta
    rw [sum_div]
    refine sum_congr rfl fun w _ => ?_
    rw [← D.prob_eq M]; field_simp
  rw [this, dscore, ← D.prob_eq M]
  field_simp
  ring

end Data

end Cert.Fox
-- ==== Proof.Reals.lean ====
/- Host operations on arrays of reals: each keeps an array real, and its elements are the operation's on the reals. -/
module

public import proofs.«01_k».proof.Proof.Tile
public import Idealize.ShloMosaic.Lib.IdealHost
public import Idealize.ShloMosaic.Lib.ValueLayout

@[expose] public section

set_option maxRecDepth 16384

noncomputable section

namespace Cert.KernelIdeal.Value

open Idealize.ShloMosaic Idealize.ShloMosaic.ValueIdx
open Finset

variable {A B C : ℕ} {φ : FTy}

/-! ## Real arrays -/

/-- The reals of an array of extended reals. -/
def reals2 (x : (⟨2, ![A, B]⟩ : Shape).Idx → EReal) : ℕ → ℕ → ℝ :=
  fun a b => if h : a < A ∧ b < B then (x (ix2 ⟨a, h.1⟩ ⟨b, h.2⟩)).toReal else 0
/-- The same with three axes. -/
def reals3 (x : (⟨3, ![A, B, C]⟩ : Shape).Idx → EReal) : ℕ → ℕ → ℕ → ℝ :=
  fun a b c => if h : a < A ∧ b < B ∧ c < C then (x (ix3 ⟨a, h.1⟩ ⟨b, h.2.1⟩ ⟨c, h.2.2⟩)).toReal else 0

theorem is2_reals {x : (⟨2, ![A, B]⟩ : Shape).Idx → EReal} (h : ∀ i, x i ≠ ⊥ ∧ x i ≠ ⊤) : Is2 x (reals2 x) := fun i => by
  have e : (i 0).val < A ∧ (i 1).val < B := ⟨(i 0).isLt, (i 1).isLt⟩
  rw [reals2, dif_pos e]
  exact (EReal.coe_toReal (h i).2 (h i).1).symm.trans (congrArg (fun j => ((x j).toReal : EReal)) (eq_ix2 i))

theorem is3_reals {x : (⟨3, ![A, B, C]⟩ : Shape).Idx → EReal} (h : ∀ i, x i ≠ ⊥ ∧ x i ≠ ⊤) : Is3 x (reals3 x) := fun i => by
  have e : (i 0).val < A ∧ (i 1).val < B ∧ (i 2).val < C := ⟨(i 0).isLt, (i 1).isLt, (i 2).isLt⟩
  rw [reals3, dif_pos e]
  exact (EReal.coe_toReal (h i).2 (h i).1).symm.trans (congrArg (fun j => ((x j).toReal : EReal)) (eq_ix3 i))

/-- A host's absolute value below the pattern of +∞ is a real number. -/
theorem real_of_abs_lt {x : EReal} (h : Ideal.cmp .olt (max x (-x)) (Ideal.ofBits .f32 0x7F800000#32) = 1#1) : x ≠ ⊥ ∧ x ≠ ⊤ := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨EReal.coe_ne_bot r, EReal.coe_ne_top r⟩

theorem eighth : Ideal.ofBits .f32 0x3E000000#32 = (((1 : ℝ) / 8 : ℝ) : EReal) := by
  simp [Ideal.ofBits, Ideal.ieee]
  rw [← EReal.coe_mul]
  norm_num

section Pointwise

variable {x y : FVec Ideal ⟨3, ![A, B, C]⟩ φ} {r s : ℕ → ℕ → ℕ → ℝ} {x' y' : FVec Ideal ⟨2, ![A, B]⟩ φ} {r' s' : ℕ → ℕ → ℝ}

theorem Is3.add (hx : Is3 x r) (hy : Is3 y s) : Is3 (addf x y) fun a b c => r a b c + s a b c := fun i => by
  show x i + y i = _; rw [hx, hy, ← EReal.coe_add]
theorem Is3.sub (hx : Is3 x r) (hy : Is3 y s) : Is3 (subf x y) fun a b c => r a b c - s a b c := fun i => by
  show x i - y i = _; rw [hx, hy, ← EReal.coe_sub]
theorem Is3.mul (hx : Is3 x r) (hy : Is3 y s) : Is3 (mulf x y) fun a b c => r a b c * s a b c := fun i => by
  show x i * y i = _; rw [hx, hy, ← EReal.coe_mul]
theorem Is3.neg (hx : Is3 x r) : Is3 (Host.negf x) fun a b c => -r a b c := fun i => by
  show -(x i) = _; rw [hx, ← EReal.coe_neg]
theorem Is3.div (hx : Is3 x r) (hy : Is3 y s) (h : ∀ a b c, a < A → b < B → c < C → s a b c ≠ 0) :
    Is3 (Host.divf x y) fun a b c => r a b c / s a b c := fun i => by
  show Ideal.div (x i) (y i) = _
  rw [hx, hy, Ideal.div_coe (h _ _ _ (i 0).isLt (i 1).isLt (i 2).isLt), ← EReal.coe_mul]
  congr 1; ring
theorem Is3.log (hx : Is3 x r) (h : ∀ a b c, a < A → b < B → c < C → 0 < r a b c) :
    Is3 (Host.log x) fun a b c => Real.log (r a b c) := fun i => by
  show Ideal.log (x i) = _
  rw [hx, Ideal.log_coe, if_neg (not_le.mpr (h _ _ _ (i 0).isLt (i 1).isLt (i 2).isLt))]
theorem Is3.splat {w : BitVec 32} {q : ℝ} (hq : Ideal.ofBits .f32 w = (q : EReal))
    (h : (⟨0, ![]⟩ : Shape).BroadcastsInDim ⟨3, ![A, B, C]⟩ ![]) :
    Is3 (broadcastInDim ⟨3, ![A, B, C]⟩ ![] h (constant (F := Ideal) ⟨0, ![]⟩ .f32 w)) fun _ _ _ => q := fun i => by
  rw [broadcastInDim_scalar_apply]; exact hq
theorem Is2.add (hx : Is2 x' r') (hy : Is2 y' s') : Is2 (addf x' y') fun a b => r' a b + s' a b := fun i => by
  show x' i + y' i = _; rw [hx, hy, ← EReal.coe_add]
theorem Is2.sub (hx : Is2 x' r') (hy : Is2 y' s') : Is2 (subf x' y') fun a b => r' a b - s' a b := fun i => by
  show x' i - y' i = _; rw [hx, hy, ← EReal.coe_sub]

end Pointwise

/-! ## Layout -/

section Layout

variable {x : (⟨3, ![A, B, C]⟩ : Shape).Idx → EReal} {r : ℕ → ℕ → ℕ → ℝ} {x' : (⟨2, ![A, B]⟩ : Shape).Idx → EReal} {r' : ℕ → ℕ → ℝ}

theorem Is3.swap01 (hx : Is3 x r) (h : (⟨3, ![A, B, C]⟩ : Shape).Transposes [1, 0, 2] ⟨3, ![B, A, C]⟩) :
    Is3 (transpose ⟨3, ![B, A, C]⟩ [1, 0, 2] x h) fun a b c => r b a c := fun i =>
  (transpose_apply _ x h i (ix3 (i 1) (i 0) (i 2)) fun c => match c with | ⟨0, _⟩ => rfl | ⟨1, _⟩ => rfl | ⟨2, _⟩ => rfl).trans (hx _)
theorem Is3.rotl (hx : Is3 x r) (h : (⟨3, ![A, B, C]⟩ : Shape).Transposes [1, 2, 0] ⟨3, ![B, C, A]⟩) :
    Is3 (transpose ⟨3, ![B, C, A]⟩ [1, 2, 0] x h) fun a b c => r c a b := fun i =>
  (transpose_apply _ x h i (ix3 (i 2) (i 0) (i 1)) fun c => match c with | ⟨0, _⟩ => rfl | ⟨1, _⟩ => rfl | ⟨2, _⟩ => rfl).trans (hx _)
theorem Is3.rotr (hx : Is3 x r) (h : (⟨3, ![A, B, C]⟩ : Shape).Transposes [2, 0, 1] ⟨3, ![C, A, B]⟩) :
    Is3 (transpose ⟨3, ![C, A, B]⟩ [2, 0, 1] x h) fun a b c => r b c a := fun i =>
  (transpose_apply _ x h i (ix3 (i 1) (i 2) (i 0)) fun c => match c with | ⟨0, _⟩ => rfl | ⟨1, _⟩ => rfl | ⟨2, _⟩ => rfl).trans (hx _)
theorem Is2.swap (hx : Is2 x' r') (h : (⟨2, ![A, B]⟩ : Shape).Transposes [1, 0] ⟨2, ![B, A]⟩) :
    Is2 (transpose ⟨2, ![B, A]⟩ [1, 0] x' h) fun a b => r' b a := fun i =>
  (transpose_apply _ x' h i (ix2 (i 1) (i 0)) fun c => match c with | ⟨0, _⟩ => rfl | ⟨1, _⟩ => rfl).trans (hx _)

/-- A table as a column, -/
theorem Is2.column (hx : Is2 x' r') (hA : A ≠ 1) (hB : B ≠ 1) (h : (⟨2, ![A, B]⟩ : Shape).BroadcastsInDim ⟨3, ![A, B, 1]⟩ ![0, 1]) :
    Is3 (broadcastInDim ⟨3, ![A, B, 1]⟩ ![0, 1] h x') fun a b _ => r' a b := fun i =>
  (broadcastInDim_apply _ h x' i (ix2 (i 0) (i 1)) fun a => match a with
    | ⟨0, _⟩ => (if_neg hA).symm | ⟨1, _⟩ => (if_neg hB).symm).trans (hx _)
/-- repeated along a new last axis, -/
theorem Is2.repeat (hx : Is2 x' r') (hA : A ≠ 1) (hB : B ≠ 1) (h : (⟨2, ![A, B]⟩ : Shape).BroadcastsInDim ⟨3, ![A, B, C]⟩ ![0, 1]) :
    Is3 (broadcastInDim ⟨3, ![A, B, C]⟩ ![0, 1] h x') fun a b _ => r' a b := fun i =>
  (broadcastInDim_apply _ h x' i (ix2 (i 0) (i 1)) fun a => match a with
    | ⟨0, _⟩ => (if_neg hA).symm | ⟨1, _⟩ => (if_neg hB).symm).trans (hx _)
/-- and a column repeated. -/
theorem Is3.repeat {x : (⟨3, ![A, B, 1]⟩ : Shape).Idx → EReal} (hx : Is3 x fun a b _ => r' a b) (hA : A ≠ 1) (hB : B ≠ 1)
    (h : (⟨3, ![A, B, 1]⟩ : Shape).BroadcastsInDim ⟨3, ![A, B, C]⟩ ![0, 1, 2]) :
    Is3 (broadcastInDim ⟨3, ![A, B, C]⟩ ![0, 1, 2] h x) fun a b _ => r' a b := fun i =>
  (broadcastInDim_apply _ h x i (ix3 (i 0) (i 1) 0) fun a => match a with
    | ⟨0, _⟩ => (if_neg hA).symm | ⟨1, _⟩ => (if_neg hB).symm | ⟨2, _⟩ => rfl).trans (hx _)
/-- A table as one row of each matrix, -/
theorem Is2.row (hx : Is2 x' r') (hA : A ≠ 1) (hB : B ≠ 1) (h : (⟨2, ![A, B]⟩ : Shape).BroadcastsInDim ⟨3, ![A, 1, B]⟩ ![0, 2]) :
    Is3 (broadcastInDim ⟨3, ![A, 1, B]⟩ ![0, 2] h x') fun a _ b => r' a b := fun i =>
  (broadcastInDim_apply _ h x' i (ix2 (i 0) (i 2)) fun a => match a with
    | ⟨0, _⟩ => (if_neg hA).symm | ⟨1, _⟩ => (if_neg hB).symm).trans (hx _)
/-- repeated. -/
theorem Is3.repeatRow {x : (⟨3, ![A, 1, C]⟩ : Shape).Idx → EReal} (hx : Is3 x fun a _ b => r' a b) (hA : A ≠ 1) (hC : C ≠ 1)
    (h : (⟨3, ![A, 1, C]⟩ : Shape).BroadcastsInDim ⟨3, ![A, B, C]⟩ ![0, 1, 2]) :
    Is3 (broadcastInDim ⟨3, ![A, B, C]⟩ ![0, 1, 2] h x) fun a _ b => r' a b := fun i =>
  (broadcastInDim_apply _ h x i (ix3 (i 0) 0 (i 2)) fun a => match a with
    | ⟨0, _⟩ => (if_neg hA).symm | ⟨1, _⟩ => rfl | ⟨2, _⟩ => (if_neg hC).symm).trans (hx _)

/-- A row-major recast between a table and a column of tables, -/
theorem Is2.cast1 (hx : Is2 x' r') (h : (⟨2, ![A, B]⟩ : Shape).ShapeCasts ⟨3, ![A, B, 1]⟩) :
    Is3 (shapeCast ⟨3, ![A, B, 1]⟩ x' h) fun a b _ => r' a b := fun i =>
  (shapeCast_apply x' h i (ix2 (i 0) (i 1)) (by
    have := (i 2).isLt
    rw [Shape.rowMajor_val_two, Shape.rowMajor_val_three]
    show (i 0).val * B + (i 1).val = ((i 0).val * B + (i 1).val) * 1 + (i 2).val
    have : (i 2).val < 1 := this
    omega)).trans (hx _)
/-- back, -/
theorem Is3.cast1 {x : (⟨3, ![A, B, 1]⟩ : Shape).Idx → EReal} (hx : Is3 x fun a b _ => r' a b) (h : (⟨3, ![A, B, 1]⟩ : Shape).ShapeCasts ⟨2, ![A, B]⟩) :
    Is2 (shapeCast ⟨2, ![A, B]⟩ x h) r' := fun i =>
  (shapeCast_apply x h i (ix3 (i 0) (i 1) 0) (by
    rw [Shape.rowMajor_val_two, Shape.rowMajor_val_three]
    show ((i 0).val * B + (i 1).val) * 1 + 0 = (i 0).val * B + (i 1).val
    omega)).trans (hx _)
/-- and to one row of each matrix. -/
theorem Is2.castRow (hx : Is2 x' r') (h : (⟨2, ![A, B]⟩ : Shape).ShapeCasts ⟨3, ![A, 1, B]⟩) :
    Is3 (shapeCast ⟨3, ![A, 1, B]⟩ x' h) fun a _ b => r' a b := fun i =>
  (shapeCast_apply x' h i (ix2 (i 0) (i 2)) (by
    have h1 := (i 1).isLt
    rw [Shape.rowMajor_val_two, Shape.rowMajor_val_three]
    show (i 0).val * B + (i 2).val = ((i 0).val * 1 + (i 1).val) * B + (i 2).val
    have h1 : (i 1).val < 1 := h1
    have : (i 1).val = 0 := by omega
    rw [this]; ring)).trans (hx _)

/-- The lanes from `o` on. -/
theorem Is3.lanes {n : ℕ} (o : ℕ) (hx : Is3 x r) (h : (⟨3, ![A, B, C]⟩ : Shape).Slices ![0, 0, o] ⟨3, ![A, B, n]⟩) (ho : o + n ≤ C) :
    Is3 (extractStridedSlice ⟨3, ![A, B, n]⟩ ![0, 0, o] x h) fun a b c => r a b (o + c) := fun i =>
  (extractStridedSlice_apply _ x h i (ix3 (i 0) (i 1) ⟨o + (i 2).val, lt_of_lt_of_le (Nat.add_lt_add_left (i 2).isLt o) ho⟩) fun a => match a with
    | ⟨0, _⟩ => (Nat.zero_add _).symm | ⟨1, _⟩ => (Nat.zero_add _).symm | ⟨2, _⟩ => rfl).trans (hx _)

end Layout

/-! ## Sums along an axis -/

section Sums

variable {x : FVec Ideal ⟨3, ![A, B, C]⟩ .f32} {r : ℕ → ℕ → ℕ → ℝ}

theorem Is3.sum2 (hx : Is3 x r) (h : (⟨3, ![A, B, C]⟩ : Shape).ReducesTo [2] ⟨2, ![A, B]⟩) (h' : (⟨3, ![A, B, C]⟩ : Shape).Reduces [2] ⟨2, ![A, B]⟩) (hu) :
    Is2 (Host.reduceAdd x (constant (F := Ideal) ⟨0, ![]⟩ .f32 0#32) h hu) fun a b => ∑ c ∈ range C, r a b c := fun i => by
  rw [hostReduceAdd_apply, Ideal.hostReduceAdd_single h h', coe_sum_range, constant_apply, Ideal.ofBits_zero_f32, zero_add]
  exact Finset.sum_congr rfl fun k _ => hx _

theorem Is3.sum1 (hx : Is3 x r) (h : (⟨3, ![A, B, C]⟩ : Shape).ReducesTo [1] ⟨2, ![A, C]⟩) (h' : (⟨3, ![A, B, C]⟩ : Shape).Reduces [1] ⟨2, ![A, C]⟩) (hu) :
    Is2 (Host.reduceAdd x (constant (F := Ideal) ⟨0, ![]⟩ .f32 0#32) h hu) fun a c => ∑ b ∈ range B, r a b c := fun i => by
  rw [hostReduceAdd_apply, Ideal.hostReduceAdd_single h h', coe_sum_range, constant_apply, Ideal.ofBits_zero_f32, zero_add]
  exact Finset.sum_congr rfl fun k _ => hx _

end Sums

end Cert.KernelIdeal.Value
-- ==== Proof.Attention.lean ====
/- The forgetting attention's forward values on the host: the gates' running sum, the masked scores, the row maxima, the
   weights and their sums, as both programs take them, and that from real arguments they are real. -/
module

public import proofs.«01_k».proof.Proof.Spec
public import proofs.«01_k».proof.Proof.Reals

@[expose] public section

set_option maxRecDepth 16384

noncomputable section

namespace Cert.Fox

open Idealize.ShloMosaic Idealize.ShloMosaic.ValueIdx
open Cert.KernelIdeal Cert.KernelIdeal.Gen
open Cert.KernelIdeal.Value
open Finset

section Defs

variable {F : FTy → Type} [FloatOps F]

/-- A splat of the table of gates. -/
def zeros : FVec F S8192x8 .f32 := broadcastInDim S8192x8 ![] bcast_S_S8192x8 (constant S_ .f32 0x00000000#32)

/-- The log of the logistic function, element by element. -/
def logSigmoid (f : FVec F S8192x8 .f32) : FVec F S8192x8 .f32 :=
  Host.negf (select (cmpf .une (subf (Host.negf f) zeros) (subf (Host.negf f) zeros)) (addf (Host.negf f) zeros)
    (addf (maximumf (Host.negf f) zeros) (Host.log1p (Host.exp (Host.negf (Host.absf (subf (Host.negf f) zeros)))))))

/-- The gates' running sum over the rows, heads first. -/
def gates (f : FVec F S8192x8 .f32) : FVec F S8x8192 .f32 :=
  transpose S8x8192 [1, 0] (Host.reduceWindowAdd ![8192, 1] ![1, 1] ![8191, 0] ![0, 0] (logSigmoid f)
    (broadcastInDim S_ ![] bcast_S_S_ (constant S_ .f32 0x00000000#32)) reduceWindows_S8192x8_S8192x8_w8192s1p8191_0_w1s1p0_0 h_S_)
    transposes_S8192x8_S8x8192_1_0

/-- Which keys a query sees. -/
def seen : IVec S8x8192x8192 1 :=
  broadcastInDim S8x8192x8192 ![1, 2] bcast_S8192x8192_S8x8192x8192_1_2
    (cmpi .sle (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- The scores, -/
def scores (q k : FVec F S8192x8x64 .f32) (f : FVec F S8192x8 .f32) : FVec F S8x8192x8192 .f32 :=
  subf (addf (mulf (Host.dotGeneral dot_S8192x8x64_S8192x8x64_S8x8192x8192_2_2_0_0_1_1 none q k)
      (broadcastInDim S8x8192x8192 ![] bcast_S_S8x8192x8192 (constant S_ .f32 0x3E000000#32)))
      (broadcastInDim S8x8192x8192 ![0, 1, 2] bcast_S8x8192x1_S8x8192x8192_0_1_2 (broadcastInDim S8x8192x1 ![0, 1] bcast_S8x8192_S8x8192x1_0_1 (gates f))))
    (broadcastInDim S8x8192x8192 ![0, 1, 2] bcast_S8x1x8192_S8x8192x8192_0_1_2 (broadcastInDim S8x1x8192 ![0, 2] bcast_S8x8192_S8x1x8192_0_2 (gates f)))

/-- with the later keys' at −∞. -/
def masked (q k : FVec F S8192x8x64 .f32) (f : FVec F S8192x8 .f32) : FVec F S8x8192x8192 .f32 :=
  select seen (scores q k f) (broadcastInDim S8x8192x8192 ![] bcast_S_S8x8192x8192 (constant S_ .f32 0xFF800000#32))

/-- The greatest score of each query. -/
def rowMax (q k : FVec F S8192x8x64 .f32) (f : FVec F S8192x8 .f32) : FVec F S8x8192 .f32 :=
  Host.reduce FloatOps.maximumf (masked q k f) (constant S_ .f32 0xFF800000#32) reducesTo_S8x8192x8192_S8x8192_d2 h_S_

end Defs

/-! ## The gates -/

theorem logSigmoid_real {f : FVec Ideal S8192x8 .f32} {r : ℕ → ℕ → ℝ} (hf : Is2 f r) (i : S8192x8.Idx) : ∃ y : ℝ, logSigmoid f i = (y : EReal) := by
  obtain ⟨x, hx⟩ : ∃ x : ℝ, f i = (x : EReal) := ⟨_, hf i⟩
  have hz : (zeros (F := Ideal)) i = 0 := by
    unfold zeros; rw [broadcastInDim_scalar_apply]; exact Ideal.ofBits_zero_f32
  show ∃ y : ℝ, -(Scalar.select (Ideal.cmp .une (-(f i) - zeros (F := Ideal) i) (-(f i) - zeros (F := Ideal) i)) (-(f i) + zeros (F := Ideal) i)
    (max (-(f i)) (zeros (F := Ideal) i) + Ideal.log (1 + Ideal.exp (-(max (-(f i) - zeros (F := Ideal) i) (-(-(f i) - zeros (F := Ideal) i))))))) = (y : EReal)
  rw [hx, hz, show Ideal.cmp .une (-(x : EReal) - 0) (-(x : EReal) - 0) = 0#1 by simp [Ideal.cmp], select_zero]
  refine ⟨-(max (-x) 0 + Real.log (1 + Real.exp (-(max (-x) (-(-x)))))), ?_⟩
  rw [sub_zero, ← EReal.coe_neg, ← EReal.coe_neg, ← EReal.coe_zero, ← EReal.coe_strictMono.monotone.map_max, ← EReal.coe_strictMono.monotone.map_max, ← EReal.coe_neg, Ideal.exp_coe,
    ← EReal.coe_one, ← EReal.coe_add, Ideal.log_coe, if_neg (not_le.mpr (by positivity)), ← EReal.coe_add, ← EReal.coe_neg]

/-- A fold of exact sums of reals is real. -/
theorem foldl_real {ι : Type} (l : List ι) (g : ι → EReal) (hg : ∀ i, ∃ y : ℝ, g i = (y : EReal)) (a : ℝ) :
    ∃ y : ℝ, l.foldl (fun r n => r + g n) (a : EReal) = (y : EReal) := by
  induction l generalizing a with
  | nil => exact ⟨a, rfl⟩
  | cons n l ih =>
    obtain ⟨y, hy⟩ := hg n
    simp only [List.foldl_cons, hy, ← EReal.coe_add]
    exact ih (a + y)

theorem gates_real {f : FVec Ideal S8192x8 .f32} {r : ℕ → ℕ → ℝ} (hf : Is2 f r) : Is2 (gates f) (reals2 (gates f)) := by
  refine is2_reals fun i => ?_
  suffices h : ∃ y : ℝ, gates f i = (y : EReal) by
    obtain ⟨y, hy⟩ := h; rw [hy]; exact ⟨EReal.coe_ne_bot y, EReal.coe_ne_top y⟩
  have hz : (broadcastInDim S_ ![] bcast_S_S_ (constant (F := Ideal) S_ .f32 0x00000000#32)) (Shape.Idx.first h_S_) = ((0 : ℝ) : EReal) := by
    rw [broadcastInDim_scalar_apply]; exact Ideal.ofBits_zero_f32
  unfold gates transpose Host.reduceWindowAdd
  rw [Ideal.hostReduceWindowAdd_def, hz]
  unfold Ideal.hostReduceWindowAdd Host.reduceWindow
  refine foldl_real _ _ (fun n => ?_) 0
  split
  · exact logSigmoid_real hf _
  · exact ⟨0, rfl⟩

/-! ## The scores -/

theorem seen_apply (i : S8x8192x8192.Idx) : seen i = if (i 2).val ≤ (i 1).val then 1#1 else 0#1 := by
  have h1 : (i 1).val < 8192 := (i 1).isLt
  have h2 : (i 2).val < 8192 := (i 2).isLt
  have hc : seen i = BitVec.ofBool (decide ((i 2).val ≤ (i 1).val)) :=
    WordCmp.cmpi_sle_ofNat (w := 32) (a := (i 2).val) (b := (i 1).val) (by omega) (by omega)
  rw [hc]
  split
  · rw [decide_eq_true (by assumption)]; rfl
  · rw [decide_eq_false (by assumption)]; rfl

/-- Rows of the queries against rows of the keys, head by head. -/
theorem dot_qk {q k : FVec Ideal S8192x8x64 .f32} {a b : ℕ → ℕ → ℕ → ℝ} (hq : Is3 q a) (hk : Is3 k b) :
    Is3 (Host.dotGeneral dot_S8192x8x64_S8192x8x64_S8x8192x8192_2_2_0_0_1_1 none q k) fun h t u => ∑ d ∈ range 64, a t h d * b u h d := fun j => by
  simp only [Host.dotGeneral]
  rw [Ideal.dotGeneral_apply, ← Equiv.sum_comp (contrEquiv1 dot_S8192x8x64_S8192x8x64_S8x8192x8192_2_2_0_0_1_1 64 rfl rfl).symm, coe_sum_range]
  refine Finset.sum_congr rfl fun l _ => ?_
  rw [hq, hk, ← EReal.coe_mul]
  rfl

/-- The arguments of the attention and its cotangent as real numbers. -/
structure Args (q k v g : FVec Ideal S8192x8x64 .f32) (f : FVec Ideal S8192x8 .f32) (D : Data) : Prop where
  q : Is3 q D.q
  k : Is3 k D.k
  v : Is3 v D.v
  g : Is3 g D.g
  c : Is2 (gates f) fun h t => D.c t h

variable {q k v g : FVec Ideal S8192x8x64 .f32} {f : FVec Ideal S8192x8 .f32} {D : Data} (hD : Args q k v g f D)

include hD

theorem scores_is : Is3 (scores q k f) D.score :=
  (((dot_qk hD.q hD.k).mul (Is3.splat eighth _)).add (Is3.repeat (hD.c.column (by decide) (by decide) _) (by decide) (by decide) _)).sub
    (Is3.repeatRow (hD.c.row (by decide) (by decide) _) (by decide) (by decide) _)

theorem masked_apply (i : S8x8192x8192.Idx) :
    masked q k f i = if (i 2).val ≤ (i 1).val then ((D.score (i 0).val (i 1).val (i 2).val : ℝ) : EReal) else ⊥ := by
  have hb : Ideal.ofBits .f32 0xFF800000#32 = ⊥ := by simp [Ideal.ofBits, Ideal.ieee]
  show Scalar.select (seen i) (scores q k f i) (broadcastInDim S8x8192x8192 ![] bcast_S_S8x8192x8192 (constant (F := Ideal) S_ .f32 0xFF800000#32) i) = _
  rw [seen_apply, scores_is hD, broadcastInDim_scalar_apply, constant_apply, hb]
  split
  · exact select_one _ _
  · exact select_zero _ _

/-! ## The row maxima -/

omit hD in
/-- A fold of maxima from −∞ over values below +∞, one of them above −∞. -/
theorem foldl_max_real {ι : Type} (l : List ι) (x : ι → EReal) (hx : ∀ i, x i ≠ ⊤) (a : EReal) (ha : a ≠ ⊤) (h : a ≠ ⊥ ∨ ∃ i ∈ l, x i ≠ ⊥) :
    l.foldl (fun r n => max r (x n)) a ≠ ⊥ ∧ l.foldl (fun r n => max r (x n)) a ≠ ⊤ := by
  induction l generalizing a with
  | nil => exact ⟨h.resolve_right (by simp), ha⟩
  | cons n l ih =>
    refine ih (max a (x n)) (by rcases max_choice a (x n) with e | e <;> rw [e]; exacts [ha, hx n]) ?_
    rcases h with h | ⟨i, hi, h⟩
    · exact .inl fun e => h (le_bot_iff.mp (e ▸ le_max_left a (x n)))
    · rcases List.mem_cons.mp hi with rfl | hi
      · exact .inl fun e => h (le_bot_iff.mp (e ▸ le_max_right a (x i)))
      · exact .inr ⟨i, hi, h⟩

/-- A row's maximum. -/
def top (q k : FVec Ideal S8192x8x64 .f32) (f : FVec Ideal S8192x8 .f32) : ℕ → ℕ → ℝ := reals2 (rowMax q k f)

theorem rowMax_is : Is2 (rowMax q k f) (top q k f) := by
  refine is2_reals fun i => ?_
  have hb : (constant (F := Ideal) S_ .f32 0xFF800000#32) (Shape.Idx.first h_S_) = ⊥ := by
    show Ideal.ofBits .f32 0xFF800000#32 = ⊥
    simp [Ideal.ofBits, Ideal.ieee]
  unfold rowMax Host.reduce
  rw [hb]
  refine foldl_max_real _ _ (fun n => ?_) ⊥ (by simp) (.inr ⟨S8x8192x8192.rowMajor (ix3 (i 0) (i 1) (i 1)), ?_, ?_⟩)
  · rw [masked_apply hD]
    split
    · exact EReal.coe_ne_top _
    · simp
  · refine List.mem_filter.mpr ⟨List.mem_finRange _, ?_⟩
    rw [Equiv.symm_apply_apply]
    exact decide_eq_true (funext fun a => match a with | ⟨0, _⟩ => rfl | ⟨1, _⟩ => rfl)
  · rw [Equiv.symm_apply_apply, masked_apply hD, if_pos (le_refl _)]
    exact EReal.coe_ne_bot _

/-! ## The weights -/

/-- The weights against the row maxima, from the maxima repeated along the keys. -/
theorem weights_is {M : FVec Ideal S8x8192x8192 .f32} {a : ℕ → ℕ → ℝ} (hM : Is3 M fun h t _ => a h t) :
    Is3 (Host.exp (subf (masked q k f) M)) fun h t u => D.weight h t u (a h t) := fun i => by
  show Ideal.exp (masked q k f i - M i) = _
  rw [masked_apply hD, hM]
  unfold Data.weight
  dsimp only
  split
  · rw [← EReal.coe_sub, Ideal.exp_coe]
  · rw [EReal.bot_sub, Ideal.exp_bot]; rfl

end Cert.Fox
-- ==== Proof.Prefix.lean ====
/- What the host passes to the attention gradient's launch: five arrays of 128 lanes, a head's rows in lanes 0 to 63 and, beyond
   them, the gates, the row's log-sum and the cotangent's row sum, each as three summands. -/
module

public import proofs.«01_k».proof.Proof.Run
public import proofs.«01_k».proof.Proof.Attention
public import Idealize.ShloMosaic.Lib.StableHlo.RunRead

@[expose] public section

set_option maxRecDepth 16384

noncomputable section

namespace Cert.KernelIdeal.Value

open Cert.KernelIdeal Cert.KernelIdeal.Gen Cert.Fox
open Idealize.ShloMosaic Idealize.ShloMosaic.TcCoe

variable {F : FTy → Type} [FloatOps F] [Named F]

/-! ## The arrays -/

/-- A column's first summand: its values rounded to bf16, -/
def high (x : FVec F S8x8192x1 .f32) : FVec F S8x8192x1 .f32 := extf .f32 (truncf .bf16 x bitsLt_bf16_f32) bitsLt_bf16_f32
/-- the second: the rest, rounded, -/
def mid (x : FVec F S8x8192x1 .f32) : FVec F S8x8192x1 .f32 := high (subf x (high x))
/-- and the third. -/
def low (x : FVec F S8x8192x1 .f32) : FVec F S8x8192x1 .f32 := high (subf (subf x (high x)) (mid x))

/-- Heads first. -/
def heads (x : FVec F S8192x8x64 .f32) : FVec F S8x8192x64 .f32 := transpose S8x8192x64 [1, 0, 2] x transposes_S8192x8x64_S8x8192x64_1_0_2

/-- A table as a column, -/
def column (x : FVec F S8x8192 .f32) : FVec F S8x8192x1 .f32 := broadcastInDim S8x8192x1 ![0, 1] bcast_S8x8192_S8x8192x1_0_1 x
/-- and a column repeated along the keys. -/
def spread (x : FVec F S8x8192x1 .f32) : FVec F S8x8192x8192 .f32 := broadcastInDim S8x8192x8192 ![0, 1, 2] bcast_S8x8192x1_S8x8192x8192_0_1_2 x

def ones3 : FVec F S8x8192x3 .f32 := broadcastInDim S8x8192x3 ![] bcast_S_S8x8192x3 (constant S_ .f32 0x3F800000#32)

variable (q k v g : FVec F S8192x8x64 .f32) (f : FVec F S8192x8 .f32)

/-- The weights against the row maxima, -/
def weights : FVec F S8x8192x8192 .f32 := Host.exp (subf (masked q k f) (spread (column (rowMax q k f))))
/-- their sums, -/
def totals : FVec F S8x8192x1 .f32 :=
  column (Host.reduceAdd (weights q k f) (constant S_ .f32 0x00000000#32) reducesTo_S8x8192x8192_S8x8192_d2 h_S_)
/-- the attention's output, -/
def output : FVec F S8x8192x64 .f32 :=
  Host.dotGeneral dot_S8x8192x8192_S8192x8x64_S8x8192x64_2_0_1_2_0_1 none (Host.divf (weights q k f) (spread (totals q k f))) v
/-- the cotangent's row sums over it, -/
def rowSums : FVec F S8x8192x1 .f32 :=
  column (Host.reduceAdd (mulf (heads g) (output q k v f)) (constant S_ .f32 0x00000000#32) reducesTo_S8x8192x64_S8x8192_d2 h_S_)
/-- and the row's log-sum, negated. -/
def logSums : FVec F S8x8192x1 .f32 := Host.negf (addf (column (rowMax q k f)) (Host.log (totals q k f)))

/-- The queries' array, -/
def arrQ : FVec F S8x8192x128 .bf16 :=
  truncf .bf16 (concatenate S8x8192x128 2
    [⟨S8x8192x64, mulf (heads q) (broadcastInDim S8x8192x64 ![] bcast_S_S8x8192x64 (constant S_ .f32 0x3E000000#32))⟩, ⟨S8x8192x1, high (column (gates f))⟩,
     ⟨S8x8192x1, mid (column (gates f))⟩, ⟨S8x8192x1, low (column (gates f))⟩, ⟨S8x8192x3, ones3⟩,
     ⟨S8x8192x58, broadcastInDim S8x8192x58 ![] bcast_S_S8x8192x58 (constant S_ .f32 0x00000000#32)⟩]
    concatenates_S8x8192x64_S8x8192x1_S8x8192x1_S8x8192x1_S8x8192x3_S8x8192x58_S8x8192x128_d2) bitsLt_bf16_f32
/-- the log-sums', -/
def arrL : FVec F S8x8192x128 .bf16 :=
  truncf .bf16 (concatenate S8x8192x128 2
    [⟨S8x8192x70, broadcastInDim S8x8192x70 ![] bcast_S_S8x8192x70 (constant S_ .f32 0x00000000#32)⟩, ⟨S8x8192x1, high (logSums q k f)⟩,
     ⟨S8x8192x1, mid (logSums q k f)⟩, ⟨S8x8192x1, low (logSums q k f)⟩,
     ⟨S8x8192x55, broadcastInDim S8x8192x55 ![] bcast_S_S8x8192x55 (constant S_ .f32 0x00000000#32)⟩]
    concatenates_S8x8192x70_S8x8192x1_S8x8192x1_S8x8192x1_S8x8192x55_S8x8192x128_d2) bitsLt_bf16_f32
/-- the cotangents', -/
def arrG : FVec F S8x8192x128 .bf16 :=
  truncf .bf16 (concatenate S8x8192x128 2
    [⟨S8x8192x64, heads g⟩, ⟨S8x8192x1, high (Host.negf (rowSums q k v g f))⟩, ⟨S8x8192x1, mid (Host.negf (rowSums q k v g f))⟩,
     ⟨S8x8192x1, low (Host.negf (rowSums q k v g f))⟩,
     ⟨S8x8192x61, broadcastInDim S8x8192x61 ![] bcast_S_S8x8192x61 (constant S_ .f32 0x00000000#32)⟩]
    concatenates_S8x8192x64_S8x8192x1_S8x8192x1_S8x8192x1_S8x8192x61_S8x8192x128_d2) bitsLt_bf16_f32
/-- the keys' -/
def arrK : FVec F S8x8192x128 .bf16 :=
  truncf .bf16 (concatenate S8x8192x128 2
    [⟨S8x8192x64, heads k⟩, ⟨S8x8192x3, ones3⟩, ⟨S8x8192x1, Host.negf (high (column (gates f)))⟩,
     ⟨S8x8192x1, Host.negf (mid (column (gates f)))⟩, ⟨S8x8192x1, Host.negf (low (column (gates f)))⟩, ⟨S8x8192x3, ones3⟩,
     ⟨S8x8192x55, broadcastInDim S8x8192x55 ![] bcast_S_S8x8192x55 (constant S_ .f32 0x00000000#32)⟩]
    concatenates_S8x8192x64_S8x8192x3_S8x8192x1_S8x8192x1_S8x8192x1_S8x8192x3_S8x8192x55_S8x8192x128_d2) bitsLt_bf16_f32
/-- and the values'. -/
def arrV : FVec F S8x8192x128 .bf16 :=
  truncf .bf16 (concatenate S8x8192x128 2
    [⟨S8x8192x64, heads v⟩, ⟨S8x8192x3, ones3⟩,
     ⟨S8x8192x61, broadcastInDim S8x8192x61 ![] bcast_S_S8x8192x61 (constant S_ .f32 0x00000000#32)⟩]
    concatenates_S8x8192x64_S8x8192x3_S8x8192x61_S8x8192x128_d2) bitsLt_bf16_f32

/-! ## The host's lines leave them -/

/-- Pieces with equal values make equal lists. -/
theorem pieces_cons {ty : FTy} {s : Shape} {x y : FVec F s ty} {l l' : List (Σ s : Shape, FVec F s ty)} (hx : x = y) (hl : l = l') :
    (⟨s, x⟩ :: l : List (Σ s : Shape, FVec F s ty)) = ⟨s, y⟩ :: l' := by
  rw [hx, hl]

section Reads

variable (m : (ℓ : Loc nD τ sig) → Buf (Elt F) ℓ) (c : Dev nD)

theorem host_v : V m c main_v70 = arrV (m ((c.tc : Thread nD τ).loc main_arg2)) := by
  unfold V V0
  simp only [hostOps0, hostOps0_1, hostOps0_2, hostOps0_3, hostOps0_4, List.flatten_cons, List.flatten_nil, List.append_nil]
  simp (disch := decide) only [StableHlo.readAfter, StableHlo.readUpto, StableHlo.unary_result', StableHlo.nary_result']
  refine congrArg (truncf .bf16 · bitsLt_bf16_f32) (StableHlo.concatenate_congr _ _ (pieces_cons ?_ (pieces_cons ?_ (pieces_cons ?_ rfl))) _ _)
  · show StableHlo.upto _ _ _ (Proc.devRef .tc main_v31) = _
    after_reads_simp
    rfl
  · show StableHlo.upto _ _ _ (Proc.devRef .tc main_v36) = _
    after_reads_simp
    rfl
  · show StableHlo.upto _ _ _ (Proc.devRef .tc main_v68) = _
    after_reads_simp

theorem host_q : V m c main_v51 = arrQ (m ((c.tc : Thread nD τ).loc main_arg0)) (m ((c.tc : Thread nD τ).loc main_arg3)) := by
  unfold V V0
  simp only [hostOps0, hostOps0_1, hostOps0_2, hostOps0_3, hostOps0_4, List.flatten_cons, List.flatten_nil, List.append_nil]
  simp (disch := decide) only [StableHlo.readAfter, StableHlo.readUpto, StableHlo.unary_result', StableHlo.nary_result']
  refine congrArg (truncf .bf16 · bitsLt_bf16_f32) (StableHlo.concatenate_congr _ _ (pieces_cons ?_ (pieces_cons ?_ (pieces_cons ?_ (pieces_cons ?_ (pieces_cons ?_ (pieces_cons ?_ rfl)))))) _ _)
  · show StableHlo.upto _ _ _ (Proc.devRef .tc main_v38) = _
    after_reads_simp
    rfl
  · show StableHlo.upto _ _ _ (Proc.devRef .tc main_v41) = _
    after_reads_simp
    simp only [StableHlo.TRef.toBuf, StableHlo.TRef.ofBuf, cast_eq]
    rfl
  · show StableHlo.upto _ _ _ (Proc.devRef .tc main_v44) = _
    after_reads_simp
    simp only [StableHlo.TRef.toBuf, StableHlo.TRef.ofBuf, cast_eq]
    rfl
  · show StableHlo.upto _ _ _ (Proc.devRef .tc main_v48) = _
    after_reads_simp
    simp only [StableHlo.TRef.toBuf, StableHlo.TRef.ofBuf, cast_eq]
    rfl
  · show StableHlo.upto _ _ _ (Proc.devRef .tc main_v36) = _
    after_reads_simp
    rfl
  · show StableHlo.upto _ _ _ (Proc.devRef .tc main_v49) = _
    after_reads_simp

theorem host_k : V m c main_v67 = arrK (m ((c.tc : Thread nD τ).loc main_arg1)) (m ((c.tc : Thread nD τ).loc main_arg3)) := by
  unfold V V0
  simp only [hostOps0, hostOps0_1, hostOps0_2, hostOps0_3, hostOps0_4, List.flatten_cons, List.flatten_nil, List.append_nil]
  simp (disch := decide) only [StableHlo.readAfter, StableHlo.readUpto, StableHlo.unary_result', StableHlo.nary_result']
  refine congrArg (truncf .bf16 · bitsLt_bf16_f32) (StableHlo.concatenate_congr _ _ (pieces_cons ?_ (pieces_cons ?_ (pieces_cons ?_ (pieces_cons ?_ (pieces_cons ?_ (pieces_cons ?_ (pieces_cons ?_ rfl))))))) _ _)
  · show StableHlo.upto _ _ _ (Proc.devRef .tc main_v30) = _
    after_reads_simp
    rfl
  · show StableHlo.upto _ _ _ (Proc.devRef .tc main_v36) = _
    after_reads_simp
    rfl
  · show StableHlo.upto _ _ _ (Proc.devRef .tc main_v62) = _
    after_reads_simp
    simp only [StableHlo.TRef.toBuf, StableHlo.TRef.ofBuf, cast_eq]
    rfl
  · show StableHlo.upto _ _ _ (Proc.devRef .tc main_v63) = _
    after_reads_simp
    simp only [StableHlo.TRef.toBuf, StableHlo.TRef.ofBuf, cast_eq]
    rfl
  · show StableHlo.upto _ _ _ (Proc.devRef .tc main_v64) = _
    after_reads_simp
    simp only [StableHlo.TRef.toBuf, StableHlo.TRef.ofBuf, cast_eq]
    rfl
  · show StableHlo.upto _ _ _ (Proc.devRef .tc main_v36) = _
    after_reads_simp
    rfl
  · show StableHlo.upto _ _ _ (Proc.devRef .tc main_v65) = _
    after_reads_simp

theorem host_l : V m c main_v86 = arrL (m ((c.tc : Thread nD τ).loc main_arg0)) (m ((c.tc : Thread nD τ).loc main_arg1)) (m ((c.tc : Thread nD τ).loc main_arg3)) := by
  unfold V V0
  simp only [hostOps0, hostOps0_1, hostOps0_2, hostOps0_3, hostOps0_4, List.flatten_cons, List.flatten_nil, List.append_nil]
  simp (disch := decide) only [StableHlo.readAfter, StableHlo.readUpto, StableHlo.unary_result', StableHlo.nary_result']
  refine congrArg (truncf .bf16 · bitsLt_bf16_f32) (StableHlo.concatenate_congr _ _ (pieces_cons ?_ (pieces_cons ?_ (pieces_cons ?_ (pieces_cons ?_ (pieces_cons ?_ rfl))))) _ _)
  · show StableHlo.upto _ _ _ (Proc.devRef .tc main_v71) = _
    after_reads_simp
  · show StableHlo.upto _ _ _ (Proc.devRef .tc main_v76) = _
    after_reads_simp
    simp only [StableHlo.TRef.toBuf, StableHlo.TRef.ofBuf, cast_eq]
    rfl
  · show StableHlo.upto _ _ _ (Proc.devRef .tc main_v79) = _
    after_reads_simp
    simp only [StableHlo.TRef.toBuf, StableHlo.TRef.ofBuf, cast_eq]
    rfl
  · show StableHlo.upto _ _ _ (Proc.devRef .tc main_v83) = _
    after_reads_simp
    simp only [StableHlo.TRef.toBuf, StableHlo.TRef.ofBuf, cast_eq]
    rfl
  · show StableHlo.upto _ _ _ (Proc.devRef .tc main_v84) = _
    after_reads_simp

theorem host_g : V m c main_v99 = arrG (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg3)) := by
  unfold V V0
  simp only [hostOps0, hostOps0_1, hostOps0_2, hostOps0_3, hostOps0_4, List.flatten_cons, List.flatten_nil, List.append_nil]
  simp (disch := decide) only [StableHlo.readAfter, StableHlo.readUpto, StableHlo.unary_result', StableHlo.nary_result']
  refine congrArg (truncf .bf16 · bitsLt_bf16_f32) (StableHlo.concatenate_congr _ _ (pieces_cons ?_ (pieces_cons ?_ (pieces_cons ?_ (pieces_cons ?_ (pieces_cons ?_ rfl))))) _ _)
  · show StableHlo.upto _ _ _ (Proc.devRef .tc main_v32) = _
    after_reads_simp
    rfl
  · show StableHlo.upto _ _ _ (Proc.devRef .tc main_v89) = _
    after_reads_simp
    simp only [StableHlo.TRef.toBuf, StableHlo.TRef.ofBuf, cast_eq]
    rfl
  · show StableHlo.upto _ _ _ (Proc.devRef .tc main_v92) = _
    after_reads_simp
    simp only [StableHlo.TRef.toBuf, StableHlo.TRef.ofBuf, cast_eq]
    rfl
  · show StableHlo.upto _ _ _ (Proc.devRef .tc main_v96) = _
    after_reads_simp
    simp only [StableHlo.TRef.toBuf, StableHlo.TRef.ofBuf, cast_eq]
    rfl
  · show StableHlo.upto _ _ _ (Proc.devRef .tc main_v97) = _
    after_reads_simp

end Reads

end Cert.KernelIdeal.Value
-- ==== Proof.Ref.lean ====
/- The reference's results over the extended reals: from real arguments they are the attention's gradient. -/
module

public import proofs.«01_k».proof.Proof.Attention
public import proofs.«01_k».proof.Proof.Gen.ReferenceIdeal.Read

@[expose] public section

set_option maxRecDepth 16384

noncomputable section

namespace Cert.Fox

open Idealize.ShloMosaic Idealize.ShloMosaic.ValueIdx
open Cert.ReferenceIdeal Cert.ReferenceIdeal.Gen Cert.ReferenceIdeal.Read
open Cert.KernelIdeal.Value (Is2 Is3 coe_sum_range reals2 eighth)
open Finset

/-! ## The products -/

section Dots

variable {a b : ℕ → ℕ → ℕ → ℝ}

/-- Cotangents against values, head by head, -/
theorem dot_gv {x : FVec Ideal S8x64x8192 .f32} {y : FVec Ideal S8192x8x64 .f32} (hx : Is3 x a) (hy : Is3 y b) :
    Is3 (Host.dotGeneral dot_S8x64x8192_S8192x8x64_S8x8192x8192_1_2_2_0_0_1 none x y) fun h t u => ∑ d ∈ range 64, a h d t * b u h d := fun j => by
  simp only [Host.dotGeneral]
  rw [Ideal.dotGeneral_apply, ← Equiv.sum_comp (contrEquiv1 dot_S8x64x8192_S8192x8x64_S8x8192x8192_1_2_2_0_0_1 64 rfl rfl).symm, coe_sum_range]
  refine Finset.sum_congr rfl fun l _ => ?_
  rw [hx, hy, ← EReal.coe_mul]
  rfl

/-- cotangents against probabilities, summed over the queries, -/
theorem dot_gp {x : FVec Ideal S8x64x8192 .f32} {y : FVec Ideal S8x8192x8192 .f32} (hx : Is3 x a) (hy : Is3 y b) :
    Is3 (Host.dotGeneral dot_S8x64x8192_S8x8192x8192_S8x64x8192_2_1_1_2_0_0 none x y) fun h d u => ∑ t ∈ range 8192, a h d t * b h t u := fun j => by
  simp only [Host.dotGeneral]
  rw [Ideal.dotGeneral_apply, ← Equiv.sum_comp (contrEquiv1 dot_S8x64x8192_S8x8192x8192_S8x64x8192_2_1_1_2_0_0 8192 rfl rfl).symm, coe_sum_range]
  refine Finset.sum_congr rfl fun l _ => ?_
  rw [hx, hy, ← EReal.coe_mul]
  rfl

/-- a square table against rows, summed over its rows, -/
theorem dot_rows_of {x : FVec Ideal S8x8192x8192 .f32} {y : FVec Ideal S8192x8x64 .f32} (hx : Is3 x a) (hy : Is3 y b) :
    Is3 (Host.dotGeneral dot_S8x8192x8192_S8192x8x64_S8x8192x64_1_0_2_2_0_1 none x y) fun h u d => ∑ t ∈ range 8192, a h t u * b t h d := fun j => by
  simp only [Host.dotGeneral]
  rw [Ideal.dotGeneral_apply, ← Equiv.sum_comp (contrEquiv1 dot_S8x8192x8192_S8192x8x64_S8x8192x64_1_0_2_2_0_1 8192 rfl rfl).symm, coe_sum_range]
  refine Finset.sum_congr rfl fun l _ => ?_
  rw [hx, hy, ← EReal.coe_mul]
  rfl

/-- and over its columns. -/
theorem dot_cols_of {x : FVec Ideal S8x8192x8192 .f32} {y : FVec Ideal S8192x8x64 .f32} (hx : Is3 x a) (hy : Is3 y b) :
    Is3 (Host.dotGeneral dot_S8x8192x8192_S8192x8x64_S8x8192x64_2_0_1_2_0_1 none x y) fun h t d => ∑ u ∈ range 8192, a h t u * b u h d := fun j => by
  simp only [Host.dotGeneral]
  rw [Ideal.dotGeneral_apply, ← Equiv.sum_comp (contrEquiv1 dot_S8x8192x8192_S8192x8x64_S8x8192x64_2_0_1_2_0_1 8192 rfl rfl).symm, coe_sum_range]
  refine Finset.sum_congr rfl fun l _ => ?_
  rw [hx, hy, ← EReal.coe_mul]
  rfl

end Dots

variable {q k v g : FVec Ideal S8192x8x64 .f32} {f : FVec Ideal S8192x8 .f32} {D : Data} (hD : Args q k v g f D)

include hD

/-! ## The softmax -/

omit hD in
theorem ref_masked {F : FTy → Type} [FloatOps F] (q k : FVec F S8192x8x64 .f32) (f : FVec F S8192x8 .f32) :
    val_main_v18_0 (F := F) q k f = masked q k f := rfl

omit hD in
theorem ref_rowMax {F : FTy → Type} [FloatOps F] (q k : FVec F S8192x8x64 .f32) (f : FVec F S8192x8 .f32) :
    val_main_v19 (F := F) q k f = rowMax q k f := by
  unfold val_main_v19 rowMax; rw [ref_masked]; rfl

theorem ref_max : Is2 (val_main_v26 (F := Ideal) q k f) (top q k f) := fun i => by
  have hb : FloatOps.ofBits (F := Ideal) .f32 0xFF800000#32 = ⊥ := by
    show Ideal.ofBits .f32 0xFF800000#32 = ⊥
    simp [Ideal.ofBits, Ideal.ieee]
  rw [val_main_v26_apply, val_main_v25_apply, val_main_cst_3_apply, hb, ref_rowMax, rowMax_is hD]
  exact max_eq_right bot_le

theorem ref_weights : Is3 (val_main_v39 (F := Ideal) q k f) fun h t u => D.weight h t u (top q k f h t) :=
  weights_is hD (Is3.repeat ((ref_max hD).column (by decide) (by decide) _) (by decide) (by decide) _)

theorem ref_totals : Is3 (val_main_v41 (F := Ideal) q k f) fun h t _ => D.total h t (top q k f h t) :=
  ((ref_weights hD).sum2 _ (by decide) _).column (by decide) (by decide) _

theorem ref_probs : Is3 (val_main_v43 (F := Ideal) q k f) D.prob :=
  ((ref_weights hD).div ((ref_totals hD).repeat (by decide) (by decide) _) fun h t _ _ ht _ => (D.total_pos ht _).ne').congr
    fun _ _ _ _ _ _ => D.prob_eq _

/-! ## The gradient of the scores -/

theorem ref_dprobs : Is3 (val_main_v50 (F := Ideal) v g) D.dprob := dot_gv (hD.g.rotl _) hD.v

theorem ref_rowSums : Is2 (val_main_v61 (F := Ideal) q k v f g) fun h t =>
    -∑ w ∈ range 8192, D.dprob h t w * (1 / (D.total h t (top q k f h t) * D.total h t (top q k f h t))) * D.weight h t w (top q k f h t) := by
  have h1 : Ideal.ofBits .f32 0x3F800000#32 = ((1 : ℝ) : EReal) := Ideal.ofBits_one_f32
  have h46 : Is3 (val_main_v46 (F := Ideal) q k f) fun h t _ => 1 / (D.total h t (top q k f h t) * D.total h t (top q k f h t)) :=
    (Is3.splat h1 _).div ((ref_totals hD).mul (ref_totals hD)) fun h t _ _ ht _ => mul_ne_zero (D.total_pos ht _).ne' (D.total_pos ht _).ne'
  have h55 : Is3 (val_main_v55 (F := Ideal) q k v f g) fun h t w => D.dprob h t w * (1 / (D.total h t (top q k f h t) * D.total h t (top q k f h t))) * D.weight h t w (top q k f h t) :=
    ((ref_dprobs hD).mul (h46.repeat (by decide) (by decide) _)).mul (ref_weights hD)
  exact ((((h55.sum2 _ (by decide) _).cast1 _).neg).sum2 _ (by decide) _).congr fun _ _ _ _ => sum_range_one _

theorem ref_inner : Is3 (val_main_v64 (F := Ideal) q k v f g) D.dscore :=
  ((((ref_dprobs hD).div ((ref_totals hD).repeat (by decide) (by decide) _) fun h t _ _ ht _ => (D.total_pos ht _).ne').add
    ((ref_rowSums hD).repeat (by decide) (by decide) _)).mul (ref_weights hD)).congr fun h _ t ht u _ => by
      rw [div_eq_mul_one_div]; exact D.dscore_softmax ht _

theorem ref_dscores : Is3 (val_main_v65 (F := Ideal) q k v f g) D.dscore := fun i => by
  have h0 : val_main_call3_v0 (F := Ideal) i = 0 := by
    rw [val_main_call3_v0_apply]; exact Ideal.ofBits_zero_f32
  show Scalar.select (seen i) (val_main_v64 (F := Ideal) q k v f g i) (val_main_call3_v0 (F := Ideal) i) = _
  rw [seen_apply, ref_inner hD, h0]
  split
  · exact select_one _ _
  · rename_i h
    rw [D.dscore_late (not_le.mp h)]; exact select_zero _ _

/-! ## The results -/

theorem ref_dc : Is2 (val_main_v74 (F := Ideal) q k v f g) fun t h => D.dc h t :=
  ((((((ref_dscores hD).neg.sum1 _ (by decide) _).castRow _).sum1 _ (by decide) _).add
    (((((ref_dscores hD).sum2 _ (by decide) _).cast1 _).sum2 _ (by decide) _))).swap _).congr fun t _ h _ => by
      rw [sum_range_one, sum_range_one, sum_neg_distrib]; unfold Data.dc; ring

theorem ref_scaled : Is3 (val_main_v76 (F := Ideal) q k v f g) fun h t u => D.dscore h t u * (1 / 8) :=
  (ref_dscores hD).mul (Is3.splat eighth _)

theorem ref_dk : Is3 (val_main_v78 (F := Ideal) q k v f g) fun u h d => D.dk h u d := (dot_rows_of (ref_scaled hD) hD.q).swap01 _

theorem ref_dq : Is3 (val_main_v80 (F := Ideal) q k v f g) fun t h d => D.dq h t d := (dot_cols_of (ref_scaled hD) hD.k).swap01 _

theorem ref_dv : Is3 (val_main_v52 (F := Ideal) q k f g) fun u h d => D.dv h u d :=
  ((dot_gp (hD.g.rotl _) (ref_probs hD)).rotr _).congr fun _ _ _ _ _ _ => sum_congr rfl fun _ _ => mul_comm _ _

end Cert.Fox
-- ==== Proof.Packed.lean ====
/- The launch's five arrays as real numbers, and what the gradient's sums over their lanes are: the probabilities and the
   gradients of the scores. -/
module

public import proofs.«01_k».proof.Proof.Arrays
public import proofs.«01_k».proof.Proof.Prefix
public import proofs.«01_k».proof.Proof.Ref
public import Idealize.ShloMosaic.Lib.Pointwise.SelectCore

@[expose] public section

set_option maxRecDepth 16384

noncomputable section

namespace Cert.KernelIdeal.Value

open Cert.KernelIdeal Cert.KernelIdeal.Gen Cert.Fox
open Idealize.ShloMosaic Idealize.ShloMosaic.ValueIdx Idealize.ShloMosaic.TcCoe
open Finset

/-! ## Concatenated lanes -/

/-- Tables side by side, each with its number of lanes. -/
def glue : List (ℕ × (ℕ → ℕ → ℕ → ℝ)) → ℕ → ℕ → ℕ → ℝ
  | [], _, _, _ => 0
  | (n, r) :: l, a, b, c => if c < n then r a b c else glue l a b (c - n)

/-- Each array of a list is real, with its table's numbers. -/
inductive Pieces (A B : ℕ) : List ((s : Shape) × (s.Idx → EReal)) → List (ℕ × (ℕ → ℕ → ℕ → ℝ)) → Prop
  | nil : Pieces A B [] []
  | cons {n : ℕ} {x : (⟨3, ![A, B, n]⟩ : Shape).Idx → EReal} {r : ℕ → ℕ → ℕ → ℝ} {xs l} (hx : Is3 x r) (h : Pieces A B xs l) :
      Pieces A B (⟨⟨3, ![A, B, n]⟩, x⟩ :: xs) ((n, r) :: l)

theorem Pieces.at {A B C : ℕ} {xs : List ((s : Shape) × (s.Idx → EReal))} {l} (h : Pieces A B xs l) (j : (⟨3, ![A, B, C]⟩ : Shape).Idx) :
    ∀ (hs) (c : ℕ) (hc), concatenateAt ⟨3, ![A, B, C]⟩ 2 j xs hs c hc = ((glue l (j 0).val (j 1).val c : ℝ) : EReal) := by
  induction h with
  | nil => intro hs c hc; exact absurd hc (by simp [axisSizes])
  | @cons n x r xs l hx h ih =>
    intro hs c hc
    cases xs with
    | nil =>
      have hlt : c < n := by
        rw [axisSizes_cons _ _ _ _ (hs _ List.mem_cons_self)] at hc
        simpa [axisSizes, Shape.size] using hc
      rw [concatenateAt_singleton, glue, if_pos hlt]
      exact hx _
    | cons q xs =>
      rw [concatenateAt_cons, glue]
      by_cases hlt : c < n
      · rw [if_pos hlt]
        exact Eq.trans (dif_pos (by exact hlt)) (hx _)
      · rw [if_neg hlt]
        exact Eq.trans (dif_neg (by exact hlt)) (ih _ _ _)

/-- A concatenation of real arrays. -/
theorem Pieces.concat {A B C : ℕ} {xs : List ((s : Shape) × (s.Idx → EReal))} {l} (h : Pieces A B xs l) (hc) :
    Is3 (concatenate ⟨3, ![A, B, C]⟩ 2 xs hc) (glue l) := fun j => by
  rw [concatenate_apply]; exact h.at j _ _ _

/-! ## The three summands -/

section Split

variable {x : FVec Ideal S8x8192x1 .f32} {r : ℕ → ℕ → ℕ → ℝ} (hx : Is3 x r)
include hx

/-- Where rounding keeps a number, the first summand is the number -/
theorem high_is : Is3 (high x) r := fun i => hx i
/-- and the others are 0. -/
theorem mid_is : Is3 (mid x) fun _ _ _ => 0 :=
  (high_is (hx.sub (high_is hx))).congr fun _ _ _ _ _ _ => sub_self _
theorem low_is : Is3 (low x) fun _ _ _ => 0 :=
  (high_is ((hx.sub (high_is hx)).sub (mid_is hx))).congr fun _ _ _ _ _ _ => by rw [sub_self, sub_zero]

end Split

/-! ## The arrays -/

theorem ones3_is : Is3 (ones3 (F := Ideal)) fun _ _ _ => 1 := Is3.splat Ideal.ofBits_one_f32 _

theorem column_is {x : FVec Ideal S8x8192 .f32} {r : ℕ → ℕ → ℝ} (hx : Is2 x r) : Is3 (column x) fun a b _ => r a b :=
  hx.column (by decide) (by decide) bcast_S8x8192_S8x8192x1_0_1

theorem spread_is {x : FVec Ideal S8x8192x1 .f32} {r : ℕ → ℕ → ℝ} (hx : Is3 x fun a b _ => r a b) : Is3 (spread x) fun a b _ => r a b :=
  hx.repeat (by decide) (by decide) bcast_S8x8192x1_S8x8192x8192_0_1_2

variable {q k v g : FVec Ideal S8192x8x64 .f32} {f : FVec Ideal S8192x8 .f32} {D : Data}

/-- What the attention's arguments leave in the five arrays, with `M` the rows' reference values. -/
def ops (D : Data) (M : ℕ → ℕ → ℝ) : Ops where
  qa := glue [(64, fun h t d => D.q t h d * (1 / 8)), (1, fun h t _ => D.c t h), (1, fun _ _ _ => 0), (1, fun _ _ _ => 0), (3, fun _ _ _ => 1),
    (58, fun _ _ _ => 0)]
  lse := glue [(70, fun _ _ _ => 0), (1, fun h t _ => -(M h t + Real.log (D.total h t (M h t)))), (1, fun _ _ _ => 0), (1, fun _ _ _ => 0),
    (55, fun _ _ _ => 0)]
  doa := glue [(64, fun h t d => D.g t h d), (1, fun h t _ => -D.delta h t), (1, fun _ _ _ => 0), (1, fun _ _ _ => 0), (61, fun _ _ _ => 0)]
  ka := glue [(64, fun h u d => D.k u h d), (3, fun _ _ _ => 1), (1, fun h u _ => -D.c u h), (1, fun _ _ _ => -0), (1, fun _ _ _ => -0),
    (3, fun _ _ _ => 1), (55, fun _ _ _ => 0)]
  va := glue [(64, fun h u d => D.v u h d), (3, fun _ _ _ => 1), (61, fun _ _ _ => 0)]

section Arrays

theorem zero_is : Ideal.ofBits .f32 0x00000000#32 = ((0 : ℝ) : EReal) := Ideal.ofBits_zero_f32

variable (hD : Args q k v g f D)
include hD

theorem gates_is : Is3 (column (gates f)) fun h t _ => D.c t h := column_is hD.c

theorem max_is : Is3 (column (rowMax q k f)) fun h t _ => top q k f h t := column_is (rowMax_is hD)

theorem weights_top : Is3 (weights q k f) fun h t u => D.weight h t u (top q k f h t) := weights_is hD (spread_is (max_is hD))

theorem totals_is : Is3 (totals q k f) fun h t _ => D.total h t (top q k f h t) := column_is ((weights_top hD).sum2 _ (by decide) _)

theorem logSums_is : Is3 (logSums q k f) fun h t _ => -(top q k f h t + Real.log (D.total h t (top q k f h t))) :=
  ((max_is hD).add ((totals_is hD).log fun _ _ _ _ ht _ => D.total_pos ht _)).neg

theorem output_is : Is3 (output q k v f) fun h t d => ∑ u ∈ range 8192, D.prob h t u * D.v u h d :=
  dot_cols_of (((weights_top hD).div (spread_is (totals_is hD)) fun _ _ _ _ ht _ => (D.total_pos ht _).ne').congr
    fun _ _ _ _ _ _ => D.prob_eq _) hD.v

theorem rowSums_is : Is3 (rowSums q k v g f) fun h t _ => D.delta h t :=
  column_is ((((hD.g.swap01 _).mul (output_is hD)).sum2 _ (by decide) _).congr fun _ _ _ _ => D.delta_out)

theorem arrQ_is : Is3 (arrQ q f) (ops D (top q k f)).qa := fun i =>
  Pieces.concat (.cons ((hD.q.swap01 _).mul (Is3.splat eighth _)) (.cons (high_is (gates_is hD)) (.cons (mid_is (gates_is hD))
    (.cons (low_is (gates_is hD)) (.cons ones3_is (.cons (Is3.splat zero_is _) .nil))))))
    concatenates_S8x8192x64_S8x8192x1_S8x8192x1_S8x8192x1_S8x8192x3_S8x8192x58_S8x8192x128_d2 i

theorem arrL_is : Is3 (arrL q k f) (ops D (top q k f)).lse := fun i =>
  Pieces.concat (.cons (Is3.splat zero_is _) (.cons (high_is (logSums_is hD)) (.cons (mid_is (logSums_is hD))
    (.cons (low_is (logSums_is hD)) (.cons (Is3.splat zero_is _) .nil)))))
    concatenates_S8x8192x70_S8x8192x1_S8x8192x1_S8x8192x1_S8x8192x55_S8x8192x128_d2 i

theorem arrG_is : Is3 (arrG q k v g f) (ops D (top q k f)).doa := fun i =>
  Pieces.concat (.cons (hD.g.swap01 _) (.cons (high_is (rowSums_is hD).neg) (.cons (mid_is (rowSums_is hD).neg)
    (.cons (low_is (rowSums_is hD).neg) (.cons (Is3.splat zero_is _) .nil)))))
    concatenates_S8x8192x64_S8x8192x1_S8x8192x1_S8x8192x1_S8x8192x61_S8x8192x128_d2 i

theorem arrK_is : Is3 (arrK k f) (ops D (top q k f)).ka := fun i =>
  Pieces.concat (.cons (hD.k.swap01 _) (.cons ones3_is (.cons (high_is (gates_is hD)).neg (.cons (mid_is (gates_is hD)).neg
    (.cons (low_is (gates_is hD)).neg (.cons ones3_is (.cons (Is3.splat zero_is _) .nil)))))))
    concatenates_S8x8192x64_S8x8192x3_S8x8192x1_S8x8192x1_S8x8192x1_S8x8192x3_S8x8192x55_S8x8192x128_d2 i

theorem arrV_is : Is3 (arrV v) (ops D (top q k f)).va := fun i =>
  Pieces.concat (.cons (hD.v.swap01 _) (.cons ones3_is (.cons (Is3.splat zero_is _) .nil)))
    concatenates_S8x8192x64_S8x8192x3_S8x8192x61_S8x8192x128_d2 i

end Arrays

/-- The launch's operands, where its arguments are real. -/
theorem operands {m : (ℓ : Loc nD τ sig) → Buf (Elt Ideal) ℓ} {c : Dev nD}
    (hD : Args (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg3)) D) :
    Operands m c (ops D (top (m ((c.tc : Thread nD τ).loc main_arg0)) (m ((c.tc : Thread nD τ).loc main_arg1)) (m ((c.tc : Thread nD τ).loc main_arg3)))) where
  qa := fun i => (congrFun (host_q m c) i).trans (arrQ_is hD i)
  lse := fun i => (congrFun (host_l m c) i).trans (arrL_is hD i)
  doa := fun i => (congrFun (host_g m c) i).trans (arrG_is hD i)
  ka := fun i => (congrFun (host_k m c) i).trans (arrK_is hD i)
  va := fun i => (congrFun (host_v m c) i).trans (arrV_is hD i)

/-! ## The sums over the lanes -/

/-- A sum over 128 lanes with nothing from lane 73 on. -/
theorem lane_sum (w : ℕ → ℝ) (h : ∀ l, 73 ≤ l → w l = 0) :
    ∑ l ∈ range 128, w l = ∑ l ∈ range 64, w l + (w 64 + w 65 + w 66 + w 67 + w 68 + w 69 + w 70 + w 71 + w 72) := by
  rw [← Finset.sum_range_add_sum_Ico w (show 73 ≤ 128 by norm_num), Finset.sum_eq_zero fun l hl => h l (Finset.mem_Ico.mp hl).1, add_zero]
  simp only [Finset.sum_range_succ w 72, Finset.sum_range_succ w 71, Finset.sum_range_succ w 70, Finset.sum_range_succ w 69,
    Finset.sum_range_succ w 68, Finset.sum_range_succ w 67, Finset.sum_range_succ w 66, Finset.sum_range_succ w 65, Finset.sum_range_succ w 64]
  ring

variable (M : ℕ → ℕ → ℝ) {h t u : ℕ}

/-- A query's and a key's lanes give the score against the row's log-sum. -/
theorem ops_score : ∑ l ∈ range 128, (ops D M).ka h u l * (ops D M).ql h t l
    = D.score h t u - (M h t + Real.log (D.total h t (M h t))) := by
  rw [lane_sum _ fun l hl => by simp (disch := omega) only [ops, Ops.ql, glue, if_neg, ite_self, zero_mul]]
  rw [Finset.sum_congr rfl fun l hl => show (ops D M).ka h u l * (ops D M).ql h t l = D.q t h l * D.k u h l * (1 / 8) by
    have := Finset.mem_range.mp hl
    simp (disch := omega) only [ops, Ops.ql, glue, if_pos]; ring]
  simp [ops, Ops.ql, glue]
  rw [Data.score, Finset.sum_mul]
  simp only [one_div]
  ring

/-- A value's and a cotangent's lanes give the probability's gradient against the row's sum. -/
theorem ops_dprob : ∑ l ∈ range 128, (ops D M).va h u l * (ops D M).doa h t l = D.dprob h t u - D.delta h t := by
  rw [lane_sum _ fun l hl => by simp (disch := omega) only [ops, glue, if_neg, ite_self, zero_mul]]
  rw [Finset.sum_congr rfl fun l hl => show (ops D M).va h u l * (ops D M).doa h t l = D.g t h l * D.v u h l by
    have := Finset.mem_range.mp hl
    simp (disch := omega) only [ops, glue, if_pos]; ring]
  simp [ops, glue]
  rw [Data.dprob]
  ring

theorem ops_pr (ht : t < 8192) : (ops D M).pr h t u = D.prob h t u := by
  rw [Ops.pr, ops_score]; exact D.prob_exp ht _

theorem ops_ds (ht : t < 8192) : (ops D M).ds h t u = D.dscore h t u := by
  rw [Ops.ds, ops_pr M ht, ops_dprob, Data.dscore]

end Cert.KernelIdeal.Value
-- ==== Proof.Out.lean ====
/- The kernel's four results: the host's lines after the launch, read in the launch's three arrays, and as real numbers. -/
module

public import proofs.«01_k».proof.Proof.Packed

@[expose] public section

set_option maxRecDepth 16384

noncomputable section

namespace Cert.KernelIdeal.Value

open Cert.KernelIdeal Cert.KernelIdeal.Gen Cert.Fox
open Idealize.ShloMosaic Idealize.ShloMosaic.ValueIdx Idealize.ShloMosaic.TcCoe
open Finset

section Host

variable {F : FTy → Type} [FloatOps F] [Named F]

/-- The gradient of the queries from the launch's first array, -/
def outQ (x : FVec F S8x8192x128 .f32) : FVec F S8192x8x64 .f32 :=
  mulf (transpose S8192x8x64 [1, 0, 2] (extractStridedSlice S8x8192x64 ![0, 0, 0] x slices_S8x8192x128_S8x8192x64_0_0_0)
    transposes_S8x8192x64_S8192x8x64_1_0_2) (broadcastInDim S8192x8x64 ![] bcast_S_S8192x8x64 (constant S_ .f32 0x3E000000#32))
/-- of the keys from the second, -/
def outK (y : FVec F S8x8192x128 .f32) : FVec F S8192x8x64 .f32 :=
  transpose S8192x8x64 [1, 0, 2] (extractStridedSlice S8x8192x64 ![0, 0, 0] y slices_S8x8192x128_S8x8192x64_0_0_0)
    transposes_S8x8192x64_S8192x8x64_1_0_2
/-- of the values from the third, -/
def outV (z : FVec F S8x8192x128 .bf16) : FVec F S8192x8x64 .f32 :=
  transpose S8192x8x64 [1, 0, 2] (extf .f32 (extractStridedSlice S8x8192x64 ![0, 0, 0] z slices_S8x8192x128_S8x8192x64_0_0_0) bitsLt_bf16_f32)
    transposes_S8x8192x64_S8192x8x64_1_0_2
/-- and of the gates' running sum from the first two. -/
def outC (x y : FVec F S8x8192x128 .f32) : FVec F S8192x8 .f32 :=
  transpose S8192x8 [1, 0]
    (subf (shapeCast S8x8192 (extractStridedSlice S8x8192x1 ![0, 0, 64] x slices_S8x8192x128_S8x8192x1_0_0_64) shapeCasts_S8x8192x1_S8x8192)
      (shapeCast S8x8192 (extractStridedSlice S8x8192x1 ![0, 0, 67] y slices_S8x8192x128_S8x8192x1_0_0_67) shapeCasts_S8x8192x1_S8x8192))
    transposes_S8x8192_S8192x8_1_0

variable (W : Valuation τ sig (Elt F))

theorem after_q : StableHlo.after [hostOps1].flatten W (Proc.devRef .tc main_v104) = outQ (W (Proc.devRef .tc main_v100_0)) := by
  simp only [List.flatten_cons, List.flatten_nil, List.append_nil]
  after_reads_simp
  rfl
theorem after_k : StableHlo.after [hostOps1].flatten W (Proc.devRef .tc main_v106) = outK (W (Proc.devRef .tc main_v100_1)) := by
  simp only [List.flatten_cons, List.flatten_nil, List.append_nil]
  after_reads_simp
  rfl
theorem after_v : StableHlo.after [hostOps1].flatten W (Proc.devRef .tc main_v109) = outV (W (Proc.devRef .tc main_v100_2)) := by
  simp only [List.flatten_cons, List.flatten_nil, List.append_nil]
  after_reads_simp
  rfl
theorem after_c : StableHlo.after [hostOps1].flatten W (Proc.devRef .tc main_v115)
    = outC (W (Proc.devRef .tc main_v100_0)) (W (Proc.devRef .tc main_v100_1)) := by
  simp only [List.flatten_cons, List.flatten_nil, List.append_nil]
  after_reads_simp
  rfl

theorem windows_inj : Function.Injective (Pipeline.arrRef spec0) := by decide

variable (m : (ℓ : Loc nD τ sig) → Buf (Elt F) ℓ) (ρ : Dev nD → PrngReg)

/-- The buffers once the launch is over. -/
abbrev afterLaunch (c : Dev nD) : Valuation τ sig (Elt F) :=
  Pipeline.withArrays (cfgs 0).spec c (V0 m c) fun w => (dats m 0 c).arrAt w (cfgs 0).N

theorem launch_q (c : Dev nD) : afterLaunch m c (Proc.devRef .tc main_v100_0) = (dats m 0 c).arrAt 5 cfg0.N :=
  Pipeline.withArrays_arr spec0 windows_inj c _ _ 5
theorem launch_k (c : Dev nD) : afterLaunch m c (Proc.devRef .tc main_v100_1) = (dats m 0 c).arrAt 6 cfg0.N :=
  Pipeline.withArrays_arr spec0 windows_inj c _ _ 6
theorem launch_v (c : Dev nD) : afterLaunch m c (Proc.devRef .tc main_v100_2) = (dats m 0 c).arrAt 7 cfg0.N :=
  Pipeline.withArrays_arr spec0 windows_inj c _ _ 7

/-- Every run leaves the four results. -/
theorem run_results : θ_run defs (onTc (τ := τ) (main (F := F))) ⟨m, fun _ => 0, ρ⟩ (fun r => ∀ c : Dev nD,
      r.2.mem ((c.tc : Thread nD τ).loc main_v104) = outQ ((dats m 0 c).arrAt 5 cfg0.N)
      ∧ r.2.mem ((c.tc : Thread nD τ).loc main_v106) = outK ((dats m 0 c).arrAt 6 cfg0.N)
      ∧ r.2.mem ((c.tc : Thread nD τ).loc main_v109) = outV ((dats m 0 c).arrAt 7 cfg0.N)
      ∧ r.2.mem ((c.tc : Thread nD τ).loc main_v115) = outC ((dats m 0 c).arrAt 5 cfg0.N) ((dats m 0 c).arrAt 6 cfg0.N)) :=
  (θ_run defs _ _).mono (fun _ h c => by
    have a := fun b hb => (h.1 c).2 b hb
    refine ⟨?_, ?_, ?_, ?_⟩
    · exact (a main_v104 (Pipeline.mem_restRefs_of main_v104 (by decide) (by decide))).trans
        ((after_q _).trans (congrArg outQ (launch_q m c)))
    · exact (a main_v106 (Pipeline.mem_restRefs_of main_v106 (by decide) (by decide))).trans
        ((after_k _).trans (congrArg outK (launch_k m c)))
    · exact (a main_v109 (Pipeline.mem_restRefs_of main_v109 (by decide) (by decide))).trans
        ((after_v _).trans (congrArg outV (launch_v m c)))
    · exact (a main_v115 (Pipeline.mem_restRefs_of main_v115 (by decide) (by decide))).trans
        ((after_c _).trans (congrArg₂ outC (launch_q m c) (launch_k m c)))) (run_main m ρ)

end Host

/-! ## As real numbers -/

section Reals

variable {x y : FVec Ideal S8x8192x128 .f32} {z : FVec Ideal S8x8192x128 .bf16} {D : Data} {M : ℕ → ℕ → ℝ}
  (hx : Is3 x fun h t l => ∑ u ∈ range 8192, (ops D M).ds h t u * (ops D M).ka h u l)
  (hy : Is3 y fun h u l => ∑ t ∈ range 8192, (ops D M).ds h t u * (ops D M).ql h t l)
  (hz : Is3 z fun h u l => ∑ t ∈ range 8192, (ops D M).pr h t u * (ops D M).doa h t l)

theorem widen_is {w : FVec Ideal S8x8192x64 .bf16} {r : ℕ → ℕ → ℕ → ℝ} (hw : Is3 w r) : Is3 (extf .f32 w bitsLt_bf16_f32) r := fun i => hw i

/-- The lane of a key's array that meets the queries' gates. -/
theorem ka_gate (h u : ℕ) : (ops D M).ka h u (64 + 0) = 1 := by simp [ops, glue]
/-- The lane of a query's array that meets the keys' gates. -/
theorem ql_gate (h t : ℕ) : (ops D M).ql h t (67 + 0) = 1 := by simp [ops, Ops.ql, glue]

include hx in
theorem outQ_is : Is3 (outQ x) fun t h d => D.dq h t d :=
  (((hx.lanes 0 _ (by norm_num)).swap01 _).mul (Is3.splat eighth _)).congr fun t ht h _ d hd => by
    rw [Data.dq, Finset.sum_mul]
    refine Finset.sum_congr rfl fun u _ => ?_
    rw [ops_ds M ht]
    simp (disch := omega) only [ops, glue, if_pos, zero_add]
    ring

include hy in
theorem outK_is : Is3 (outK y) fun u h d => D.dk h u d :=
  ((hy.lanes 0 _ (by norm_num)).swap01 _).congr fun u _ h _ d hd => by
    rw [Data.dk]
    refine Finset.sum_congr rfl fun t ht => ?_
    rw [ops_ds M (Finset.mem_range.mp ht)]
    simp (disch := omega) only [ops, Ops.ql, glue, if_pos, zero_add, add_zero]
    ring

include hz in
theorem outV_is : Is3 (outV z) fun u h d => D.dv h u d :=
  ((widen_is (hz.lanes 0 slices_S8x8192x128_S8x8192x64_0_0_0 (by norm_num))).swap01 _).congr fun u _ h _ d hd => by
    rw [Data.dv]
    refine Finset.sum_congr rfl fun t ht => ?_
    rw [ops_pr M (Finset.mem_range.mp ht)]
    simp (disch := omega) only [ops, glue, if_pos, zero_add]

include hx in
theorem gateQ_is : Is3 (extractStridedSlice S8x8192x1 ![0, 0, 64] x slices_S8x8192x128_S8x8192x1_0_0_64) fun h t _ => ∑ u ∈ range 8192, D.dscore h t u :=
  (hx.lanes 64 slices_S8x8192x128_S8x8192x1_0_0_64 (by norm_num)).congr fun h _ t ht l hl => Finset.sum_congr rfl fun u _ => by
    obtain rfl : l = 0 := by omega
    rw [ops_ds M ht, ka_gate, mul_one]

include hy in
theorem gateK_is : Is3 (extractStridedSlice S8x8192x1 ![0, 0, 67] y slices_S8x8192x128_S8x8192x1_0_0_67) fun h u _ => ∑ t ∈ range 8192, D.dscore h t u :=
  (hy.lanes 67 slices_S8x8192x128_S8x8192x1_0_0_67 (by norm_num)).congr fun h _ u _ l hl => Finset.sum_congr rfl fun t ht => by
    obtain rfl : l = 0 := by omega
    rw [ops_ds M (Finset.mem_range.mp ht), ql_gate, mul_one]

include hx hy in
theorem outC_is : Is2 (outC x y) fun t h => D.dc h t :=
  (((gateQ_is hx).cast1 shapeCasts_S8x8192x1_S8x8192).sub ((gateK_is hy).cast1 shapeCasts_S8x8192x1_S8x8192)).swap _

end Reals

end Cert.KernelIdeal.Value
-- ==== Proof.Equal.lean ====
/- Of finite arguments the kernel's four results and the plain gradient's are the same real numbers. -/
module

public import proofs.«01_k».proof.Proof.Out

@[expose] public section

set_option maxRecDepth 16384

noncomputable section

namespace Cert.KernelIdeal.Value

open Cert.KernelIdeal Cert.KernelIdeal.Gen Cert.Fox Cert.ReferenceIdeal.Read
open Idealize.ShloMosaic Idealize.ShloMosaic.ValueIdx Idealize.ShloMosaic.TcCoe

/-- An array whose absolute values all compare below +∞ is real. -/
theorem real_of_finite {s : Shape} {x : FVec Ideal s .f32} {hb : (⟨0, ![]⟩ : Shape).BroadcastsInDim s ![]}
    (h : cmpf .olt (Host.absf x) (broadcastInDim s ![] hb (constant (F := Ideal) ⟨0, ![]⟩ .f32 0x7F800000#32)) = fun _ => 1#1) (i : s.Idx) :
    x i ≠ ⊥ ∧ x i ≠ ⊤ := by
  have e := congrFun h i
  change Ideal.cmp .olt (max (x i) (-(x i))) (broadcastInDim s ![] hb (constant (F := Ideal) ⟨0, ![]⟩ .f32 0x7F800000#32) i) = 1#1 at e
  rw [broadcastInDim_scalar_apply] at e
  exact real_of_abs_lt e

section Data

variable (q k v g : FVec Ideal S8192x8x64 .f32) (f : FVec Ideal S8192x8 .f32)

/-- The real numbers in the arguments. -/
def realArgs : Data where
  q := reals3 q
  k := reals3 k
  v := reals3 v
  g := reals3 g
  c := fun t h => reals2 (gates f) h t

theorem args_of_real (hq : ∀ i, q i ≠ ⊥ ∧ q i ≠ ⊤) (hk : ∀ i, k i ≠ ⊥ ∧ k i ≠ ⊤) (hv : ∀ i, v i ≠ ⊥ ∧ v i ≠ ⊤)
    (hf : ∀ i, f i ≠ ⊥ ∧ f i ≠ ⊤) (hg : ∀ i, g i ≠ ⊥ ∧ g i ≠ ⊤) : Args q k v g f (realArgs q k v g f) where
  q := is3_reals hq
  k := is3_reals hk
  v := is3_reals hv
  g := is3_reals hg
  c := gates_real (is2_reals hf)

end Data

/-- Arrays with the same real numbers are the same. -/
theorem Is3.unique {a b c : ℕ} {x y : (⟨3, ![a, b, c]⟩ : Shape).Idx → EReal} {r : ℕ → ℕ → ℕ → ℝ} (hx : Is3 x r) (hy : Is3 y r) : x = y :=
  funext fun i => (hx i).trans (hy i).symm
theorem Is2.unique {a b : ℕ} {x y : (⟨2, ![a, b]⟩ : Shape).Idx → EReal} {r : ℕ → ℕ → ℝ} (hx : Is2 x r) (hy : Is2 y r) : x = y :=
  funext fun i => (hx i).trans (hy i).symm

section Results

variable {m : (ℓ : Loc nD τ sig) → Buf (Elt Ideal) ℓ} {c : Dev nD} {q k v g : FVec Ideal S8192x8x64 .f32} {f : FVec Ideal S8192x8 .f32} {D : Data}
  (eq : q = m ((c.tc : Thread nD τ).loc main_arg0)) (ek : k = m ((c.tc : Thread nD τ).loc main_arg1))
  (ev : v = m ((c.tc : Thread nD τ).loc main_arg2)) (ef : f = m ((c.tc : Thread nD τ).loc main_arg3))
  (eg : g = m ((c.tc : Thread nD τ).loc main_arg4)) (hD : Args q k v g f D)

include eq ek ev ef eg hD

theorem launched : Operands m c (ops D (top q k f)) := by
  subst eq ek ev ef eg; exact operands hD

theorem equal_q : val_main_v80 (F := Ideal) q k v f g = outQ (F := Ideal) ((dats m 0 c).arrAt 5 cfg0.N) :=
  (ref_dq hD).unique (outQ_is (arr_dq (launched eq ek ev ef eg hD)))
theorem equal_k : val_main_v78 (F := Ideal) q k v f g = outK (F := Ideal) ((dats m 0 c).arrAt 6 cfg0.N) :=
  (ref_dk hD).unique (outK_is (arr_dk (launched eq ek ev ef eg hD)))
theorem equal_v : val_main_v52 (F := Ideal) q k f g = outV (F := Ideal) ((dats m 0 c).arrAt 7 cfg0.N) :=
  (ref_dv hD).unique (outV_is (arr_dv (launched eq ek ev ef eg hD)))
theorem equal_c : val_main_v74 (F := Ideal) q k v f g = outC (F := Ideal) ((dats m 0 c).arrAt 5 cfg0.N) ((dats m 0 c).arrAt 6 cfg0.N) :=
  (ref_dc hD).unique (outC_is (arr_dq (launched eq ek ev ef eg hD)) (arr_dk (launched eq ek ev ef eg hD)))

end Results

end Cert.KernelIdeal.Value
-- ==== Proof.InSpec.lean ====
/- The gradient of the block's entry (a root-mean-square norm, the projection that follows it, the split into heads and the
   forget gate's running sum) over the reals. -/
module

public import proofs.«01_k».proof.Proof.Reals
public import Mathlib.Analysis.SpecialFunctions.Pow.Real

@[expose] public section

noncomputable section

namespace Cert.BwdIn

open Finset

/-- The number under the root that keeps the norm finite. -/
def eps : ℝ := 8796093 / 2 ^ 43

theorem eps_pos : 0 < eps := by unfold eps; positivity

/-- The arguments: the block's input `x`, the norm's gain `g`, the projection `w`, the gate's bias `b`, and the cotangents of
    the two projected halves, of the heads' queries, keys and values, and of the running sum on its two sides. -/
structure Data where
  x : ℕ → ℕ → ℝ
  g : ℕ → ℕ → ℝ
  w : ℕ → ℕ → ℝ
  b : ℕ → ℕ → ℝ
  duv : ℕ → ℕ → ℝ
  dq : ℕ → ℕ → ℕ → ℝ
  dk : ℕ → ℕ → ℕ → ℝ
  dv : ℕ → ℕ → ℕ → ℝ
  dct : ℕ → ℕ → ℝ
  dcs : ℕ → ℕ → ℝ

namespace Data

variable (D : Data)

/-- The mean square of a row, kept above 0. -/
def ms (t : ℕ) : ℝ := (∑ k ∈ range 1024, D.x t k * D.x t k) / 1024 + eps
/-- One over its root. -/
def r (t : ℕ) : ℝ := (Real.sqrt (D.ms t))⁻¹
/-- The normalized row. -/
def n (t k : ℕ) : ℝ := D.x t k * D.r t
/-- The projected row. -/
def z (t j : ℕ) : ℝ := ∑ k ∈ range 1024, D.n t k * D.g 0 k * D.w k j
/-- A head's gate before its sigmoid. -/
def fl (t h : ℕ) : ℝ := D.z t (2560 + h) + D.b 0 h
/-- The gates in 128 lanes, 0 after the heads. -/
def flp (t l : ℕ) : ℝ := if l < 8 then D.fl t l else 0
/-- The cotangent of the running sum, in 128 lanes. -/
def dcum (t l : ℕ) : ℝ := if l < 8 then D.dct t l - D.dcs t l else 0
/-- The cotangent of a gate's logarithm: what all later sums hand back. -/
def dls (t l : ℕ) : ℝ := ∑ s ∈ Ico t 8192, D.dcum s l
/-- The cotangent of the gate before its sigmoid. -/
def dzf (t l : ℕ) : ℝ := D.dls t l * (1 + Real.exp (D.flp t l))⁻¹
/-- The cotangent of the projected row, 0 after its 2568 columns. -/
def dz (t j : ℕ) : ℝ :=
  if j < 1024 then D.duv t j
  else if j < 1536 then D.dq t ((j - 1024) / 64) ((j - 1024) % 64) * (1 / 8)
  else if j < 2048 then D.dk t ((j - 1536) / 64) ((j - 1536) % 64)
  else if j < 2560 then D.dv t ((j - 2048) / 64) ((j - 2048) % 64)
  else D.dzf t (j - 2560)
/-- A head's queries' cotangent with the running sum's first side at lane 64, its keys' with the second side at lane 67, and
    its values', each in 128 lanes. -/
def qp (h t l : ℕ) : ℝ := if l < 64 then D.dq t h l else if l = 64 then D.dct t h else 0
def kp (h t l : ℕ) : ℝ := if l < 64 then D.dk t h l else if l = 67 then D.dcs t h else 0
def vp (h t l : ℕ) : ℝ := if l < 64 then D.dv t h l else 0
/-- The projection with zero columns after its own. -/
def wp (k j : ℕ) : ℝ := if j < 2568 then D.w k j else 0
/-- The cotangent of the normalized row times its gain. -/
def dh (t k : ℕ) : ℝ := ∑ j ∈ range 2568, D.dz t j * D.w k j
/-- The gain's gradient. -/
def dg (k : ℕ) : ℝ := ∑ t ∈ range 8192, D.dh t k * D.n t k
/-- The bias's gradient, in 128 lanes. -/
def db (l : ℕ) : ℝ := ∑ t ∈ range 8192, D.dzf t l
/-- What the norm hands back to the row. -/
def dx (t k : ℕ) : ℝ := D.r t * (D.dh t k * D.g 0 k - D.n t k * ((∑ i ∈ range 1024, D.dh t i * D.g 0 i * D.n t i) / 1024))

theorem ms_pos (t : ℕ) : 0 < D.ms t := by
  unfold ms
  have : 0 ≤ ∑ k ∈ range 1024, D.x t k * D.x t k := sum_nonneg fun k _ => mul_self_nonneg _
  have := eps_pos
  positivity

theorem r_sq (t : ℕ) : D.r t * D.r t = 1 / D.ms t := by
  unfold r
  rw [← mul_inv, Real.mul_self_sqrt (D.ms_pos t).le, one_div]

theorem dls_lane (t l : ℕ) (h : 8 ≤ l) : D.dls t l = 0 := by
  unfold dls dcum
  simp [show ¬l < 8 by omega]

theorem dzf_lane (t l : ℕ) (h : 8 ≤ l) : D.dzf t l = 0 := by unfold dzf; rw [D.dls_lane t l h, zero_mul]

theorem dz_pad (t j : ℕ) (h : 2568 ≤ j) : D.dz t j = 0 := by
  unfold dz
  rw [if_neg (by omega), if_neg (by omega), if_neg (by omega), if_neg (by omega), D.dzf_lane t _ (by omega)]

/-- The columns after the last add nothing to a product with the padded projection. -/
theorem dh_pad (t k : ℕ) : ∑ j ∈ range 2688, D.dz t j * D.wp k j = D.dh t k := by
  unfold dh wp
  rw [show (2688 : ℕ) = 2568 + 120 from rfl, sum_range_add]
  rw [sum_congr rfl fun j hj => by rw [if_pos (mem_range.1 hj)]]
  exact (add_eq_left).2 (sum_eq_zero fun j _ => by rw [D.dz_pad t _ (by omega), zero_mul])

/-- What a tile of 256 rows adds to the sums of the tiles after it. -/
theorem dls_tile (q a l : ℕ) (ha : a < 256) (hq : q < 32) :
    (∑ s ∈ range 256, (if a ≤ s then 1 else 0) * D.dcum (256 * q + s) l) + D.dls (256 * (q + 1)) l = D.dls (256 * q + a) l := by
  unfold dls
  rw [← sum_Ico_consecutive _ (show 256 * q + a ≤ 256 * (q + 1) by omega) (show 256 * (q + 1) ≤ 8192 by omega)]
  congr 1
  rw [sum_Ico_eq_sum_range, show 256 * (q + 1) - (256 * q + a) = 256 - a by omega]
  rw [show range 256 = range (a + (256 - a)) by rw [Nat.add_sub_cancel' ha.le], sum_range_add]
  rw [sum_eq_zero fun s hs => by rw [if_neg (by have := mem_range.1 hs; omega), zero_mul], zero_add]
  exact sum_congr rfl fun s _ => by rw [if_pos (by omega), one_mul, add_assoc]

/-- A sum over the rows from a tile on, one tile more. -/
theorem sum_tile (f : ℕ → ℝ) (q : ℕ) (hq : q < 32) :
    (∑ s ∈ Ico (256 * (q + 1)) 8192, f s) + ∑ a ∈ range 256, f (256 * q + a) = ∑ s ∈ Ico (256 * q) 8192, f s := by
  rw [← sum_Ico_consecutive _ (show 256 * q ≤ 256 * (q + 1) by omega) (show 256 * (q + 1) ≤ 8192 by omega), add_comm]
  congr 1
  rw [sum_Ico_eq_sum_range, show 256 * (q + 1) - 256 * q = 256 by omega]

/-- Two heads side by side: their columns, 64 to each. -/
theorem two_heads {F f : ℕ → ℕ → ℝ} (hF : ∀ h l, l < 64 → F h l = f h l) {p l : ℕ} (hl : l < 128) :
    (if l < 64 then F (2 * p) l else F (2 * p + 1) (l - 64)) = f ((128 * p + l) / 64) ((128 * p + l) % 64) := by
  by_cases h : l < 64
  · rw [if_pos h, hF _ _ h, show (128 * p + l) / 64 = 2 * p by omega, show (128 * p + l) % 64 = l by omega]
  · rw [if_neg h, hF _ _ (by omega), show (128 * p + l) / 64 = 2 * p + 1 by omega, show (128 * p + l) % 64 = l - 64 by omega]

variable {t p l : ℕ} (hp : p < 4) (hl : l < 128)
include hp hl

theorem dz_q : (if l < 64 then D.qp (2 * p) t l * (1 / 8) else D.qp (2 * p + 1) t (l - 64) * (1 / 8)) = D.dz t (1024 + 128 * p + l) := by
  rw [two_heads (F := fun h l => D.qp h t l * (1 / 8)) (f := fun h l => D.dq t h l * (1 / 8)) (fun h l hl => by unfold qp; rw [if_pos hl]) hl]
  unfold dz
  rw [if_neg (by omega), if_pos (by omega), show 1024 + 128 * p + l - 1024 = 128 * p + l by omega]

theorem dz_k : (if l < 64 then D.kp (2 * p) t l else D.kp (2 * p + 1) t (l - 64)) = D.dz t (1536 + 128 * p + l) := by
  rw [two_heads (F := fun h l => D.kp h t l) (f := D.dk t) (fun h l hl => by unfold kp; rw [if_pos hl]) hl]
  unfold dz
  rw [if_neg (by omega), if_neg (by omega), if_pos (by omega), show 1536 + 128 * p + l - 1536 = 128 * p + l by omega]

theorem dz_v : (if l < 64 then D.vp (2 * p) t l else D.vp (2 * p + 1) t (l - 64)) = D.dz t (2048 + 128 * p + l) := by
  rw [two_heads (F := fun h l => D.vp h t l) (f := D.dv t) (fun h l hl => by unfold vp; rw [if_pos hl]) hl]
  unfold dz
  rw [if_neg (by omega), if_neg (by omega), if_neg (by omega), if_pos (by omega), show 2048 + 128 * p + l - 2048 = 128 * p + l by omega]

end Data

end Cert.BwdIn

end
-- ==== Proof.InBlock.lean ====
/- What one point of the entry's gradient computes from its blocks, as values. -/
module

public import proofs.«01_k».proof.Proof.Gen.Kernel2Ideal.Frame

@[expose] public section

set_option maxRecDepth 16384

noncomputable section

namespace Cert.BwdIn

open Cert.Kernel2Ideal Cert.Kernel2Ideal.Gen
open Idealize.ShloMosaic Idealize.ShloMosaic.TcCoe

variable {F : FTy → Type} [FloatOps F]

/-- Two tables' first 64 lanes, side by side. -/
def pair (u v : FVec F S256x128 .bf16) : FVec F S256x128 .bf16 := select k0_pay21 u (dynamicRotate 1 64#32 none v rotates_S256x128_d1)
/-- A page's numbers over 8. -/
def scaled (x : Vec F S1x256x128 .f32) : FVec F S256x128 .bf16 :=
  truncf .bf16 (mulf (shapeCast S256x128 x shapeCasts_S1x256x128_S256x128) (broadcast S256x128 (Scalar.ofBits .f32 0x3E000000#32))) bitsLt_bf16_f32
/-- A page's numbers. -/
def plain (x : Vec F S1x256x128 .f32) : FVec F S256x128 .bf16 := truncf .bf16 (shapeCast S256x128 x shapeCasts_S1x256x128_S256x128) bitsLt_bf16_f32
/-- A page of short numbers. -/
def flat (x : Vec F S1x256x128 .bf16) : FVec F S256x128 .bf16 := shapeCast S256x128 x shapeCasts_S1x256x128_S256x128

theorem page_inb (h : Fin 8) : ∀ a, (![h.val, 0, 0] : Fin 3 → ℕ) a + S1x256x128.size a ≤ S8x256x128.size a := fun a => by
  have := h.isLt
  match a with
  | ⟨0, _⟩ => show h.val + 1 ≤ 8; omega
  | ⟨1, _⟩ => show 0 + 256 ≤ 256; omega
  | ⟨2, _⟩ => show 0 + 128 ≤ 128; omega

/-- One head's page of a block. -/
def page {e : EltTy} (x : Vec F S8x256x128 e) (h : Fin 8) : Vec F S1x256x128 e :=
  View.ld x (Rect.unit (s := S8x256x128) ![h.val, 0, 0] S1x256x128.size (page_inb h))

/-- The blocks a point reads. -/
structure Block (F : FTy → Type) where
  uv : FVec F S256x1024 .bf16
  q : FVec F S8x256x128 .f32
  k : FVec F S8x256x128 .f32
  v : FVec F S8x256x128 .bf16
  fl : FVec F S256x128 .f32
  x : FVec F S256x1024 .f32
  dx : FVec F S256x1024 .f32
  w : FVec F S1024x2688 .bf16
  g : FVec F S1x1024 .f32

namespace Block

variable (B : Block F) (s : FVec F S1x128 .f32)

/-- A head's cotangent of the running sum. -/
def gap (h : Fin 8) : FVec F S256x1 .f32 := k0_pay8 (page (e := .f32) B.q h) (page (e := .f32) B.k h)
/-- Its sums from each row on, `s` being those of the later blocks. -/
def scan : FVec F S256x128 .f32 :=
  k0_pay17 (B.gap 1) (B.gap 2) (B.gap 3) (B.gap 4) (B.gap 5) (B.gap 6) (B.gap 7) (iota .tc S256x128 32 [1] iota_S256x128_d1_w32) (k0_pay16 (B.gap 0)) s
/-- The sums from the block's first row on. -/
def carry : FVec F S1x128 .f32 :=
  shapeCast S1x128 (extractStridedSlice S1x128 ![0, 0] (B.scan s) slices_S256x128_o0_0_S1x128) shapeCasts_S1x128_S1x128
/-- The bias's gradient so far. -/
def bias (d : FVec F S1x128 .f32) : FVec F S1x128 .f32 := k0_pay20 (B.scan s) B.fl d
/-- The rows of the projected cotangent. -/
def dz : FVec F S256x2688 .bf16 :=
  concatenate S256x2688 1 [⟨S256x1024, k0_pay22 B.uv⟩,
    ⟨S256x128, pair (scaled (page (e := .f32) B.q 0)) (scaled (page (e := .f32) B.q 1))⟩, ⟨S256x128, pair (scaled (page (e := .f32) B.q 2)) (scaled (page (e := .f32) B.q 3))⟩,
    ⟨S256x128, pair (scaled (page (e := .f32) B.q 4)) (scaled (page (e := .f32) B.q 5))⟩, ⟨S256x128, pair (scaled (page (e := .f32) B.q 6)) (scaled (page (e := .f32) B.q 7))⟩,
    ⟨S256x128, pair (plain (page (e := .f32) B.k 0)) (plain (page (e := .f32) B.k 1))⟩, ⟨S256x128, pair (plain (page (e := .f32) B.k 2)) (plain (page (e := .f32) B.k 3))⟩,
    ⟨S256x128, pair (plain (page (e := .f32) B.k 4)) (plain (page (e := .f32) B.k 5))⟩, ⟨S256x128, pair (plain (page (e := .f32) B.k 6)) (plain (page (e := .f32) B.k 7))⟩,
    ⟨S256x128, pair (flat (page (e := .bf16) B.v 0)) (flat (page (e := .bf16) B.v 1))⟩, ⟨S256x128, pair (flat (page (e := .bf16) B.v 2)) (flat (page (e := .bf16) B.v 3))⟩,
    ⟨S256x128, pair (flat (page (e := .bf16) B.v 4)) (flat (page (e := .bf16) B.v 5))⟩, ⟨S256x128, pair (flat (page (e := .bf16) B.v 6)) (flat (page (e := .bf16) B.v 7))⟩,
    ⟨S256x128, truncf .bf16 (k0_pay19 (B.scan s) B.fl) bitsLt_bf16_f32⟩]
    concatenates_S256x1024_S256x128_S256x128_S256x128_S256x128_S256x128_S256x128_S256x128_S256x128_S256x128_S256x128_S256x128_S256x128_S256x128_S256x2688_d1
/-- The cotangent of the normalized row times its gain. -/
def dh : FVec F S256x1024 .f32 :=
  matmul dot_S256x2688_S1024x2688_S256x1024_1_1_0_0_n_n none (B.dz s) (shapeCast S1024x2688 B.w shapeCasts_S1024x2688_S1024x2688)
    (constant S256x1024 .f32 0x00000000#32)
/-- The gain's gradient so far. -/
def gain (d : FVec F S1x1024 .f32) : FVec F S1x1024 .f32 := k0_pay3 (B.dh s) B.x d
/-- The rows' gradient. -/
def row : FVec F S256x1024 .f32 := k0_pay4 (B.dh s) B.x B.dx B.g

end Block

end Cert.BwdIn

end
-- ==== Proof.InTile.lean ====
/- One block of 256 rows of the entry's gradient over the extended reals, where its operands are real: every value in it is
   real, and is the formula's. -/
module

public import proofs.«01_k».proof.Proof.InSpec
public import proofs.«01_k».proof.Proof.InBlock
public import Idealize.ShloMosaic.Lib.Pointwise
public import Idealize.ShloMosaic.Lib.WordCmp

@[expose] public section

set_option maxRecDepth 16384

noncomputable section

namespace Cert.BwdIn

open Cert.Kernel2Ideal Cert.Kernel2Ideal.Gen
open Cert.KernelIdeal.Value (Is2 Is3 Is2.congr coe_sum_range eighth)
open Idealize.ShloMosaic Idealize.ShloMosaic.WordCmp
open Finset

theorem eps_is : Ideal.ofBits .f32 0x358637BD#32 = ((eps : ℝ) : EReal) := by
  unfold eps
  simp [Ideal.ofBits, Ideal.ieee]
  rw [← EReal.coe_mul]
  norm_num

theorem kilo_is : Ideal.ofBits .f32 0x44800000#32 = ((1024 : ℝ) : EReal) := by
  simp [Ideal.ofBits, Ideal.ieee]
  rw [← EReal.coe_mul]
  norm_num

/-- A sum of reals whose terms are known one by one. -/
theorem sum_is {n : ℕ} {f : Fin n → EReal} {r : ℕ → ℝ} (h : ∀ k, f k = ((r k.val : ℝ) : EReal)) : ∑ k, f k = ((∑ k ∈ range n, r k : ℝ) : EReal) := by
  rw [coe_sum_range]; exact Finset.sum_congr rfl fun k _ => h k

theorem div_is {x : EReal} {a b : ℝ} (h : x = (a : EReal)) (hb : b ≠ 0) : Ideal.div x (b : EReal) = ((a / b : ℝ) : EReal) := by
  rw [h, Ideal.div_coe hb, ← EReal.coe_mul, mul_one_div]

theorem rsqrt_is {x : EReal} {a : ℝ} (h : x = (a : EReal)) (ha : 0 < a) : Ideal.rsqrt x = (((Real.sqrt a)⁻¹ : ℝ) : EReal) := by
  rw [h, Ideal.rsqrt_coe, if_neg ha.not_gt, if_neg ha.ne']

/-! ## Tables side by side -/

/-- Tables side by side, each with its number of columns. -/
def glue2 : List (ℕ × (ℕ → ℕ → ℝ)) → ℕ → ℕ → ℝ
  | [], _, _ => 0
  | (n, r) :: l, a, c => if c < n then r a c else glue2 l a (c - n)

/-- Each table of a list is real, with its numbers. -/
inductive Pieces2 (A : ℕ) : List ((s : Shape) × (s.Idx → EReal)) → List (ℕ × (ℕ → ℕ → ℝ)) → Prop
  | nil : Pieces2 A [] []
  | cons {n : ℕ} {x : (⟨2, ![A, n]⟩ : Shape).Idx → EReal} {r : ℕ → ℕ → ℝ} {xs l} (hx : Is2 x r) (h : Pieces2 A xs l) :
      Pieces2 A (⟨⟨2, ![A, n]⟩, x⟩ :: xs) ((n, r) :: l)

theorem Pieces2.at {A C : ℕ} {xs : List ((s : Shape) × (s.Idx → EReal))} {l} (h : Pieces2 A xs l) (j : (⟨2, ![A, C]⟩ : Shape).Idx) :
    ∀ (hs) (c : ℕ) (hc), concatenateAt ⟨2, ![A, C]⟩ 1 j xs hs c hc = ((glue2 l (j 0).val c : ℝ) : EReal) := by
  induction h with
  | nil => intro hs c hc; exact absurd hc (by simp [axisSizes])
  | @cons n x r xs l hx h ih =>
    intro hs c hc
    cases xs with
    | nil =>
      have hlt : c < n := by
        rw [axisSizes_cons _ _ _ _ (hs _ List.mem_cons_self)] at hc
        simpa [axisSizes, Shape.size] using hc
      rw [concatenateAt_singleton, glue2, if_pos hlt]
      exact hx _
    | cons q xs =>
      rw [concatenateAt_cons, glue2]
      by_cases hlt : c < n
      · rw [if_pos hlt]
        exact Eq.trans (dif_pos (by exact hlt)) (hx _)
      · rw [if_neg hlt]
        exact Eq.trans (dif_neg (by exact hlt)) (ih _ _ _)

/-- A concatenation of real tables. -/
theorem Pieces2.concat {A C : ℕ} {xs : List ((s : Shape) × (s.Idx → EReal))} {l} (h : Pieces2 A xs l) (hc) :
    Is2 (concatenate ⟨2, ![A, C]⟩ 1 xs hc) (glue2 l) := fun j => by
  rw [concatenate_apply]; exact h.at j _ _ _

/-! ## The gate's sums -/

/-- Column 64 of one page less column 67 of another. -/
theorem gap_is {x y : FVec Ideal S1x256x128 .f32} {p q : ℕ → ℕ → ℕ → ℝ} (hx : Is3 x p) (hy : Is3 y q) :
    Is2 (k0_pay8 (F := Ideal) x y) fun a _ => p 0 a 64 - q 0 a 67 := fun i => by
  pointwise [k0_pay8]
  rw [hx, hy, ← EReal.coe_sub]
  rfl

/-- One column put in a lane. -/
theorem lane_is (k : ℕ) (hk : k < 128) {l : ℕ} (hl : l < 128) (x y : EReal) :
    Scalar.select (IntOp.cmpi CmpIPredicate.eq (BitVec.ofNat 32 l) (BitVec.ofNat 32 k)) x y = if l = k then x else y := by
  rw [cmpi_eq_ofNat (by omega) (by omega), select_ofBool]
  simp only [decide_eq_true_eq]

/-- The last row and the rows after a row, as 1 and 0. -/
theorem after_is {a s : ℕ} (ha : a < 256) (hs : s < 256) :
    FloatOps.sitofp (F := Ideal) FTy.f32 (BitVec.setWidth 32 (IntOp.cmpi CmpIPredicate.sge (BitVec.ofNat 32 s) (BitVec.ofNat 32 a)))
      = ((if a ≤ s then 1 else 0 : ℝ) : EReal) := by
  rw [cmpi_sge_ofNat (by omega) (by omega)]
  show ((_ : ℝ) : EReal) = _
  by_cases h : a ≤ s
  · rw [if_pos h, decide_eq_true h]; simp only [show (BitVec.setWidth 32 (BitVec.ofBool true)).toInt = 1 from rfl, Int.cast_one]
  · rw [if_neg h, decide_eq_false h]; norm_num

/-- The columns 0 to 7 in their lanes, summed from each row on, and what the later rows hand in. -/
theorem scan_is {y : Fin 8 → FVec Ideal S256x1 .f32} {w : FVec Ideal S1x128 .f32} {r c : ℕ → ℕ → ℝ}
    (hy : ∀ h : Fin 8, Is2 (y h) fun a _ => r a h.val) (hw : Is2 w c) (hr : ∀ a l, 8 ≤ l → r a l = 0) :
    Is2 (k0_pay17 (F := Ideal) (y 1) (y 2) (y 3) (y 4) (y 5) (y 6) (y 7) (iota .tc S256x128 32 [1] iota_S256x128_d1_w32) (k0_pay16 (y 0)) w)
      fun a l => (∑ s ∈ range 256, (if a ≤ s then 1 else 0) * r s l) + c 0 l := fun i => by
  have hl : (i 1).val < 128 := (i 1).isLt
  have ha : (i 0).val < 256 := (i 0).isLt
  pointwise [k0_pay17, k0_pay16]
  rw [hw, EReal.coe_add]
  refine congrArg₂ (· + ·) (sum_is (r := fun s => (if (i 0).val ≤ s then 1 else 0) * r s (i 1).val) fun s => ?_) rfl
  rw [after_is ha s.isLt, EReal.coe_mul]
  refine congrArg (_ * ·) ?_
  rw [lane_is 7 (by omega) hl, lane_is 6 (by omega) hl, lane_is 5 (by omega) hl, lane_is 4 (by omega) hl, lane_is 3 (by omega) hl,
    lane_is 2 (by omega) hl, lane_is 1 (by omega) hl, lane_is 0 (by omega) hl]
  simp only [hy _ _]
  by_cases h8 : 8 ≤ (i 1).val
  · rw [hr _ _ h8]
    simp only [show ∀ k, k < 8 → ((i 1).val = k) = False from fun k hk => by simp; omega, Nat.reduceLT, if_false, EReal.coe_zero]
  · obtain ⟨l, hle⟩ : ∃ l, (i 1).val = l := ⟨_, rfl⟩
    rw [hle] at h8 ⊢
    push Not at h8
    interval_cases l <;> rfl

/-- Its first row. -/
theorem first_is {y : FVec Ideal S256x128 .f32} {r : ℕ → ℕ → ℝ} (hy : Is2 y r) :
    Is2 (shapeCast S1x128 (extractStridedSlice S1x128 ![0, 0] y slices_S256x128_o0_0_S1x128) shapeCasts_S1x128_S1x128) fun _ l => r 0 l := fun i => by
  pointwise []
  exact hy _

/-- A gate's cotangent before the sigmoid. -/
theorem gate_is {y z : FVec Ideal S256x128 .f32} {r f : ℕ → ℕ → ℝ} (hy : Is2 y r) (hz : Is2 z f) :
    Is2 (k0_pay19 (F := Ideal) y z) fun a l => r a l * (1 + Real.exp (f a l))⁻¹ := fun i => by
  pointwise [k0_pay19]
  rw [hy, hz, show (0 : EReal) - ((f (i 0).val (i 1).val : ℝ) : EReal) = ((-f (i 0).val (i 1).val : ℝ) : EReal) by
    rw [← EReal.coe_zero, ← EReal.coe_sub, zero_sub], Ideal.logistic_coe, neg_neg, ← EReal.coe_mul]

/-- The bias's gradient, with the rows of a block added. -/
theorem bias_is {y z : FVec Ideal S256x128 .f32} {w : FVec Ideal S1x128 .f32} {r f c : ℕ → ℕ → ℝ} (hy : Is2 y r) (hz : Is2 z f) (hw : Is2 w c) :
    Is2 (k0_pay20 (F := Ideal) y z w) fun _ l => c 0 l + ∑ a ∈ range 256, r a l * (1 + Real.exp (f a l))⁻¹ := fun i => by
  have e := gate_is hy hz
  pointwise [k0_pay20]
  rw [hw, EReal.coe_add]
  exact congrArg₂ (· + ·) (congrArg (fun n => ((c n (i 1).val : ℝ) : EReal)) (Nat.lt_one_iff.1 (i 0).isLt))
    (sum_is fun a => e _)

/-! ## Two heads in a block of 128 columns -/

theorem pair_is {u v : FVec Ideal S256x128 .bf16} {a b : ℕ → ℕ → ℝ} (hu : Is2 u a) (hv : Is2 v b) :
    Is2 (pair u v) fun t l => if l < 64 then a t l else b t (l - 64) := fun i => by
  have hl : (i 1).val < 128 := (i 1).isLt
  pointwise [pair, k0_pay21]
  rw [cmpi_slt_ofNat (by omega) (by omega), select_ofBool]
  simp only [decide_eq_true_eq]
  by_cases h : (i 1).val < 64
  · rw [if_pos h, if_pos h]; exact hu _
  · rw [if_neg h, if_neg h, hv]
    exact congrArg (fun n => ((b (i 0).val n : ℝ) : EReal)) (show ((i 1).val + 128 - 64) % 128 = _ by omega)

theorem scaled_is {x : FVec Ideal S1x256x128 .f32} {p : ℕ → ℕ → ℕ → ℝ} (hx : Is3 x p) : Is2 (scaled (F := Ideal) x) fun a l => p 0 a l * (1 / 8) := fun i => by
  pointwise [scaled]
  rw [hx, eighth, ← EReal.coe_mul]
  rfl

theorem plain_is {x : FVec Ideal S1x256x128 .f32} {p : ℕ → ℕ → ℕ → ℝ} (hx : Is3 x p) : Is2 (plain (F := Ideal) x) fun a l => p 0 a l := fun i => by
  pointwise [plain]
  exact hx _

theorem flat_is {x : FVec Ideal S1x256x128 .bf16} {p : ℕ → ℕ → ℕ → ℝ} (hx : Is3 x p) : Is2 (flat (F := Ideal) x) fun a l => p 0 a l := fun i => by
  pointwise [flat]
  exact hx _

/-! ## The norm's gradient -/

section Norm

variable {x dh : FVec Ideal S256x1024 .f32} {g : FVec Ideal S1x1024 .f32} {a b c : ℕ → ℕ → ℝ}

/-- One over the root of a row's mean square. -/
def rootInv (a : ℕ → ℕ → ℝ) (t : ℕ) : ℝ := (Real.sqrt ((∑ k ∈ range 1024, a t k * a t k) / 1024 + eps))⁻¹

theorem root_is (hx : Is2 x a) : Is2 (k0_pay1 (F := Ideal) x) fun t _ => rootInv a t := fun i => by
  pointwise [k0_pay1]
  rw [kilo_is, eps_is, div_is (sum_is (r := fun k => a (i 0).val k * a (i 0).val k) fun k => by rw [hx, ← EReal.coe_mul]; rfl) (by norm_num),
    ← EReal.coe_add]
  refine rsqrt_is rfl ?_
  have : 0 ≤ ∑ k ∈ range 1024, a (i 0).val k * a (i 0).val k := sum_nonneg fun k _ => mul_self_nonneg _
  have := eps_pos
  positivity

theorem unit_is (hx : Is2 x a) : Is2 (k0_pay2 (F := Ideal) x) fun t k => a t k * rootInv a t := fun i => by
  have e := root_is hx
  pointwise [k0_pay2]
  rw [hx, e, ← EReal.coe_mul]
  rfl

/-- The gain's gradient, with the rows of a block added. -/
theorem gain_is {w : FVec Ideal S1x1024 .f32} (hd : Is2 dh b) (hx : Is2 x a) (hw : Is2 w c) :
    Is2 (k0_pay3 (F := Ideal) dh x w) fun _ k => c 0 k + ∑ t ∈ range 256, b t k * (a t k * rootInv a t) := fun i => by
  have e := unit_is hx
  pointwise [k0_pay3]
  rw [hw, EReal.coe_add]
  exact congrArg₂ (· + ·) (congrArg (fun n => ((c n (i 1).val : ℝ) : EReal)) (Nat.lt_one_iff.1 (i 0).isLt))
    (sum_is (r := fun t => b t (i 1).val * (a t (i 1).val * rootInv a t)) fun t => by rw [hd, e, ← EReal.coe_mul]; rfl)

/-- The row's gradient, added to what the row is handed from elsewhere. -/
theorem row_is {z : FVec Ideal S256x1024 .f32} (hd : Is2 dh b) (hx : Is2 x a) (hg : Is2 g c) (i : S256x1024.Idx) :
    k0_pay4 (F := Ideal) dh x z g i = z i + ((rootInv a (i 0).val * (b (i 0).val (i 1).val * c 0 (i 1).val - a (i 0).val (i 1).val * rootInv a (i 0).val
      * ((∑ k ∈ range 1024, b (i 0).val k * c 0 k * (a (i 0).val k * rootInv a (i 0).val)) / 1024)) : ℝ) : EReal) := by
  have e := unit_is hx
  have e' := root_is hx
  pointwise [k0_pay4]
  rw [kilo_is, div_is (sum_is (r := fun k => b (i 0).val k * c 0 k * (a (i 0).val k * rootInv a (i 0).val)) fun k => by
    rw [hd, hg, e, ← EReal.coe_mul, ← EReal.coe_mul]; rfl) (by norm_num), hd, hg, e, e', ← EReal.coe_mul, ← EReal.coe_mul, ← EReal.coe_sub, ← EReal.coe_mul]
  rfl

end Norm

/-- The product with the padded projection. -/
theorem back_is {y : FVec Ideal S256x2688 .bf16} {w : FVec Ideal S1024x2688 .bf16} {a b : ℕ → ℕ → ℝ} (hy : Is2 y a) (hw : Is2 w b) :
    Is2 (matmul (F := Ideal) dot_S256x2688_S1024x2688_S256x1024_1_1_0_0_n_n none y (shapeCast S1024x2688 w shapeCasts_S1024x2688_S1024x2688)
      (constant S256x1024 .f32 0x00000000#32)) fun t d => ∑ j ∈ range 2688, a t j * b d j := fun i => by
  pointwise []
  exact sum_is (r := fun j => a (i 0).val j * b (i 1).val j) fun j => by rw [hy, hw, ← EReal.coe_mul]; rfl

end Cert.BwdIn

end
-- ==== Proof.InPoint.lean ====
/- What each point leaves in its results' blocks and in the carried row. -/
module

public import proofs.«01_k».proof.Proof.InBlock
public import Idealize.ShloMosaic.Lib.Pipeline.Value

@[expose] public section

set_option maxRecDepth 16384

noncomputable section

namespace Cert.BwdIn

open Cert.Kernel2Ideal Cert.Kernel2Ideal.Gen
open Idealize.ShloMosaic Idealize.ShloMosaic.TcCoe

variable {F : FTy → Type} [FloatOps F]

theorem zeros : (![0, 0] : Fin 2 → ℕ) = fun _ => 0 := funext fun a => by fin_cases a <;> rfl

variable (c : Dev nD) (i : grid0.Coords) (a1 : Memref sig .tc .vmem S256x1024 .bf16) (h1 : a1.IsWhole) (a2 : Memref sig .tc .vmem S8x256x128 .f32) (h2 : a2.IsWhole) (a3 : Memref sig .tc .vmem S8x256x128 .f32) (h3 : a3.IsWhole) (a4 : Memref sig .tc .vmem S8x256x128 .bf16) (h4 : a4.IsWhole) (a5 : Memref sig .tc .vmem S256x128 .f32) (h5 : a5.IsWhole) (a6 : Memref sig .tc .vmem S256x1024 .f32) (h6 : a6.IsWhole) (a7 : Memref sig .tc .vmem S256x1024 .f32) (h7 : a7.IsWhole) (a8 : Memref sig .tc .vmem S1024x2688 .bf16) (h8 : a8.IsWhole) (a9 : Memref sig .tc .vmem S1x1024 .f32) (h9 : a9.IsWhole) (a10 : Memref sig .tc .vmem S256x1024 .f32) (h10 : a10.IsWhole) (a11 : Memref sig .tc .vmem S256x2688 .bf16) (h11 : a11.IsWhole) (a12 : Memref sig .tc .vmem S1x1024 .f32) (h12 : a12.IsWhole) (a13 : Memref sig .tc .vmem S1x128 .f32) (h13 : a13.IsWhole) (a14 : Memref sig .tc .vmem S1x128 .f32) (h14 : a14.IsWhole)
  (x0 : Vec F S256x1024 .bf16) (x1 : Vec F S8x256x128 .f32) (x2 : Vec F S8x256x128 .f32) (x3 : Vec F S8x256x128 .bf16) (x4 : Vec F S256x128 .f32) (x5 : Vec F S256x1024 .f32) (x6 : Vec F S256x1024 .f32) (x7 : Vec F S1024x2688 .bf16) (x8 : Vec F S1x1024 .f32)
  (xo11 : Vec F S1x1024 .f32) (xo12 : Vec F S1x128 .f32) (xs0 : Vec F S1x128 .f32)

/-! ## The first point, which starts the sums at 0. -/

/-- The rows' gradient, -/
theorem out0_A_9_eq (hc : cond0_0 i) : out0_A_9 c i a1 h1 a2 h2 a3 h3 a4 h4 a5 h5 a6 h6 a7 h7 a8 h8 a9 h9 a10 h10 a11 h11 a12 h12 a13 h13 a14 h14 hc x0 x1 x2 x3 x4 x5 x6 x7 x8 = Block.row ⟨x0, x1, x2, x3, x4, x5, x6, x7, x8⟩ k0_pay5 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 hc x0 x1 x2 x3 x4 x5 x6 x7 x8)]
  unfold kernelRun0_A
  dsimp only
  sl_unfold_words
  rw [View.canon_unit_zero (S := S256x1024) zeros]
  simp only [View.readCov_unit_zero (S := S1x128) _ zeros, View.readCov_unit_zero (S := S1x1024) _ zeros, View.readAt_eq_ld, h1.read_unread, h2.read_unread, h3.read_unread, h4.read_unread, h5.read_unread, h6.read_unread, h7.read_unread, h8.read_unread, h9.read_unread,
    View.ld_unit_zero (S := S256x1024) zeros, View.ld_unit_zero (S := S256x128) zeros, View.ld_unit_zero (S := S1024x2688) zeros,
    View.ld_unit_zero (S := S1x1024) zeros, View.ld_unit_zero (S := S1x128) zeros]
  rfl

/-- the projected cotangent, -/
theorem out0_A_10_eq (hc : cond0_0 i) : out0_A_10 c i a1 h1 a2 h2 a3 h3 a4 h4 a5 h5 a6 h6 a7 h7 a8 h8 a9 h9 a10 h10 a11 h11 a12 h12 a13 h13 a14 h14 hc x0 x1 x2 x3 x4 x5 x6 x7 x8 = Block.dz ⟨x0, x1, x2, x3, x4, x5, x6, x7, x8⟩ k0_pay5 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 hc x0 x1 x2 x3 x4 x5 x6 x7 x8)]
  unfold kernelRun0_A
  dsimp only
  sl_unfold_words
  rw [View.canon_unit_zero (S := S256x2688) zeros]
  simp only [View.readCov_unit_zero (S := S1x128) _ zeros, View.readCov_unit_zero (S := S1x1024) _ zeros, View.readAt_eq_ld, h1.read_unread, h2.read_unread, h3.read_unread, h4.read_unread, h5.read_unread, h6.read_unread, h7.read_unread, h8.read_unread, h9.read_unread,
    View.ld_unit_zero (S := S256x1024) zeros, View.ld_unit_zero (S := S256x128) zeros, View.ld_unit_zero (S := S1024x2688) zeros,
    View.ld_unit_zero (S := S1x1024) zeros, View.ld_unit_zero (S := S1x128) zeros]
  rfl

/-- the gain's, -/
theorem out0_A_11_eq (hc : cond0_0 i) : out0_A_11 c i a1 h1 a2 h2 a3 h3 a4 h4 a5 h5 a6 h6 a7 h7 a8 h8 a9 h9 a10 h10 a11 h11 a12 h12 a13 h13 a14 h14 hc x0 x1 x2 x3 x4 x5 x6 x7 x8 = Block.gain ⟨x0, x1, x2, x3, x4, x5, x6, x7, x8⟩ k0_pay5 k0_pay6 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 hc x0 x1 x2 x3 x4 x5 x6 x7 x8)]
  unfold kernelRun0_A
  dsimp only
  sl_unfold_words
  rw [View.canon_cons_unit_zero (S := S1x1024) zeros]
  simp only [View.readCov_unit_zero (S := S1x128) _ zeros, View.readCov_unit_zero (S := S1x1024) _ zeros, View.readAt_eq_ld, h1.read_unread, h2.read_unread, h3.read_unread, h4.read_unread, h5.read_unread, h6.read_unread, h7.read_unread, h8.read_unread, h9.read_unread,
    View.ld_unit_zero (S := S256x1024) zeros, View.ld_unit_zero (S := S256x128) zeros, View.ld_unit_zero (S := S1024x2688) zeros,
    View.ld_unit_zero (S := S1x1024) zeros, View.ld_unit_zero (S := S1x128) zeros]
  rfl

/-- the bias's, -/
theorem out0_A_12_eq (hc : cond0_0 i) : out0_A_12 c i a1 h1 a2 h2 a3 h3 a4 h4 a5 h5 a6 h6 a7 h7 a8 h8 a9 h9 a10 h10 a11 h11 a12 h12 a13 h13 a14 h14 hc x0 x1 x2 x3 x4 x5 x6 x7 x8 = Block.bias ⟨x0, x1, x2, x3, x4, x5, x6, x7, x8⟩ k0_pay5 k0_pay7 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 hc x0 x1 x2 x3 x4 x5 x6 x7 x8)]
  unfold kernelRun0_A
  dsimp only
  sl_unfold_words
  rw [View.canon_cons_unit_zero (S := S1x128) zeros]
  simp only [View.readCov_unit_zero (S := S1x128) _ zeros, View.readCov_unit_zero (S := S1x1024) _ zeros, View.readAt_eq_ld, h1.read_unread, h2.read_unread, h3.read_unread, h4.read_unread, h5.read_unread, h6.read_unread, h7.read_unread, h8.read_unread, h9.read_unread,
    View.ld_unit_zero (S := S256x1024) zeros, View.ld_unit_zero (S := S256x128) zeros, View.ld_unit_zero (S := S1024x2688) zeros,
    View.ld_unit_zero (S := S1x1024) zeros, View.ld_unit_zero (S := S1x128) zeros]
  rfl

/-- and the carried row. -/
theorem sout0_A_0_eq (hc : cond0_0 i) : sout0_A_0 c i a1 h1 a2 h2 a3 h3 a4 h4 a5 h5 a6 h6 a7 h7 a8 h8 a9 h9 a10 h10 a11 h11 a12 h12 a13 h13 a14 h14 hc x0 x1 x2 x3 x4 x5 x6 x7 x8 = Block.carry ⟨x0, x1, x2, x3, x4, x5, x6, x7, x8⟩ k0_pay5 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 hc x0 x1 x2 x3 x4 x5 x6 x7 x8)]
  unfold kernelRun0_A
  dsimp only
  sl_unfold_words
  rw [View.canon_cons_unit_zero (S := S1x128) zeros]
  simp only [View.readCov_unit_zero (S := S1x128) _ zeros, View.readCov_unit_zero (S := S1x1024) _ zeros, View.readAt_eq_ld, h1.read_unread, h2.read_unread, h3.read_unread, h4.read_unread, h5.read_unread, h6.read_unread, h7.read_unread, h8.read_unread, h9.read_unread,
    View.ld_unit_zero (S := S256x1024) zeros, View.ld_unit_zero (S := S256x128) zeros, View.ld_unit_zero (S := S1024x2688) zeros,
    View.ld_unit_zero (S := S1x1024) zeros, View.ld_unit_zero (S := S1x128) zeros]
  rfl

/-! ## The other points, which go on from what the point before left. -/

/-- The rows' gradient, -/
theorem out0_B_9_eq (hc : ¬cond0_0 i) : out0_B_9 c i a1 h1 a2 h2 a3 h3 a4 h4 a5 h5 a6 h6 a7 h7 a8 h8 a9 h9 a10 h10 a11 h11 a12 h12 a13 h13 a14 h14 hc x0 x1 x2 x3 x4 x5 x6 x7 x8 xo11 xo12 xs0 = Block.row ⟨x0, x1, x2, x3, x4, x5, x6, x7, x8⟩ xs0 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 hc x0 x1 x2 x3 x4 x5 x6 x7 x8 xo11 xo12 xs0)]
  unfold kernelRun0_B
  dsimp only
  sl_unfold_words
  rw [View.canon_unit_zero (S := S256x1024) zeros]
  simp only [View.readAt_eq_ld, h1.read_unread, h2.read_unread, h3.read_unread, h4.read_unread, h5.read_unread, h6.read_unread, h7.read_unread, h8.read_unread, h9.read_unread, h12.read_unread, h13.read_unread, h14.read_unread,
    View.ld_unit_zero (S := S256x1024) zeros, View.ld_unit_zero (S := S256x128) zeros, View.ld_unit_zero (S := S1024x2688) zeros,
    View.ld_unit_zero (S := S1x1024) zeros, View.ld_unit_zero (S := S1x128) zeros]
  rfl

/-- the projected cotangent, -/
theorem out0_B_10_eq (hc : ¬cond0_0 i) : out0_B_10 c i a1 h1 a2 h2 a3 h3 a4 h4 a5 h5 a6 h6 a7 h7 a8 h8 a9 h9 a10 h10 a11 h11 a12 h12 a13 h13 a14 h14 hc x0 x1 x2 x3 x4 x5 x6 x7 x8 xo11 xo12 xs0 = Block.dz ⟨x0, x1, x2, x3, x4, x5, x6, x7, x8⟩ xs0 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 hc x0 x1 x2 x3 x4 x5 x6 x7 x8 xo11 xo12 xs0)]
  unfold kernelRun0_B
  dsimp only
  sl_unfold_words
  rw [View.canon_unit_zero (S := S256x2688) zeros]
  simp only [View.readAt_eq_ld, h1.read_unread, h2.read_unread, h3.read_unread, h4.read_unread, h5.read_unread, h6.read_unread, h7.read_unread, h8.read_unread, h9.read_unread, h12.read_unread, h13.read_unread, h14.read_unread,
    View.ld_unit_zero (S := S256x1024) zeros, View.ld_unit_zero (S := S256x128) zeros, View.ld_unit_zero (S := S1024x2688) zeros,
    View.ld_unit_zero (S := S1x1024) zeros, View.ld_unit_zero (S := S1x128) zeros]
  rfl

/-- the gain's, -/
theorem out0_B_11_eq (hc : ¬cond0_0 i) : out0_B_11 c i a1 h1 a2 h2 a3 h3 a4 h4 a5 h5 a6 h6 a7 h7 a8 h8 a9 h9 a10 h10 a11 h11 a12 h12 a13 h13 a14 h14 hc x0 x1 x2 x3 x4 x5 x6 x7 x8 xo11 xo12 xs0 = Block.gain ⟨x0, x1, x2, x3, x4, x5, x6, x7, x8⟩ xs0 xo11 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 hc x0 x1 x2 x3 x4 x5 x6 x7 x8 xo11 xo12 xs0)]
  unfold kernelRun0_B
  dsimp only
  sl_unfold_words
  rw [View.canon_unit_zero (S := S1x1024) zeros]
  simp only [View.readAt_eq_ld, h1.read_unread, h2.read_unread, h3.read_unread, h4.read_unread, h5.read_unread, h6.read_unread, h7.read_unread, h8.read_unread, h9.read_unread, h12.read_unread, h13.read_unread, h14.read_unread,
    View.ld_unit_zero (S := S256x1024) zeros, View.ld_unit_zero (S := S256x128) zeros, View.ld_unit_zero (S := S1024x2688) zeros,
    View.ld_unit_zero (S := S1x1024) zeros, View.ld_unit_zero (S := S1x128) zeros]
  rfl

/-- the bias's, -/
theorem out0_B_12_eq (hc : ¬cond0_0 i) : out0_B_12 c i a1 h1 a2 h2 a3 h3 a4 h4 a5 h5 a6 h6 a7 h7 a8 h8 a9 h9 a10 h10 a11 h11 a12 h12 a13 h13 a14 h14 hc x0 x1 x2 x3 x4 x5 x6 x7 x8 xo11 xo12 xs0 = Block.bias ⟨x0, x1, x2, x3, x4, x5, x6, x7, x8⟩ xs0 xo12 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 hc x0 x1 x2 x3 x4 x5 x6 x7 x8 xo11 xo12 xs0)]
  unfold kernelRun0_B
  dsimp only
  sl_unfold_words
  rw [View.canon_unit_zero (S := S1x128) zeros]
  simp only [View.readAt_eq_ld, h1.read_unread, h2.read_unread, h3.read_unread, h4.read_unread, h5.read_unread, h6.read_unread, h7.read_unread, h8.read_unread, h9.read_unread, h12.read_unread, h13.read_unread, h14.read_unread,
    View.ld_unit_zero (S := S256x1024) zeros, View.ld_unit_zero (S := S256x128) zeros, View.ld_unit_zero (S := S1024x2688) zeros,
    View.ld_unit_zero (S := S1x1024) zeros, View.ld_unit_zero (S := S1x128) zeros]
  rfl

/-- and the carried row. -/
theorem sout0_B_0_eq (hc : ¬cond0_0 i) : sout0_B_0 c i a1 h1 a2 h2 a3 h3 a4 h4 a5 h5 a6 h6 a7 h7 a8 h8 a9 h9 a10 h10 a11 h11 a12 h12 a13 h13 a14 h14 hc x0 x1 x2 x3 x4 x5 x6 x7 x8 xo11 xo12 xs0 = Block.carry ⟨x0, x1, x2, x3, x4, x5, x6, x7, x8⟩ xs0 := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 a14 h14 hc x0 x1 x2 x3 x4 x5 x6 x7 x8 xo11 xo12 xs0)]
  unfold kernelRun0_B
  dsimp only
  sl_unfold_words
  rw [View.canon_unit_zero (S := S1x128) zeros]
  simp only [View.readAt_eq_ld, h1.read_unread, h2.read_unread, h3.read_unread, h4.read_unread, h5.read_unread, h6.read_unread, h7.read_unread, h8.read_unread, h9.read_unread, h12.read_unread, h13.read_unread, h14.read_unread,
    View.ld_unit_zero (S := S256x1024) zeros, View.ld_unit_zero (S := S256x128) zeros, View.ld_unit_zero (S := S1024x2688) zeros,
    View.ld_unit_zero (S := S1x1024) zeros, View.ld_unit_zero (S := S1x128) zeros]
  rfl

end Cert.BwdIn

end
-- ==== Proof.InFold.lean ====
/- The points of the entry's gradient, from the last block of rows to the first: what they carry, sum and write back, as real
   numbers. -/
module

public import proofs.«01_k».proof.Proof.InTile
public import proofs.«01_k».proof.Proof.InPoint
public import Idealize.ShloMosaic.Lib.Pipeline.Value
public import Idealize.ShloMosaic.Lib.Pipeline.ValueKit.Geometry
public import proofs.«01_k».proof.Proof.Gen.Kernel2Ideal.Value

@[expose] public section

set_option maxRecDepth 16384

noncomputable section

namespace Cert.BwdIn

open Cert.Kernel2Ideal Cert.Kernel2Ideal.Gen Cert.Kernel2Ideal.Value
open Cert.KernelIdeal.Value (Is2 Is3 Is2.congr Is3.congr coe_sum_range eighth)
open Idealize.ShloMosaic Idealize.ShloMosaic.TcCoe
open Finset

/-! ## One point -/

/-- A point's blocks hold rows `256 q` on. -/
structure Reads (D : Data) (X : ℕ → ℕ → EReal) (o : ℕ) (B : Block Ideal) : Prop where
  uv : Is2 B.uv fun a j => D.duv (256 * o + a) j
  q : Is3 B.q fun h a l => D.qp h (256 * o + a) l
  k : Is3 B.k fun h a l => D.kp h (256 * o + a) l
  v : Is3 B.v fun h a l => D.vp h (256 * o + a) l
  fl : Is2 B.fl fun a l => D.flp (256 * o + a) l
  x : Is2 B.x fun a k => D.x (256 * o + a) k
  dx : ∀ i, B.dx i = X (256 * o + (i 0).val) (i 1).val
  w : Is2 B.w D.wp
  g : Is2 B.g D.g

theorem page32_is {x : FVec Ideal S8x256x128 .f32} {r : ℕ → ℕ → ℕ → ℝ} (hx : Is3 x r) (h : Fin 8) :
    Is3 (show FVec Ideal S1x256x128 .f32 from page (F := Ideal) (e := .f32) x h) fun _ a l => r h.val a l := fun i => by
  refine (hx _).trans (congrArg Real.toEReal ?_)
  have h0 : (i 0).val = 0 := Nat.lt_one_iff.1 (i 0).isLt
  exact congr (congr (congrArg r (show h.val + 1 * (i 0).val = _ by omega)) (show 0 + 1 * (i 1).val = _ by omega)) (show 0 + 1 * (i 2).val = _ by omega)

theorem page16_is {x : FVec Ideal S8x256x128 .bf16} {r : ℕ → ℕ → ℕ → ℝ} (hx : Is3 x r) (h : Fin 8) :
    Is3 (show FVec Ideal S1x256x128 .bf16 from page (F := Ideal) (e := .bf16) x h) fun _ a l => r h.val a l := fun i => by
  refine (hx _).trans (congrArg Real.toEReal ?_)
  have h0 : (i 0).val = 0 := Nat.lt_one_iff.1 (i 0).isLt
  exact congr (congr (congrArg r (show h.val + 1 * (i 0).val = _ by omega)) (show 0 + 1 * (i 1).val = _ by omega)) (show 0 + 1 * (i 2).val = _ by omega)

/-- Pieces of consecutive columns of one table give that table. -/
theorem glue2_step {n N o : ℕ} {r : ℕ → ℕ → ℝ} {L : List (ℕ × (ℕ → ℕ → ℝ))} {a : ℕ} {R : ℕ → ℝ} (h : ∀ l, l < n → r a l = R (o + l))
    (hL : ∀ l, l < N → glue2 L a l = R (o + n + l)) (l : ℕ) (hl : l < n + N) : glue2 ((n, r) :: L) a l = R (o + l) := by
  rw [glue2]
  by_cases e : l < n
  · rw [if_pos e, h l e]
  · rw [if_neg e, hL _ (by omega), show o + n + (l - n) = o + l by omega]

section Point

variable {D : Data} {X : ℕ → ℕ → EReal} {q : ℕ} {B : Block Ideal} {s : FVec Ideal S1x128 .f32} (hB : Reads D X q B) (hq : q < 32)
  (hs : Is2 s fun _ l => D.dls (256 * (q + 1)) l)
include hB hq hs

theorem scan_at : Is2 (B.scan s) fun a l => D.dls (256 * q + a) l :=
  (scan_is (r := fun a l => D.dcum (256 * q + a) l) (fun h => (gap_is (page32_is hB.q h) (page32_is hB.k h)).congr fun a _ b _ => by
    unfold Data.qp Data.kp Data.dcum
    rw [if_pos h.isLt, if_neg (by omega), if_pos rfl, if_neg (by omega), if_pos rfl]) hs
    fun a l hl => by unfold Data.dcum; rw [if_neg (by omega)]).congr fun a ha l _ => D.dls_tile q a l ha hq

theorem carry_at : Is2 (B.carry s) fun _ l => D.dls (256 * q) l := first_is (scan_at hB hq hs)

theorem bias_at {d : FVec Ideal S1x128 .f32} (hd : Is2 d fun _ l => ∑ t ∈ Ico (256 * (q + 1)) 8192, D.dzf t l) :
    Is2 (B.bias s d) fun _ l => ∑ t ∈ Ico (256 * q) 8192, D.dzf t l :=
  (bias_is (scan_at hB hq hs) hB.fl hd).congr fun _ _ l _ => Data.sum_tile (fun t => D.dzf t l) q hq

theorem uv_at : Is2 (k0_pay22 (F := Ideal) B.uv) fun a j => D.duv (256 * q + a) j := fun i => by
  pointwise [k0_pay22]
  exact hB.uv i

theorem dz_at : Is2 (B.dz s) fun a j => D.dz (256 * q + a) j := by
  have P := fun h => page32_is hB.q h
  have K := fun h => page32_is hB.k h
  have W := fun h => page16_is hB.v h
  have hqq : ∀ (p : ℕ) (h0 h1 : Fin 8), p < 4 → h0.val = 2 * p → h1.val = 2 * p + 1 →
      Is2 (pair (scaled (page (F := Ideal) (e := .f32) B.q h0)) (scaled (page (F := Ideal) (e := .f32) B.q h1))) fun a l => D.dz (256 * q + a) (1024 + 128 * p + l) :=
    fun p h0 h1 hp e0 e1 => (pair_is (scaled_is (P h0)) (scaled_is (P h1))).congr fun a _ l hl => by
      rw [e0, e1]; exact D.dz_q hp hl
  have hkk : ∀ (p : ℕ) (h0 h1 : Fin 8), p < 4 → h0.val = 2 * p → h1.val = 2 * p + 1 →
      Is2 (pair (plain (page (F := Ideal) (e := .f32) B.k h0)) (plain (page (F := Ideal) (e := .f32) B.k h1))) fun a l => D.dz (256 * q + a) (1536 + 128 * p + l) :=
    fun p h0 h1 hp e0 e1 => (pair_is (plain_is (K h0)) (plain_is (K h1))).congr fun a _ l hl => by
      rw [e0, e1]; exact D.dz_k hp hl
  have hvv : ∀ (p : ℕ) (h0 h1 : Fin 8), p < 4 → h0.val = 2 * p → h1.val = 2 * p + 1 →
      Is2 (pair (flat (page (F := Ideal) (e := .bf16) B.v h0)) (flat (page (F := Ideal) (e := .bf16) B.v h1))) fun a l => D.dz (256 * q + a) (2048 + 128 * p + l) :=
    fun p h0 h1 hp e0 e1 => (pair_is (flat_is (W h0)) (flat_is (W h1))).congr fun a _ l hl => by
      rw [e0, e1]; exact D.dz_v hp hl
  have hu : Is2 (k0_pay22 (F := Ideal) B.uv) fun a j => D.dz (256 * q + a) j := (uv_at hB hq hs).congr fun a _ j hj => by
    unfold Data.dz; rw [if_pos hj]
  have hg : Is2 (truncf .bf16 (k0_pay19 (F := Ideal) (B.scan s) B.fl) bitsLt_bf16_f32) fun a l => D.dz (256 * q + a) (2560 + l) :=
    Is2.congr (x := k0_pay19 (F := Ideal) (B.scan s) B.fl) (gate_is (scan_at hB hq hs) hB.fl) fun a _ l _ => by
      unfold Data.dz Data.dzf
      rw [if_neg (by omega), if_neg (by omega), if_neg (by omega), if_neg (by omega), show 2560 + l - 2560 = l by omega]
  refine Is2.congr (Pieces2.concat (.cons hu <| .cons (hqq 0 0 1 (by omega) rfl rfl) <| .cons (hqq 1 2 3 (by omega) rfl rfl) <|
    .cons (hqq 2 4 5 (by omega) rfl rfl) <| .cons (hqq 3 6 7 (by omega) rfl rfl) <| .cons (hkk 0 0 1 (by omega) rfl rfl) <|
    .cons (hkk 1 2 3 (by omega) rfl rfl) <| .cons (hkk 2 4 5 (by omega) rfl rfl) <| .cons (hkk 3 6 7 (by omega) rfl rfl) <|
    .cons (hvv 0 0 1 (by omega) rfl rfl) <| .cons (hvv 1 2 3 (by omega) rfl rfl) <| .cons (hvv 2 4 5 (by omega) rfl rfl) <|
    .cons (hvv 3 6 7 (by omega) rfl rfl) <| .cons hg .nil) _) fun a _ j hj => ?_
  have e : ∀ {u v : ℕ}, u = v → D.dz (256 * q + a) u = D.dz (256 * q + a) v := fun h => congrArg _ h
  have st := fun {n : ℕ} (N o : ℕ) {r : ℕ → ℕ → ℝ} {L : List (ℕ × (ℕ → ℕ → ℝ))} =>
    glue2_step (n := n) (N := N) (o := o) (r := r) (L := L) (a := a) (R := D.dz (256 * q + a))
  refine (st 1664 0 (fun l _ => e (by omega)) (st 1536 1024 (fun l _ => e (by omega)) (
    st 1408 1152 (fun l _ => e (by omega)) (st 1280 1280 (fun l _ => e (by omega)) (
    st 1152 1408 (fun l _ => e (by omega)) (st 1024 1536 (fun l _ => e (by omega)) (
    st 896 1664 (fun l _ => e (by omega)) (st 768 1792 (fun l _ => e (by omega)) (
    st 640 1920 (fun l _ => e (by omega)) (st 512 2048 (fun l _ => e (by omega)) (
    st 384 2176 (fun l _ => e (by omega)) (st 256 2304 (fun l _ => e (by omega)) (
    st 128 2432 (fun l _ => e (by omega)) (st 0 2560 (fun l _ => e (by omega)) (
    fun l h => absurd h (by omega))))))))))))))) j hj).trans (e (by omega))

theorem dh_at : Is2 (B.dh s) fun a k => D.dh (256 * q + a) k :=
  (back_is (dz_at hB hq hs) hB.w).congr fun _ _ _ _ => D.dh_pad _ _

theorem gain_at {d : FVec Ideal S1x1024 .f32} (hd : Is2 d fun _ k => ∑ t ∈ Ico (256 * (q + 1)) 8192, D.dh t k * D.n t k) :
    Is2 (B.gain s d) fun _ k => ∑ t ∈ Ico (256 * q) 8192, D.dh t k * D.n t k :=
  (gain_is (dh_at hB hq hs) hB.x hd).congr fun _ _ k _ => Data.sum_tile (fun t => D.dh t k * D.n t k) q hq

theorem row_at (i : S256x1024.Idx) : B.row s i = X (256 * q + (i 0).val) (i 1).val + ((D.dx (256 * q + (i 0).val) (i 1).val : ℝ) : EReal) :=
  (row_is (dh_at hB hq hs) hB.x hB.g i).trans (by rw [hB.dx]; rfl)

end Point

/-! ## The blocks -/

/-- The call's operands hold the arguments. -/
structure Operands (m : (ℓ : Loc nD τ sig) → Buf (Elt Ideal) ℓ) (c : Dev nD) (D : Data) (X : ℕ → ℕ → EReal) : Prop where
  uv : Is2 (show FVec Ideal S8192x1024 .bf16 from V m c (Pipeline.arrRef spec0 0)) D.duv
  q : Is3 (show FVec Ideal S8x8192x128 .f32 from V m c (Pipeline.arrRef spec0 1)) D.qp
  k : Is3 (show FVec Ideal S8x8192x128 .f32 from V m c (Pipeline.arrRef spec0 2)) D.kp
  v : Is3 (show FVec Ideal S8x8192x128 .bf16 from V m c (Pipeline.arrRef spec0 3)) D.vp
  fl : Is2 (show FVec Ideal S8192x128 .f32 from V m c (Pipeline.arrRef spec0 4)) D.flp
  x : Is2 (show FVec Ideal S8192x1024 .f32 from V m c (Pipeline.arrRef spec0 5)) D.x
  dx : ∀ i : S8192x1024.Idx, (show FVec Ideal S8192x1024 .f32 from V m c (Pipeline.arrRef spec0 6)) i = X (i 0).val (i 1).val
  w : Is2 (show FVec Ideal S1024x2688 .bf16 from V m c (Pipeline.arrRef spec0 7)) D.wp
  g : Is2 (show FVec Ideal S1x1024 .f32 from V m c (Pipeline.arrRef spec0 8)) D.g

/-- What a point reads. -/
def blockAt {F : FTy → Type} [FloatOps F] (m : (ℓ : Loc nD τ sig) → Buf (Elt F) ℓ) (c : Dev nD) (t : Fin cfg0.N) : Block F where
  uv := iblk m c 0 t
  q := iblk m c 1 t
  k := iblk m c 2 t
  v := iblk m c 3 t
  fl := iblk m c 4 t
  x := iblk m c 5 t
  dx := iblk m c 6 t
  w := iblk m c 7 t
  g := iblk m c 8 t

theorem index0 : ∀ t : Fin grid0.N, win0_0.index t 0 = 31 - t.val ∧ win0_0.index t 1 = 0 := by decide +kernel
theorem index1 : ∀ t : Fin grid0.N, win0_1.index t 0 = 0 ∧ win0_1.index t 1 = 31 - t.val ∧ win0_1.index t 2 = 0 := by decide +kernel
theorem index2 : ∀ t : Fin grid0.N, win0_2.index t 0 = 0 ∧ win0_2.index t 1 = 31 - t.val ∧ win0_2.index t 2 = 0 := by decide +kernel
theorem index3 : ∀ t : Fin grid0.N, win0_3.index t 0 = 0 ∧ win0_3.index t 1 = 31 - t.val ∧ win0_3.index t 2 = 0 := by decide +kernel
theorem index4 : ∀ t : Fin grid0.N, win0_4.index t 0 = 31 - t.val ∧ win0_4.index t 1 = 0 := by decide +kernel
theorem index5 : ∀ t : Fin grid0.N, win0_5.index t 0 = 31 - t.val ∧ win0_5.index t 1 = 0 := by decide +kernel
theorem index6 : ∀ t : Fin grid0.N, win0_6.index t 0 = 31 - t.val ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 31 - t.val ∧ win0_9.index t 1 = 0 := by decide +kernel
theorem index10 : ∀ t : Fin grid0.N, win0_10.index t 0 = 31 - t.val ∧ win0_10.index t 1 = 0 := by decide +kernel
theorem index11 : ∀ t : Fin grid0.N, win0_11.index t 0 = 0 ∧ win0_11.index t 1 = 0 := by decide +kernel
theorem index12 : ∀ t : Fin grid0.N, win0_12.index t 0 = 0 ∧ win0_12.index t 1 = 0 := by decide +kernel

/-- A block of an array's rows. -/
theorem rows2 {A B A' B' : ℕ} {x : (⟨2, ![A, B]⟩ : Shape).Idx → EReal} {r : ℕ → ℕ → ℝ} (hx : Is2 x r) (o : ℕ) {y : (⟨2, ![A', B']⟩ : Shape).Idx → EReal}
    (e : (⟨2, ![A', B']⟩ : Shape).Idx → (⟨2, ![A, B]⟩ : Shape).Idx) (hy : ∀ i, y i = x (e i)) (h0 : ∀ i, (e i 0).val = o + (i 0).val)
    (h1 : ∀ i, (e i 1).val = (i 1).val) : Is2 y fun a b => r (o + a) b := fun i => by rw [hy, hx, h0, h1]

/-- The same of each head's rows. -/
theorem rows3 {A B C B' : ℕ} {x : (⟨3, ![A, B, C]⟩ : Shape).Idx → EReal} {r : ℕ → ℕ → ℕ → ℝ} (hx : Is3 x r) (o : ℕ) {y : (⟨3, ![A, B', C]⟩ : Shape).Idx → EReal}
    (e : (⟨3, ![A, B', C]⟩ : Shape).Idx → (⟨3, ![A, B, C]⟩ : Shape).Idx) (hy : ∀ i, y i = x (e i)) (h0 : ∀ i, (e i 0).val = (i 0).val)
    (h1 : ∀ i, (e i 1).val = o + (i 1).val) (h2 : ∀ i, (e i 2).val = (i 2).val) : Is3 y fun a b c => r a (o + b) c := fun i => by
  rw [hy, hx, h0, h1, h2]

variable {m : (ℓ : Loc nD τ sig) → Buf (Elt Ideal) ℓ} {c : Dev nD} {D : Data} {X : ℕ → ℕ → EReal}

section

variable (hO : Operands m c D X) (t : Fin cfg0.N)
include hO

theorem uv_block : Is2 (blockAt m c t).uv fun a b => D.duv (256 * (31 - t.val) + a) b :=
  rows2 hO.uv _ (fun i => (win0_0.blk t).view.emb i) (fun _ => rfl) (fun i => by blk_simp; have := index0 t; omega)
    (fun i => by blk_simp; have := index0 t; omega)

theorem fl_block : Is2 (blockAt m c t).fl fun a b => D.flp (256 * (31 - t.val) + a) b :=
  rows2 hO.fl _ (fun i => (win0_4.blk t).view.emb i) (fun _ => rfl) (fun i => by blk_simp; have := index4 t; omega)
    (fun i => by blk_simp; have := index4 t; omega)

theorem x_block : Is2 (blockAt m c t).x fun a b => D.x (256 * (31 - t.val) + a) b :=
  rows2 hO.x _ (fun i => (win0_5.blk t).view.emb i) (fun _ => rfl) (fun i => by blk_simp; have := index5 t; omega)
    (fun i => by blk_simp; have := index5 t; omega)

theorem q_block : Is3 (blockAt m c t).q fun h a l => D.qp h (256 * (31 - t.val) + a) l :=
  rows3 hO.q _ (fun i => (win0_1.blk t).view.emb i) (fun _ => rfl) (fun i => by blk_simp; have := index1 t; omega)
    (fun i => by blk_simp; have := index1 t; omega) (fun i => by blk_simp; have := index1 t; omega)

theorem k_block : Is3 (blockAt m c t).k fun h a l => D.kp h (256 * (31 - t.val) + a) l :=
  rows3 hO.k _ (fun i => (win0_2.blk t).view.emb i) (fun _ => rfl) (fun i => by blk_simp; have := index2 t; omega)
    (fun i => by blk_simp; have := index2 t; omega) (fun i => by blk_simp; have := index2 t; omega)

theorem v_block : Is3 (blockAt m c t).v fun h a l => D.vp h (256 * (31 - t.val) + a) l :=
  rows3 hO.v _ (fun i => (win0_3.blk t).view.emb i) (fun _ => rfl) (fun i => by blk_simp; have := index3 t; omega)
    (fun i => by blk_simp; have := index3 t; omega) (fun i => by blk_simp; have := index3 t; omega)

theorem w_block : Is2 (blockAt m c t).w D.wp :=
  (rows2 hO.w 0 (fun i => (win0_7.blk t).view.emb i) (fun _ => rfl) (fun i => by blk_simp; have := index7 t; omega)
    (fun i => by blk_simp; have := index7 t; omega)).congr fun a _ b _ => by rw [Nat.zero_add]

theorem g_block : Is2 (blockAt m c t).g D.g :=
  (rows2 hO.g 0 (fun i => (win0_8.blk t).view.emb i) (fun _ => rfl) (fun i => by blk_simp; have := index8 t; omega)
    (fun i => by blk_simp; have := index8 t; omega)).congr fun a _ b _ => by rw [Nat.zero_add]

theorem dx_block (i : S256x1024.Idx) : (blockAt m c t).dx i = X (256 * (31 - t.val) + (i 0).val) (i 1).val := by
  have e0 : ((win0_6.blk t).view.emb i 0 : ℕ) = 256 * (31 - t.val) + (i 0).val := by blk_simp; have := index6 t; omega
  have e1 : ((win0_6.blk t).view.emb i 1 : ℕ) = (i 1).val := by blk_simp; have := index6 t; omega
  exact (hO.dx ((win0_6.blk t).view.emb i)).trans (congr (congrArg X e0) e1)

theorem reads_at : Reads D X (31 - t.val) (blockAt m c t) :=
  ⟨uv_block hO t, q_block hO t, k_block hO t, v_block hO t, fl_block hO t, x_block hO t, dx_block hO t, w_block hO t, g_block hO t⟩

end

/-! ## All points -/

/-- What is held after a point whose rows start at `256 q`. -/
structure Held (D : Data) (X : ℕ → ℕ → EReal) (q : ℕ)
    (o : FVec Ideal S256x1024 .f32 × FVec Ideal S256x2688 .bf16 × FVec Ideal S1x1024 .f32 × FVec Ideal S1x128 .f32 × FVec Ideal S1x128 .f32) : Prop where
  row : ∀ i : S256x1024.Idx, o.1 i = X (256 * q + (i 0).val) (i 1).val + ((D.dx (256 * q + (i 0).val) (i 1).val : ℝ) : EReal)
  dz : Is2 o.2.1 fun a j => D.dz (256 * q + a) j
  gain : Is2 o.2.2.1 fun _ k => ∑ t ∈ Ico (256 * q) 8192, D.dh t k * D.n t k
  bias : Is2 o.2.2.2.1 fun _ l => ∑ t ∈ Ico (256 * q) 8192, D.dzf t l
  carry : Is2 o.2.2.2.2 fun _ l => D.dls (256 * q) l

/-- A point computes from its blocks and what the point before left. -/
theorem held_step {q : ℕ} {B : Block Ideal} (hB : Reads D X q B) (hq : q < 32) {s : FVec Ideal S1x128 .f32} (hs : Is2 s fun _ l => D.dls (256 * (q + 1)) l)
    {d : FVec Ideal S1x1024 .f32} (hd : Is2 d fun _ k => ∑ t ∈ Ico (256 * (q + 1)) 8192, D.dh t k * D.n t k)
    {d' : FVec Ideal S1x128 .f32} (hd' : Is2 d' fun _ l => ∑ t ∈ Ico (256 * (q + 1)) 8192, D.dzf t l) :
    Held D X q (B.row s, B.dz s, B.gain s d, B.bias s d', B.carry s) where
  row := row_at hB hq hs
  dz := dz_at hB hq hs
  gain := gain_at hB hq hs hd
  bias := bias_at hB hq hs hd'
  carry := carry_at hB hq hs

/-- The first point, the last block of rows, starts from zeros. -/
theorem outs_first {F : FTy → Type} [FloatOps F] (m : (ℓ : Loc nD τ sig) → Buf (Elt F) ℓ) (c : Dev nD) (t : Fin cfg0.N) (h : t.val % 32 = 0) :
    outsAt0 m c t.val t.isLt = ((blockAt m c t).row k0_pay5, (blockAt m c t).dz k0_pay5, (blockAt m c t).gain k0_pay5 k0_pay6,
      (blockAt m c t).bias k0_pay5 k0_pay7, (blockAt m c t).carry k0_pay5) :=
  (outsAt0_A m c t h).trans (congr (congrArg Prod.mk (out0_A_9_eq ..)) (congr (congrArg Prod.mk (out0_A_10_eq ..))
    (congr (congrArg Prod.mk (out0_A_11_eq ..)) (congr (congrArg Prod.mk (out0_A_12_eq ..)) (sout0_A_0_eq ..)))))

/-- Every other point goes on from the point before. -/
theorem outs_next {F : FTy → Type} [FloatOps F] (m : (ℓ : Loc nD τ sig) → Buf (Elt F) ℓ) (c : Dev nD) (n : ℕ) (hn : n + 1 < cfg0.N) (h : ¬(n + 1) % 32 = 0) :
    outsAt0 m c (n + 1) hn =
      let o := outsAt0 m c n (Nat.lt_of_succ_lt hn)
      let B := blockAt m c ⟨n + 1, hn⟩
      (B.row o.2.2.2.2, B.dz o.2.2.2.2, B.gain o.2.2.2.2 o.2.2.1, B.bias o.2.2.2.2 o.2.2.2.1, B.carry o.2.2.2.2) :=
  (outsAt0_B m c ⟨n + 1, hn⟩ h).trans (congr (congrArg Prod.mk (out0_B_9_eq ..)) (congr (congrArg Prod.mk (out0_B_10_eq ..))
    (congr (congrArg Prod.mk (out0_B_11_eq ..)) (congr (congrArg Prod.mk (out0_B_12_eq ..)) (sout0_B_0_eq ..)))))

theorem held_at (hO : Operands m c D X) : ∀ (n : ℕ) (hn : n < cfg0.N), Held D X (31 - n) (outsAt0 m c n hn)
  | 0, hn => by
    rw [outs_first m c ⟨0, hn⟩ rfl]
    refine held_step (reads_at hO ⟨0, hn⟩) (by omega) (fun i => ?_) (fun i => ?_) (fun i => ?_)
    · pointwise [k0_pay5]; rw [Data.dls]; simp
    · pointwise [k0_pay6]; simp
    · pointwise [k0_pay7]; simp
  | n + 1, hn => by
    have hN : cfg0.N = 32 := N_0
    have h := held_at hO n (Nat.lt_of_succ_lt hn)
    have e : 31 - (n + 1) + 1 = 31 - n := by omega
    rw [outs_next m c n hn (by omega)]
    exact held_step (reads_at hO ⟨n + 1, hn⟩) (by omega) (by rw [e]; exact h.carry) (by rw [e]; exact h.gain) (by rw [e]; exact h.bias)

/-! ## The results -/

variable (hO : Operands m c D X)
include hO

theorem row_array (i : S8192x1024.Idx) :
    (show FVec Ideal S8192x1024 .f32 from (dats m 0 c).arrAt 9 cfg0.N) i = X (i 0).val (i 1).val + ((D.dx (i 0).val (i 1).val : ℝ) : EReal) := by
  refine (dats m 0 c).arrAt_forall_of_covers 9 (fun i v => v = X (i 0).val (i 1).val + ((D.dx (i 0).val (i 1).val : ℝ) : EReal))
    (by decide +kernel) (fun t hf y => ?_) i
  have e0 : ((win0_9.blk t).view.emb y 0 : ℕ) = 256 * (31 - t.val) + (y 0).val := by blk_simp; have := index9 t; omega
  have e1 : ((win0_9.blk t).view.emb y 1 : ℕ) = (y 1).val := by blk_simp; have := index9 t; omega
  exact (congrFun (after0_9 m c t) _).trans (((held_at hO t.val t.isLt).row y).trans (by rw [e0, e1]))

theorem dz_array : Is2 (show FVec Ideal S8192x2688 .bf16 from (dats m 0 c).arrAt 10 cfg0.N) D.dz := fun i => by
  refine (dats m 0 c).arrAt_forall_of_covers 10 (fun i v => v = ((D.dz (i 0).val (i 1).val : ℝ) : EReal)) (by decide +kernel) (fun t hf y => ?_) i
  have e0 : ((win0_10.blk t).view.emb y 0 : ℕ) = 256 * (31 - t.val) + (y 0).val := by blk_simp; have := index10 t; omega
  have e1 : ((win0_10.blk t).view.emb y 1 : ℕ) = (y 1).val := by blk_simp; have := index10 t; omega
  exact (congrFun (after0_10 m c t) _).trans (((held_at hO t.val t.isLt).dz y).trans (by rw [e0, e1]))

theorem gain_array : Is2 (show FVec Ideal S1x1024 .f32 from (dats m 0 c).arrAt 11 cfg0.N) fun _ k => D.dg k := fun i => by
  refine (dats m 0 c).arrAt_forall_of_covers 11 (fun i v => v = ((D.dg (i 1).val : ℝ) : EReal)) (by decide +kernel) (fun t hf y => ?_) i
  have hN : cfg0.N = 32 := N_0
  have ht : t.val = 31 := by have := (flush0_11 t).1 hf; have := t.isLt; omega
  have e1 : ((win0_11.blk t).view.emb y 1 : ℕ) = (y 1).val := by blk_simp; have := index11 t; omega
  exact (congrFun (after0_11 m c t) _).trans (((held_at hO t.val t.isLt).gain y).trans (by rw [e1, ht, Data.dg, range_eq_Ico]))

theorem bias_array : Is2 (show FVec Ideal S1x128 .f32 from (dats m 0 c).arrAt 12 cfg0.N) fun _ l => D.db l := fun i => by
  refine (dats m 0 c).arrAt_forall_of_covers 12 (fun i v => v = ((D.db (i 1).val : ℝ) : EReal)) (by decide +kernel) (fun t hf y => ?_) i
  have hN : cfg0.N = 32 := N_0
  have ht : t.val = 31 := by have := (flush0_12 t).1 hf; have := t.isLt; omega
  have e1 : ((win0_12.blk t).view.emb y 1 : ℕ) = (y 1).val := by blk_simp; have := index12 t; omega
  exact (congrFun (after0_12 m c t) _).trans (((held_at hO t.val t.isLt).bias y).trans (by rw [e1, ht, Data.db, range_eq_Ico]))

end Cert.BwdIn

end
-- ==== Proof.InHost.lean ====
/- What the host passes to the entry's gradient: each head's cotangents in 128 lanes with the running sum's two sides beside
   them, the gates' numbers and the projection with zero columns after their own. -/
module

public import proofs.«01_k».proof.Proof.InFold
public import proofs.«01_k».proof.Proof.Prefix
public import Idealize.ShloMosaic.Lib.KernelVsHost
public import Idealize.ShloMosaic.Lib.Pointwise
public import proofs.«01_k».proof.Proof.Packed

@[expose] public section

set_option maxRecDepth 16384

noncomputable section

namespace Cert.BwdIn

open Cert.Kernel2Ideal Cert.Kernel2Ideal.Gen Cert.Kernel2Ideal.Value
open Cert.KernelIdeal.Value (Is2 Is3 Is2.congr Is3.congr coe_sum_range Pieces glue)
open Idealize.ShloMosaic Idealize.ShloMosaic.TcCoe
open Finset

section Arrays

variable {F : FTy → Type} [FloatOps F]

def heads (x : FVec F S8192x8x64 .f32) : FVec F S8x8192x64 .f32 := transpose S8x8192x64 [1, 0, 2] x transposes_S8192x8x64_S8x8192x64_1_0_2
def column (x : FVec F S8192x8 .f32) : FVec F S8x8192x1 .f32 :=
  broadcastInDim S8x8192x1 ![0, 1] bcast_S8x8192_S8x8192x1_0_1 (transpose S8x8192 [1, 0] x transposes_S8192x8_S8x8192_1_0)

/-- The queries' cotangent, -/
def arrQ (x : FVec F S8192x8x64 .f32) (y : FVec F S8192x8 .f32) : FVec F S8x8192x128 .f32 :=
  concatenate S8x8192x128 2
    [⟨S8x8192x64, heads x⟩, ⟨S8x8192x1, column y⟩, ⟨S8x8192x63, broadcastInDim S8x8192x63 ![] bcast_S_S8x8192x63 (constant S_ .f32 0x00000000#32)⟩]
    concatenates_S8x8192x64_S8x8192x1_S8x8192x63_S8x8192x128_d2
/-- the keys', -/
def arrK (x : FVec F S8192x8x64 .f32) (y : FVec F S8192x8 .f32) : FVec F S8x8192x128 .f32 :=
  concatenate S8x8192x128 2
    [⟨S8x8192x64, heads x⟩, ⟨S8x8192x3, broadcastInDim S8x8192x3 ![] bcast_S_S8x8192x3 (constant S_ .f32 0x00000000#32)⟩, ⟨S8x8192x1, column y⟩,
     ⟨S8x8192x60, broadcastInDim S8x8192x60 ![] bcast_S_S8x8192x60 (constant S_ .f32 0x00000000#32)⟩]
    concatenates_S8x8192x64_S8x8192x3_S8x8192x1_S8x8192x60_S8x8192x128_d2
/-- the values', -/
def arrV (x : FVec F S8192x8x64 .f32) : FVec F S8x8192x128 .bf16 :=
  truncf .bf16 (concatenate S8x8192x128 2
    [⟨S8x8192x64, heads x⟩, ⟨S8x8192x64, broadcastInDim S8x8192x64 ![] bcast_S_S8x8192x64 (constant S_ .f32 0x00000000#32)⟩]
    concatenates_S8x8192x64_S8x8192x64_S8x8192x128_d2) bitsLt_bf16_f32

/-- A row's mean square, -/
def square (x : FVec F S8192x1024 .f32) : FVec F S8192x1 .f32 :=
  addf (Host.divf (broadcastInDim S8192x1 ![0] bcast_S8192_S8192x1_0
      (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))
/-- the row over the root of it, times the gain, -/
def normed (x : FVec F S8192x1024 .f32) (g : FVec F S1x1024 .f32) : FVec F S8192x1024 .f32 :=
  mulf (mulf x (broadcastInDim S8192x1024 ![0, 1] bcast_S8192x1_S8192x1024_0_1 (Host.rsqrt (square x))))
    (broadcastInDim S8192x1024 ![0, 1] bcast_S1x1024_S8192x1024_0_1 (broadcastInDim S1x1024 ![1] bcast_S1024_S1x1024_1 (shapeCast S1024 g shapeCasts_S1x1024_S1024)))
/-- the gates' columns of its projection, with the bias, -/
def logits (x : FVec F S8192x1024 .f32) (g : FVec F S1x1024 .f32) (w : FVec F S1024x2568 .f32) (b : FVec F S1x8 .f32) : FVec F S8192x8 .f32 :=
  addf (extractStridedSlice S8192x8 ![0, 2560] (Host.dotGeneral dot_S8192x1024_S1024x2568_S8192x2568_1_0_0_1_n_n none (normed x g) w) slices_S8192x2568_S8192x8_0_2560)
    (broadcastInDim S8192x8 ![0, 1] bcast_S1x8_S8192x8_0_1 (broadcastInDim S1x8 ![1] bcast_S8_S1x8_1 (shapeCast S8 b shapeCasts_S1x8_S8)))
/-- in 128 columns, -/
def arrF (x : FVec F S8192x1024 .f32) (g : FVec F S1x1024 .f32) (w : FVec F S1024x2568 .f32) (b : FVec F S1x8 .f32) : FVec F S8192x128 .f32 :=
  pad S8192x128 ![0, 0] ![0, 120] ![0, 0] (logits x g w b) (sitofp .f32 (constantI S_ 32 0#32)) pads_S8192x8_S8192x128_000_01200 h_S_
/-- and the projection in 2688. -/
def arrW (w : FVec F S1024x2568 .f32) : FVec F S1024x2688 .bf16 :=
  pad S1024x2688 ![0, 0] ![0, 120] ![0, 0] (truncf .bf16 w bitsLt_bf16_f32) (sitofp .bf16 (constantI S_ 32 0#32)) pads_S1024x2568_S1024x2688_000_01200 h_S_

/-! ## The host's lines leave them -/

/-- Pieces with equal values make equal lists. -/
theorem pieces_cons {s : Shape} {x y : FVec F s .f32} {l l' : List (Σ s : Shape, FVec F s .f32)} (hx : x = y) (hl : l = l') :
    (⟨s, x⟩ :: l : List (Σ s : Shape, FVec F s .f32)) = ⟨s, y⟩ :: l' := by
  rw [hx, hl]

variable (m : (ℓ : Loc nD τ sig) → Buf (Elt F) ℓ) (c : Dev nD)

theorem host_uv : V m c main_v38 = truncf .bf16 (m ((c.tc : Thread nD τ).loc main_arg4) : FVec F S8192x1024 .f32) bitsLt_bf16_f32 := by
  unfold V
  simp only [hostOps0, hostOps0_1, hostOps0_2, hostOps0_3, hostOps0_4, List.flatten_cons, List.flatten_nil, List.append_nil]
  after_reads_simp

theorem host_q : V m c main_v31 = arrQ (m ((c.tc : Thread nD τ).loc main_arg5)) (m ((c.tc : Thread nD τ).loc main_arg8)) := by
  unfold V
  simp only [hostOps0, hostOps0_1, hostOps0_2, hostOps0_3, hostOps0_4, List.flatten_cons, List.flatten_nil, List.append_nil]
  simp (disch := decide) only [StableHlo.readAfter, StableHlo.readUpto, StableHlo.nary_result']
  refine StableHlo.concatenate_congr _ _ (pieces_cons ?_ (pieces_cons ?_ (pieces_cons ?_ rfl))) _ _
  · show StableHlo.upto _ _ _ (Proc.devRef .tc main_v23) = _
    after_reads_simp
    rfl
  · show StableHlo.upto _ _ _ (Proc.devRef .tc main_v27) = _
    after_reads_simp
    rfl
  · show StableHlo.upto _ _ _ (Proc.devRef .tc main_v30) = _
    after_reads_simp

theorem host_k : V m c main_v34 = arrK (m ((c.tc : Thread nD τ).loc main_arg6)) (m ((c.tc : Thread nD τ).loc main_arg9)) := by
  unfold V
  simp only [hostOps0, hostOps0_1, hostOps0_2, hostOps0_3, hostOps0_4, List.flatten_cons, List.flatten_nil, List.append_nil]
  simp (disch := decide) only [StableHlo.readAfter, StableHlo.readUpto, StableHlo.nary_result']
  refine StableHlo.concatenate_congr _ _ (pieces_cons ?_ (pieces_cons ?_ (pieces_cons ?_ (pieces_cons ?_ rfl)))) _ _
  · show StableHlo.upto _ _ _ (Proc.devRef .tc main_v24) = _
    after_reads_simp
    rfl
  · show StableHlo.upto _ _ _ (Proc.devRef .tc main_v32) = _
    after_reads_simp
  · show StableHlo.upto _ _ _ (Proc.devRef .tc main_v29) = _
    after_reads_simp
    rfl
  · show StableHlo.upto _ _ _ (Proc.devRef .tc main_v33) = _
    after_reads_simp

theorem host_v : V m c main_v37 = arrV (m ((c.tc : Thread nD τ).loc main_arg7)) := by
  unfold V
  simp only [hostOps0, hostOps0_1, hostOps0_2, hostOps0_3, hostOps0_4, List.flatten_cons, List.flatten_nil, List.append_nil]
  after_reads_simp
  rfl

theorem host_f : V m c main_v20 = arrF (m ((c.tc : Thread nD τ).loc main_arg0)) (m ((c.tc : Thread nD τ).loc main_arg1))
    (m ((c.tc : Thread nD τ).loc main_arg2)) (m ((c.tc : Thread nD τ).loc main_arg3)) := by
  unfold V
  simp only [hostOps0, hostOps0_1, hostOps0_2, hostOps0_3, hostOps0_4, List.flatten_cons, List.flatten_nil, List.append_nil]
  after_reads_simp
  simp only [StableHlo.TRef.toBuf, StableHlo.TRef.ofBuf, cast_eq]
  rfl

theorem host_w : V m c main_v22 = arrW (m ((c.tc : Thread nD τ).loc main_arg2)) := by
  unfold V
  simp only [hostOps0, hostOps0_1, hostOps0_2, hostOps0_3, hostOps0_4, List.flatten_cons, List.flatten_nil, List.append_nil]
  after_reads_simp
  simp only [StableHlo.TRef.toBuf, StableHlo.TRef.ofBuf, cast_eq]
  rfl

end Arrays

/-! ## As real numbers -/

/-- A table between columns of zeros, -/
theorem pad_at {A B C o p : ℕ} {x : (⟨2, ![A, B]⟩ : Shape).Idx → EReal} {r : ℕ → ℕ → ℝ} (hx : Is2 x r) {v : (⟨0, ![]⟩ : Shape).Idx → EReal} (hv : ∀ i, v i = 0)
    (h : (⟨2, ![A, B]⟩ : Shape).Pads ![0, o] ![0, p] ![0, 0] ⟨2, ![A, C]⟩) (hu) :
    Is2 (pad ⟨2, ![A, C]⟩ ![0, o] ![0, p] ![0, 0] x v h hu) fun a b => if o ≤ b ∧ b < o + B then r a (b - o) else 0 := fun j => by
  by_cases e : o ≤ (j 1).val ∧ (j 1).val < o + B
  · have hA : (j 0).val < A := (j 0).isLt
    have hB : (j 1).val - o < B := by omega
    refine (pad_apply_of_inside _ _ _ x v h hu j (ValueIdx.ix2 ⟨(j 0).val, hA⟩ ⟨(j 1).val - o, hB⟩) fun a => match a with
      | ⟨0, _⟩ => by show (j 0).val = 0 + (j 0).val * (0 + 1); omega
      | ⟨1, _⟩ => by show (j 1).val = o + ((j 1).val - o) * (0 + 1); omega).trans ((hx _).trans ?_)
    exact congrArg Real.toEReal (if_pos e).symm
  · refine (pad_apply_of_not_inside _ _ _ x v h hu j ⟨1, Nat.one_lt_two⟩ fun ha => e ?_).trans ((hv _).trans ?_)
    · have h0 : o ≤ (j 1).val := ha.1
      have h1 : ((j 1).val - o) / (0 + 1) < B := ha.2.2
      omega
    · exact congrArg Real.toEReal (if_neg e).symm

/-- and before them. -/
theorem pad_is {A B C p : ℕ} {x : (⟨2, ![A, B]⟩ : Shape).Idx → EReal} {r : ℕ → ℕ → ℝ} (hx : Is2 x r) {v : (⟨0, ![]⟩ : Shape).Idx → EReal} (hv : ∀ i, v i = 0)
    (h : (⟨2, ![A, B]⟩ : Shape).Pads ![0, 0] ![0, p] ![0, 0] ⟨2, ![A, C]⟩) (hu) :
    Is2 (pad ⟨2, ![A, C]⟩ ![0, 0] ![0, p] ![0, 0] x v h hu) fun a b => if b < B then r a b else 0 :=
  (pad_at hx hv h hu).congr fun a _ b _ => by simp only [Nat.zero_le, true_and, Nat.zero_add, Nat.sub_zero]

theorem int_zero (ty : FTy) (i : S_.Idx) : sitofp (F := Ideal) ty (constantI S_ 32 0#32) i = 0 := by
  show ((((0#32 : BitVec 32).toInt : ℤ) : ℝ) : EReal) = 0
  simp

/-- The arguments are real, with the data's numbers. -/
structure Args (D : Data) (x : FVec Ideal S8192x1024 .f32) (g : FVec Ideal S1x1024 .f32) (w : FVec Ideal S1024x2568 .f32) (b : FVec Ideal S1x8 .f32)
    (duv : FVec Ideal S8192x1024 .f32) (dq dk dv : FVec Ideal S8192x8x64 .f32) (dct dcs : FVec Ideal S8192x8 .f32) : Prop where
  x : Is2 x D.x
  g : Is2 g D.g
  w : Is2 w D.w
  b : Is2 b D.b
  duv : Is2 duv D.duv
  dq : Is3 dq D.dq
  dk : Is3 dk D.dk
  dv : Is3 dv D.dv
  dct : Is2 dct D.dct
  dcs : Is2 dcs D.dcs

section Values

variable {D : Data} {x : FVec Ideal S8192x1024 .f32} {g : FVec Ideal S1x1024 .f32} {w : FVec Ideal S1024x2568 .f32} {b : FVec Ideal S1x8 .f32}

theorem square_is (hx : Is2 x D.x) : Is2 (square x) fun t _ => D.ms t := fun i => by
  pointwise [square]
  rw [eps_is, kilo_is, div_is (sum_is (r := fun k => D.x (i 0).val k * D.x (i 0).val k) fun k => by rw [hx, ← EReal.coe_mul]; rfl) (by norm_num), ← EReal.coe_add]
  rfl

theorem normed_is (hx : Is2 x D.x) (hg : Is2 g D.g) : Is2 (normed x g) fun t k => D.n t k * D.g 0 k := fun i => by
  pointwise [normed]
  rw [rsqrt_is (square_is hx _) (D.ms_pos _), hx, hg, ← EReal.coe_mul, ← EReal.coe_mul]
  rfl

theorem logits_is (hx : Is2 x D.x) (hg : Is2 g D.g) (hw : Is2 w D.w) (hb : Is2 b D.b) : Is2 (logits x g w b) D.fl := fun i => by
  pointwise [logits]
  rw [hb, sum_is (r := fun k => D.n (i 0).val k * D.g 0 k * D.w k (2560 + (i 1).val)) fun k => by rw [normed_is hx hg, hw, ← EReal.coe_mul]; rfl, ← EReal.coe_add]
  rfl

theorem heads_is {y : FVec Ideal S8192x8x64 .f32} {r : ℕ → ℕ → ℕ → ℝ} (hy : Is3 y r) : Is3 (heads y) fun h t l => r t h l := hy.swap01 _

theorem column_is {y : FVec Ideal S8192x8 .f32} {r : ℕ → ℕ → ℝ} (hy : Is2 y r) : Is3 (column y) fun h t _ => r t h :=
  (hy.swap _).column (by decide) (by decide) _

theorem zero_is : Ideal.ofBits .f32 0x00000000#32 = ((0 : ℝ) : EReal) := Ideal.ofBits_zero_f32

theorem arrQ_is {y : FVec Ideal S8192x8x64 .f32} {z : FVec Ideal S8192x8 .f32} (hy : Is3 y D.dq) (hz : Is2 z D.dct) : Is3 (arrQ y z) D.qp :=
  (Pieces.concat (.cons (heads_is hy) <| .cons (column_is hz) <| .cons (Is3.splat zero_is _) .nil) _).congr fun h _ t _ l hl => by
    simp only [glue, Data.qp]
    split_ifs <;> first | rfl | omega

theorem arrK_is {y : FVec Ideal S8192x8x64 .f32} {z : FVec Ideal S8192x8 .f32} (hy : Is3 y D.dk) (hz : Is2 z D.dcs) : Is3 (arrK y z) D.kp :=
  (Pieces.concat (.cons (heads_is hy) <| .cons (Is3.splat zero_is _) <| .cons (column_is hz) <| .cons (Is3.splat zero_is _) .nil) _).congr
    fun h _ t _ l hl => by
    simp only [glue, Data.kp]
    split_ifs <;> first | rfl | omega

theorem arrV_is {y : FVec Ideal S8192x8x64 .f32} (hy : Is3 y D.dv) : Is3 (arrV y) D.vp :=
  Is3.congr (Pieces.concat (.cons (heads_is hy) <| .cons (Is3.splat zero_is _) .nil) concatenates_S8x8192x64_S8x8192x64_S8x8192x128_d2) fun h _ t _ l hl => by
    simp only [glue, Data.vp]
    split_ifs <;> first | rfl | omega

theorem arrF_is (hx : Is2 x D.x) (hg : Is2 g D.g) (hw : Is2 w D.w) (hb : Is2 b D.b) : Is2 (arrF x g w b) D.flp :=
  pad_is (logits_is hx hg hw hb) (int_zero _) _ _

theorem arrW_is (hw : Is2 w D.w) : Is2 (arrW w) D.wp :=
  pad_is (x := truncf .bf16 w bitsLt_bf16_f32) hw (int_zero _) _ _

end Values

/-- The call's operands from its arguments. -/
theorem operands {m : (ℓ : Loc nD τ sig) → Buf (Elt Ideal) ℓ} {c : Dev nD} {D : Data} {X : ℕ → ℕ → EReal}
    (hA : Args D (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)))
    (hX : ∀ i : S8192x1024.Idx, (show FVec Ideal S8192x1024 .f32 from m ((c.tc : Thread nD τ).loc main_arg10)) i = X (i 0).val (i 1).val) :
    Operands m c D X where
  uv i := (congrFun (host_uv m c) i).trans (hA.duv i)
  q i := (congrFun (host_q m c) i).trans (arrQ_is hA.dq hA.dct i)
  k i := (congrFun (host_k m c) i).trans (arrK_is hA.dk hA.dcs i)
  v i := (congrFun (host_v m c) i).trans (arrV_is hA.dv i)
  fl i := (congrFun (host_f m c) i).trans (arrF_is hA.x hA.g hA.w hA.b i)
  x i := (congrFun (V_main_arg0 m c) i).trans (hA.x i)
  dx i := (congrFun (V_main_arg10 m c) i).trans (hX i)
  w i := (congrFun (host_w m c) i).trans (arrW_is hA.w i)
  g i := (congrFun (V_main_arg1 m c) i).trans (hA.g i)

end Cert.BwdIn

end
-- ==== Proof.InRef.lean ====
/- The reference of the entry's gradient, line by line, as real numbers. -/
module

public import proofs.«01_k».proof.Proof.InHost
public import proofs.«01_k».proof.Proof.Gen.Reference2Ideal.Read

@[expose] public section

set_option maxRecDepth 16384

noncomputable section

namespace Cert.BwdIn

open Cert.Reference2Ideal Cert.Reference2Ideal.Gen Cert.Reference2Ideal.Read
open Cert.KernelIdeal.Value (Is2 Is3 Is2.congr Is3.congr coe_sum_range eighth)
open Idealize.ShloMosaic Idealize.ShloMosaic.TcCoe
open Finset

/-! ## A running sum from the last row -/

theorem foldl_sum {α : Type*} (l : List α) (g : α → EReal) (v : EReal) : l.foldl (fun r n => r + g n) v = v + (l.map g).sum := by
  induction l generalizing v with
  | nil => simp
  | cons a l ih => rw [List.foldl_cons, ih, List.map_cons, List.sum_cons, add_assoc]

/-- The places of a window one column wide. -/
def rowPlaces (A : ℕ) : Fin A ≃ (⟨2, ![A, 1]⟩ : Shape).Idx where
  toFun k := ValueIdx.ix2 k 0
  invFun j := j 0
  left_inv _ := rfl
  right_inv j := (congrArg (ValueIdx.ix2 (j 0)) (Subsingleton.elim (0 : Fin 1) (j 1))).trans (ValueIdx.eq_ix2 j).symm

theorem later_is {A B p : ℕ} {x : (⟨2, ![A, B]⟩ : Shape).Idx → EReal} {r : ℕ → ℕ → ℝ} (hx : Is2 x r)
    (h : (⟨2, ![A, B]⟩ : Shape).ReduceWindows ![A, 1] ![1, 1] ![0, 0] ![p, 0] ⟨2, ![A, B]⟩) :
    Is2 (Ideal.hostReduceWindowAdd (s := ⟨2, ![A, B]⟩) (t := ⟨2, ![A, B]⟩) ![A, 1] ![1, 1] ![0, 0] ![p, 0] h x 0) fun t l => ∑ s ∈ Ico t A, r s l := fun j => by
  have hj : (j 0).val < A := (j 0).isLt
  have hl : (j 1).val < B := (j 1).isLt
  unfold Ideal.hostReduceWindowAdd Host.reduceWindow
  refine (foldl_sum _ _ _).trans ?_
  rw [← Fin.sum_univ_def, zero_add]
  refine (Fintype.sum_equiv ((Shape.rowMajor ⟨2, ![A, 1]⟩).symm.trans (rowPlaces A).symm) _
    (fun k : Fin A => ((if (j 0).val + k.val < A then r ((j 0).val + k.val) (j 1).val else 0 : ℝ) : EReal)) fun n => ?_).trans
    ((sum_is (r := fun k => if (j 0).val + k < A then r ((j 0).val + k) (j 1).val else 0) fun k => rfl).trans (congrArg Real.toEReal ?_))
  · obtain ⟨q, hq⟩ : ∃ q, (Shape.rowMajor ⟨2, ![A, 1]⟩).symm n = q := ⟨_, rfl⟩
    have q1 : (q 1).val = 0 := Nat.lt_one_iff.1 (q 1).isLt
    have e0 : (((Shape.rowMajor ⟨2, ![A, 1]⟩).symm.trans (rowPlaces A).symm) n).val = (q 0).val := by rw [← hq]; rfl
    have p0 : (((Shape.rowMajor ⟨2, ![A, 1]⟩).symm n) 0).val = (q 0).val := by rw [hq]
    have p1 : (((Shape.rowMajor ⟨2, ![A, 1]⟩).symm n) 1).val = 0 := by rw [hq, q1]
    rw [e0]
    by_cases e : (j 0).val + (q 0).val < A
    · rw [if_pos e]
      refine (dif_pos fun a => match a with
        | ⟨0, _⟩ => ⟨Nat.zero_le _, ?_⟩
        | ⟨1, _⟩ => ⟨Nat.zero_le _, ?_⟩).trans ((hx _).trans (congrArg Real.toEReal (congr (congrArg r ?_) ?_)))
      · show (j 0).val * 1 + (((Shape.rowMajor ⟨2, ![A, 1]⟩).symm n) 0).val - 0 = _
        omega
      · show (j 1).val * 1 + (((Shape.rowMajor ⟨2, ![A, 1]⟩).symm n) 1).val - 0 = _
        omega
      · show (j 0).val * 1 + (((Shape.rowMajor ⟨2, ![A, 1]⟩).symm n) 0).val - 0 < A
        omega
      · show (j 1).val * 1 + (((Shape.rowMajor ⟨2, ![A, 1]⟩).symm n) 1).val - 0 < B
        omega
    · rw [if_neg e]
      refine (dif_neg fun hin => e ?_).trans rfl
      have h := (hin ⟨0, Nat.two_pos⟩).2
      change (j 0).val * 1 + (((Shape.rowMajor ⟨2, ![A, 1]⟩).symm n) 0).val - 0 < A at h
      omega
  · show _ = ∑ s ∈ Ico (j 0).val A, r s (j 1).val
    rw [sum_Ico_eq_sum_range, ← sum_filter]
    refine sum_congr (Finset.ext fun k => ?_) fun _ _ => rfl
    rw [mem_filter, mem_range, mem_range]
    omega

/-! ## The lines -/

theorem inf_is : Ideal.ofBits .f32 0x7F800000#32 = ⊤ := by
  simp [Ideal.ofBits, Ideal.ieee]

/-- The exponential of a real less its own softened positive part, with the guards a program puts around both. -/
theorem soft_is {d z u : EReal} {f : ℝ} (hd : d = ((-f : ℝ) : EReal)) (hz : z = 0) (hu : u = ⊤) (b c : EReal) :
    Ideal.exp ((if d = u then b else d) -
      if (if d - z ≠ d - z then d + z else max d z + Ideal.log1p (Ideal.exp (-max (d - z) (-(d - z))))) = u then c
      else if d - z ≠ d - z then d + z else max d z + Ideal.log1p (Ideal.exp (-max (d - z) (-(d - z))))) =
      (((1 + Real.exp f)⁻¹ : ℝ) : EReal) := by
  subst hd hz hu
  have e0 := Real.exp_pos (-max (-f) f)
  have h0 : ((-f : ℝ) : EReal) - 0 = ((-f : ℝ) : EReal) := sub_zero _
  have hl : Ideal.log1p (Ideal.exp (-max ((-f : ℝ) : EReal) (-((-f : ℝ) : EReal)))) = ((Real.log (1 + Real.exp (-max (-f) f)) : ℝ) : EReal) := by
    rw [← EReal.coe_neg, neg_neg, ← EReal.coe_strictMono.monotone.map_max, ← EReal.coe_neg, Ideal.exp_coe, Ideal.log1p, ← EReal.coe_one, ← EReal.coe_add, Ideal.log_coe,
      if_neg (by linarith)]
  rw [h0, if_neg (EReal.coe_ne_top _), if_neg (show ¬((-f : ℝ) : EReal) ≠ ((-f : ℝ) : EReal) from fun h => h rfl), hl, ← EReal.coe_zero,
    ← EReal.coe_strictMono.monotone.map_max, ← EReal.coe_add, if_neg (EReal.coe_ne_top _), ← EReal.coe_sub, Ideal.exp_coe]
  refine congrArg Real.toEReal ?_
  have p : 0 < 1 + Real.exp (-max (-f) f) := by linarith
  rw [Real.exp_sub, Real.exp_add, Real.exp_log p, eq_comm, inv_eq_one_div, div_eq_div_iff (by positivity) (by positivity), one_mul]
  rcases le_total 0 f with h | h
  · rw [max_eq_right (by linarith : -f ≤ 0), max_eq_right (by linarith : -f ≤ f), Real.exp_zero, one_mul, mul_add, ← Real.exp_add, neg_add_cancel,
      Real.exp_zero, mul_one, add_comm]
  · rw [max_eq_left (by linarith : 0 ≤ -f), max_eq_left (by linarith : f ≤ -f), neg_neg]

/-- A total taken up from zero. -/
theorem total_is {n : ℕ} {c : EReal} {f : Fin n → EReal} {r : ℕ → ℝ} (hc : c = 0) (h : ∀ k, f k = ((r k.val : ℝ) : EReal)) :
    c + ∑ k, f k = ((∑ k ∈ range n, r k : ℝ) : EReal) := by rw [hc, zero_add, sum_is h]

/-- The same of a single value. -/
theorem lone_is {c a : EReal} {f : Fin 1 → EReal} (hc : c = 0) (h : f 0 = a) : c + ∑ k, f k = a := by
  rw [hc, zero_add, Fin.sum_univ_one, h]

/-- A row's mean of its values times their gradient, over the cube of its root. -/
def _root_.Cert.BwdIn.Data.half (D : Data) (t : ℕ) : ℝ :=
  (∑ k ∈ range 1024, D.x t k * (D.dh t k * D.g 0 k)) * (-(1 / 2) * (D.r t / D.ms t)) / 1024

theorem _root_.Cert.BwdIn.Data.dx_half (D : Data) (t k : ℕ) :
    D.dh t k * D.g 0 k * D.r t + (D.x t k * D.half t + D.half t * D.x t k) = D.dx t k := by
  have e : ∑ i ∈ range 1024, D.dh t i * D.g 0 i * D.n t i = D.r t * ∑ i ∈ range 1024, D.x t i * (D.dh t i * D.g 0 i) := by
    rw [mul_sum]
    exact sum_congr rfl fun i _ => by unfold Data.n; ring
  have q := D.r_sq t
  unfold Data.dx Data.half
  rw [e, show D.r t / D.ms t = D.r t * (D.r t * D.r t) by rw [q, mul_one_div]]
  unfold Data.n
  ring

theorem half_is : Ideal.ofBits .f32 0xBF000000#32 = ((-(1 / 2) : ℝ) : EReal) := by
  simp [Ideal.ofBits, Ideal.ieee]
  rw [← EReal.coe_mul]
  norm_num

section Lines

variable {D : Data} {x0 : FVec Ideal S8192x1024 .f32} {x1 : FVec Ideal S1x1024 .f32} {x2 : FVec Ideal S1024x2568 .f32} {x3 : FVec Ideal S1x8 .f32}
  {x4 : FVec Ideal S8192x1024 .f32} {x5 x6 x7 : FVec Ideal S8192x8x64 .f32} {x8 x9 : FVec Ideal S8192x8 .f32} (hA : Args D x0 x1 x2 x3 x4 x5 x6 x7 x8 x9)
include hA

theorem ref_ms : Is2 (val_main_v7 (F := Ideal) x0) fun t _ => D.ms t := square_is hA.x

theorem ref_r : Is2 (val_main_v8 (F := Ideal) x0) fun t _ => D.r t := fun i => rsqrt_is (ref_ms hA i) (D.ms_pos _)

theorem ref_n : Is2 (val_main_v13 (F := Ideal) x0) D.n := fun i => by
  pointwise [val_main_v13, val_main_v12]
  rw [ref_r hA, hA.x, ← EReal.coe_mul]
  rfl

theorem ref_fl : Is2 (val_main_v29 (F := Ideal) x0 x1 x2 x3) D.fl := logits_is hA.x hA.g hA.w hA.b

theorem ref_gate : Is2 (val_main_v30_1 (F := Ideal) x0 x1 x2 x3) fun t h => (1 + Real.exp (D.fl t h))⁻¹ := fun i => by
  pointwise [val_main_v30_1, val_main_call0_call0_v21, val_main_call0_call0_v20, val_main_call0_call0_v19, val_main_call0_call0_v18,
    val_main_call0_call0_v17, val_main_call0_call0_v16, val_main_call0_call0_v15, val_main_call0_call0_v14, val_main_call0_call0_v13,
    val_main_call0_v1_0, val_main_call0_call0_v11, val_main_call0_call0_v10, val_main_call0_call0_v9, val_main_call0_call0_v8,
    val_main_call0_call0_v7, val_main_call0_call0_v6, val_main_call0_call0_v5, val_main_call0_call0_v4, val_main_call0_call0_v3,
    val_main_call0_call0_v2, val_main_call0_call0_v1, val_main_call0_call0_v0, val_main_call0_v0]
  rw [ref_fl hA]
  exact soft_is (EReal.coe_neg _).symm Ideal.ofBits_zero_f32 inf_is _ _

theorem ref_dls : Is2 (val_main_v39 (F := Ideal) x8 x9) D.dls := by
  have h' : Is2 (val_main_v36 (F := Ideal) x8 x9) fun t l => D.dct t l + -D.dcs t l := fun i => by
    pointwise [val_main_v36, val_main_v35]
    rw [hA.dct, hA.dcs, ← EReal.coe_neg, ← EReal.coe_add]
  have h : Is2 (val_main_v36 (F := Ideal) x8 x9) D.dcum := h'.congr fun t _ l hl => by
    unfold Data.dcum
    rw [if_pos hl, sub_eq_add_neg]
  have z : val_main_call2_call0_v0 (F := Ideal) (Shape.Idx.first h_S_) = 0 := by
    pointwise [val_main_call2_call0_v0]
    exact Ideal.ofBits_zero_f32
  unfold val_main_v39 Host.reduceWindowAdd
  rw [z]
  exact later_is h reduceWindows_S8192x8_S8192x8_w8192s1p0_8191_w1s1p0_0

theorem ref_dzf : Is2 (val_main_v40 (F := Ideal) x0 x1 x2 x3 x8 x9) D.dzf := by
  have h : Is2 (val_main_v40 (F := Ideal) x0 x1 x2 x3 x8 x9) fun t l => -(-D.dls t l * (1 + Real.exp (D.fl t l))⁻¹) := fun i => by
    pointwise [val_main_v40, val_main_call3_v1, val_main_call3_v0]
    rw [ref_dls hA, ref_gate hA, ← EReal.coe_neg, ← EReal.coe_mul, ← EReal.coe_neg]
  exact h.congr fun t _ l hl => by
    unfold Data.dzf Data.flp
    rw [if_pos hl, neg_mul, neg_neg]

theorem ref_flat {y : FVec Ideal S8192x8x64 .f32} {r : ℕ → ℕ → ℕ → ℝ} (hy : Is3 y r) : Is2 (val_main_v46 (F := Ideal) y) fun t c => r t (c / 64) (c % 64) := fun i => by
  have h0 : (i 0).val < 8192 := (i 0).isLt
  have h1 : (i 1).val < 512 := (i 1).isLt
  rw [val_main_v46_apply, hy]
  exact congrArg Real.toEReal (congr (congr (congrArg r (show ((i 0).val * 512 + (i 1).val) / 512 = _ by omega))
    (show ((i 0).val * 512 + (i 1).val) / 64 % 8 = _ by omega)) (show ((i 0).val * 512 + (i 1).val) % 64 = _ by omega))

theorem zero_at (i : S_.Idx) : constant (F := Ideal) S_ .f32 0x00000000#32 i = 0 := Ideal.ofBits_zero_f32

theorem ref_dz : Is2 (val_main_v56 (F := Ideal) x0 x1 x2 x3 x4 x5 x6 x7 x8 x9) D.dz := by
  have hq : Is3 (val_main_v38 (F := Ideal) x5) fun t h d => D.dq t h d * (1 / 8) := hA.dq.mul (Is3.splat eighth _)
  have a : Is2 (val_main_v45 (F := Ideal) x0 x1 x2 x3 x8 x9) _ := pad_at (ref_dzf hA) (zero_at hA) pads_S8192x8_S8192x2568_000_256000 h_S_
  have b : Is2 (val_main_v47 (F := Ideal) x7) _ := pad_at (ref_flat hA hA.dv) (zero_at hA) pads_S8192x512_S8192x2568_000_204880 h_S_
  have c : Is2 (val_main_v50 (F := Ideal) x6) _ := pad_at (ref_flat hA hA.dk) (zero_at hA) pads_S8192x512_S8192x2568_000_15365200 h_S_
  have d : Is2 (val_main_v53 (F := Ideal) x5) _ := pad_at (ref_flat hA hq) (zero_at hA) pads_S8192x512_S8192x2568_000_102410320 h_S_
  have e : Is2 (val_main_v55 (F := Ideal) x4) _ := pad_at hA.duv (zero_at hA) pads_S8192x1024_S8192x2568_000_015440 h_S_
  refine ((((a.add b).add c).add d).add e).congr fun t _ j hj => ?_
  unfold Data.dz
  have h0 : ¬(0 + 1024 : ℕ) = 0 := by decide
  split_ifs
  all_goals first | (exfalso; omega) | simp only [zero_add, add_zero, Nat.sub_zero]

theorem ref_dh : Is2 (val_main_v57 (F := Ideal) x0 x1 x2 x3 x4 x5 x6 x7 x8 x9) D.dh := fun i => by
  rw [val_main_v57_apply]
  exact sum_is (r := fun j => D.dz (i 0).val j * D.w (i 1).val j) fun j => by rw [ref_dz hA, hA.w, ← EReal.coe_mul]

theorem ref_bias : Is2 (val_main_v44 (F := Ideal) x0 x1 x2 x3 x8 x9) fun _ l => D.db l := fun i => by
  pointwise [val_main_v44, val_main_v43, val_main_v42, val_main_v41]
  refine lone_is Ideal.ofBits_zero_f32 (total_is (r := fun t => D.dzf t (i 1).val) Ideal.ofBits_zero_f32 fun t => ?_)
  rw [ref_dzf hA]
  rfl

theorem ref_gain : Is2 (val_main_v79 (F := Ideal) x0 x1 x2 x3 x4 x5 x6 x7 x8 x9) fun _ k => D.dg k := fun i => by
  pointwise [val_main_v79, val_main_v63, val_main_v60, val_main_v59, val_main_v58]
  refine lone_is Ideal.ofBits_zero_f32 (total_is (r := fun t => D.dh t (i 1).val * D.n t (i 1).val) Ideal.ofBits_zero_f32 fun t => ?_)
  rw [ref_n hA, ref_dh hA, ← EReal.coe_mul, mul_comm]
  rfl

theorem ref_half : Is2 (val_main_v74 (F := Ideal) x0 x1 x2 x3 x4 x5 x6 x7 x8 x9) fun t _ => D.half t := fun i => by
  pointwise [val_main_v74, val_main_v73, val_main_v72, val_main_v71, val_main_v70, val_main_v66, val_main_v65, val_main_v64, val_main_v62, val_main_v61,
    val_main_v14, val_main_v0, val_main_v11, val_main_v10, val_main_v9]
  refine lone_is Ideal.ofBits_zero_f32 ((congrArg₂ Ideal.div (congrArg₂ (· * ·)
    (total_is (r := fun k => D.x (i 0).val k * (D.dh (i 0).val k * D.g 0 k)) Ideal.ofBits_zero_f32 fun k => ?_)
    (congrArg₂ (· * ·) half_is (congrArg₂ Ideal.div (ref_r hA _) (ref_ms hA _)))) kilo_is).trans ?_)
  · rw [hA.x, ref_dh hA, hA.g, ← EReal.coe_mul, ← EReal.coe_mul]
    rfl
  · rw [div_is rfl (D.ms_pos _).ne', ← EReal.coe_mul]
    exact div_is (EReal.coe_mul _ _).symm (by norm_num)

theorem ref_row (i : S8192x1024.Idx) (x10 : FVec Ideal S8192x1024 .f32) :
    val_main_v78 (F := Ideal) x0 x1 x2 x3 x4 x5 x6 x7 x8 x9 x10 i = x10 i + ((D.dx (i 0).val (i 1).val : ℝ) : EReal) := by
  pointwise [val_main_v78, val_main_v77, val_main_v76, val_main_v75, val_main_v69, val_main_v68, val_main_v67, val_main_v62, val_main_v61, val_main_v14, val_main_v0]
  rw [ref_half hA, ref_dh hA, ref_r hA, hA.x, hA.g]
  show x10 i + ((D.dh (i 0).val (i 1).val : ℝ) : EReal) * ((D.g 0 (i 1).val : ℝ) : EReal) * ((D.r (i 0).val : ℝ) : EReal) +
    ((D.x (i 0).val (i 1).val : ℝ) : EReal) * ((D.half (i 0).val : ℝ) : EReal) +
    ((D.half (i 0).val : ℝ) : EReal) * ((D.x (i 0).val (i 1).val : ℝ) : EReal) = _
  rw [add_assoc, add_assoc, ← EReal.coe_mul, ← EReal.coe_mul, ← EReal.coe_mul, ← EReal.coe_mul, ← EReal.coe_add, ← EReal.coe_add, D.dx_half]

theorem ref_dz_pad : Is2 (val_main_v81 (F := Ideal) x0 x1 x2 x3 x4 x5 x6 x7 x8 x9) D.dz :=
  Is2.congr (x := val_main_v80 (F := Ideal) x0 x1 x2 x3 x4 x5 x6 x7 x8 x9)
    (pad_is (ref_dz hA) (int_zero .f32) pads_S8192x2568_S8192x2688_000_01200 h_S_) fun t _ j hj => by
      split_ifs
      · rfl
      · exact (D.dz_pad t j (by omega)).symm

theorem ref_bias_pad : Is2 (val_main_v82 (F := Ideal) x0 x1 x2 x3 x8 x9) fun _ l => D.db l :=
  Is2.congr (pad_is (ref_bias hA) (int_zero .f32) pads_S1x8_S1x128_000_01200 h_S_) fun _ _ l hl => by
    split_ifs
    · rfl
    · exact (Finset.sum_eq_zero fun t _ => D.dzf_lane t l (by omega)).symm

end Lines

end Cert.BwdIn

end
-- ==== Proof.InEqual.lean ====
/- Of finite arguments the entry gradient's four results are the plain gradient's, entry by entry. -/
module

public import proofs.«01_k».proof.Defs
public import proofs.«01_k».proof.Proof.InRef
public import proofs.«01_k».proof.Proof.Equal
public import proofs.«01_k».proof.Proof.Gen.Kernel2
public import proofs.«01_k».proof.Proof.Gen.Reference2Ideal
public import proofs.«01_k».proof.Proof.Gen.Reference2Ideal.Run
public import proofs.«01_k».proof.Proof.Gen.Pre_finite2
public import Idealize.ShloMosaic.Lib.Claim

@[expose] public section

set_option maxRecDepth 16384

noncomputable section

namespace Cert.BwdIn

open Cert.KernelIdeal.Value (Is2 Is3 reals2 reals3 is2_reals is3_reals real_of_finite)
open Cert.Reference2Ideal.Read Cert.Kernel2Ideal Cert.Kernel2Ideal.Gen
open Idealize.ShloMosaic Idealize.ShloMosaic.TcCoe Idealize.SL.Sem

section Reals

variable (x : FVec Ideal ⟨2, ![8192, 1024]⟩ .f32) (g : FVec Ideal ⟨2, ![1, 1024]⟩ .f32) (w : FVec Ideal ⟨2, ![1024, 2568]⟩ .f32)
  (b : FVec Ideal ⟨2, ![1, 8]⟩ .f32) (duv : FVec Ideal ⟨2, ![8192, 1024]⟩ .f32) (dq dk dv : FVec Ideal ⟨3, ![8192, 8, 64]⟩ .f32)
  (dct dcs : FVec Ideal ⟨2, ![8192, 8]⟩ .f32)

/-- The real numbers in the arguments. -/
def realData : Data where
  x := reals2 x
  g := reals2 g
  w := reals2 w
  b := reals2 b
  duv := reals2 duv
  dq := reals3 dq
  dk := reals3 dk
  dv := reals3 dv
  dct := reals2 dct
  dcs := reals2 dcs

/-- The array added to the gradient as it is, its places named by natural numbers. -/
def carried : ℕ → ℕ → EReal := fun t k => if h : t < 8192 ∧ k < 1024 then x (ValueIdx.ix2 ⟨t, h.1⟩ ⟨k, h.2⟩) else 0

theorem carried_at (i : (⟨2, ![8192, 1024]⟩ : Shape).Idx) : x i = carried x (i 0).val (i 1).val := by
  have e : (i 0).val < 8192 ∧ (i 1).val < 1024 := ⟨(i 0).isLt, (i 1).isLt⟩
  rw [carried, dif_pos e]
  exact congrArg x (ValueIdx.eq_ix2 i)

end Reals

section Results

variable {m : (ℓ : Loc Cert.Kernel2Ideal.nD Cert.Kernel2Ideal.τ Cert.Kernel2Ideal.sig) → Buf (Elt Ideal) ℓ} {c : Dev Cert.Kernel2Ideal.nD}

/-- Of finite arguments the kernel's arguments are real. -/
theorem args_of_finite (h : Cert.Pre_Kernel2Ideal_finite2 (hPre_finite2 := Cert.Pre_finite2.Gen.facts) m) :
    Args (realData
      (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))
      (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)))
      (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))
      (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) := by
  obtain ⟨h0, h1, h2, h3, h4, h5, h6, h7, h8, h9⟩ := h c
  exact ⟨is2_reals (real_of_finite h0), is2_reals (real_of_finite h1), is2_reals (real_of_finite h2), is2_reals (real_of_finite h3),
    is2_reals (real_of_finite h4), is3_reals (real_of_finite h5), is3_reals (real_of_finite h6), is3_reals (real_of_finite h7),
    is2_reals (real_of_finite h8), is2_reals (real_of_finite h9)⟩

end Results

section Both

variable {m : (ℓ : Loc nD τ sig) → Buf (Elt Ideal) ℓ} {c : Dev nD} {y0 y4 y10 : FVec Ideal S8192x1024 .f32} {y1 : FVec Ideal S1x1024 .f32}
  {y2 : FVec Ideal S1024x2568 .f32} {y3 : FVec Ideal S1x8 .f32} {y5 y6 y7 : FVec Ideal S8192x8x64 .f32} {y8 y9 : FVec Ideal S8192x8 .f32} {D : Data}
  (e0 : y0 = m ((c.tc : Thread nD τ).loc main_arg0)) (e1 : y1 = m ((c.tc : Thread nD τ).loc main_arg1))
  (e2 : y2 = m ((c.tc : Thread nD τ).loc main_arg2)) (e3 : y3 = m ((c.tc : Thread nD τ).loc main_arg3))
  (e4 : y4 = m ((c.tc : Thread nD τ).loc main_arg4)) (e5 : y5 = m ((c.tc : Thread nD τ).loc main_arg5))
  (e6 : y6 = m ((c.tc : Thread nD τ).loc main_arg6)) (e7 : y7 = m ((c.tc : Thread nD τ).loc main_arg7))
  (e8 : y8 = m ((c.tc : Thread nD τ).loc main_arg8)) (e9 : y9 = m ((c.tc : Thread nD τ).loc main_arg9))
  (e10 : y10 = m ((c.tc : Thread nD τ).loc main_arg10))
  (hD : Args D y0 y1 y2 y3 y4 y5 y6 y7 y8 y9)

include e0 e1 e2 e3 e4 e5 e6 e7 e8 e9 e10 hD

theorem launched : Operands m c D (carried y10) := by
  subst e0 e1 e2 e3 e4 e5 e6 e7 e8 e9 e10
  exact operands hD (carried_at _)

theorem equal_row : val_main_v78 (F := Ideal) y0 y1 y2 y3 y4 y5 y6 y7 y8 y9 y10 = (dats m 0 c).arrAt 9 cfg0.N :=
  funext fun i => (ref_row hD i y10).trans ((congrArg (· + _) (carried_at y10 i)).trans (row_array (launched e0 e1 e2 e3 e4 e5 e6 e7 e8 e9 e10 hD) i).symm)
theorem equal_dz : val_main_v81 (F := Ideal) y0 y1 y2 y3 y4 y5 y6 y7 y8 y9 = (dats m 0 c).arrAt 10 cfg0.N :=
  (ref_dz_pad hD).unique (dz_array (launched e0 e1 e2 e3 e4 e5 e6 e7 e8 e9 e10 hD))
theorem equal_gain : val_main_v79 (F := Ideal) y0 y1 y2 y3 y4 y5 y6 y7 y8 y9 = (dats m 0 c).arrAt 11 cfg0.N :=
  (ref_gain hD).unique (gain_array (launched e0 e1 e2 e3 e4 e5 e6 e7 e8 e9 e10 hD))
theorem equal_bias : val_main_v82 (F := Ideal) y0 y1 y2 y3 y8 y9 = (dats m 0 c).arrAt 12 cfg0.N :=
  (ref_bias_pad hD).unique (bias_array (launched e0 e1 e2 e3 e4 e5 e6 e7 e8 e9 e10 hD))

end Both

/-- Of finite arguments the kernel's results are the plain gradient's. -/
theorem equal_results : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := fun m ρ m' ρ' hpre hargs => by
  have hA := fun c => args_of_finite (c := c) hpre
  refine ⟨fun c => (dats m 0 c).arrAt 9 cfg0.N, fun c => (dats m 0 c).arrAt 10 cfg0.N, fun c => (dats m 0 c).arrAt 11 cfg0.N,
    fun c => (dats m 0 c).arrAt 12 cfg0.N, Cert.Kernel2Ideal.Value.run_blocks m ρ, ?_⟩
  refine (θ_run _ _ _).mono (fun _ h c => ?_) (Cert.Reference2Ideal.Value.run m' ρ')
  obtain ⟨e0, e1, e2, e3, e4, e5, e6, e7, e8, e9, e10⟩ := hargs c
  have hB := hA c
  rw [← e0, ← e1, ← e2, ← e3, ← e4, ← e5, ← e6, ← e7, ← e8, ← e9] at hB
  exact ⟨(h c).1.trans ((val_main_v78_eq m' c).trans (equal_row e0 e1 e2 e3 e4 e5 e6 e7 e8 e9 e10 hB)),
    (h c).2.1.trans ((val_main_v81_eq m' c).trans (equal_dz e0 e1 e2 e3 e4 e5 e6 e7 e8 e9 e10 hB)),
    (h c).2.2.1.trans ((val_main_v79_eq m' c).trans (equal_gain e0 e1 e2 e3 e4 e5 e6 e7 e8 e9 e10 hB)),
    (h c).2.2.2.1.trans ((val_main_v82_eq m' c).trans (equal_bias e0 e1 e2 e3 e4 e5 e6 e7 e8 e9 e10 hB)), (h c).2.2.2.2⟩

end Cert.BwdIn

end
-- ==== Proof.FfSpec.lean ====
/- The feed-forward's second half (a convolution along the rows, a gate, the product back to the row, the last norm, the
   squared error and its gradient) over the reals. -/
module

public import proofs.«01_k».proof.Proof.InSpec

@[expose] public section

noncomputable section

namespace Cert.FwdFfn

open Finset
open Cert.BwdIn (eps eps_pos)

/-- The arguments: the projected rows `a`, the block's row `x`, the convolution's weights `w` and bias `b`, the second product's
    weights `wd`, the norm's gain `g`, and the row to be predicted. -/
structure Data where
  a : ℕ → ℕ → ℝ
  x : ℕ → ℕ → ℝ
  w : ℕ → ℕ → ℝ
  b : ℕ → ℕ → ℝ
  wd : ℕ → ℕ → ℝ
  g : ℕ → ℕ → ℝ
  tgt : ℕ → ℕ → ℝ

namespace Data

variable (D : Data)

/-- The row `k` places before, 0 before the first. -/
def before (k t j : ℕ) : ℝ := if t < k then 0 else D.a (t - k) j
/-- The convolution of three rows. -/
def ac (t j : ℕ) : ℝ := D.w 0 j * D.before 2 t j + D.w 1 j * D.before 1 t j + D.w 2 j * D.a t j + D.b 0 j
/-- The gated values. -/
def y (t j : ℕ) : ℝ := D.ac t j * (1 + Real.exp (-D.ac t j))⁻¹ * D.ac t (2816 + j)
/-- The row with their product added. -/
def x3 (t k : ℕ) : ℝ := D.x t k + ∑ j ∈ range 2816, D.y t j * D.wd j k
/-- The mean square of a row, kept above 0. -/
def ms (t : ℕ) : ℝ := (∑ k ∈ range 1024, D.x3 t k * D.x3 t k) / 1024 + eps
/-- One over its root. -/
def r (t : ℕ) : ℝ := (Real.sqrt (D.ms t))⁻¹
/-- The normalized row. -/
def n (t k : ℕ) : ℝ := D.x3 t k * D.r t
/-- The error. -/
def diff (t k : ℕ) : ℝ := D.n t k * D.g 0 k - D.tgt t k
/-- The loss's gradient at the norm's output. -/
def dout (t k : ℕ) : ℝ := D.diff t k * (1 / 1024)
/-- What one row adds to the loss. -/
def err (t : ℕ) : ℝ := 1 / 2048 * ∑ k ∈ range 1024, D.diff t k * D.diff t k
/-- The loss. -/
def loss : ℝ := ∑ t ∈ range 8192, D.err t
/-- The gain's gradient. -/
def dg (k : ℕ) : ℝ := ∑ t ∈ range 8192, D.dout t k * D.n t k
/-- What the norm hands back to the row. -/
def dx (t k : ℕ) : ℝ := D.r t * (D.dout t k * D.g 0 k - D.n t k * ((∑ i ∈ range 1024, D.dout t i * D.g 0 i * D.n t i) / 1024))
/-- A row's mean of its values times their gradient, over the cube of its root. -/
def half (t : ℕ) : ℝ := (∑ k ∈ range 1024, D.x3 t k * (D.dout t k * D.g 0 k)) * (-(1 / 2) * (D.r t / D.ms t)) / 1024

theorem ms_pos (t : ℕ) : 0 < D.ms t := by
  unfold ms
  have : 0 ≤ ∑ k ∈ range 1024, D.x3 t k * D.x3 t k := sum_nonneg fun k _ => mul_self_nonneg _
  have := eps_pos
  positivity

theorem r_sq (t : ℕ) : D.r t * D.r t = 1 / D.ms t := by
  unfold r
  rw [← mul_inv, Real.mul_self_sqrt (D.ms_pos t).le, one_div]

theorem dx_half (t k : ℕ) : D.dout t k * D.g 0 k * D.r t + (D.x3 t k * D.half t + D.half t * D.x3 t k) = D.dx t k := by
  have e : ∑ i ∈ range 1024, D.dout t i * D.g 0 i * D.n t i = D.r t * ∑ i ∈ range 1024, D.x3 t i * (D.dout t i * D.g 0 i) := by
    rw [mul_sum]
    exact sum_congr rfl fun i _ => by unfold n; ring
  have q := D.r_sq t
  unfold dx half
  rw [e, show D.r t / D.ms t = D.r t * (D.r t * D.r t) by rw [q, mul_one_div]]
  unfold n
  ring

/-- The rows before a tile's row are the tile's own or the last ones of the tile before. -/
theorem before_tile (q k a j : ℕ) (hk : k ≤ 8) :
    (if a < k then (if q = 0 then 0 else D.a (256 * q + (8 - k + a) - 8) j) else D.a (256 * q + (a - k)) j) = D.before k (256 * q + a) j := by
  unfold before
  rcases Nat.eq_zero_or_pos q with h | h
  · subst h
    by_cases e : a < k
    · rw [if_pos e, if_pos rfl, if_pos (by omega)]
    · rw [if_neg e, if_neg (by omega), show 256 * 0 + (a - k) = 256 * 0 + a - k by omega]
  · by_cases e : a < k
    · rw [if_pos e, if_neg (by omega), if_neg (by omega), show 256 * q + (8 - k + a) - 8 = 256 * q + a - k by omega]
    · rw [if_neg e, if_neg (by omega), show 256 * q + (a - k) = 256 * q + a - k by omega]

/-- A sum over the rows up to a tile, one tile more. -/
theorem sum_tile (f : ℕ → ℝ) (q : ℕ) : ∑ s ∈ range (256 * q), f s + ∑ a ∈ range 256, f (256 * q + a) = ∑ s ∈ range (256 * (q + 1)), f s := by
  rw [show 256 * (q + 1) = 256 * q + 256 by ring, sum_range_add]

end Data

end Cert.FwdFfn

end
-- ==== Proof.FfBlock.lean ====
/- What one point of the feed-forward's second half computes from its blocks, as values. -/
module

public import proofs.«01_k».proof.Proof.Gen.Kernel3Ideal.Frame
public import Idealize.ShloMosaic.Lib.Pipeline.Value
public import Idealize.ShloMosaic.Lib.ValueIdxCore

@[expose] public section

set_option maxRecDepth 16384

noncomputable section

namespace Cert.FwdFfn

open Cert.Kernel3Ideal Cert.Kernel3Ideal.Gen
open Idealize.ShloMosaic Idealize.ShloMosaic.TcCoe

variable {F : FTy → Type} [FloatOps F]

/-- 256 columns of a table, from column `256 k` on, keeping `n` rows from row `o` on. -/
theorem cols_inb {A B : ℕ} {o n k : ℕ} (ho : o + n ≤ A) (hk : 256 * k + 256 ≤ B) :
    ∀ a, (![o, 256 * k] : Fin 2 → ℕ) a + (![n, 256] : Fin 2 → ℕ) a ≤ (⟨2, ![A, B]⟩ : Shape).size a := fun a => by
  match a with
  | ⟨0, _⟩ => exact ho
  | ⟨1, _⟩ => exact hk

/-- The blocks a point reads. -/
structure Block (F : FTy → Type) where
  a : FVec F S256x5632 .f32
  x : FVec F S256x1024 .f32
  w : FVec F S3x5632 .f32
  b : FVec F S1x5632 .f32
  wd : FVec F S2816x1024 .bf16
  g : FVec F S1x1024 .f32
  tgt : FVec F S256x1024 .f32

/-- A gate's numbers times their sigmoid, times the values. -/
def gate (u v : FVec F S256x256 .f32) : FVec F S256x256 .bf16 := truncf .bf16 (mulf (mulf u (logistic u)) v) bitsLt_bf16_f32

namespace Block

variable (B : Block F) (s : FVec F S8x5632 .f32)

/-- One chunk of a point's rows, -/
def cols (k : Fin 22) : Vec F S256x256 .f32 := View.ld (Val := Elt F) (e' := .f32) B.a (Rect.unit (s := S256x5632) ![0, 256 * k.val] S256x256.size (cols_inb (by omega) (by omega)))
/-- of the 8 rows before them, -/
def prev (k : Fin 22) : Vec F S8x256 .f32 := View.ld (Val := Elt F) (e' := .f32) s (Rect.unit (s := S8x5632) ![0, 256 * k.val] S8x256.size (cols_inb (by omega) (by omega)))
/-- of one row of the weights, -/
def taps (r : Fin 3) (k : Fin 22) : Vec F S1x256 .f32 := View.ld (Val := Elt F) (e' := .f32) B.w (Rect.unit (s := S3x5632) ![r.val, 256 * k.val] S1x256.size (cols_inb (by omega) (by omega)))
/-- and of the bias. -/
def shift (k : Fin 22) : Vec F S1x256 .f32 := View.ld (Val := Elt F) (e' := .f32) B.b (Rect.unit (s := S1x5632) ![0, 256 * k.val] S1x256.size (cols_inb (by omega) (by omega)))

theorem rows_inb (k : Fin 11) : ∀ a, (![256 * k.val, 0] : Fin 2 → ℕ) a + S256x1024.size a ≤ S2816x1024.size a := fun a => by
  have := k.isLt
  match a with
  | ⟨0, _⟩ => show 256 * k.val + 256 ≤ 2816; omega
  | ⟨1, _⟩ => show 0 + 1024 ≤ 1024; omega

/-- The 256 rows of the second product's weights that a chunk meets. -/
def rows (k : Fin 11) : Vec F S256x1024 .bf16 := View.ld (Val := Elt F) (e' := .bf16) B.wd (Rect.unit (s := S2816x1024) ![256 * k.val, 0] S256x1024.size (rows_inb k))

/-- One chunk of the convolution. -/
def conv (k : Fin 22) : FVec F S256x256 .f32 :=
  k0_pay7 (B.cols k) (k0_pay6 (B.cols k) (prev s k) (B.taps 0 k) (B.taps 1 k)) (B.taps 2 k) (B.shift k)
/-- One chunk of the gated values. -/
def y (k : Fin 11) : FVec F S256x256 .bf16 := gate (B.conv s ⟨k.val, by omega⟩) (B.conv s ⟨11 + k.val, by omega⟩)
/-- The row with the first `n` chunks' products added. -/
def part : (n : ℕ) → n ≤ 11 → FVec F S256x1024 .f32
  | 0, _ => B.x
  | n + 1, h => k0_pay111 (part n (by omega)) (B.y s ⟨n, h⟩) (B.rows ⟨n, h⟩)

/-- The convolution, -/
def ac : FVec F S256x5632 .bf16 := fun i =>
  truncf .bf16 (B.conv s ⟨(i 1).val / 256, Nat.div_lt_of_lt_mul (i 1).isLt⟩) bitsLt_bf16_f32 (ValueIdx.ix2 (i 0) ⟨(i 1).val % 256, Nat.mod_lt _ (by omega)⟩)
/-- and the gated values. -/
def yff : FVec F S256x2816 .bf16 := fun i =>
  B.y s ⟨(i 1).val / 256, Nat.div_lt_of_lt_mul (i 1).isLt⟩ (ValueIdx.ix2 (i 0) ⟨(i 1).val % 256, Nat.mod_lt _ (by omega)⟩)

/-- All chunks but the last. -/
def most : FVec F S256x1024 .f32 := B.part s 10 (by omega)
/-- The last chunk's values and the weights' rows it meets. -/
def last : FVec F S256x256 .bf16 := B.y s 10
def end' : Vec F S256x1024 .bf16 := B.rows 10
/-- The row's size, its normalized numbers, and the error's gradient. -/
def r : FVec F S256x1 .f32 := k0_pay113 (B.most s) (B.last s) B.end'
def n : FVec F S256x1024 .f32 := k0_pay114 (B.most s) (B.last s) B.end'
def dout : FVec F S256x1024 .f32 := k0_pay117 (B.most s) (B.last s) B.end' B.g B.tgt
/-- What is handed back to the row, -/
def dx : FVec F S256x1024 .f32 := k0_pay2 (B.r s) (B.n s) B.g (B.dout s)
/-- the loss so far, -/
def loss (d : FVec F S8x128 .f32) : FVec F S8x128 .f32 := k0_pay116 (B.most s) (B.last s) B.end' B.g B.tgt d
/-- the gain's gradient so far, -/
def dg (d : FVec F S1x1024 .f32) : FVec F S1x1024 .f32 := k0_pay1 (B.n s) (B.dout s) d
/-- and the rows the next point needs. -/
def carry : FVec F S8x5632 .f32 := k0_pay112 (View.ld (Val := Elt F) (e' := .f32) B.a (Rect.unit (s := S256x5632) ![248, 0] S8x5632.size inb_S256x5632_S8x5632_248_0))

end Block

/-- A chunk stored at its columns is a block of the convolution, -/
theorem ac_piece (B : Block F) (s : FVec F S8x5632 .f32) (k : Fin 22) {o : ℕ} (inb) (ho : o = 256 * k.val) (x : S256x256.Idx) :
    truncf .bf16 (B.conv s k) bitsLt_bf16_f32 x = B.ac s ((Rect.unit (s := S256x5632) ![0, o] S256x256.size inb).emb x) := by
  subst ho
  have h1 : (x 1).val < 256 := (x 1).isLt
  have e1 : ((Rect.unit (s := S256x5632) ![0, 256 * k.val] S256x256.size inb).emb x 1).val = 256 * k.val + (x 1).val := by
    show 256 * k.val + 1 * (x 1).val = _; omega
  have e0 : ((Rect.unit (s := S256x5632) ![0, 256 * k.val] S256x256.size inb).emb x 0).val = (x 0).val := by
    show 0 + 1 * (x 0).val = _; omega
  unfold Block.ac
  refine congr (congrArg (fun k => truncf .bf16 (B.conv s k) bitsLt_bf16_f32) (Fin.ext ?_)) ((ValueIdx.eq_ix2 x).trans (congr (congrArg ValueIdx.ix2 (Fin.ext ?_)) (Fin.ext ?_)))
  · show k.val = _ / 256; rw [e1]; omega
  · exact e0.symm
  · show (x 1).val = _ % 256; rw [e1]; omega

/-- and the same of the gated values. -/
theorem yff_piece (B : Block F) (s : FVec F S8x5632 .f32) (k : Fin 11) {o : ℕ} (inb) (ho : o = 256 * k.val) (x : S256x256.Idx) :
    B.y s k x = B.yff s ((Rect.unit (s := S256x2816) ![0, o] S256x256.size inb).emb x) := by
  subst ho
  have h1 : (x 1).val < 256 := (x 1).isLt
  have e1 : ((Rect.unit (s := S256x2816) ![0, 256 * k.val] S256x256.size inb).emb x 1).val = 256 * k.val + (x 1).val := by
    show 256 * k.val + 1 * (x 1).val = _; omega
  have e0 : ((Rect.unit (s := S256x2816) ![0, 256 * k.val] S256x256.size inb).emb x 0).val = (x 0).val := by
    show 0 + 1 * (x 0).val = _; omega
  unfold Block.yff
  refine congr (congrArg (B.y s) (Fin.ext ?_)) ((ValueIdx.eq_ix2 x).trans (congr (congrArg ValueIdx.ix2 (Fin.ext ?_)) (Fin.ext ?_)))
  · show k.val = _ / 256; rw [e1]; omega
  · exact e0.symm
  · show (x 1).val = _ % 256; rw [e1]; omega

end Cert.FwdFfn

end
-- ==== Proof.FfTile.lean ====
/- One block of 256 rows of the feed-forward's second half over the extended reals, where its operands are real: every value in
   it is real, and is the formula's. -/
module

public import proofs.«01_k».proof.Proof.FfSpec
public import proofs.«01_k».proof.Proof.FfBlock
public import proofs.«01_k».proof.Proof.InTile

@[expose] public section

set_option maxRecDepth 16384

noncomputable section

namespace Cert.FwdFfn

open Cert.Kernel3Ideal Cert.Kernel3Ideal.Gen
open Cert.KernelIdeal.Value (Is2 Is3 Is2.congr coe_sum_range)
open Cert.BwdIn (eps eps_is kilo_is sum_is div_is rsqrt_is)
open Idealize.ShloMosaic Idealize.ShloMosaic.WordCmp
open Finset

theorem inv_kilo_is : Ideal.ofBits .f32 0x3A800000#32 = ((1 / 1024 : ℝ) : EReal) := by
  simp [Ideal.ofBits, Ideal.ieee]
  rw [← EReal.coe_mul]
  norm_num

theorem inv_two_kilo_is : Ideal.ofBits .f32 0x3A000000#32 = ((1 / 2048 : ℝ) : EReal) := by
  simp [Ideal.ofBits, Ideal.ieee]
  rw [← EReal.coe_mul]
  norm_num

/-- A row `k` places before, in a tile with the 8 rows before it at hand. -/
def back (x p : ℕ → ℕ → ℝ) (k a l : ℕ) : ℝ := if a < k then p (8 - k + a) l else x (a - k) l

/-- A choice by a row's number. -/
theorem pick_is {k l : ℕ} (hk : k < 256) (hl : l < 256) (x y : EReal) :
    Scalar.select (IntOp.cmpi CmpIPredicate.eq (BitVec.ofNat 32 l) (BitVec.ofNat 32 k)) x y = if l = k then x else y := by
  rw [cmpi_eq_ofNat (by omega) (by omega), select_ofBool]
  simp only [decide_eq_true_eq]

theorem back_lt {x p : ℕ → ℕ → ℝ} {k a l : ℕ} (h : a < k) : back x p k a l = p (8 - k + a) l := if_pos h

theorem back_ge {x p : ℕ → ℕ → ℝ} {k a l : ℕ} (h : ¬a < k) : back x p k a l = x (a - k) l := if_neg h

/-- A chunk of the convolution. -/
theorem conv_is {x : FVec Ideal S256x256 .f32} {p : FVec Ideal S8x256 .f32} {u v w b : FVec Ideal S1x256 .f32} {rx rp ru rv rw rb : ℕ → ℕ → ℝ}
    (hx : Is2 x rx) (hp : Is2 p rp) (hu : Is2 u ru) (hv : Is2 v rv) (hw : Is2 w rw) (hb : Is2 b rb) :
    Is2 (k0_pay7 (F := Ideal) x (k0_pay6 x p u v) w b) fun a l => ru 0 l * back rx rp 2 a l + rv 0 l * back rx rp 1 a l + rw 0 l * rx a l + rb 0 l := fun i => by
  have h0 : (i 0).val < 256 := (i 0).isLt
  pointwise [k0_pay7, k0_pay6]
  have at' : ∀ {f : ℕ → ℕ → ℝ} {u v l : ℕ}, u = v → ((f u l : ℝ) : EReal) = ((f v l : ℝ) : EReal) := fun e => by rw [e]
  rw [EReal.coe_add, EReal.coe_add, EReal.coe_add, EReal.coe_mul, EReal.coe_mul, EReal.coe_mul]
  refine congrArg₂ (· + ·) (congrArg₂ (· + ·) (congrArg₂ (· + ·) (congrArg₂ (· * ·) (hu _) ?_) (congrArg₂ (· * ·) (hv _) ?_)) (congrArg₂ (· * ·) (hw _) (hx _))) (hb _)
  · by_cases h8 : (i 0).val < 8
    · rw [dif_pos h8, pick_is (by omega) h0, pick_is (by omega) h0]
      by_cases h1 : (i 0).val = 1
      · rw [if_pos h1]; exact (hp _).trans ((at' (show 7 = _ by omega)).trans (congrArg _ (back_lt (by omega)).symm))
      · by_cases h2 : (i 0).val = 0
        · rw [if_neg h1, if_pos h2]; exact (hp _).trans ((at' (show 6 = _ by omega)).trans (congrArg _ (back_lt (by omega)).symm))
        · rw [if_neg h1, if_neg h2]; exact (hx _).trans ((at' (show ((i 0).val + 256 - 2) % 256 = _ by omega)).trans (congrArg _ (back_ge (by omega)).symm))
    · rw [dif_neg h8]; exact (hx _).trans ((at' (show ((8 + ((i 0).val - 8)) + 256 - 2) % 256 = _ by omega)).trans (congrArg _ (back_ge (by omega)).symm))
  · by_cases h8 : (i 0).val < 8
    · rw [dif_pos h8, pick_is (by omega) h0]
      by_cases h1 : (i 0).val = 0
      · rw [if_pos h1]; exact (hp _).trans ((at' (show 7 = _ by omega)).trans (congrArg _ (back_lt (by omega)).symm))
      · rw [if_neg h1]; exact (hx _).trans ((at' (show ((i 0).val + 256 - 1) % 256 = _ by omega)).trans (congrArg _ (back_ge (by omega)).symm))
    · rw [dif_neg h8]; exact (hx _).trans ((at' (show ((8 + ((i 0).val - 8)) + 256 - 1) % 256 = _ by omega)).trans (congrArg _ (back_ge (by omega)).symm))

/-- A chunk of the gated values. -/
theorem gate_is {x y : FVec Ideal S256x256 .f32} {a b : ℕ → ℕ → ℝ} (hx : Is2 x a) (hy : Is2 y b) :
    Is2 (gate (F := Ideal) x y) fun t l => a t l * (1 + Real.exp (-a t l))⁻¹ * b t l := fun i => by
  pointwise [gate]
  rw [hx, hy, Ideal.logistic_coe, ← EReal.coe_mul, ← EReal.coe_mul]

/-- A row with a chunk's product added. -/
theorem step_is {x : FVec Ideal S256x1024 .f32} {y : FVec Ideal S256x256 .bf16} {w : FVec Ideal S256x1024 .bf16} {a b c : ℕ → ℕ → ℝ} (hx : Is2 x a) (hy : Is2 y b)
    (hw : Is2 w c) : Is2 (k0_pay111 (F := Ideal) x y w) fun t k => a t k + ∑ j ∈ range 256, b t j * c j k := fun i => by
  pointwise [k0_pay111]
  rw [hx, EReal.coe_add]
  exact congrArg _ (sum_is (r := fun j => b (i 0).val j * c j (i 1).val) fun j => by rw [hy, hw, ← EReal.coe_mul]; rfl)

section Norm

variable {x : FVec Ideal S256x1024 .f32} {y : FVec Ideal S256x256 .bf16} {w : FVec Ideal S256x1024 .bf16} {g : FVec Ideal S1x1024 .f32}
  {z : FVec Ideal S256x1024 .f32} {a c d : ℕ → ℕ → ℝ}

/-- One over the root of a row's mean square. -/
def rootInv (a : ℕ → ℕ → ℝ) (t : ℕ) : ℝ := (Real.sqrt ((∑ k ∈ range 1024, a t k * a t k) / 1024 + eps))⁻¹

theorem root_is (hx : Is2 (k0_pay111 (F := Ideal) x y w) a) : Is2 (k0_pay113 (F := Ideal) x y w) fun t _ => rootInv a t := fun i => by
  unfold k0_pay113
  generalize k0_pay111 (F := Ideal) x y w = u at hx ⊢
  pointwise []
  rw [kilo_is, eps_is, div_is (sum_is (r := fun k => a (i 0).val k * a (i 0).val k) fun k => by rw [hx, ← EReal.coe_mul]; rfl) (by norm_num),
    ← EReal.coe_add]
  refine rsqrt_is rfl ?_
  have : 0 ≤ ∑ k ∈ range 1024, a (i 0).val k * a (i 0).val k := sum_nonneg fun k _ => mul_self_nonneg _
  have := Cert.BwdIn.eps_pos
  positivity

theorem unit_is (hx : Is2 (k0_pay111 (F := Ideal) x y w) a) : Is2 (k0_pay114 (F := Ideal) x y w) fun t k => a t k * rootInv a t := fun i => by
  have e := root_is hx
  unfold k0_pay114
  generalize k0_pay111 (F := Ideal) x y w = u at hx ⊢
  generalize k0_pay113 (F := Ideal) x y w = v at e ⊢
  pointwise []
  rw [hx, e, ← EReal.coe_mul]
  rfl

theorem diff_is (hx : Is2 (k0_pay111 (F := Ideal) x y w) a) (hg : Is2 g c) (hz : Is2 z d) :
    Is2 (k0_pay115 (F := Ideal) x y w g z) fun t k => a t k * rootInv a t * c 0 k - d t k := fun i => by
  have e := unit_is hx
  unfold k0_pay115
  generalize k0_pay114 (F := Ideal) x y w = u at e ⊢
  pointwise []
  rw [e, hg, hz, ← EReal.coe_mul, ← EReal.coe_sub]
  rfl

theorem dout_is (hx : Is2 (k0_pay115 (F := Ideal) x y w g z) a) : Is2 (k0_pay117 (F := Ideal) x y w g z) fun t k => a t k * (1 / 1024) := fun i => by
  unfold k0_pay117
  generalize k0_pay115 (F := Ideal) x y w g z = u at hx ⊢
  pointwise []
  rw [hx, inv_kilo_is, ← EReal.coe_mul]

/-- The loss, with the rows of a block added. -/
theorem loss_is {l : FVec Ideal S8x128 .f32} {b : ℕ → ℕ → ℝ} (hx : Is2 (k0_pay115 (F := Ideal) x y w g z) a) (hl : Is2 l b) :
    Is2 (k0_pay116 (F := Ideal) x y w g z l) fun t k => b t k + ∑ s ∈ range 256, 1 / 2048 * ∑ k ∈ range 1024, a s k * a s k := fun i => by
  unfold k0_pay116
  generalize k0_pay115 (F := Ideal) x y w g z = u at hx ⊢
  pointwise []
  rw [hl, inv_two_kilo_is, sum_is (r := fun s => ∑ k ∈ range 1024, a s k * a s k) fun s =>
    sum_is (r := fun k => a s.val k * a s.val k) fun k => by rw [hx, ← EReal.coe_mul]; rfl, ← EReal.coe_mul, ← EReal.coe_add, mul_sum]

/-- The gain's gradient, with the rows of a block added. -/
theorem gain_is {n dout : FVec Ideal S256x1024 .f32} {l : FVec Ideal S1x1024 .f32} {b : ℕ → ℕ → ℝ} (hn : Is2 n a) (hd : Is2 dout d) (hl : Is2 l b) :
    Is2 (k0_pay1 (F := Ideal) n dout l) fun _ k => b 0 k + ∑ t ∈ range 256, d t k * a t k := fun i => by
  pointwise [k0_pay1]
  rw [hl, EReal.coe_add]
  exact congrArg₂ (· + ·) (congrArg (fun n => ((b n (i 1).val : ℝ) : EReal)) (Nat.lt_one_iff.1 (i 0).isLt))
    (sum_is (r := fun t => d t (i 1).val * a t (i 1).val) fun t => by rw [hd, hn, ← EReal.coe_mul]; rfl)

/-- What the norm hands back. -/
theorem dx_is {r : FVec Ideal S256x1 .f32} {n dout : FVec Ideal S256x1024 .f32} {b : ℕ → ℝ} (hr : Is2 r fun t _ => b t) (hn : Is2 n a) (hg : Is2 g c) (hd : Is2 dout d) :
    Is2 (k0_pay2 (F := Ideal) r n g dout) fun t k => b t * (d t k * c 0 k - a t k * ((∑ i ∈ range 1024, d t i * c 0 i * a t i) / 1024)) := fun i => by
  pointwise [k0_pay2]
  rw [kilo_is, div_is (sum_is (r := fun k => d (i 0).val k * c 0 k * a (i 0).val k) fun k => by
    rw [hd, hg, hn, ← EReal.coe_mul, ← EReal.coe_mul]; rfl) (by norm_num), hd, hg, hn, hr, ← EReal.coe_mul, ← EReal.coe_mul, ← EReal.coe_sub, ← EReal.coe_mul]
  rfl

end Norm

end Cert.FwdFfn

end
-- ==== Proof.FfPoint.lean ====
/- What one point of the feed-forward's second half leaves in its windows, read off its run. -/
module

public import proofs.«01_k».proof.Proof.FfBlock
public import Idealize.ShloMosaic.Lib.Pipeline.ReadBack

@[expose] public section

set_option maxRecDepth 16384

noncomputable section

namespace Cert.FwdFfn

open Cert.Kernel3Ideal Cert.Kernel3Ideal.Gen
open Idealize.ShloMosaic Idealize.ShloMosaic.TcCoe

variable {F : FTy → Type} [FloatOps F]

theorem zeros : (![0, 0] : Fin 2 → ℕ) = fun _ => 0 := funext fun a => by fin_cases a <;> rfl

theorem zero_at (a : Fin 2) : (![0, 0] : Fin 2 → ℕ) a = 0 := congrFun zeros a

/-- A part of the carried rows read after they were filled is that part of the filling. -/
theorem carry_fill {sp : Space} (v : View sig .tc sp S8x5632 .f32) (inb) (Z : S8x5632.Idx → Elt F .f32) (r : Rect S8x5632) :
    v.readCov [⟨Rect.unit (s := S8x5632) ![0, 0] (no_index S8x5632.size) inb, Z⟩] r.toLoadRect = View.ld Z r := View.readCov_fill v inb Z [] r zero_at

/-- Stores that are blocks of one table and cover it leave that table. -/
theorem canon_eq {s : Shape} {e : EltTy} {Val : EltTy → Type} [∀ e, Nonempty (Val e)] (G : s.Idx → Val e) {L : List (View.Piece Val s e)}
    (hc : ∀ y, ∃ p ∈ L, y ∈ p.1.set) (h : View.PiecesOf G L) : View.canon L = G := funext fun y => by
  have e := View.canon_append_of_piecesOf G [] L h y (hc y)
  rwa [List.append_nil] at e

variable (c : Dev nD) (i : grid0.Coords) (a1 : Memref sig .tc .vmem S256x5632 .f32) (h1 : a1.IsWhole) (a2 : Memref sig .tc .vmem S256x1024 .f32) (h2 : a2.IsWhole) (a3 : Memref sig .tc .vmem S3x5632 .f32) (h3 : a3.IsWhole) (a4 : Memref sig .tc .vmem S1x5632 .f32) (h4 : a4.IsWhole) (a5 : Memref sig .tc .vmem S2816x1024 .bf16) (h5 : a5.IsWhole) (a6 : Memref sig .tc .vmem S1x1024 .f32) (h6 : a6.IsWhole) (a7 : Memref sig .tc .vmem S256x1024 .f32) (h7 : a7.IsWhole) (a8 : Memref sig .tc .vmem S256x5632 .bf16) (h8 : a8.IsWhole) (a9 : Memref sig .tc .vmem S256x2816 .bf16) (h9 : a9.IsWhole) (a10 : Memref sig .tc .vmem S256x1024 .f32) (h10 : a10.IsWhole) (a11 : Memref sig .tc .vmem S8x128 .f32) (h11 : a11.IsWhole) (a12 : Memref sig .tc .vmem S1x1024 .f32) (h12 : a12.IsWhole) (a13 : Memref sig .tc .vmem S8x5632 .f32) (h13 : a13.IsWhole)
  (x0 : Vec F S256x5632 .f32) (x1 : Vec F S256x1024 .f32) (x2 : Vec F S3x5632 .f32) (x3 : Vec F S1x5632 .f32) (x4 : Vec F S2816x1024 .bf16) (x5 : Vec F S1x1024 .f32) (x6 : Vec F S256x1024 .f32)
  (xo10 : Vec F S8x128 .f32) (xo11 : Vec F S1x1024 .f32) (xs0 : Vec F S8x5632 .f32)

/-! ## The first point, which starts the sums at 0. -/

/-- The convolution, -/
theorem out0_A_7_eq (hc : cond0_0 i) : out0_A_7 c i a1 h1 a2 h2 a3 h3 a4 h4 a5 h5 a6 h6 a7 h7 a8 h8 a9 h9 a10 h10 a11 h11 a12 h12 a13 h13 hc x0 x1 x2 x3 x4 x5 x6 = Block.ac ⟨x0, x1, x2, x3, x4, x5, x6⟩ k0_pay3 := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 hc x0 x1 x2 x3 x4 x5 x6)]
  refine canon_eq _ (cover0_A_7 c i a1 h1 a2 h2 a3 h3 a4 h4 a5 h5 a6 h6 a7 h7 a8 h8 a9 h9 a10 h10 a11 h11 a12 h12 a13 h13 hc x0 x1 x2 x3 x4 x5 x6) ?_
  unfold kernelRun0_A
  dsimp only
  sl_unfold_words
  simp only [carry_fill, View.readAt_eq_ld, h1.read_unread, h2.read_unread, h3.read_unread, h4.read_unread, h5.read_unread, h6.read_unread, h7.read_unread]
  exact ⟨fun x => ac_piece ⟨x0, x1, x2, x3, x4, x5, x6⟩ k0_pay3 ⟨21, by omega⟩ (o := 5376) inb_S256x5632_S256x256_0_5376 rfl x, fun x => ac_piece ⟨x0, x1, x2, x3, x4, x5, x6⟩ k0_pay3 ⟨10, by omega⟩ (o := 2560) inb_S256x5632_S256x256_0_2560 rfl x, fun x => ac_piece ⟨x0, x1, x2, x3, x4, x5, x6⟩ k0_pay3 ⟨20, by omega⟩ (o := 5120) inb_S256x5632_S256x256_0_5120 rfl x, fun x => ac_piece ⟨x0, x1, x2, x3, x4, x5, x6⟩ k0_pay3 ⟨9, by omega⟩ (o := 2304) inb_S256x5632_S256x256_0_2304 rfl x, fun x => ac_piece ⟨x0, x1, x2, x3, x4, x5, x6⟩ k0_pay3 ⟨19, by omega⟩ (o := 4864) inb_S256x5632_S256x256_0_4864 rfl x, fun x => ac_piece ⟨x0, x1, x2, x3, x4, x5, x6⟩ k0_pay3 ⟨8, by omega⟩ (o := 2048) inb_S256x5632_S256x256_0_2048 rfl x, fun x => ac_piece ⟨x0, x1, x2, x3, x4, x5, x6⟩ k0_pay3 ⟨18, by omega⟩ (o := 4608) inb_S256x5632_S256x256_0_4608 rfl x, fun x => ac_piece ⟨x0, x1, x2, x3, x4, x5, x6⟩ k0_pay3 ⟨7, by omega⟩ (o := 1792) inb_S256x5632_S256x256_0_1792 rfl x, fun x => ac_piece ⟨x0, x1, x2, x3, x4, x5, x6⟩ k0_pay3 ⟨17, by omega⟩ (o := 4352) inb_S256x5632_S256x256_0_4352 rfl x, fun x => ac_piece ⟨x0, x1, x2, x3, x4, x5, x6⟩ k0_pay3 ⟨6, by omega⟩ (o := 1536) inb_S256x5632_S256x256_0_1536 rfl x, fun x => ac_piece ⟨x0, x1, x2, x3, x4, x5, x6⟩ k0_pay3 ⟨16, by omega⟩ (o := 4096) inb_S256x5632_S256x256_0_4096 rfl x, fun x => ac_piece ⟨x0, x1, x2, x3, x4, x5, x6⟩ k0_pay3 ⟨5, by omega⟩ (o := 1280) inb_S256x5632_S256x256_0_1280 rfl x, fun x => ac_piece ⟨x0, x1, x2, x3, x4, x5, x6⟩ k0_pay3 ⟨15, by omega⟩ (o := 3840) inb_S256x5632_S256x256_0_3840 rfl x, fun x => ac_piece ⟨x0, x1, x2, x3, x4, x5, x6⟩ k0_pay3 ⟨4, by omega⟩ (o := 1024) inb_S256x5632_S256x256_0_1024 rfl x, fun x => ac_piece ⟨x0, x1, x2, x3, x4, x5, x6⟩ k0_pay3 ⟨14, by omega⟩ (o := 3584) inb_S256x5632_S256x256_0_3584 rfl x, fun x => ac_piece ⟨x0, x1, x2, x3, x4, x5, x6⟩ k0_pay3 ⟨3, by omega⟩ (o := 768) inb_S256x5632_S256x256_0_768 rfl x, fun x => ac_piece ⟨x0, x1, x2, x3, x4, x5, x6⟩ k0_pay3 ⟨13, by omega⟩ (o := 3328) inb_S256x5632_S256x256_0_3328 rfl x, fun x => ac_piece ⟨x0, x1, x2, x3, x4, x5, x6⟩ k0_pay3 ⟨2, by omega⟩ (o := 512) inb_S256x5632_S256x256_0_512 rfl x, fun x => ac_piece ⟨x0, x1, x2, x3, x4, x5, x6⟩ k0_pay3 ⟨12, by omega⟩ (o := 3072) inb_S256x5632_S256x256_0_3072 rfl x, fun x => ac_piece ⟨x0, x1, x2, x3, x4, x5, x6⟩ k0_pay3 ⟨1, by omega⟩ (o := 256) inb_S256x5632_S256x256_0_256 rfl x, fun x => ac_piece ⟨x0, x1, x2, x3, x4, x5, x6⟩ k0_pay3 ⟨11, by omega⟩ (o := 2816) inb_S256x5632_S256x256_0_2816 rfl x, fun x => ac_piece ⟨x0, x1, x2, x3, x4, x5, x6⟩ k0_pay3 ⟨0, by omega⟩ (o := 0) inb_S256x5632_S256x256_0_0 rfl x, trivial⟩

/-- the gated values, -/
theorem out0_A_8_eq (hc : cond0_0 i) : out0_A_8 c i a1 h1 a2 h2 a3 h3 a4 h4 a5 h5 a6 h6 a7 h7 a8 h8 a9 h9 a10 h10 a11 h11 a12 h12 a13 h13 hc x0 x1 x2 x3 x4 x5 x6 = Block.yff ⟨x0, x1, x2, x3, x4, x5, x6⟩ k0_pay3 := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 hc x0 x1 x2 x3 x4 x5 x6)]
  refine canon_eq _ (cover0_A_8 c i a1 h1 a2 h2 a3 h3 a4 h4 a5 h5 a6 h6 a7 h7 a8 h8 a9 h9 a10 h10 a11 h11 a12 h12 a13 h13 hc x0 x1 x2 x3 x4 x5 x6) ?_
  unfold kernelRun0_A
  dsimp only
  sl_unfold_words
  simp only [carry_fill, View.readAt_eq_ld, h1.read_unread, h2.read_unread, h3.read_unread, h4.read_unread, h5.read_unread, h6.read_unread, h7.read_unread]
  exact ⟨fun x => yff_piece ⟨x0, x1, x2, x3, x4, x5, x6⟩ k0_pay3 ⟨10, by omega⟩ (o := 2560) inb_S256x2816_S256x256_0_2560 rfl x, fun x => yff_piece ⟨x0, x1, x2, x3, x4, x5, x6⟩ k0_pay3 ⟨9, by omega⟩ (o := 2304) inb_S256x2816_S256x256_0_2304 rfl x, fun x => yff_piece ⟨x0, x1, x2, x3, x4, x5, x6⟩ k0_pay3 ⟨8, by omega⟩ (o := 2048) inb_S256x2816_S256x256_0_2048 rfl x, fun x => yff_piece ⟨x0, x1, x2, x3, x4, x5, x6⟩ k0_pay3 ⟨7, by omega⟩ (o := 1792) inb_S256x2816_S256x256_0_1792 rfl x, fun x => yff_piece ⟨x0, x1, x2, x3, x4, x5, x6⟩ k0_pay3 ⟨6, by omega⟩ (o := 1536) inb_S256x2816_S256x256_0_1536 rfl x, fun x => yff_piece ⟨x0, x1, x2, x3, x4, x5, x6⟩ k0_pay3 ⟨5, by omega⟩ (o := 1280) inb_S256x2816_S256x256_0_1280 rfl x, fun x => yff_piece ⟨x0, x1, x2, x3, x4, x5, x6⟩ k0_pay3 ⟨4, by omega⟩ (o := 1024) inb_S256x2816_S256x256_0_1024 rfl x, fun x => yff_piece ⟨x0, x1, x2, x3, x4, x5, x6⟩ k0_pay3 ⟨3, by omega⟩ (o := 768) inb_S256x2816_S256x256_0_768 rfl x, fun x => yff_piece ⟨x0, x1, x2, x3, x4, x5, x6⟩ k0_pay3 ⟨2, by omega⟩ (o := 512) inb_S256x2816_S256x256_0_512 rfl x, fun x => yff_piece ⟨x0, x1, x2, x3, x4, x5, x6⟩ k0_pay3 ⟨1, by omega⟩ (o := 256) inb_S256x2816_S256x256_0_256 rfl x, fun x => yff_piece ⟨x0, x1, x2, x3, x4, x5, x6⟩ k0_pay3 ⟨0, by omega⟩ (o := 0) inb_S256x2816_S256x256_0_0 rfl x, trivial⟩

/-- what is handed back to the row, -/
theorem out0_A_9_eq (hc : cond0_0 i) : out0_A_9 c i a1 h1 a2 h2 a3 h3 a4 h4 a5 h5 a6 h6 a7 h7 a8 h8 a9 h9 a10 h10 a11 h11 a12 h12 a13 h13 hc x0 x1 x2 x3 x4 x5 x6 = Block.dx ⟨x0, x1, x2, x3, x4, x5, x6⟩ k0_pay3 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_unit_zero (S := S256x1024) zeros]
  simp only [View.readCov_unit_zero (S := S8x128) _ zeros, View.readCov_unit_zero (S := S1x1024) _ zeros, carry_fill, View.readAt_eq_ld, h1.read_unread, h2.read_unread, h3.read_unread, h4.read_unread, h5.read_unread, h6.read_unread, h7.read_unread, View.ld_unit_zero (S := S256x1024) zeros, View.ld_unit_zero (S := S1x1024) zeros, View.ld_unit_zero (S := S8x128) zeros]
  rfl

/-- the loss so far, -/
theorem out0_A_10_eq (hc : cond0_0 i) : out0_A_10 c i a1 h1 a2 h2 a3 h3 a4 h4 a5 h5 a6 h6 a7 h7 a8 h8 a9 h9 a10 h10 a11 h11 a12 h12 a13 h13 hc x0 x1 x2 x3 x4 x5 x6 = Block.loss ⟨x0, x1, x2, x3, x4, x5, x6⟩ k0_pay3 k0_pay4 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_cons_unit_zero (S := S8x128) zeros]
  simp only [View.readCov_unit_zero (S := S8x128) _ zeros, View.readCov_unit_zero (S := S1x1024) _ zeros, carry_fill, View.readAt_eq_ld, h1.read_unread, h2.read_unread, h3.read_unread, h4.read_unread, h5.read_unread, h6.read_unread, h7.read_unread, View.ld_unit_zero (S := S256x1024) zeros, View.ld_unit_zero (S := S1x1024) zeros, View.ld_unit_zero (S := S8x128) zeros]
  rfl

/-- the gain's gradient so far, -/
theorem out0_A_11_eq (hc : cond0_0 i) : out0_A_11 c i a1 h1 a2 h2 a3 h3 a4 h4 a5 h5 a6 h6 a7 h7 a8 h8 a9 h9 a10 h10 a11 h11 a12 h12 a13 h13 hc x0 x1 x2 x3 x4 x5 x6 = Block.dg ⟨x0, x1, x2, x3, x4, x5, x6⟩ k0_pay3 k0_pay5 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_cons_unit_zero (S := S1x1024) zeros]
  simp only [View.readCov_unit_zero (S := S8x128) _ zeros, View.readCov_unit_zero (S := S1x1024) _ zeros, carry_fill, View.readAt_eq_ld, h1.read_unread, h2.read_unread, h3.read_unread, h4.read_unread, h5.read_unread, h6.read_unread, h7.read_unread, View.ld_unit_zero (S := S256x1024) zeros, View.ld_unit_zero (S := S1x1024) zeros, View.ld_unit_zero (S := S8x128) zeros]
  rfl

/-- and the rows the next point needs. -/
theorem sout0_A_0_eq (hc : cond0_0 i) : sout0_A_0 c i a1 h1 a2 h2 a3 h3 a4 h4 a5 h5 a6 h6 a7 h7 a8 h8 a9 h9 a10 h10 a11 h11 a12 h12 a13 h13 hc x0 x1 x2 x3 x4 x5 x6 = Block.carry ⟨x0, x1, x2, x3, x4, x5, x6⟩ := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_cons_unit_zero (S := S8x5632) zeros]
  simp only [View.readCov_unit_zero (S := S8x128) _ zeros, View.readCov_unit_zero (S := S1x1024) _ zeros, carry_fill, View.readAt_eq_ld, h1.read_unread, h2.read_unread, h3.read_unread, h4.read_unread, h5.read_unread, h6.read_unread, h7.read_unread, View.ld_unit_zero (S := S256x1024) zeros, View.ld_unit_zero (S := S1x1024) zeros, View.ld_unit_zero (S := S8x128) zeros]
  rfl

/-! ## The other points, which go on from the point before. -/

/-- The convolution, -/
theorem out0_B_7_eq (hc : ¬cond0_0 i) : out0_B_7 c i a1 h1 a2 h2 a3 h3 a4 h4 a5 h5 a6 h6 a7 h7 a8 h8 a9 h9 a10 h10 a11 h11 a12 h12 a13 h13 hc x0 x1 x2 x3 x4 x5 x6 xo10 xo11 xs0 = Block.ac ⟨x0, x1, x2, x3, x4, x5, x6⟩ xs0 := by
  unfold out0_B_7
  rw [View.read_writes_eq_canon _ _ _ (cover0_B_7 c i a1 h1 a2 h2 a3 h3 a4 h4 a5 h5 a6 h6 a7 h7 a8 h8 a9 h9 a10 h10 a11 h11 a12 h12 a13 h13 hc x0 x1 x2 x3 x4 x5 x6 xo10 xo11 xs0)]
  refine canon_eq _ (cover0_B_7 c i a1 h1 a2 h2 a3 h3 a4 h4 a5 h5 a6 h6 a7 h7 a8 h8 a9 h9 a10 h10 a11 h11 a12 h12 a13 h13 hc x0 x1 x2 x3 x4 x5 x6 xo10 xo11 xs0) ?_
  unfold kernelRun0_B
  dsimp only
  sl_unfold_words
  simp only [View.readAt_eq_ld, h1.read_unread, h2.read_unread, h3.read_unread, h4.read_unread, h5.read_unread, h6.read_unread, h7.read_unread, h13.read_unread]
  exact ⟨fun x => ac_piece ⟨x0, x1, x2, x3, x4, x5, x6⟩ xs0 ⟨21, by omega⟩ (o := 5376) inb_S256x5632_S256x256_0_5376 rfl x, fun x => ac_piece ⟨x0, x1, x2, x3, x4, x5, x6⟩ xs0 ⟨10, by omega⟩ (o := 2560) inb_S256x5632_S256x256_0_2560 rfl x, fun x => ac_piece ⟨x0, x1, x2, x3, x4, x5, x6⟩ xs0 ⟨20, by omega⟩ (o := 5120) inb_S256x5632_S256x256_0_5120 rfl x, fun x => ac_piece ⟨x0, x1, x2, x3, x4, x5, x6⟩ xs0 ⟨9, by omega⟩ (o := 2304) inb_S256x5632_S256x256_0_2304 rfl x, fun x => ac_piece ⟨x0, x1, x2, x3, x4, x5, x6⟩ xs0 ⟨19, by omega⟩ (o := 4864) inb_S256x5632_S256x256_0_4864 rfl x, fun x => ac_piece ⟨x0, x1, x2, x3, x4, x5, x6⟩ xs0 ⟨8, by omega⟩ (o := 2048) inb_S256x5632_S256x256_0_2048 rfl x, fun x => ac_piece ⟨x0, x1, x2, x3, x4, x5, x6⟩ xs0 ⟨18, by omega⟩ (o := 4608) inb_S256x5632_S256x256_0_4608 rfl x, fun x => ac_piece ⟨x0, x1, x2, x3, x4, x5, x6⟩ xs0 ⟨7, by omega⟩ (o := 1792) inb_S256x5632_S256x256_0_1792 rfl x, fun x => ac_piece ⟨x0, x1, x2, x3, x4, x5, x6⟩ xs0 ⟨17, by omega⟩ (o := 4352) inb_S256x5632_S256x256_0_4352 rfl x, fun x => ac_piece ⟨x0, x1, x2, x3, x4, x5, x6⟩ xs0 ⟨6, by omega⟩ (o := 1536) inb_S256x5632_S256x256_0_1536 rfl x, fun x => ac_piece ⟨x0, x1, x2, x3, x4, x5, x6⟩ xs0 ⟨16, by omega⟩ (o := 4096) inb_S256x5632_S256x256_0_4096 rfl x, fun x => ac_piece ⟨x0, x1, x2, x3, x4, x5, x6⟩ xs0 ⟨5, by omega⟩ (o := 1280) inb_S256x5632_S256x256_0_1280 rfl x, fun x => ac_piece ⟨x0, x1, x2, x3, x4, x5, x6⟩ xs0 ⟨15, by omega⟩ (o := 3840) inb_S256x5632_S256x256_0_3840 rfl x, fun x => ac_piece ⟨x0, x1, x2, x3, x4, x5, x6⟩ xs0 ⟨4, by omega⟩ (o := 1024) inb_S256x5632_S256x256_0_1024 rfl x, fun x => ac_piece ⟨x0, x1, x2, x3, x4, x5, x6⟩ xs0 ⟨14, by omega⟩ (o := 3584) inb_S256x5632_S256x256_0_3584 rfl x, fun x => ac_piece ⟨x0, x1, x2, x3, x4, x5, x6⟩ xs0 ⟨3, by omega⟩ (o := 768) inb_S256x5632_S256x256_0_768 rfl x, fun x => ac_piece ⟨x0, x1, x2, x3, x4, x5, x6⟩ xs0 ⟨13, by omega⟩ (o := 3328) inb_S256x5632_S256x256_0_3328 rfl x, fun x => ac_piece ⟨x0, x1, x2, x3, x4, x5, x6⟩ xs0 ⟨2, by omega⟩ (o := 512) inb_S256x5632_S256x256_0_512 rfl x, fun x => ac_piece ⟨x0, x1, x2, x3, x4, x5, x6⟩ xs0 ⟨12, by omega⟩ (o := 3072) inb_S256x5632_S256x256_0_3072 rfl x, fun x => ac_piece ⟨x0, x1, x2, x3, x4, x5, x6⟩ xs0 ⟨1, by omega⟩ (o := 256) inb_S256x5632_S256x256_0_256 rfl x, fun x => ac_piece ⟨x0, x1, x2, x3, x4, x5, x6⟩ xs0 ⟨11, by omega⟩ (o := 2816) inb_S256x5632_S256x256_0_2816 rfl x, fun x => ac_piece ⟨x0, x1, x2, x3, x4, x5, x6⟩ xs0 ⟨0, by omega⟩ (o := 0) inb_S256x5632_S256x256_0_0 rfl x, trivial⟩

/-- the gated values, -/
theorem out0_B_8_eq (hc : ¬cond0_0 i) : out0_B_8 c i a1 h1 a2 h2 a3 h3 a4 h4 a5 h5 a6 h6 a7 h7 a8 h8 a9 h9 a10 h10 a11 h11 a12 h12 a13 h13 hc x0 x1 x2 x3 x4 x5 x6 xo10 xo11 xs0 = Block.yff ⟨x0, x1, x2, x3, x4, x5, x6⟩ xs0 := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 hc x0 x1 x2 x3 x4 x5 x6 xo10 xo11 xs0)]
  refine canon_eq _ (cover0_B_8 c i a1 h1 a2 h2 a3 h3 a4 h4 a5 h5 a6 h6 a7 h7 a8 h8 a9 h9 a10 h10 a11 h11 a12 h12 a13 h13 hc x0 x1 x2 x3 x4 x5 x6 xo10 xo11 xs0) ?_
  unfold kernelRun0_B
  dsimp only
  sl_unfold_words
  simp only [View.readAt_eq_ld, h1.read_unread, h2.read_unread, h3.read_unread, h4.read_unread, h5.read_unread, h6.read_unread, h7.read_unread, h13.read_unread]
  exact ⟨fun x => yff_piece ⟨x0, x1, x2, x3, x4, x5, x6⟩ xs0 ⟨10, by omega⟩ (o := 2560) inb_S256x2816_S256x256_0_2560 rfl x, fun x => yff_piece ⟨x0, x1, x2, x3, x4, x5, x6⟩ xs0 ⟨9, by omega⟩ (o := 2304) inb_S256x2816_S256x256_0_2304 rfl x, fun x => yff_piece ⟨x0, x1, x2, x3, x4, x5, x6⟩ xs0 ⟨8, by omega⟩ (o := 2048) inb_S256x2816_S256x256_0_2048 rfl x, fun x => yff_piece ⟨x0, x1, x2, x3, x4, x5, x6⟩ xs0 ⟨7, by omega⟩ (o := 1792) inb_S256x2816_S256x256_0_1792 rfl x, fun x => yff_piece ⟨x0, x1, x2, x3, x4, x5, x6⟩ xs0 ⟨6, by omega⟩ (o := 1536) inb_S256x2816_S256x256_0_1536 rfl x, fun x => yff_piece ⟨x0, x1, x2, x3, x4, x5, x6⟩ xs0 ⟨5, by omega⟩ (o := 1280) inb_S256x2816_S256x256_0_1280 rfl x, fun x => yff_piece ⟨x0, x1, x2, x3, x4, x5, x6⟩ xs0 ⟨4, by omega⟩ (o := 1024) inb_S256x2816_S256x256_0_1024 rfl x, fun x => yff_piece ⟨x0, x1, x2, x3, x4, x5, x6⟩ xs0 ⟨3, by omega⟩ (o := 768) inb_S256x2816_S256x256_0_768 rfl x, fun x => yff_piece ⟨x0, x1, x2, x3, x4, x5, x6⟩ xs0 ⟨2, by omega⟩ (o := 512) inb_S256x2816_S256x256_0_512 rfl x, fun x => yff_piece ⟨x0, x1, x2, x3, x4, x5, x6⟩ xs0 ⟨1, by omega⟩ (o := 256) inb_S256x2816_S256x256_0_256 rfl x, fun x => yff_piece ⟨x0, x1, x2, x3, x4, x5, x6⟩ xs0 ⟨0, by omega⟩ (o := 0) inb_S256x2816_S256x256_0_0 rfl x, trivial⟩

/-- what is handed back to the row, -/
theorem out0_B_9_eq (hc : ¬cond0_0 i) : out0_B_9 c i a1 h1 a2 h2 a3 h3 a4 h4 a5 h5 a6 h6 a7 h7 a8 h8 a9 h9 a10 h10 a11 h11 a12 h12 a13 h13 hc x0 x1 x2 x3 x4 x5 x6 xo10 xo11 xs0 = Block.dx ⟨x0, x1, x2, x3, x4, x5, x6⟩ xs0 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 hc x0 x1 x2 x3 x4 x5 x6 xo10 xo11 xs0)]
  unfold kernelRun0_B
  dsimp only
  sl_unfold_words
  rw [View.canon_unit_zero (S := S256x1024) zeros]
  simp only [View.readAt_eq_ld, h1.read_unread, h2.read_unread, h3.read_unread, h4.read_unread, h5.read_unread, h6.read_unread, h7.read_unread, h11.read_unread, h12.read_unread, h13.read_unread, View.ld_unit_zero (S := S256x1024) zeros, View.ld_unit_zero (S := S1x1024) zeros, View.ld_unit_zero (S := S8x128) zeros]
  rfl

/-- the loss so far, -/
theorem out0_B_10_eq (hc : ¬cond0_0 i) : out0_B_10 c i a1 h1 a2 h2 a3 h3 a4 h4 a5 h5 a6 h6 a7 h7 a8 h8 a9 h9 a10 h10 a11 h11 a12 h12 a13 h13 hc x0 x1 x2 x3 x4 x5 x6 xo10 xo11 xs0 = Block.loss ⟨x0, x1, x2, x3, x4, x5, x6⟩ xs0 xo10 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hc x0 x1 x2 x3 x4 x5 x6 xo10 xo11 xs0)]
  unfold kernelRun0_B
  dsimp only
  sl_unfold_words
  rw [View.canon_unit_zero (S := S8x128) zeros]
  simp only [View.readAt_eq_ld, h1.read_unread, h2.read_unread, h3.read_unread, h4.read_unread, h5.read_unread, h6.read_unread, h7.read_unread, h11.read_unread, h12.read_unread, h13.read_unread, View.ld_unit_zero (S := S256x1024) zeros, View.ld_unit_zero (S := S1x1024) zeros, View.ld_unit_zero (S := S8x128) zeros]
  rfl

/-- the gain's gradient so far, -/
theorem out0_B_11_eq (hc : ¬cond0_0 i) : out0_B_11 c i a1 h1 a2 h2 a3 h3 a4 h4 a5 h5 a6 h6 a7 h7 a8 h8 a9 h9 a10 h10 a11 h11 a12 h12 a13 h13 hc x0 x1 x2 x3 x4 x5 x6 xo10 xo11 xs0 = Block.dg ⟨x0, x1, x2, x3, x4, x5, x6⟩ xs0 xo11 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 hc x0 x1 x2 x3 x4 x5 x6 xo10 xo11 xs0)]
  unfold kernelRun0_B
  dsimp only
  sl_unfold_words
  rw [View.canon_unit_zero (S := S1x1024) zeros]
  simp only [View.readAt_eq_ld, h1.read_unread, h2.read_unread, h3.read_unread, h4.read_unread, h5.read_unread, h6.read_unread, h7.read_unread, h11.read_unread, h12.read_unread, h13.read_unread, View.ld_unit_zero (S := S256x1024) zeros, View.ld_unit_zero (S := S1x1024) zeros, View.ld_unit_zero (S := S8x128) zeros]
  rfl

/-- and the rows the next point needs. -/
theorem sout0_B_0_eq (hc : ¬cond0_0 i) : sout0_B_0 c i a1 h1 a2 h2 a3 h3 a4 h4 a5 h5 a6 h6 a7 h7 a8 h8 a9 h9 a10 h10 a11 h11 a12 h12 a13 h13 hc x0 x1 x2 x3 x4 x5 x6 xo10 xo11 xs0 = Block.carry ⟨x0, x1, x2, x3, x4, x5, x6⟩ := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 hc x0 x1 x2 x3 x4 x5 x6 xo10 xo11 xs0)]
  unfold kernelRun0_B
  dsimp only
  sl_unfold_words
  rw [View.canon_unit_zero (S := S8x5632) zeros]
  simp only [View.readAt_eq_ld, h1.read_unread, h2.read_unread, h3.read_unread, h4.read_unread, h5.read_unread, h6.read_unread, h7.read_unread, h11.read_unread, h12.read_unread, h13.read_unread, View.ld_unit_zero (S := S256x1024) zeros, View.ld_unit_zero (S := S1x1024) zeros, View.ld_unit_zero (S := S8x128) zeros]
  rfl

end Cert.FwdFfn

end
-- ==== Proof.FfFold.lean ====
/- The points of the feed-forward's second half, from the first block of rows to the last: what they carry, sum and write back,
   as real numbers. -/
module

public import proofs.«01_k».proof.Proof.FfTile
public import proofs.«01_k».proof.Proof.FfPoint
public import proofs.«01_k».proof.Proof.InFold
public import Idealize.ShloMosaic.Lib.Pipeline.Value
public import Idealize.ShloMosaic.Lib.Pipeline.ValueKit.Geometry
public import proofs.«01_k».proof.Proof.Gen.Kernel3Ideal.Value

@[expose] public section

set_option maxRecDepth 16384

noncomputable section

namespace Cert.FwdFfn

open Cert.Kernel3Ideal Cert.Kernel3Ideal.Gen Cert.Kernel3Ideal.Value
open Cert.KernelIdeal.Value (Is2 Is3 Is2.congr coe_sum_range)
open Cert.BwdIn (rows2)
open Idealize.ShloMosaic Idealize.ShloMosaic.TcCoe
open Finset

/-! ## One point -/

/-- A point's blocks hold rows `256 q` on. -/
structure Reads (D : Data) (q : ℕ) (B : Block Ideal) : Prop where
  a : Is2 B.a fun a j => D.a (256 * q + a) j
  x : Is2 B.x fun a k => D.x (256 * q + a) k
  w : Is2 B.w D.w
  b : Is2 B.b D.b
  wd : Is2 B.wd D.wd
  g : Is2 B.g D.g
  tgt : Is2 B.tgt fun a k => D.tgt (256 * q + a) k

/-- The rows of a table from one row and one column on. -/
theorem ld_is {A B n0 n1 o0 o1 : ℕ} {r : ℕ → ℕ → ℝ} (V : (⟨2, ![A, B]⟩ : Shape).Idx → EReal) (hx : Is2 V r)
    (inb : ∀ a, (![o0, o1] : Fin 2 → ℕ) a + (![n0, n1] : Fin 2 → ℕ) a ≤ (⟨2, ![A, B]⟩ : Shape).size a) :
    Is2 (a := n0) (b := n1) (fun i => V ((Rect.unit (s := ⟨2, ![A, B]⟩) ![o0, o1] ![n0, n1] inb).emb i)) fun a l => r (o0 + a) (o1 + l) := fun i =>
  (hx _).trans (congrArg Real.toEReal (congr (congrArg r (show o0 + 1 * (i 0).val = _ by omega)) (show o1 + 1 * (i 1).val = _ by omega)))

section Point

variable {D : Data} {q : ℕ} {B : Block Ideal} {s : FVec Ideal S8x5632 .f32} (hB : Reads D q B)
  (hs : Is2 s fun a j => if q = 0 then 0 else D.a (256 * q + a - 8) j)
include hB hs

theorem conv_at (k : Fin 22) : Is2 (B.conv s k) fun a l => D.ac (256 * q + a) (256 * k.val + l) :=
  (conv_is (ld_is _ hB.a _) (ld_is _ hs _) (ld_is _ hB.w _) (ld_is _ hB.w _) (ld_is _ hB.w _) (ld_is _ hB.b _)).congr fun a _ l _ => by
    unfold Data.ac
    rw [← D.before_tile q 2 a (256 * k.val + l) (by omega), ← D.before_tile q 1 a (256 * k.val + l) (by omega)]
    simp only [back, Nat.zero_add, Nat.add_zero]
    rfl

theorem y_at (k : Fin 11) : Is2 (B.y s k) fun a l => D.y (256 * q + a) (256 * k.val + l) :=
  (gate_is (conv_at hB hs _) (conv_at hB hs _)).congr fun a _ l _ => by
    unfold Data.y
    rw [show 256 * (11 + k.val) + l = 2816 + (256 * k.val + l) by omega]

theorem rows_at (k : Fin 11) : Is2 (show FVec Ideal S256x1024 .bf16 from B.rows k) fun j i => D.wd (256 * k.val + j) i :=
  (ld_is _ hB.wd _).congr fun _ _ _ _ => by rw [Nat.zero_add]

theorem part_at : ∀ (n : ℕ) (h : n ≤ 11), Is2 (B.part s n h) fun a k => D.x (256 * q + a) k + ∑ j ∈ range (256 * n), D.y (256 * q + a) j * D.wd j k
  | 0, _ => hB.x.congr fun _ _ _ _ => by simp
  | n + 1, h => (step_is (part_at n (by omega)) (y_at hB hs ⟨n, h⟩) (rows_at hB hs ⟨n, h⟩)).congr fun a _ k _ => by
    rw [add_assoc, Data.sum_tile (fun j => D.y (256 * q + a) j * D.wd j k) n]

theorem x3_at : Is2 (k0_pay111 (F := Ideal) (B.most s) (B.last s) B.end') fun a k => D.x3 (256 * q + a) k :=
  part_at hB hs 11 le_rfl

theorem r_at : Is2 (B.r s) fun a _ => D.r (256 * q + a) := root_is (x3_at hB hs)
theorem n_at : Is2 (B.n s) fun a k => D.n (256 * q + a) k := unit_is (x3_at hB hs)
theorem diff_at : Is2 (k0_pay115 (F := Ideal) (B.most s) (B.last s) B.end' B.g B.tgt) fun a k => D.diff (256 * q + a) k :=
  diff_is (x3_at hB hs) hB.g hB.tgt
theorem dout_at : Is2 (B.dout s) fun a k => D.dout (256 * q + a) k := dout_is (diff_at hB hs)

theorem dx_at : Is2 (B.dx s) fun a k => D.dx (256 * q + a) k :=
  dx_is (b := fun a => D.r (256 * q + a)) (r_at hB hs) (n_at hB hs) hB.g (dout_at hB hs)

theorem loss_at {d : FVec Ideal S8x128 .f32} (hd : Is2 d fun _ _ => ∑ t ∈ range (256 * q), D.err t) :
    Is2 (B.loss s d) fun _ _ => ∑ t ∈ range (256 * (q + 1)), D.err t :=
  (loss_is (diff_at hB hs) hd).congr fun _ _ _ _ => Data.sum_tile D.err q

theorem dg_at {d : FVec Ideal S1x1024 .f32} (hd : Is2 d fun _ k => ∑ t ∈ range (256 * q), D.dout t k * D.n t k) :
    Is2 (B.dg s d) fun _ k => ∑ t ∈ range (256 * (q + 1)), D.dout t k * D.n t k :=
  (gain_is (n_at hB hs) (dout_at hB hs) hd).congr fun _ _ k _ => Data.sum_tile (fun t => D.dout t k * D.n t k) q

theorem ac_at : Is2 (B.ac s) fun a j => D.ac (256 * q + a) j := fun i =>
  (conv_at hB hs ⟨(i 1).val / 256, Nat.div_lt_of_lt_mul (i 1).isLt⟩ (ValueIdx.ix2 (i 0) ⟨(i 1).val % 256, Nat.mod_lt _ (by omega)⟩)).trans
    (congrArg (fun j => ((D.ac (256 * q + (i 0).val) j : ℝ) : EReal)) (Nat.div_add_mod (i 1).val 256))

theorem yff_at : Is2 (B.yff s) fun a j => D.y (256 * q + a) j := fun i =>
  (y_at hB hs ⟨(i 1).val / 256, Nat.div_lt_of_lt_mul (i 1).isLt⟩ (ValueIdx.ix2 (i 0) ⟨(i 1).val % 256, Nat.mod_lt _ (by omega)⟩)).trans
    (congrArg (fun j => ((D.y (256 * q + (i 0).val) j : ℝ) : EReal)) (Nat.div_add_mod (i 1).val 256))

theorem carry_at : Is2 B.carry fun a j => if q + 1 = 0 then 0 else D.a (256 * (q + 1) + a - 8) j :=
  Is2.congr (x := B.carry) (r := fun a j => D.a (256 * q + (248 + a)) j) (fun i => by
    pointwise [Block.carry, k0_pay112]
    exact hB.a _) fun a _ j _ => by
      rw [if_neg (by omega), show 256 * (q + 1) + a - 8 = 256 * q + (248 + a) by omega]

end Point

/-! ## The blocks -/

/-- The call's operands hold the arguments. -/
structure Operands (m : (ℓ : Loc nD τ sig) → Buf (Elt Ideal) ℓ) (c : Dev nD) (D : Data) : Prop where
  a : Is2 (show FVec Ideal S8192x5632 .f32 from V m c (Pipeline.arrRef spec0 0)) D.a
  x : Is2 (show FVec Ideal S8192x1024 .f32 from V m c (Pipeline.arrRef spec0 1)) D.x
  w : Is2 (show FVec Ideal S3x5632 .f32 from V m c (Pipeline.arrRef spec0 2)) D.w
  b : Is2 (show FVec Ideal S1x5632 .f32 from V m c (Pipeline.arrRef spec0 3)) D.b
  wd : Is2 (show FVec Ideal S2816x1024 .bf16 from V m c (Pipeline.arrRef spec0 4)) D.wd
  g : Is2 (show FVec Ideal S1x1024 .f32 from V m c (Pipeline.arrRef spec0 5)) D.g
  tgt : Is2 (show FVec Ideal S8192x1024 .f32 from V m c (Pipeline.arrRef spec0 6)) D.tgt

/-- What a point reads. -/
def blockAt {F : FTy → Type} [FloatOps F] (m : (ℓ : Loc nD τ sig) → Buf (Elt F) ℓ) (c : Dev nD) (t : Fin cfg0.N) : Block F where
  a := iblk m c 0 t
  x := iblk m c 1 t
  w := iblk m c 2 t
  b := iblk m c 3 t
  wd := iblk m c 4 t
  g := iblk m c 5 t
  tgt := iblk m c 6 t

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel
theorem index9 : ∀ t : Fin grid0.N, win0_9.index t 0 = t.val ∧ win0_9.index t 1 = 0 := by decide +kernel
theorem index10 : ∀ t : Fin grid0.N, win0_10.index t 0 = 0 ∧ win0_10.index t 1 = 0 := by decide +kernel
theorem index11 : ∀ t : Fin grid0.N, win0_11.index t 0 = 0 ∧ win0_11.index t 1 = 0 := by decide +kernel

variable {m : (ℓ : Loc nD τ sig) → Buf (Elt Ideal) ℓ} {c : Dev nD} {D : Data}

section

variable (hO : Operands m c D) (t : Fin cfg0.N)
include hO

theorem reads_at : Reads D t.val (blockAt m c t) where
  a := rows2 hO.a _ (fun i => (win0_0.blk t).view.emb i) (fun _ => rfl) (fun i => by blk_simp; have := index0 t; omega)
    (fun i => by blk_simp; have := index0 t; omega)
  x := rows2 hO.x _ (fun i => (win0_1.blk t).view.emb i) (fun _ => rfl) (fun i => by blk_simp; have := index1 t; omega)
    (fun i => by blk_simp; have := index1 t; omega)
  w := (rows2 hO.w 0 (fun i => (win0_2.blk t).view.emb i) (fun _ => rfl) (fun i => by blk_simp; have := index2 t; omega)
    (fun i => by blk_simp; have := index2 t; omega)).congr fun a _ b _ => by rw [Nat.zero_add]
  b := (rows2 hO.b 0 (fun i => (win0_3.blk t).view.emb i) (fun _ => rfl) (fun i => by blk_simp; have := index3 t; omega)
    (fun i => by blk_simp; have := index3 t; omega)).congr fun a _ b _ => by rw [Nat.zero_add]
  wd := (rows2 hO.wd 0 (fun i => (win0_4.blk t).view.emb i) (fun _ => rfl) (fun i => by blk_simp; have := index4 t; omega)
    (fun i => by blk_simp; have := index4 t; omega)).congr fun a _ b _ => by rw [Nat.zero_add]
  g := (rows2 hO.g 0 (fun i => (win0_5.blk t).view.emb i) (fun _ => rfl) (fun i => by blk_simp; have := index5 t; omega)
    (fun i => by blk_simp; have := index5 t; omega)).congr fun a _ b _ => by rw [Nat.zero_add]
  tgt := rows2 hO.tgt _ (fun i => (win0_6.blk t).view.emb i) (fun _ => rfl) (fun i => by blk_simp; have := index6 t; omega)
    (fun i => by blk_simp; have := index6 t; omega)

end

/-! ## All points -/

/-- What is held after a point whose rows start at `256 q`. -/
structure Held (D : Data) (q : ℕ)
    (o : FVec Ideal S256x5632 .bf16 × FVec Ideal S256x2816 .bf16 × FVec Ideal S256x1024 .f32 × FVec Ideal S8x128 .f32 × FVec Ideal S1x1024 .f32 ×
      FVec Ideal S8x5632 .f32) : Prop where
  ac : Is2 o.1 fun a j => D.ac (256 * q + a) j
  yff : Is2 o.2.1 fun a j => D.y (256 * q + a) j
  dx : Is2 o.2.2.1 fun a k => D.dx (256 * q + a) k
  loss : Is2 o.2.2.2.1 fun _ _ => ∑ t ∈ range (256 * (q + 1)), D.err t
  gain : Is2 o.2.2.2.2.1 fun _ k => ∑ t ∈ range (256 * (q + 1)), D.dout t k * D.n t k
  carry : Is2 o.2.2.2.2.2 fun a j => if q + 1 = 0 then 0 else D.a (256 * (q + 1) + a - 8) j

/-- A point computes from its blocks and what the point before left. -/
theorem held_step {q : ℕ} {B : Block Ideal} (hB : Reads D q B) {s : FVec Ideal S8x5632 .f32}
    (hs : Is2 s fun a j => if q = 0 then 0 else D.a (256 * q + a - 8) j)
    {d : FVec Ideal S8x128 .f32} (hd : Is2 d fun _ _ => ∑ t ∈ range (256 * q), D.err t)
    {d' : FVec Ideal S1x1024 .f32} (hd' : Is2 d' fun _ k => ∑ t ∈ range (256 * q), D.dout t k * D.n t k) :
    Held D q (B.ac s, B.yff s, B.dx s, B.loss s d, B.dg s d', B.carry) where
  ac := ac_at hB hs
  yff := yff_at hB hs
  dx := dx_at hB hs
  loss := loss_at hB hs hd
  gain := dg_at hB hs hd'
  carry := carry_at hB hs

/-- The first point starts from zeros. -/
theorem outs_first {F : FTy → Type} [FloatOps F] (m : (ℓ : Loc nD τ sig) → Buf (Elt F) ℓ) (c : Dev nD) (t : Fin cfg0.N) (h : t.val % 32 = 0) :
    outsAt0 m c t.val t.isLt = ((blockAt m c t).ac k0_pay3, (blockAt m c t).yff k0_pay3, (blockAt m c t).dx k0_pay3, (blockAt m c t).loss k0_pay3 k0_pay4,
      (blockAt m c t).dg k0_pay3 k0_pay5, (blockAt m c t).carry) :=
  (outsAt0_A m c t h).trans (congr (congrArg Prod.mk (out0_A_7_eq ..)) (congr (congrArg Prod.mk (out0_A_8_eq ..))
    (congr (congrArg Prod.mk (out0_A_9_eq ..)) (congr (congrArg Prod.mk (out0_A_10_eq ..)) (congr (congrArg Prod.mk (out0_A_11_eq ..)) (sout0_A_0_eq ..))))))

/-- Every other point goes on from the point before. -/
theorem outs_next {F : FTy → Type} [FloatOps F] (m : (ℓ : Loc nD τ sig) → Buf (Elt F) ℓ) (c : Dev nD) (n : ℕ) (hn : n + 1 < cfg0.N) (h : ¬(n + 1) % 32 = 0) :
    outsAt0 m c (n + 1) hn =
      let o := outsAt0 m c n (Nat.lt_of_succ_lt hn)
      let B := blockAt m c ⟨n + 1, hn⟩
      (B.ac o.2.2.2.2.2, B.yff o.2.2.2.2.2, B.dx o.2.2.2.2.2, B.loss o.2.2.2.2.2 o.2.2.2.1, B.dg o.2.2.2.2.2 o.2.2.2.2.1, B.carry) :=
  (outsAt0_B m c ⟨n + 1, hn⟩ h).trans (congr (congrArg Prod.mk (out0_B_7_eq ..)) (congr (congrArg Prod.mk (out0_B_8_eq ..))
    (congr (congrArg Prod.mk (out0_B_9_eq ..)) (congr (congrArg Prod.mk (out0_B_10_eq ..)) (congr (congrArg Prod.mk (out0_B_11_eq ..)) (sout0_B_0_eq ..))))))

theorem held_at (hO : Operands m c D) : ∀ (n : ℕ) (hn : n < cfg0.N), Held D n (outsAt0 m c n hn)
  | 0, hn => by
    rw [outs_first m c ⟨0, hn⟩ rfl]
    refine held_step (reads_at hO ⟨0, hn⟩) (fun i => ?_) (fun i => ?_) (fun i => ?_)
    · pointwise [k0_pay3]; simp
    · pointwise [k0_pay4]; simp
    · pointwise [k0_pay5]; simp
  | n + 1, hn => by
    have hN : cfg0.N = 32 := N_0
    have h := held_at hO n (Nat.lt_of_succ_lt hn)
    rw [outs_next m c n hn (by omega)]
    exact held_step (reads_at hO ⟨n + 1, hn⟩) h.carry h.loss h.gain

/-! ## The results -/

variable (hO : Operands m c D)
include hO

theorem ac_array : Is2 (show FVec Ideal S8192x5632 .bf16 from (dats m 0 c).arrAt 7 cfg0.N) D.ac := fun i => by
  refine (dats m 0 c).arrAt_forall_of_covers 7 (fun i v => v = ((D.ac (i 0).val (i 1).val : ℝ) : EReal)) (by decide +kernel) (fun t hf y => ?_) i
  have e0 : ((win0_7.blk t).view.emb y 0 : ℕ) = 256 * t.val + (y 0).val := by blk_simp; have := index7 t; omega
  have e1 : ((win0_7.blk t).view.emb y 1 : ℕ) = (y 1).val := by blk_simp; have := index7 t; omega
  exact (congrFun (after0_7 m c t) _).trans (((held_at hO t.val t.isLt).ac y).trans (by rw [e0, e1]))

theorem yff_array : Is2 (show FVec Ideal S8192x2816 .bf16 from (dats m 0 c).arrAt 8 cfg0.N) D.y := fun i => by
  refine (dats m 0 c).arrAt_forall_of_covers 8 (fun i v => v = ((D.y (i 0).val (i 1).val : ℝ) : EReal)) (by decide +kernel) (fun t hf y => ?_) i
  have e0 : ((win0_8.blk t).view.emb y 0 : ℕ) = 256 * t.val + (y 0).val := by blk_simp; have := index8 t; omega
  have e1 : ((win0_8.blk t).view.emb y 1 : ℕ) = (y 1).val := by blk_simp; have := index8 t; omega
  exact (congrFun (after0_8 m c t) _).trans (((held_at hO t.val t.isLt).yff y).trans (by rw [e0, e1]))

theorem dx_array : Is2 (show FVec Ideal S8192x1024 .f32 from (dats m 0 c).arrAt 9 cfg0.N) D.dx := fun i => by
  refine (dats m 0 c).arrAt_forall_of_covers 9 (fun i v => v = ((D.dx (i 0).val (i 1).val : ℝ) : EReal)) (by decide +kernel) (fun t hf y => ?_) i
  have e0 : ((win0_9.blk t).view.emb y 0 : ℕ) = 256 * t.val + (y 0).val := by blk_simp; have := index9 t; omega
  have e1 : ((win0_9.blk t).view.emb y 1 : ℕ) = (y 1).val := by blk_simp; have := index9 t; omega
  exact (congrFun (after0_9 m c t) _).trans (((held_at hO t.val t.isLt).dx y).trans (by rw [e0, e1]))

theorem loss_array : Is2 (show FVec Ideal S8x128 .f32 from (dats m 0 c).arrAt 10 cfg0.N) fun _ _ => D.loss := fun i => by
  refine (dats m 0 c).arrAt_forall_of_covers 10 (fun i v => v = ((D.loss : ℝ) : EReal)) (by decide +kernel) (fun t hf y => ?_) i
  have hN : cfg0.N = 32 := N_0
  have ht : t.val = 31 := by have := (flush0_10 t).1 hf; have := t.isLt; omega
  exact (congrFun (after0_10 m c t) _).trans (((held_at hO t.val t.isLt).loss y).trans (by rw [ht, Data.loss]))

theorem gain_array : Is2 (show FVec Ideal S1x1024 .f32 from (dats m 0 c).arrAt 11 cfg0.N) fun _ k => D.dg k := fun i => by
  refine (dats m 0 c).arrAt_forall_of_covers 11 (fun i v => v = ((D.dg (i 1).val : ℝ) : EReal)) (by decide +kernel) (fun t hf y => ?_) i
  have hN : cfg0.N = 32 := N_0
  have ht : t.val = 31 := by have := (flush0_11 t).1 hf; have := t.isLt; omega
  have e1 : ((win0_11.blk t).view.emb y 1 : ℕ) = (y 1).val := by blk_simp; have := index11 t; omega
  exact (congrFun (after0_11 m c t) _).trans (((held_at hO t.val t.isLt).gain y).trans (by rw [e1, ht, Data.dg]))

end Cert.FwdFfn

end
-- ==== Proof.FfRef.lean ====
/- The reference of the feed-forward's second half, line by line, as real numbers. -/
module

public import proofs.«01_k».proof.Proof.FfFold
public import proofs.«01_k».proof.Proof.InRef
public import proofs.«01_k».proof.Proof.Gen.Reference3Ideal.Read
public import Idealize.ShloMosaic.Lib.KernelVsHost
public import Idealize.ShloMosaic.Lib.Pointwise

@[expose] public section

set_option maxRecDepth 16384

noncomputable section

namespace Cert.FwdFfn

open Cert.Reference3Ideal Cert.Reference3Ideal.Gen Cert.Reference3Ideal.Read
open Cert.KernelIdeal.Value (Is2 Is3 Is2.congr coe_sum_range)
open Cert.BwdIn (eps eps_is kilo_is sum_is div_is rsqrt_is total_is lone_is half_is int_zero)
open Idealize.ShloMosaic Idealize.ShloMosaic.TcCoe
open Finset

/-- The arguments are real, with the data's numbers. -/
structure Args (D : Data) (a : FVec Ideal S8192x5632 .f32) (x : FVec Ideal S8192x1024 .f32) (w : FVec Ideal S3x5632 .f32) (b : FVec Ideal S1x5632 .f32)
    (wd : FVec Ideal S2816x1024 .f32) (g : FVec Ideal S1x1024 .f32) (tgt : FVec Ideal S8192x1024 .f32) : Prop where
  a : Is2 a D.a
  x : Is2 x D.x
  w : Is2 w D.w
  b : Is2 b D.b
  wd : Is2 wd D.wd
  g : Is2 g D.g
  tgt : Is2 tgt D.tgt

/-! ## Constants -/

theorem one_is : Ideal.ofBits .f32 0x3F800000#32 = ((1 : ℝ) : EReal) := by
  simp [Ideal.ofBits, Ideal.ieee]
  rw [← EReal.coe_mul]
  norm_num

theorem two_is : Ideal.ofBits .f32 0x40000000#32 = ((2 : ℝ) : EReal) := by
  simp [Ideal.ofBits, Ideal.ieee]
  rw [← EReal.coe_mul]
  norm_num

theorem one_half_is : Ideal.ofBits .f32 0x3F000000#32 = ((1 / 2 : ℝ) : EReal) := by
  simp [Ideal.ofBits, Ideal.ieee]
  rw [← EReal.coe_mul]
  norm_num

/-- One over one and an exponential. -/
theorem sigmoid_is {u v x : EReal} {f : ℝ} (hu : u = ((1 : ℝ) : EReal)) (hv : v = ((1 : ℝ) : EReal)) (hx : x = ((f : ℝ) : EReal)) :
    Ideal.div u (v + Ideal.exp (-x)) = (((1 + Real.exp (-f))⁻¹ : ℝ) : EReal) := by
  subst hu hv hx
  have h := Real.exp_pos (-f)
  rw [← EReal.coe_neg, Ideal.exp_coe, ← EReal.coe_add, div_is rfl (by positivity), one_div]

/-! ## The rows before the first -/

/-- A table under rows of zeros. -/
theorem under_at {A B C o : ℕ} {x : (⟨2, ![A, B]⟩ : Shape).Idx → EReal} {r : ℕ → ℕ → ℝ} (hx : Is2 x r) {v : (⟨0, ![]⟩ : Shape).Idx → EReal} (hv : ∀ i, v i = 0)
    (h : (⟨2, ![A, B]⟩ : Shape).Pads ![o, 0] ![0, 0] ![0, 0] ⟨2, ![C, B]⟩) (hC : C = o + A) (hu) :
    Is2 (pad ⟨2, ![C, B]⟩ ![o, 0] ![0, 0] ![0, 0] x v h hu) fun a b => if o ≤ a then r (a - o) b else 0 := fun j => by
  have hj : (j 0).val < C := (j 0).isLt
  have hB : (j 1).val < B := (j 1).isLt
  by_cases e : o ≤ (j 0).val
  · have hA : (j 0).val - o < A := by omega
    refine (pad_apply_of_inside _ _ _ x v h hu j (ValueIdx.ix2 ⟨(j 0).val - o, hA⟩ ⟨(j 1).val, hB⟩) fun a => match a with
      | ⟨0, _⟩ => by show (j 0).val = o + ((j 0).val - o) * (0 + 1); omega
      | ⟨1, _⟩ => by show (j 1).val = 0 + (j 1).val * (0 + 1); omega).trans ((hx _).trans ?_)
    exact congrArg Real.toEReal (if_pos e).symm
  · refine (pad_apply_of_not_inside _ _ _ x v h hu j ⟨0, Nat.two_pos⟩ fun ha => e ha.1).trans ((hv _).trans ?_)
    exact congrArg Real.toEReal (if_neg e).symm

theorem Data.under (D : Data) {k s t j : ℕ} (h : s + k = t + 2) : (if 2 ≤ s then D.a (s - 2) j else 0) = D.before k t j := by
  unfold Data.before
  by_cases e : 2 ≤ s
  · rw [if_pos e, if_neg (by omega), show s - 2 = t - k by omega]
  · rw [if_neg e, if_pos (by omega)]

theorem Data.before_zero (D : Data) (t j : ℕ) : D.before 0 t j = D.a t j := if_neg (Nat.not_lt_zero t)

/-! ## The lines -/

section Lines

variable {D : Data} {x0 : FVec Ideal S8192x5632 .f32} {x1 : FVec Ideal S8192x1024 .f32} {x2 : FVec Ideal S3x5632 .f32} {x3 : FVec Ideal S1x5632 .f32}
  {x4 : FVec Ideal S2816x1024 .f32} {x5 : FVec Ideal S1x1024 .f32} {x6 : FVec Ideal S8192x1024 .f32} (hA : Args D x0 x1 x2 x3 x4 x5 x6)
include hA

theorem ref_under : Is2 (val_main_v0 (F := Ideal) x0) fun t j => if 2 ≤ t then D.a (t - 2) j else 0 :=
  under_at hA.a (int_zero .f32) pads_S8192x5632_S8194x5632_200_000 rfl h_S_

theorem ref_ac : Is2 (val_main_v24 (F := Ideal) x0 x2 x3) D.ac := fun i => by
  have e := ref_under hA
  pointwise [val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4,
    val_main_v3, val_main_v2, val_main_v1]
  rw [e, e, e, hA.w, hA.w, hA.w, hA.b, ← EReal.coe_mul, ← EReal.coe_mul, ← EReal.coe_mul, ← EReal.coe_add, ← EReal.coe_add, ← EReal.coe_add]
  unfold Data.ac
  rw [← D.before_zero]
  refine congrArg Real.toEReal (congrArg₂ (· + ·) (congrArg₂ (· + ·) (congrArg₂ (· + ·) (congrArg₂ (· * ·) rfl (D.under ?_)) (congrArg₂ (· * ·) rfl (D.under ?_)))
    (congrArg₂ (· * ·) rfl (D.under ?_))) rfl)
  · rfl
  · show 1 + (i 0).val + 1 = _; omega
  · show 2 + (i 0).val + 0 = _; omega

theorem ref_y : Is2 (val_main_v28 (F := Ideal) x0 x2 x3) D.y := fun i => by
  have e := ref_ac hA
  pointwise [val_main_v28, val_main_v27, val_main_v26, val_main_v25, val_main_call1_v5, val_main_call1_v4, val_main_call1_v3, val_main_call1_v2,
    val_main_call1_v1, val_main_call1_v0]
  generalize val_main_v24 (F := Ideal) x0 x2 x3 = u at e ⊢
  refine (congrArg₂ (· * ·) (congrArg₂ (· * ·) (e _) (sigmoid_is one_is one_is (e _))) (e _)).trans ?_
  rw [← EReal.coe_mul, ← EReal.coe_mul]
  rfl

theorem ref_x3 : Is2 (val_main_v30 (F := Ideal) x0 x1 x2 x3 x4) D.x3 := fun i => by
  have e := ref_y hA
  pointwise [val_main_v30]
  rw [val_main_v29_apply, hA.x, sum_is (r := fun j => D.y (i 0).val j * D.wd j (i 1).val) fun j => by rw [e, hA.wd, ← EReal.coe_mul], ← EReal.coe_add]
  rfl

theorem ref_ms : Is2 (val_main_v38 (F := Ideal) x0 x1 x2 x3 x4) fun t _ => D.ms t := fun i => by
  have e := ref_x3 hA
  pointwise [val_main_v38, val_main_v37, val_main_v36, val_main_v35, val_main_v34, val_main_v33, val_main_v32]
  generalize val_main_v30 (F := Ideal) x0 x1 x2 x3 x4 = u at e ⊢
  refine (congrArg₂ (· + ·) (congrArg₂ Ideal.div (total_is (r := fun k => D.x3 (i 0).val k * D.x3 (i 0).val k) Ideal.ofBits_zero_f32 fun k => ?_) kilo_is) eps_is).trans ?_
  · rw [e, ← EReal.coe_mul]
    rfl
  · rw [div_is rfl (by norm_num), ← EReal.coe_add]
    rfl

theorem ref_r : Is2 (val_main_v39 (F := Ideal) x0 x1 x2 x3 x4) fun t _ => D.r t := fun i => rsqrt_is (ref_ms hA i) (D.ms_pos _)

theorem ref_n : Is2 (val_main_v44 (F := Ideal) x0 x1 x2 x3 x4) D.n := fun i => by
  have e := ref_x3 hA
  have e' := ref_r hA
  pointwise [val_main_v44, val_main_v43]
  rw [e', e, ← EReal.coe_mul]
  rfl

theorem ref_diff : Is2 (val_main_v48 (F := Ideal) x0 x1 x2 x3 x4 x5 x6) D.diff := fun i => by
  have e := ref_n hA
  pointwise [val_main_v48, val_main_v47, val_main_v46, val_main_v45, val_main_v31]
  rw [e, hA.g, hA.tgt, ← EReal.coe_mul, ← EReal.coe_sub]
  rfl

theorem ref_dout : Is2 (val_main_v62 (F := Ideal) x0 x1 x2 x3 x4 x5 x6) D.dout := fun i => by
  have e := ref_diff hA
  pointwise [val_main_v62, val_main_v61, val_main_v60, val_main_v59, val_main_v58, val_main_v57, val_main_v51, val_main_v50]
  refine (congrArg₂ (· * ·) (congrArg₂ Ideal.div (congrArg₂ (· * ·) one_half_is one_is) kilo_is) (congrArg₂ (· * ·) two_is (e i))).trans ?_
  rw [div_is (EReal.coe_mul _ _).symm (by norm_num), ← EReal.coe_mul, ← EReal.coe_mul]
  refine congrArg Real.toEReal ?_
  unfold Data.dout
  ring

theorem ref_loss (i) : val_main_v56 (F := Ideal) x0 x1 x2 x3 x4 x5 x6 i = ((D.loss : ℝ) : EReal) := by
  have e := ref_diff hA
  pointwise [val_main_v56, val_main_v55, val_main_v54, val_main_v53, val_main_v52, val_main_v49]
  generalize val_main_v48 (F := Ideal) x0 x1 x2 x3 x4 x5 x6 = u at e ⊢
  refine (congrArg₂ (· * ·) one_half_is (total_is (r := fun t => (∑ k ∈ range 1024, D.diff t k * D.diff t k) / 1024) Ideal.ofBits_zero_f32 fun t =>
    (congrArg₂ Ideal.div (total_is (r := fun k => D.diff t.val k * D.diff t.val k) Ideal.ofBits_zero_f32 fun k => ?_) kilo_is).trans
      (div_is rfl (by norm_num)))).trans ?_
  · rw [e, ← EReal.coe_mul]
    rfl
  · rw [← EReal.coe_mul, mul_sum]
    refine congrArg Real.toEReal (sum_congr rfl fun t _ => ?_)
    unfold Data.err
    ring

theorem ref_losses : Is2 (val_main_v86 (F := Ideal) x0 x1 x2 x3 x4 x5 x6) fun _ _ => D.loss := fun i =>
  (val_main_v86_apply ..).trans (ref_loss hA _)

theorem ref_gain : Is2 (val_main_v83 (F := Ideal) x0 x1 x2 x3 x4 x5 x6) fun _ k => D.dg k := fun i => by
  have e := ref_n hA
  have e' := ref_dout hA
  pointwise [val_main_v83, val_main_v68, val_main_v65, val_main_v64, val_main_v63]
  refine lone_is Ideal.ofBits_zero_f32 (total_is (r := fun t => D.dout t (i 1).val * D.n t (i 1).val) Ideal.ofBits_zero_f32 fun t => ?_)
  rw [e, e', ← EReal.coe_mul, mul_comm]
  rfl

theorem ref_half (i : S8192.Idx) : val_main_v77 (F := Ideal) x0 x1 x2 x3 x4 x5 x6 i = ((D.half (i 0).val : ℝ) : EReal) := by
  have e := ref_x3 hA
  have e' := ref_dout hA
  pointwise [val_main_v77, val_main_v76, val_main_v75, val_main_v74, val_main_v71, val_main_v70, val_main_v69, val_main_v67, val_main_v66, val_main_v45,
    val_main_v31, val_main_v42, val_main_v41, val_main_v40]
  refine lone_is Ideal.ofBits_zero_f32 ((congrArg₂ Ideal.div (congrArg₂ (· * ·)
    (total_is (r := fun k => D.x3 (i 0).val k * (D.dout (i 0).val k * D.g 0 k)) Ideal.ofBits_zero_f32 fun k => ?_)
    (congrArg₂ (· * ·) half_is (congrArg₂ Ideal.div (ref_r hA _) (ref_ms hA _)))) kilo_is).trans ?_)
  · rw [e, e', hA.g, ← EReal.coe_mul, ← EReal.coe_mul]
    rfl
  · rw [div_is rfl (D.ms_pos _).ne', ← EReal.coe_mul]
    exact div_is (EReal.coe_mul _ _).symm (by norm_num)

theorem ref_dx : Is2 (val_main_v82 (F := Ideal) x0 x1 x2 x3 x4 x5 x6) D.dx := fun i => by
  have e := ref_x3 hA
  have e' := ref_dout hA
  pointwise [val_main_v82, val_main_v81, val_main_v80, val_main_v79, val_main_v78, val_main_v73, val_main_v72, val_main_v67, val_main_v66, val_main_v45,
    val_main_v31]
  rw [ref_half hA, ref_r hA, e, e', hA.g]
  show ((D.dout (i 0).val (i 1).val : ℝ) : EReal) * ((D.g 0 (i 1).val : ℝ) : EReal) * ((D.r (i 0).val : ℝ) : EReal) +
    ((D.x3 (i 0).val (i 1).val : ℝ) : EReal) * ((D.half (i 0).val : ℝ) : EReal) +
    ((D.half (i 0).val : ℝ) : EReal) * ((D.x3 (i 0).val (i 1).val : ℝ) : EReal) = _
  rw [add_assoc, ← EReal.coe_mul, ← EReal.coe_mul, ← EReal.coe_mul, ← EReal.coe_mul, ← EReal.coe_add, ← EReal.coe_add, D.dx_half]

theorem ref_ac_half : Is2 (val_main_v84 (F := Ideal) x0 x2 x3) D.ac := fun i => ref_ac hA i
theorem ref_y_half : Is2 (val_main_v85 (F := Ideal) x0 x2 x3) D.y := fun i => ref_y hA i

end Lines

end Cert.FwdFfn

end
-- ==== Proof.FfEqual.lean ====
/- Of finite arguments the five results of the feed-forward's second half are the plain formulas', entry by entry. -/
module

public import proofs.«01_k».proof.Defs
public import proofs.«01_k».proof.Proof.FfRef
public import proofs.«01_k».proof.Proof.Equal
public import proofs.«01_k».proof.Proof.Gen.Kernel3
public import proofs.«01_k».proof.Proof.Gen.Reference3Ideal
public import proofs.«01_k».proof.Proof.Gen.Reference3Ideal.Run
public import proofs.«01_k».proof.Proof.Gen.Pre_finite3
public import Idealize.ShloMosaic.Lib.Claim

@[expose] public section

set_option maxRecDepth 16384

noncomputable section

namespace Cert.FwdFfn

open Cert.KernelIdeal.Value (Is2 reals2 is2_reals real_of_finite)
open Cert.Reference3Ideal.Read Cert.Kernel3Ideal Cert.Kernel3Ideal.Gen
open Idealize.ShloMosaic Idealize.ShloMosaic.TcCoe Idealize.SL.Sem

/-- The real numbers in the arguments. -/
def realData (a : FVec Ideal ⟨2, ![8192, 5632]⟩ .f32) (x : FVec Ideal ⟨2, ![8192, 1024]⟩ .f32) (w : FVec Ideal ⟨2, ![3, 5632]⟩ .f32)
    (b : FVec Ideal ⟨2, ![1, 5632]⟩ .f32) (wd : FVec Ideal ⟨2, ![2816, 1024]⟩ .f32) (g : FVec Ideal ⟨2, ![1, 1024]⟩ .f32)
    (tgt : FVec Ideal ⟨2, ![8192, 1024]⟩ .f32) : Data where
  a := reals2 a
  x := reals2 x
  w := reals2 w
  b := reals2 b
  wd := reals2 wd
  g := reals2 g
  tgt := reals2 tgt

/-- The weights of the second product reach the call rounded, which changes no real number. -/
theorem host_wd {F : FTy → Type} [FloatOps F] (m : (ℓ : Loc nD τ sig) → Buf (Elt F) ℓ) (c : Dev nD) :
    V m c main_v0 = truncf .bf16 (m ((c.tc : Thread nD τ).loc main_arg4) : FVec F S2816x1024 .f32) bitsLt_bf16_f32 := by
  unfold V
  simp only [hostOps0, List.flatten_cons, List.flatten_nil, List.append_nil]
  after_reads_simp

section Results

variable {m : (ℓ : Loc nD τ sig) → Buf (Elt Ideal) ℓ} {c : Dev nD}

/-- Of finite arguments the kernel's arguments are real. -/
theorem args_of_finite (h : Cert.Pre_Kernel3Ideal_finite3 (hPre_finite3 := Cert.Pre_finite3.Gen.facts) m) :
    Args (realData (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)))
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := by
  obtain ⟨h0, h1, h2, h3, h4, h5, h6⟩ := h c
  exact ⟨is2_reals (real_of_finite h0), is2_reals (real_of_finite h1), is2_reals (real_of_finite h2), is2_reals (real_of_finite h3),
    is2_reals (real_of_finite h4), is2_reals (real_of_finite h5), is2_reals (real_of_finite h6)⟩

end Results

section Both

variable {m : (ℓ : Loc nD τ sig) → Buf (Elt Ideal) ℓ} {c : Dev nD} {y0 : FVec Ideal S8192x5632 .f32} {y1 y6 : FVec Ideal S8192x1024 .f32}
  {y2 : FVec Ideal S3x5632 .f32} {y3 : FVec Ideal S1x5632 .f32} {y4 : FVec Ideal S2816x1024 .f32} {y5 : FVec Ideal S1x1024 .f32} {D : Data}
  (e0 : y0 = m ((c.tc : Thread nD τ).loc main_arg0)) (e1 : y1 = m ((c.tc : Thread nD τ).loc main_arg1))
  (e2 : y2 = m ((c.tc : Thread nD τ).loc main_arg2)) (e3 : y3 = m ((c.tc : Thread nD τ).loc main_arg3))
  (e4 : y4 = m ((c.tc : Thread nD τ).loc main_arg4)) (e5 : y5 = m ((c.tc : Thread nD τ).loc main_arg5))
  (e6 : y6 = m ((c.tc : Thread nD τ).loc main_arg6)) (hD : Args D y0 y1 y2 y3 y4 y5 y6)

include e0 e1 e2 e3 e4 e5 e6 hD

theorem launched : Operands m c D := by
  subst e0 e1 e2 e3 e4 e5 e6
  exact {
    a := fun i => (congrFun (V_main_arg0 m c) i).trans (hD.a i)
    x := fun i => (congrFun (V_main_arg1 m c) i).trans (hD.x i)
    w := fun i => (congrFun (V_main_arg2 m c) i).trans (hD.w i)
    b := fun i => (congrFun (V_main_arg3 m c) i).trans (hD.b i)
    wd := fun i => (congrFun (host_wd m c) i).trans (hD.wd i)
    g := fun i => (congrFun (V_main_arg5 m c) i).trans (hD.g i)
    tgt := fun i => (congrFun (V_main_arg6 m c) i).trans (hD.tgt i) }

theorem equal_ac : val_main_v84 (F := Ideal) y0 y2 y3 = (dats m 0 c).arrAt 7 cfg0.N :=
  (ref_ac_half hD).unique (ac_array (launched e0 e1 e2 e3 e4 e5 e6 hD))
theorem equal_yff : val_main_v85 (F := Ideal) y0 y2 y3 = (dats m 0 c).arrAt 8 cfg0.N :=
  (ref_y_half hD).unique (yff_array (launched e0 e1 e2 e3 e4 e5 e6 hD))
theorem equal_dx : val_main_v82 (F := Ideal) y0 y1 y2 y3 y4 y5 y6 = (dats m 0 c).arrAt 9 cfg0.N :=
  (ref_dx hD).unique (dx_array (launched e0 e1 e2 e3 e4 e5 e6 hD))
theorem equal_loss : val_main_v86 (F := Ideal) y0 y1 y2 y3 y4 y5 y6 = (dats m 0 c).arrAt 10 cfg0.N :=
  (ref_losses hD).unique (loss_array (launched e0 e1 e2 e3 e4 e5 e6 hD))
theorem equal_gain : val_main_v83 (F := Ideal) y0 y1 y2 y3 y4 y5 y6 = (dats m 0 c).arrAt 11 cfg0.N :=
  (ref_gain hD).unique (gain_array (launched e0 e1 e2 e3 e4 e5 e6 hD))

end Both

/-- Of finite arguments the kernel's results are the plain formulas'. -/
theorem equal_results : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := fun m ρ m' ρ' hpre hargs => by
  have hA := fun c => args_of_finite (c := c) hpre
  refine ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, Cert.Kernel3Ideal.Value.run_blocks m ρ, ?_⟩
  refine (θ_run _ _ _).mono (fun _ h c => ?_) (Cert.Reference3Ideal.Value.run m' ρ')
  obtain ⟨e0, e1, e2, e3, e4, e5, e6⟩ := hargs c
  have hB := hA c
  rw [← e0, ← e1, ← e2, ← e3, ← e4, ← e5, ← e6] at hB
  exact ⟨(h c).1.trans ((val_main_v84_eq _).trans (equal_ac e0 e1 e2 e3 e4 e5 e6 hB)),
    (h c).2.1.trans ((val_main_v85_eq _).trans (equal_yff e0 e1 e2 e3 e4 e5 e6 hB)),
    (h c).2.2.1.trans ((val_main_v82_eq _).trans (equal_dx e0 e1 e2 e3 e4 e5 e6 hB)),
    (h c).2.2.2.1.trans ((val_main_v86_eq _).trans (equal_loss e0 e1 e2 e3 e4 e5 e6 hB)),
    (h c).2.2.2.2.1.trans ((val_main_v83_eq _).trans (equal_gain e0 e1 e2 e3 e4 e5 e6 hB)), (h c).2.2.2.2.2⟩

end Cert.FwdFfn

end
-- ==== Proof.MidSpec.lean ====
/- The gradient of the second norm and of the projection behind it, with the skip connection, its product with the projection in
   front, and the packing of the product's second half with its row sums, over the reals. -/
module

public import proofs.«01_k».proof.Proof.InSpec

@[expose] public section

noncomputable section

namespace Cert.BwdMid

open Finset
open Cert.BwdIn (eps eps_pos)

/-- The arguments: the norm's input `x` and gain `g`, the projection `w`, the cotangent `da` of the projected rows, what the skip
    connection hands down, `z`, the projection in front, `wo`, and the rows `ob` that entered its second half. -/
structure Data where
  x : ℕ → ℕ → ℝ
  g : ℕ → ℕ → ℝ
  w : ℕ → ℕ → ℝ
  da : ℕ → ℕ → ℝ
  z : ℕ → ℕ → ℝ
  wo : ℕ → ℕ → ℝ
  ob : ℕ → ℕ → ℝ

namespace Data

variable (D : Data)

def ms (t : ℕ) : ℝ := (∑ k ∈ range 1024, D.x t k * D.x t k) / 1024 + eps
def r (t : ℕ) : ℝ := (Real.sqrt (D.ms t))⁻¹
def n (t k : ℕ) : ℝ := D.x t k * D.r t
/-- The cotangent of the norm's output. -/
def dh (t k : ℕ) : ℝ := ∑ j ∈ range 5632, D.da t j * D.w k j
/-- The gain's gradient. -/
def dg (k : ℕ) : ℝ := ∑ t ∈ range 8192, D.dh t k * D.n t k
/-- The gradient of the norm's input, through the norm. -/
def dx (t k : ℕ) : ℝ := D.r t * (D.dh t k * D.g 0 k - D.n t k * ((∑ i ∈ range 1024, D.dh t i * D.g 0 i * D.n t i) / 1024))
/-- Half of what the mean square hands back to a row. -/
def half (t : ℕ) : ℝ := (∑ k ∈ range 1024, D.x t k * (D.dh t k * D.g 0 k)) * (-(1 / 2) * (D.r t / D.ms t)) / 1024
/-- The rows' gradient with what the skip connection hands down, -/
def row (t k : ℕ) : ℝ := D.z t k + D.dx t k
/-- and its product with the projection in front. -/
def out (t j : ℕ) : ℝ := ∑ k ∈ range 1024, D.row t k * D.wo j k
/-- The product's second half times the rows that entered there, summed over the columns of a head. -/
def prod (t c : ℕ) : ℝ := D.out t (512 + c) * D.ob t c
def sum (t h : ℕ) : ℝ := ∑ l ∈ range 64, D.prod t (64 * h + l)
/-- A head's lanes: its 64 columns, then the sum with a minus sign, then zeros. -/
def lane (h t l : ℕ) : ℝ := if l < 64 then D.out t (512 + (64 * h + l)) else if l = 64 then -D.sum t h else 0

theorem ms_pos (t : ℕ) : 0 < D.ms t := by
  have : 0 ≤ ∑ k ∈ range 1024, D.x t k * D.x t k := sum_nonneg fun k _ => mul_self_nonneg _
  have := eps_pos
  unfold ms
  positivity

theorem r_sq (t : ℕ) : D.r t * D.r t = 1 / D.ms t := by
  unfold r
  rw [← mul_inv, Real.mul_self_sqrt (D.ms_pos t).le, one_div]

/-- The gradient by the product rule is the gradient in closed form. -/
theorem dx_half (t k : ℕ) : D.dh t k * D.g 0 k * D.r t + D.x t k * D.half t + D.half t * D.x t k = D.dx t k := by
  have e : ∑ i ∈ range 1024, D.dh t i * D.g 0 i * D.n t i = D.r t * ∑ i ∈ range 1024, D.x t i * (D.dh t i * D.g 0 i) := by
    rw [mul_sum]
    exact sum_congr rfl fun i _ => by unfold n; ring
  have q := D.r_sq t
  unfold dx half
  rw [e, show D.r t / D.ms t = D.r t * (D.r t * D.r t) by rw [q, mul_one_div]]
  unfold n
  ring

/-- The two halves of the columns, one after the other. -/
theorem dh_halves (t k : ℕ) :
    ∑ j ∈ range 2816, D.da t j * D.w k j + ∑ j ∈ range 2816, D.da t (2816 + j) * D.w k (2816 + j) = D.dh t k :=
  (sum_range_add (fun j => D.da t j * D.w k j) 2816 2816).symm

end Data

/-- The rows of a tile after the rows before it. -/
theorem sum_tile (f : ℕ → ℝ) (q : ℕ) : ∑ s ∈ range (256 * q), f s + ∑ a ∈ range 256, f (256 * q + a) = ∑ s ∈ range (256 * (q + 1)), f s := by
  rw [mul_add, mul_one, sum_range_add]

/-! ## The two matrices of 0 and 1 -/

/-- A column belongs to a head, -/
def inHead (c l : ℕ) : ℝ := if c / 64 = l then 1 else 0
/-- and the head's three summands, 128 rows apart, belong to the head's lanes from 64 on. -/
def inLane (p c : ℕ) : ℝ := if p % 128 < 8 ∧ c = 128 * (p % 128) + 64 + p / 128 then 1 else 0

theorem sum_head (f : ℕ → ℝ) {l : ℕ} (hl : l < 8) : ∑ c ∈ range 512, f c * inHead c l = ∑ i ∈ range 64, f (64 * l + i) := by
  unfold inHead
  simp only [mul_ite, mul_one, mul_zero]
  rw [← sum_filter]
  refine sum_nbij' (fun c => c - 64 * l) (fun i => 64 * l + i) (fun c hc => ?_) (fun i hi => ?_) (fun c hc => ?_) (fun i _ => ?_) (fun c hc => ?_)
  · simp only [mem_filter, mem_range] at hc ⊢; omega
  · simp only [mem_filter, mem_range] at hi ⊢; omega
  · simp only [mem_filter, mem_range] at hc ⊢; omega
  · omega
  · simp only [mem_filter, mem_range] at hc ⊢; exact congrArg f (by omega)

/-- Of the summands only the first is not 0, so that a head's lanes hold its number and zeros. -/
theorem sum_lane (f : ℕ → ℝ) {h l : ℕ} (hh : h < 8) (hl : l < 128) (hl' : 64 ≤ l) :
    ∑ p ∈ range 384, (if p < 128 then f p else 0) * inLane p (128 * h + l) = if l = 64 then f h else 0 := by
  unfold inLane
  rw [sum_eq_single h]
  · rw [if_pos (by omega), show h % 128 = h by omega, show h / 128 = 0 by omega]
    by_cases e : l = 64
    · rw [if_pos e, if_pos (by omega), mul_one]
    · rw [if_neg e, if_neg (by omega), mul_zero]
  · intro p _ hp
    by_cases e : p < 128
    · rw [if_pos e, Nat.mod_eq_of_lt e, Nat.div_eq_of_lt e, if_neg (by omega), mul_zero]
    · rw [if_neg e, zero_mul]
  · intro hn
    exact absurd (mem_range.2 (by omega)) hn

end Cert.BwdMid

end
-- ==== Proof.MidRef.lean ====
/- The reference of the second norm's gradient, line by line, as real numbers. -/
module

public import proofs.«01_k».proof.Proof.MidSpec
public import proofs.«01_k».proof.Proof.InRef
public import proofs.«01_k».proof.Proof.Gen.Reference4Ideal.Read
public import Idealize.ShloMosaic.Lib.KernelVsHost
public import Idealize.ShloMosaic.Lib.Pointwise

@[expose] public section

set_option maxRecDepth 16384

noncomputable section

namespace Cert.BwdMid

open Cert.Reference4Ideal Cert.Reference4Ideal.Gen Cert.Reference4Ideal.Read
open Cert.KernelIdeal.Value (Is2 Is3 Is2.congr Is3.congr Pieces glue)
open Cert.BwdIn (eps eps_is kilo_is sum_is div_is rsqrt_is total_is lone_is half_is)
open Idealize.ShloMosaic Idealize.ShloMosaic.TcCoe
open Finset

/-- The arguments are real, with the data's numbers. -/
structure Args (D : Data) (x : FVec Ideal S8192x1024 .f32) (g : FVec Ideal S1x1024 .f32) (w : FVec Ideal S1024x5632 .f32)
    (wo : FVec Ideal S1024x1024 .f32) (ob : FVec Ideal S8192x512 .f32) (da : FVec Ideal S8192x5632 .f32) (z : FVec Ideal S8192x1024 .f32) : Prop where
  x : Is2 x D.x
  g : Is2 g D.g
  w : Is2 w D.w
  wo : Is2 wo D.wo
  ob : Is2 ob D.ob
  da : Is2 da D.da
  z : Is2 z D.z

section Lines

variable {D : Data} {x0 : FVec Ideal S8192x1024 .f32} {x1 : FVec Ideal S1x1024 .f32} {x2 : FVec Ideal S1024x5632 .f32}
  {x3 : FVec Ideal S1024x1024 .f32} {x4 : FVec Ideal S8192x512 .f32} {x5 : FVec Ideal S8192x5632 .f32} {x6 : FVec Ideal S8192x1024 .f32} (hA : Args D x0 x1 x2 x3 x4 x5 x6)
include hA

theorem ref_ms : Is2 (val_main_v7 (F := Ideal) x0) fun t _ => D.ms t := fun i => by
  pointwise [val_main_v7, val_main_v6, val_main_v5, val_main_v4, val_main_v3, val_main_v2, val_main_v1]
  refine (congrArg₂ (· + ·) (congrArg₂ Ideal.div (total_is (r := fun k => D.x (i 0).val k * D.x (i 0).val k) Ideal.ofBits_zero_f32 fun k => ?_)
    kilo_is) eps_is).trans ?_
  · rw [hA.x, ← EReal.coe_mul]
    rfl
  · rw [div_is rfl (by norm_num), ← EReal.coe_add]
    rfl

theorem ref_r : Is2 (val_main_v8 (F := Ideal) x0) fun t _ => D.r t := fun i => rsqrt_is (ref_ms hA i) (D.ms_pos _)

theorem ref_n : Is2 (val_main_v13 (F := Ideal) x0) D.n := fun i => by
  pointwise [val_main_v13, val_main_v12]
  rw [ref_r hA, hA.x, ← EReal.coe_mul]
  rfl

theorem ref_dh : Is2 (val_main_v18 (F := Ideal) x2 x5) D.dh := fun i => by
  pointwise [val_main_v18]
  exact sum_is (r := fun j => D.da (i 0).val j * D.w (i 1).val j) fun j => by rw [hA.da, hA.w, ← EReal.coe_mul]; rfl

theorem ref_gain : Is2 (val_main_v39 (F := Ideal) x0 x2 x5) fun _ k => D.dg k := fun i => by
  have e := ref_n hA
  have e' := ref_dh hA
  pointwise [val_main_v39, val_main_v24, val_main_v21, val_main_v20, val_main_v19]
  refine lone_is Ideal.ofBits_zero_f32 (total_is (r := fun t => D.dh t (i 1).val * D.n t (i 1).val) Ideal.ofBits_zero_f32 fun t => ?_)
  rw [e, e', ← EReal.coe_mul, mul_comm]
  rfl

theorem ref_half (i : S8192.Idx) : val_main_v33 (F := Ideal) x0 x1 x2 x5 i = ((D.half (i 0).val : ℝ) : EReal) := by
  have e' := ref_dh hA
  pointwise [val_main_v33, val_main_v32, val_main_v31, val_main_v30, val_main_v27, val_main_v26, val_main_v25, val_main_v23, val_main_v22, val_main_v14,
    val_main_v0, val_main_v11, val_main_v10, val_main_v9]
  refine lone_is Ideal.ofBits_zero_f32 ((congrArg₂ Ideal.div (congrArg₂ (· * ·)
    (total_is (r := fun k => D.x (i 0).val k * (D.dh (i 0).val k * D.g 0 k)) Ideal.ofBits_zero_f32 fun k => ?_)
    (congrArg₂ (· * ·) half_is (congrArg₂ Ideal.div (ref_r hA _) (ref_ms hA _)))) kilo_is).trans ?_)
  · rw [hA.x, e', hA.g, ← EReal.coe_mul, ← EReal.coe_mul]
    rfl
  · rw [div_is rfl (D.ms_pos _).ne', ← EReal.coe_mul]
    exact div_is (EReal.coe_mul _ _).symm (by norm_num)

theorem ref_dx : Is2 (val_main_v38 (F := Ideal) x0 x1 x2 x5) D.dx := fun i => by
  have e' := ref_dh hA
  pointwise [val_main_v38, val_main_v37, val_main_v36, val_main_v35, val_main_v34, val_main_v29, val_main_v28, val_main_v23, val_main_v22, val_main_v14,
    val_main_v0]
  rw [ref_half hA, ref_r hA, e', hA.x, hA.g]
  show ((D.dh (i 0).val (i 1).val : ℝ) : EReal) * ((D.g 0 (i 1).val : ℝ) : EReal) * ((D.r (i 0).val : ℝ) : EReal) +
    ((D.x (i 0).val (i 1).val : ℝ) : EReal) * ((D.half (i 0).val : ℝ) : EReal) +
    ((D.half (i 0).val : ℝ) : EReal) * ((D.x (i 0).val (i 1).val : ℝ) : EReal) = _
  rw [← EReal.coe_mul, ← EReal.coe_mul, ← EReal.coe_mul, ← EReal.coe_mul, ← EReal.coe_add, ← EReal.coe_add, D.dx_half]

theorem ref_row : Is2 (val_main_v40 (F := Ideal) x0 x1 x2 x5 x6) D.row := fun i => by
  have e := ref_dx hA
  pointwise [val_main_v40]
  rw [e, hA.z, ← EReal.coe_add]
  rfl

/-- The product with the projection in front, -/
theorem ref_all : Is2 (val_main_v41 (F := Ideal) x0 x1 x2 x3 x5 x6) D.out := fun i => by
  have e := ref_row hA
  pointwise [val_main_v41]
  exact sum_is (r := fun k => D.row (i 0).val k * D.wo (i 1).val k) fun k => by rw [e, hA.wo, ← EReal.coe_mul]; rfl

/-- its first half, -/
theorem ref_out : Is2 (val_main_v51 (F := Ideal) x0 x1 x2 x3 x5 x6) D.out := fun i => by
  have e := ref_all hA
  pointwise [val_main_v51]
  rw [e]
  rfl

/-- and its second, head by head. -/
theorem ref_heads : Is3 (val_main_v43 (F := Ideal) x0 x1 x2 x3 x5 x6) fun t h l => D.out t (512 + (64 * h + l)) := fun i => by
  have e := ref_all hA
  pointwise [val_main_v43, val_main_v42]
  rw [e]
  exact congrArg (fun n => ((D.out (i 0).val n : ℝ) : EReal)) (show 512 + ((i 1).val * 64 + (i 2).val) = 512 + (64 * (i 1).val + (i 2).val) by omega)

theorem ref_rows : Is3 (val_main_v44 (F := Ideal) x4) fun t h l => D.ob t (64 * h + l) := fun i => by
  pointwise [val_main_v44]
  rw [hA.ob]
  exact congrArg (fun n => ((D.ob (i 0).val n : ℝ) : EReal)) (show (i 1).val * 64 + (i 2).val = 64 * (i 1).val + (i 2).val by omega)

theorem ref_sum : Is3 (val_main_v48 (F := Ideal) x0 x1 x2 x3 x4 x5 x6) fun t h _ => -D.sum t h := fun i => by
  have e := ref_heads hA
  have e' := ref_rows hA
  pointwise [val_main_v48, val_main_v47, val_main_v46, val_main_v45]
  refine (congrArg Neg.neg (total_is (r := fun l => D.prod (i 0).val (64 * (i 1).val + l)) Ideal.ofBits_zero_f32 fun k => ?_)).trans (EReal.coe_neg _).symm
  rw [e, e', ← EReal.coe_mul]
  rfl

theorem ref_zero : Is3 (val_main_v49 (F := Ideal)) fun _ _ _ => 0 := fun i => by
  pointwise [val_main_v49]
  exact Ideal.ofBits_zero_f32

/-- A head's lanes. -/
theorem ref_lanes : Is3 (val_main_v53 (F := Ideal) x0 x1 x2 x3 x4 x5 x6) D.lane := fun i => by
  have e : Is3 (val_main_v50 (F := Ideal) x0 x1 x2 x3 x4 x5 x6) fun t h l => D.lane h t l :=
    (Pieces.concat (.cons (ref_heads hA) (.cons (ref_sum hA) (.cons (ref_zero hA) .nil)))
      concatenates_S8192x8x64_S8192x8x1_S8192x8x63_S8192x8x128_d2).congr fun t _ h _ l _ => by
        simp only [glue, Data.lane]
        split_ifs <;> first | rfl | omega
  pointwise [val_main_v53, val_main_v52]
  exact e _

end Lines

end Cert.BwdMid

end
-- ==== Proof.MidBlock.lean ====
/- What one point of the second norm's gradient computes from its blocks, as values. -/
module

public import proofs.«01_k».proof.Proof.Gen.Kernel4Ideal.Frame
public import Idealize.ShloMosaic.Lib.Pipeline.Value
public import Idealize.ShloMosaic.Lib.ValueIdx

@[expose] public section

set_option maxRecDepth 16384

noncomputable section

namespace Cert.BwdMid

open Cert.Kernel4Ideal Cert.Kernel4Ideal.Gen
open Idealize.ShloMosaic Idealize.ShloMosaic.TcCoe

variable {F : FTy → Type} [FloatOps F]

/-- The blocks a point reads. -/
structure Block (F : FTy → Type) where
  a : FVec F S256x2816 .bf16
  b : FVec F S256x2816 .bf16
  w : FVec F S1024x5632 .bf16
  x : FVec F S256x1024 .f32
  g : FVec F S1x1024 .f32
  z : FVec F S256x1024 .f32
  o : FVec F S1024x1024 .bf16
  y : FVec F S256x512 .f32
  hs : FVec F S512x128 .bf16
  pl : FVec F S384x1024 .bf16

namespace Block

variable (B : Block F)

/-- The matrix' first half of columns, -/
def left : Vec F S1024x2816 .bf16 :=
  View.ld (Val := Elt F) (e' := .bf16) B.w (Rect.unit (s := S1024x5632) ![0, 0] S1024x2816.size inb_S1024x5632_S1024x2816_0_0)
/-- and its second. -/
def right : Vec F S1024x2816 .bf16 :=
  View.ld (Val := Elt F) (e' := .bf16) B.w (Rect.unit (s := S1024x5632) ![0, 2816] S1024x2816.size inb_S1024x5632_S1024x2816_0_2816)

def dh : FVec F S256x1024 .f32 := k0_pay3 B.a B.left B.b B.right
/-- The rows' gradient, -/
def row : FVec F S256x1024 .f32 := k0_pay7 B.dh (k0_pay4 B.x) (k0_pay5 B.x) B.z B.g
/-- its product, -/
def out : FVec F S256x512 .f32 := k0_pay9 B.dh (k0_pay4 B.x) (k0_pay5 B.x) B.z B.g B.o
/-- its second half, -/
def cols : FVec F S256x512 .f32 := k0_pay10 B.dh (k0_pay4 B.x) (k0_pay5 B.x) B.z B.g B.o
/-- the first two summands of the heads' sums, -/
def sums : FVec F S256x128 .f32 := k0_pay15 B.dh (k0_pay4 B.x) (k0_pay5 B.x) B.z B.g B.o B.y B.hs B.hs
/-- what they leave, -/
def rest : FVec F S256x512 .f32 := k0_pay16 B.dh (k0_pay4 B.x) (k0_pay5 B.x) B.z B.g B.o B.y
/-- and the sums with a minus sign in their lanes. -/
def placed : FVec F S256x1024 .f32 := k0_pay17 B.sums B.rest B.hs B.pl
/-- A head's lanes, -/
def page : Fin 8 → FVec F S1x256x128 .bf16
  | 0 => k0_pay19 B.cols B.sums B.rest B.hs B.pl
  | 1 => k0_pay20 B.cols B.sums B.rest B.hs B.pl
  | 2 => k0_pay23 k0_pay18 (k0_pay21 B.cols) (k0_pay22 B.sums B.rest B.hs B.pl)
  | 3 => k0_pay24 B.cols B.placed k0_pay18
  | 4 => k0_pay25 B.cols B.placed k0_pay18
  | 5 => k0_pay26 B.cols B.placed k0_pay18
  | 6 => k0_pay27 B.cols B.placed k0_pay18
  | 7 => k0_pay1 B.placed k0_pay18 (k0_pay28 B.cols)
/-- all heads' lanes, -/
def pages : FVec F S8x256x128 .bf16 := fun y => B.page (y 0) (ValueIdx.ix3 0 (y 1) (y 2))
/-- and the gain's gradient, with the rows of the block added. -/
def gain (d : FVec F S1x1024 .f32) : FVec F S1x1024 .f32 := k0_pay6 B.a B.left B.b B.right B.x d

end Block

/-- A head's lanes stored at its page are a block of all heads' lanes. -/
theorem page_piece (B : Block F) (k : Fin 8) {o : ℕ} (inb) (ho : o = k.val) (x : S1x256x128.Idx) :
    B.page k x = B.pages ((Rect.unit (s := S8x256x128) ![o, 0, 0] S1x256x128.size inb).emb x) := by
  subst ho
  have h0 : (x 0).val < 1 := (x 0).isLt
  unfold Block.pages
  refine congr (congrArg B.page (Fin.ext ?_)) ((ValueIdx.eq_ix3 x).trans (congr (congr (congrArg ValueIdx.ix3 (Fin.ext ?_)) (Fin.ext ?_)) (Fin.ext ?_)))
  · show k.val = k.val + 1 * (x 0).val; omega
  · show (x 0).val = 0; omega
  · show (x 1).val = 0 + 1 * (x 1).val; omega
  · show (x 2).val = 0 + 1 * (x 2).val; omega

end Cert.BwdMid

end
-- ==== Proof.MidTile.lean ====
/- One block of 256 rows of the second norm's gradient over the extended reals: where its operands are real, so are the values
   in it. -/
module

public import proofs.«01_k».proof.Proof.MidSpec
public import proofs.«01_k».proof.Proof.MidBlock
public import proofs.«01_k».proof.Proof.InTile

@[expose] public section

set_option maxRecDepth 16384

noncomputable section

namespace Cert.BwdMid

open Cert.Kernel4Ideal Cert.Kernel4Ideal.Gen
open Cert.KernelIdeal.Value (Is2 Is3 Is2.congr Is3.congr)
open Cert.BwdIn (sum_is Pieces2 glue2)
open Idealize.ShloMosaic Idealize.ShloMosaic.WordCmp
open Finset

/-- The columns of a table from one column on. -/
theorem half_block {o : ℕ} {w : FVec Ideal S1024x5632 .bf16} {u : ℕ → ℕ → ℝ} (hw : Is2 w u)
    (inb : ∀ a, (![0, o] : Fin 2 → ℕ) a + S1024x2816.size a ≤ S1024x5632.size a) :
    Is2 (show FVec Ideal S1024x2816 .bf16 from View.ld (Val := Elt Ideal) (e' := .bf16) w (Rect.unit (s := S1024x5632) ![0, o] S1024x2816.size inb))
      fun d j => u d (o + j) := fun i =>
  (hw _).trans (congrArg Real.toEReal (congr (congrArg u (show 0 + 1 * (i 0).val = _ by omega)) (show o + 1 * (i 1).val = _ by omega)))

/-- The two products with the halves of the matrix, added. -/
theorem two_is {a b : FVec Ideal S256x2816 .bf16} {v w : FVec Ideal S1024x2816 .bf16} {ra rb rv rw' : ℕ → ℕ → ℝ} (ha : Is2 a ra) (hb : Is2 b rb)
    (hv : Is2 v rv) (hw : Is2 w rw') :
    Is2 (k0_pay3 (F := Ideal) a v b w) fun t d => ∑ j ∈ range 2816, ra t j * rv d j + ∑ j ∈ range 2816, rb t j * rw' d j := fun i => by
  pointwise [k0_pay3]
  rw [EReal.coe_add]
  exact congrArg₂ (· + ·) (sum_is (r := fun j => ra (i 0).val j * rv (i 1).val j) fun j => by rw [ha, hv, ← EReal.coe_mul]; rfl)
    (sum_is (r := fun j => rb (i 0).val j * rw' (i 1).val j) fun j => by rw [hb, hw, ← EReal.coe_mul]; rfl)

section Product

variable {d : FVec Ideal S256x1024 .f32} {r : FVec Ideal S256x1 .f32} {n z : FVec Ideal S256x1024 .f32} {g : FVec Ideal S1x1024 .f32}
  {w : FVec Ideal S1024x1024 .bf16} {R W : ℕ → ℕ → ℝ} (hR : Is2 (k0_pay7 (F := Ideal) d r n z g) R) (hW : Is2 w W)

section
include hR hW

/-- The last product's first half of columns, -/
theorem out_is : Is2 (k0_pay9 (F := Ideal) d r n z g w) fun a j => ∑ k ∈ range 1024, R a k * W j k := fun i => by
  pointwise [k0_pay9, k0_pay8]
  exact sum_is (r := fun k => R (i 0).val k * W (i 1).val k) fun k => by rw [hR, hW, ← EReal.coe_mul]; rfl

/-- and its second. -/
theorem cols_is : Is2 (k0_pay10 (F := Ideal) d r n z g w) fun a j => ∑ k ∈ range 1024, R a k * W (512 + j) k := fun i => by
  pointwise [k0_pay10, k0_pay8]
  exact sum_is (r := fun k => R (i 0).val k * W (512 + (i 1).val) k) fun k => by rw [hR, hW, ← EReal.coe_mul]; rfl

end

/-! ## The heads' sums -/

variable {y : FVec Ideal S256x512 .f32} {C Y H : ℕ → ℕ → ℝ} (hC : Is2 (k0_pay10 (F := Ideal) d r n z g w) C) (hY : Is2 y Y)
include hC hY

theorem prod_is : Is2 (k0_pay11 (F := Ideal) d r n z g w y) fun a c => C a c * Y a c := fun i => by
  pointwise [k0_pay11]
  rw [hC, hY, ← EReal.coe_mul]

/-- The first summand is the whole number: what it leaves is 0, -/
theorem left_is : Is2 (k0_pay13 (F := Ideal) d r n z g w y) fun _ _ => 0 := fun i => by
  have e := prod_is hC hY
  pointwise [k0_pay13, k0_pay12]
  rw [e, ← EReal.coe_sub, sub_self]

/-- and so is what the second leaves. -/
theorem rest_is : Is2 (k0_pay16 (F := Ideal) d r n z g w y) fun _ _ => 0 := fun i => by
  have e := left_is hC hY
  pointwise [k0_pay16, k0_pay14]
  rw [e, ← EReal.coe_sub, sub_self]

theorem sums_is {h : FVec Ideal S512x128 .bf16} (hH : Is2 h H) :
    Is2 (k0_pay15 (F := Ideal) d r n z g w y h h) fun a l => ∑ c ∈ range 512, C a c * Y a c * H c l := fun i => by
  have e := prod_is hC hY
  have e' := left_is hC hY
  pointwise [k0_pay15, k0_pay12, k0_pay14]
  rw [sum_is (r := fun c => C (i 0).val c * Y (i 0).val c * H c (i 1).val) fun c => by rw [e, hH, ← EReal.coe_mul]; rfl,
    sum_is (r := fun _ => 0) fun c => by rw [e', hH, ← EReal.coe_mul, zero_mul], sum_const_zero, EReal.coe_zero, add_zero]

end Product

/-- The sums with a minus sign. -/
def minus (s : FVec Ideal S256x128 .f32) (z : FVec Ideal S256x512 .f32) (h : FVec Ideal S512x128 .bf16) : FVec Ideal S256x128 .f32 :=
  subf (broadcast S256x128 (Scalar.ofBits .f32 0x00000000#32))
    (addf s (matmul dot_S256x512_S512x128_S256x128_1_0_0_1_n_n none (truncf .bf16 z bitsLt_bf16_f32) (shapeCast S512x128 h shapeCasts_S512x128_S512x128)
      (constant S256x128 .f32 0x00000000#32)))

theorem minus_is {s : FVec Ideal S256x128 .f32} {z : FVec Ideal S256x512 .f32} {h : FVec Ideal S512x128 .bf16} {S H : ℕ → ℕ → ℝ}
    (hs : Is2 s S) (hz : Is2 z fun _ _ => 0) (hH : Is2 h H) : Is2 (minus s z h) fun a l => -S a l := fun i => by
  pointwise [minus]
  rw [sum_is (r := fun _ => 0) fun c => by rw [hz, hH, ← EReal.coe_mul, zero_mul], sum_const_zero, hs, EReal.coe_zero, add_zero,
    ← EReal.coe_zero, ← EReal.coe_sub, zero_sub]

/-- A number less itself. -/
def less (x : FVec Ideal S256x128 .f32) : FVec Ideal S256x128 .f32 := subf x (extf .f32 (truncf .bf16 x bitsLt_bf16_f32) bitsLt_bf16_f32)

theorem less_is {x : FVec Ideal S256x128 .f32} {r : ℕ → ℕ → ℝ} (hx : Is2 x r) : Is2 (less x) fun _ _ => 0 := fun i => by
  pointwise [less]
  rw [hx, ← EReal.coe_sub, sub_self]

/-- The three summands side by side times a matrix: only the first is not 0. -/
theorem placed_is {s : FVec Ideal S256x128 .f32} {z : FVec Ideal S256x512 .f32} {h : FVec Ideal S512x128 .bf16} {p : FVec Ideal S384x1024 .bf16}
    {S H P : ℕ → ℕ → ℝ} (hs : Is2 s S) (hz : Is2 z fun _ _ => 0) (hH : Is2 h H) (hP : Is2 p P) :
    Is2 (k0_pay17 (F := Ideal) s z h p) fun a c => ∑ k ∈ range 384, (if k < 128 then -S a k else 0) * P k c := by
  have e0 : Is2 (minus s z h) fun a l => -S a l := minus_is hs hz hH
  have e1 := less_is e0
  have e2 := less_is e1
  have e : Is2 (concatenate S256x384 1 [⟨S256x128, (minus s z h : S256x128.Idx → EReal)⟩, ⟨S256x128, less (minus s z h)⟩, ⟨S256x128, less (less (minus s z h))⟩]
      concatenates_S256x128_S256x128_S256x128_S256x384_d1) fun a k => if k < 128 then -S a k else 0 :=
    Is2.congr (Pieces2.concat (.cons e0 <| .cons e1 <| .cons e2 .nil) _) fun a _ k _ => by
      simp only [glue2]
      split_ifs <;> rfl
  intro i
  refine Eq.trans (b := matmul (F := Ideal) (φ₁ := .bf16) (φ₂ := .bf16) dot_S256x384_S384x1024_S256x1024_1_0_0_1_n_n none
    (concatenate S256x384 1 [⟨S256x128, (minus s z h : S256x128.Idx → EReal)⟩, ⟨S256x128, less (minus s z h)⟩, ⟨S256x128, less (less (minus s z h))⟩]
      concatenates_S256x128_S256x128_S256x128_S256x384_d1) (shapeCast S384x1024 p shapeCasts_S384x1024_S384x1024) (constant S256x1024 .f32 0x00000000#32) i) rfl ?_
  generalize concatenate S256x384 1 [⟨S256x128, (minus s z h : S256x128.Idx → EReal)⟩, ⟨S256x128, less (minus s z h)⟩, ⟨S256x128, less (less (minus s z h))⟩]
      concatenates_S256x128_S256x128_S256x128_S256x384_d1 = u at e ⊢
  pointwise []
  exact sum_is (r := fun k => (if k < 128 then -S (i 0).val k else 0) * P k (i 1).val) fun k => by rw [e, hP, ← EReal.coe_mul]; rfl

/-! ## The heads' lanes -/

/-- The columns of a table from one column on. -/
theorem slice_is {o N : ℕ} {x : FVec Ideal ⟨2, ![256, N]⟩ .f32} {r : ℕ → ℕ → ℝ} (hx : Is2 x r) (h : (⟨2, ![256, N]⟩ : Shape).Slices ![0, o] S256x128) :
    Is2 (extractStridedSlice S256x128 ![0, o] x h) fun t j => r t (o + j) := fun i =>
  (hx _).trans (congrArg Real.toEReal (congr (congrArg r (show 0 + (i 0).val = _ by omega)) rfl))

/-- The columns turned by 64. -/
theorem turn_is {u : FVec Ideal S256x128 .f32} {b : ℕ → ℕ → ℝ} (hu : Is2 u b) :
    Is2 (dynamicRotate 1 64#32 none u rotates_S256x128_d1) fun t l => b t ((l + 64) % 128) := fun i => by
  pointwise []
  rw [hu]
  exact congrArg (fun n => ((b (i 0).val n : ℝ) : EReal)) (show ((i 1).val + 128 - 64) % 128 = _ by omega)

/-- Two tables' lanes, the first up to lane 64. -/
theorem page_is {u v : FVec Ideal S256x128 .f32} {a b : ℕ → ℕ → ℝ} (hu : Is2 u a) (hv : Is2 v b) :
    Is3 (shapeCast S1x256x128 (truncf .bf16 (select k0_pay18 u v) bitsLt_bf16_f32 : FVec Ideal S256x128 .bf16) shapeCasts_S256x128_S1x256x128)
      fun _ t l => if l < 64 then a t l else b t l := fun i => by
  have hl : (i 2).val < 128 := (i 2).isLt
  pointwise [k0_pay18]
  rw [cmpi_slt_ofNat (by omega) (by omega), select_ofBool]
  simp only [decide_eq_true_eq]
  by_cases h : (i 2).val < 64
  · rw [if_pos h, if_pos h]; exact hu _
  · rw [if_neg h, if_neg h]; exact hv _

/-- The block's rows are rows `256 q` on of the data. -/
structure Reads (D : Data) (q : ℕ) (B : Block Ideal) : Prop where
  a : Is2 B.a fun a j => D.da (256 * q + a) j
  b : Is2 B.b fun a j => D.da (256 * q + a) (2816 + j)
  w : Is2 B.w D.w
  x : Is2 B.x fun a k => D.x (256 * q + a) k
  g : Is2 B.g D.g
  z : Is2 B.z fun a k => D.z (256 * q + a) k
  o : Is2 B.o D.wo
  y : Is2 B.y fun a c => D.ob (256 * q + a) c
  hs : Is2 B.hs inHead
  pl : Is2 B.pl inLane

section Point

variable {D : Data} {q : ℕ} {B : Block Ideal} (hB : Reads D q B)
include hB

theorem dh_at : Is2 B.dh fun a k => D.dh (256 * q + a) k :=
  (two_is hB.a hB.b (half_block hB.w _) (half_block hB.w _)).congr fun a _ k _ => by
    simp only [Nat.zero_add]
    exact D.dh_halves _ _

theorem gain_at {d : FVec Ideal S1x1024 .f32} (hd : Is2 d fun _ k => ∑ t ∈ range (256 * q), D.dh t k * D.n t k) :
    Is2 (B.gain d) fun _ k => ∑ t ∈ range (256 * (q + 1)), D.dh t k * D.n t k :=
  Is2.congr (Cert.BwdIn.gain_is (dh_at hB) hB.x hd) fun _ _ k _ => sum_tile (fun t => D.dh t k * D.n t k) q

theorem row_at : Is2 B.row fun a k => D.row (256 * q + a) k := fun i =>
  (Cert.BwdIn.row_is (z := B.z) (dh_at hB) hB.x hB.g i).trans (by rw [hB.z, ← EReal.coe_add]; rfl)

theorem out_at : Is2 B.out fun a j => D.out (256 * q + a) j := out_is (row_at hB) hB.o

theorem cols_at : Is2 B.cols fun a c => D.out (256 * q + a) (512 + c) := cols_is (row_at hB) hB.o

theorem placed_at : Is2 B.placed fun a c => ∑ k ∈ range 384, (if k < 128 then -(∑ c ∈ range 512, D.prod (256 * q + a) c * inHead c k) else 0) * inLane k c :=
  placed_is (sums_is (cols_at hB) hB.y hB.hs) (rest_is (cols_at hB) hB.y) hB.hs hB.pl

/-- In a head's lanes from 64 on lies its sum with a minus sign, then zeros. -/
theorem placed_lane {h l : ℕ} (hh : h < 8) (hl : l < 128) (hl' : ¬l < 64) (a : ℕ) :
    ∑ k ∈ range 384, (if k < 128 then -(∑ c ∈ range 512, D.prod (256 * q + a) c * inHead c k) else 0) * inLane k (128 * h + l) = D.lane h (256 * q + a) l := by
  rw [sum_lane (fun k => -(∑ c ∈ range 512, D.prod (256 * q + a) c * inHead c k)) hh hl (by omega), sum_head _ hh, Data.lane, if_neg hl', Data.sum]

/-- An even head's lanes, -/
theorem even_at {h o p : ℕ} (hh : h < 8) (ho : o = 64 * h) (hp : p = 128 * h) (h1) (h2) :
    Is3 (shapeCast S1x256x128 (truncf .bf16 (select k0_pay18 (extractStridedSlice S256x128 ![0, o] B.cols h1) (extractStridedSlice S256x128 ![0, p] B.placed h2))
      bitsLt_bf16_f32 : FVec Ideal S256x128 .bf16) shapeCasts_S256x128_S1x256x128) fun _ a l => D.lane h (256 * q + a) l :=
  (page_is (slice_is (cols_at hB) h1) (slice_is (placed_at hB) h2)).congr fun _ _ a _ l hl => by
    subst ho hp
    by_cases e : l < 64
    · rw [if_pos e, Data.lane, if_pos e]
    · rw [if_neg e]; exact placed_lane hB hh hl e a

/-- and an odd head's, whose columns are turned by 64. -/
theorem odd_at {h o p : ℕ} (hh : h < 8) (ho : o + 64 = 64 * h) (hp : p = 128 * h) (h1) (h2) :
    Is3 (shapeCast S1x256x128 (truncf .bf16 (select k0_pay18 (dynamicRotate 1 64#32 none (extractStridedSlice S256x128 ![0, o] B.cols h1) rotates_S256x128_d1)
      (extractStridedSlice S256x128 ![0, p] B.placed h2)) bitsLt_bf16_f32 : FVec Ideal S256x128 .bf16) shapeCasts_S256x128_S1x256x128)
      fun _ a l => D.lane h (256 * q + a) l :=
  (page_is (turn_is (slice_is (cols_at hB) h1)) (slice_is (placed_at hB) h2)).congr fun _ _ a _ l hl => by
    subst hp
    by_cases e : l < 64
    · rw [if_pos e, Data.lane, if_pos e]
      exact congrArg (D.out _) (by omega)
    · rw [if_neg e]; exact placed_lane hB hh hl e a

theorem page_at : ∀ k : Fin 8, Is3 (B.page k) fun _ a l => D.lane k.val (256 * q + a) l
  | 0 => even_at hB (o := 0) (p := 0) (by omega) rfl rfl slices_S256x512_o0_0_S256x128 slices_S256x1024_o0_0_S256x128
  | 1 => odd_at hB (o := 0) (p := 128) (by omega) rfl rfl slices_S256x512_o0_0_S256x128 slices_S256x1024_o0_128_S256x128
  | 2 => even_at hB (o := 128) (p := 256) (by omega) rfl rfl slices_S256x512_o0_128_S256x128 slices_S256x1024_o0_256_S256x128
  | 3 => odd_at hB (o := 128) (p := 384) (by omega) rfl rfl slices_S256x512_o0_128_S256x128 slices_S256x1024_o0_384_S256x128
  | 4 => even_at hB (o := 256) (p := 512) (by omega) rfl rfl slices_S256x512_o0_256_S256x128 slices_S256x1024_o0_512_S256x128
  | 5 => odd_at hB (o := 256) (p := 640) (by omega) rfl rfl slices_S256x512_o0_256_S256x128 slices_S256x1024_o0_640_S256x128
  | 6 => even_at hB (o := 384) (p := 768) (by omega) rfl rfl slices_S256x512_o0_384_S256x128 slices_S256x1024_o0_768_S256x128
  | 7 => odd_at hB (o := 384) (p := 896) (by omega) rfl rfl slices_S256x512_o0_384_S256x128 slices_S256x1024_o0_896_S256x128

/-- All heads' lanes. -/
theorem pages_at : Is3 B.pages fun h a l => D.lane h (256 * q + a) l := fun i => page_at hB (i 0) _

end Point

end Cert.BwdMid

end
-- ==== Proof.MidPoint.lean ====
/- What each point leaves in its results' blocks. -/
module

public import proofs.«01_k».proof.Proof.MidBlock
public import proofs.«01_k».proof.Proof.FfPoint

@[expose] public section

set_option maxRecDepth 16384

noncomputable section

namespace Cert.BwdMid

open Cert.Kernel4Ideal Cert.Kernel4Ideal.Gen
open Idealize.ShloMosaic Idealize.ShloMosaic.TcCoe

variable {F : FTy → Type} [FloatOps F]

theorem zeros : (![0, 0] : Fin 2 → ℕ) = fun _ => 0 := funext fun a => by fin_cases a <;> rfl

variable (c : Dev nD) (i : grid0.Coords) (a1 : Memref sig .tc .vmem S256x2816 .bf16) (h1 : a1.IsWhole) (a2 : Memref sig .tc .vmem S256x2816 .bf16) (h2 : a2.IsWhole) (a3 : Memref sig .tc .vmem S1024x5632 .bf16) (h3 : a3.IsWhole) (a4 : Memref sig .tc .vmem S256x1024 .f32) (h4 : a4.IsWhole) (a5 : Memref sig .tc .vmem S1x1024 .f32) (h5 : a5.IsWhole) (a6 : Memref sig .tc .vmem S256x1024 .f32) (h6 : a6.IsWhole) (a7 : Memref sig .tc .vmem S1024x1024 .bf16) (h7 : a7.IsWhole) (a8 : Memref sig .tc .vmem S256x512 .f32) (h8 : a8.IsWhole) (a9 : Memref sig .tc .vmem S512x128 .bf16) (h9 : a9.IsWhole) (a10 : Memref sig .tc .vmem S384x1024 .bf16) (h10 : a10.IsWhole) (a11 : Memref sig .tc .vmem S256x1024 .f32) (h11 : a11.IsWhole) (a12 : Memref sig .tc .vmem S256x512 .f32) (h12 : a12.IsWhole) (a13 : Memref sig .tc .vmem S8x256x128 .bf16) (h13 : a13.IsWhole) (a14 : Memref sig .tc .vmem S1x1024 .f32) (h14 : a14.IsWhole)
  (x0 : Vec F S256x2816 .bf16) (x1 : Vec F S256x2816 .bf16) (x2 : Vec F S1024x5632 .bf16) (x3 : Vec F S256x1024 .f32) (x4 : Vec F S1x1024 .f32) (x5 : Vec F S256x1024 .f32) (x6 : Vec F S1024x1024 .bf16) (x7 : Vec F S256x512 .f32) (x8 : Vec F S512x128 .bf16) (x9 : Vec F S384x1024 .bf16) (xo13 : Vec F S1x1024 .f32)

/-! ## The first point, which starts the sum at 0. -/

/-- The rows' gradient, -/
theorem out0_A_10_eq (hc : cond0_0 i) : out0_A_10 c i a1 h1 a2 h2 a3 h3 a4 h4 a5 h5 a6 h6 a7 h7 a8 h8 a9 h9 a10 h10 a11 h11 a12 h12 a13 h13 a14 h14 hc x0 x1 x2 x3 x4 x5 x6 x7 x8 x9 = Block.row ⟨x0, x1, x2, x3, x4, x5, x6, x7, x8, x9⟩ := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 hc x0 x1 x2 x3 x4 x5 x6 x7 x8 x9)]
  unfold kernelRun0_A
  dsimp only
  sl_unfold_words
  rw [View.canon_unit_zero (S := S256x1024) zeros]
  simp only [View.readCov_unit_zero (S := S1x1024) _ zeros, View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S256x1024) zeros, View.ld_unit_zero (S := S256x2816) zeros, View.ld_unit_zero (S := S1024x1024) zeros,
    View.ld_unit_zero (S := S1x1024) zeros]
  rfl

/-- its product, -/
theorem out0_A_11_eq (hc : cond0_0 i) : out0_A_11 c i a1 h1 a2 h2 a3 h3 a4 h4 a5 h5 a6 h6 a7 h7 a8 h8 a9 h9 a10 h10 a11 h11 a12 h12 a13 h13 a14 h14 hc x0 x1 x2 x3 x4 x5 x6 x7 x8 x9 = Block.out ⟨x0, x1, x2, x3, x4, x5, x6, x7, x8, x9⟩ := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 hc x0 x1 x2 x3 x4 x5 x6 x7 x8 x9)]
  unfold kernelRun0_A
  dsimp only
  sl_unfold_words
  rw [View.canon_unit_zero (S := S256x512) zeros]
  simp only [View.readCov_unit_zero (S := S1x1024) _ zeros, View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S256x1024) zeros, View.ld_unit_zero (S := S256x2816) zeros, View.ld_unit_zero (S := S1024x1024) zeros,
    View.ld_unit_zero (S := S1x1024) zeros]
  rfl

/-- its second half in the heads' lanes with their sums, -/
theorem out0_A_12_eq (hc : cond0_0 i) : out0_A_12 c i a1 h1 a2 h2 a3 h3 a4 h4 a5 h5 a6 h6 a7 h7 a8 h8 a9 h9 a10 h10 a11 h11 a12 h12 a13 h13 a14 h14 hc x0 x1 x2 x3 x4 x5 x6 x7 x8 x9 = Block.pages ⟨x0, x1, x2, x3, x4, x5, x6, x7, x8, x9⟩ := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 hc x0 x1 x2 x3 x4 x5 x6 x7 x8 x9)]
  refine Cert.FwdFfn.canon_eq _ (cover0_A_12 c i a1 h1 a2 h2 a3 h3 a4 h4 a5 h5 a6 h6 a7 h7 a8 h8 a9 h9 a10 h10 a11 h11 a12 h12 a13 h13 a14 h14 hc x0 x1 x2 x3 x4 x5 x6 x7 x8 x9) ?_
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S256x1024) zeros, View.ld_unit_zero (S := S256x2816) zeros, View.ld_unit_zero (S := S1024x1024) zeros,
    View.ld_unit_zero (S := S1x1024) zeros, View.ld_unit_zero (S := S256x512) zeros, View.ld_unit_zero (S := S512x128) zeros,
    View.ld_unit_zero (S := S384x1024) zeros]
  exact ⟨fun x => page_piece ⟨x0, x1, x2, x3, x4, x5, x6, x7, x8, x9⟩ 7 (o := 7) inb_S8x256x128_S1x256x128_7_0_0 rfl x, fun x => page_piece ⟨x0, x1, x2, x3, x4, x5, x6, x7, x8, x9⟩ 6 (o := 6) inb_S8x256x128_S1x256x128_6_0_0 rfl x, fun x => page_piece ⟨x0, x1, x2, x3, x4, x5, x6, x7, x8, x9⟩ 5 (o := 5) inb_S8x256x128_S1x256x128_5_0_0 rfl x, fun x => page_piece ⟨x0, x1, x2, x3, x4, x5, x6, x7, x8, x9⟩ 4 (o := 4) inb_S8x256x128_S1x256x128_4_0_0 rfl x, fun x => page_piece ⟨x0, x1, x2, x3, x4, x5, x6, x7, x8, x9⟩ 3 (o := 3) inb_S8x256x128_S1x256x128_3_0_0 rfl x, fun x => page_piece ⟨x0, x1, x2, x3, x4, x5, x6, x7, x8, x9⟩ 2 (o := 2) inb_S8x256x128_S1x256x128_2_0_0 rfl x, fun x => page_piece ⟨x0, x1, x2, x3, x4, x5, x6, x7, x8, x9⟩ 1 (o := 1) inb_S8x256x128_S1x256x128_1_0_0 rfl x, fun x => page_piece ⟨x0, x1, x2, x3, x4, x5, x6, x7, x8, x9⟩ 0 (o := 0) inb_S8x256x128_S1x256x128_0_0_0 rfl x, trivial⟩

/-- and the gain's gradient. -/
theorem out0_A_13_eq (hc : cond0_0 i) : out0_A_13 c i a1 h1 a2 h2 a3 h3 a4 h4 a5 h5 a6 h6 a7 h7 a8 h8 a9 h9 a10 h10 a11 h11 a12 h12 a13 h13 a14 h14 hc x0 x1 x2 x3 x4 x5 x6 x7 x8 x9 = Block.gain ⟨x0, x1, x2, x3, x4, x5, x6, x7, x8, x9⟩ k0_pay2 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 hc x0 x1 x2 x3 x4 x5 x6 x7 x8 x9)]
  unfold kernelRun0_A
  dsimp only
  sl_unfold_words
  rw [View.canon_cons_unit_zero (S := S1x1024) zeros]
  simp only [View.readCov_unit_zero (S := S1x1024) _ zeros, View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S256x1024) zeros, View.ld_unit_zero (S := S256x2816) zeros, View.ld_unit_zero (S := S1024x1024) zeros,
    View.ld_unit_zero (S := S1x1024) zeros]
  rfl

/-! ## Every other point, which goes on from the point before. -/

/-- The rows' gradient, -/
theorem out0_B_10_eq (hc : ¬cond0_0 i) : out0_B_10 c i a1 h1 a2 h2 a3 h3 a4 h4 a5 h5 a6 h6 a7 h7 a8 h8 a9 h9 a10 h10 a11 h11 a12 h12 a13 h13 a14 h14 hc x0 x1 x2 x3 x4 x5 x6 x7 x8 x9 xo13 = Block.row ⟨x0, x1, x2, x3, x4, x5, x6, x7, x8, x9⟩ := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 hc x0 x1 x2 x3 x4 x5 x6 x7 x8 x9 xo13)]
  unfold kernelRun0_B
  dsimp only
  sl_unfold_words
  rw [View.canon_unit_zero (S := S256x1024) zeros]
  simp only [View.readCov_unit_zero (S := S1x1024) _ zeros, View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S256x1024) zeros, View.ld_unit_zero (S := S256x2816) zeros, View.ld_unit_zero (S := S1024x1024) zeros,
    View.ld_unit_zero (S := S1x1024) zeros]
  rfl

/-- its product, -/
theorem out0_B_11_eq (hc : ¬cond0_0 i) : out0_B_11 c i a1 h1 a2 h2 a3 h3 a4 h4 a5 h5 a6 h6 a7 h7 a8 h8 a9 h9 a10 h10 a11 h11 a12 h12 a13 h13 a14 h14 hc x0 x1 x2 x3 x4 x5 x6 x7 x8 x9 xo13 = Block.out ⟨x0, x1, x2, x3, x4, x5, x6, x7, x8, x9⟩ := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 hc x0 x1 x2 x3 x4 x5 x6 x7 x8 x9 xo13)]
  unfold kernelRun0_B
  dsimp only
  sl_unfold_words
  rw [View.canon_unit_zero (S := S256x512) zeros]
  simp only [View.readCov_unit_zero (S := S1x1024) _ zeros, View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S256x1024) zeros, View.ld_unit_zero (S := S256x2816) zeros, View.ld_unit_zero (S := S1024x1024) zeros,
    View.ld_unit_zero (S := S1x1024) zeros]
  rfl

/-- its second half in the heads' lanes with their sums, -/
theorem out0_B_12_eq (hc : ¬cond0_0 i) : out0_B_12 c i a1 h1 a2 h2 a3 h3 a4 h4 a5 h5 a6 h6 a7 h7 a8 h8 a9 h9 a10 h10 a11 h11 a12 h12 a13 h13 a14 h14 hc x0 x1 x2 x3 x4 x5 x6 x7 x8 x9 xo13 = Block.pages ⟨x0, x1, x2, x3, x4, x5, x6, x7, x8, x9⟩ := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 hc x0 x1 x2 x3 x4 x5 x6 x7 x8 x9 xo13)]
  refine Cert.FwdFfn.canon_eq _ (cover0_B_12 c i a1 h1 a2 h2 a3 h3 a4 h4 a5 h5 a6 h6 a7 h7 a8 h8 a9 h9 a10 h10 a11 h11 a12 h12 a13 h13 a14 h14 hc x0 x1 x2 x3 x4 x5 x6 x7 x8 x9 xo13) ?_
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S256x1024) zeros, View.ld_unit_zero (S := S256x2816) zeros, View.ld_unit_zero (S := S1024x1024) zeros,
    View.ld_unit_zero (S := S1x1024) zeros, View.ld_unit_zero (S := S256x512) zeros, View.ld_unit_zero (S := S512x128) zeros,
    View.ld_unit_zero (S := S384x1024) zeros]
  exact ⟨fun x => page_piece ⟨x0, x1, x2, x3, x4, x5, x6, x7, x8, x9⟩ 7 (o := 7) inb_S8x256x128_S1x256x128_7_0_0 rfl x, fun x => page_piece ⟨x0, x1, x2, x3, x4, x5, x6, x7, x8, x9⟩ 6 (o := 6) inb_S8x256x128_S1x256x128_6_0_0 rfl x, fun x => page_piece ⟨x0, x1, x2, x3, x4, x5, x6, x7, x8, x9⟩ 5 (o := 5) inb_S8x256x128_S1x256x128_5_0_0 rfl x, fun x => page_piece ⟨x0, x1, x2, x3, x4, x5, x6, x7, x8, x9⟩ 4 (o := 4) inb_S8x256x128_S1x256x128_4_0_0 rfl x, fun x => page_piece ⟨x0, x1, x2, x3, x4, x5, x6, x7, x8, x9⟩ 3 (o := 3) inb_S8x256x128_S1x256x128_3_0_0 rfl x, fun x => page_piece ⟨x0, x1, x2, x3, x4, x5, x6, x7, x8, x9⟩ 2 (o := 2) inb_S8x256x128_S1x256x128_2_0_0 rfl x, fun x => page_piece ⟨x0, x1, x2, x3, x4, x5, x6, x7, x8, x9⟩ 1 (o := 1) inb_S8x256x128_S1x256x128_1_0_0 rfl x, fun x => page_piece ⟨x0, x1, x2, x3, x4, x5, x6, x7, x8, x9⟩ 0 (o := 0) inb_S8x256x128_S1x256x128_0_0_0 rfl x, trivial⟩

/-- and the gain's gradient. -/
theorem out0_B_13_eq (hc : ¬cond0_0 i) : out0_B_13 c i a1 h1 a2 h2 a3 h3 a4 h4 a5 h5 a6 h6 a7 h7 a8 h8 a9 h9 a10 h10 a11 h11 a12 h12 a13 h13 a14 h14 hc x0 x1 x2 x3 x4 x5 x6 x7 x8 x9 xo13 = Block.gain ⟨x0, x1, x2, x3, x4, x5, x6, x7, x8, x9⟩ xo13 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 hc x0 x1 x2 x3 x4 x5 x6 x7 x8 x9 xo13)]
  unfold kernelRun0_B
  dsimp only
  sl_unfold_words
  rw [View.canon_unit_zero (S := S1x1024) zeros]
  simp only [View.readCov_unit_zero (S := S1x1024) _ zeros, View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S256x1024) zeros, View.ld_unit_zero (S := S256x2816) zeros, View.ld_unit_zero (S := S1024x1024) zeros,
    View.ld_unit_zero (S := S1x1024) zeros]
  rfl

end Cert.BwdMid

end
-- ==== Proof.MidFold.lean ====
/- The points of the second norm's gradient: what they sum and write back. -/
module

public import proofs.«01_k».proof.Proof.MidTile
public import proofs.«01_k».proof.Proof.MidPoint
public import proofs.«01_k».proof.Proof.InFold
public import Idealize.ShloMosaic.Lib.Pipeline.ValueKit.Geometry
public import proofs.«01_k».proof.Proof.Gen.Kernel4Ideal.Value

@[expose] public section

set_option maxRecDepth 16384

noncomputable section

namespace Cert.BwdMid

open Cert.Kernel4Ideal Cert.Kernel4Ideal.Gen Cert.Kernel4Ideal.Value
open Cert.KernelIdeal.Value (Is2 Is3 Is2.congr)
open Cert.BwdIn (rows2)
open Idealize.ShloMosaic Idealize.ShloMosaic.TcCoe
open Finset

/-! ## The blocks -/

/-- The call's operands hold the arguments. -/
structure Operands (m : (ℓ : Loc nD τ sig) → Buf (Elt Ideal) ℓ) (c : Dev nD) (D : Data) : Prop where
  a : Is2 (show FVec Ideal S8192x2816 .bf16 from V m c (Pipeline.arrRef spec0 0)) D.da
  b : Is2 (show FVec Ideal S8192x2816 .bf16 from V m c (Pipeline.arrRef spec0 1)) fun a j => D.da a (2816 + j)
  w : Is2 (show FVec Ideal S1024x5632 .bf16 from V m c (Pipeline.arrRef spec0 2)) D.w
  x : Is2 (show FVec Ideal S8192x1024 .f32 from V m c (Pipeline.arrRef spec0 3)) D.x
  g : Is2 (show FVec Ideal S1x1024 .f32 from V m c (Pipeline.arrRef spec0 4)) D.g
  z : Is2 (show FVec Ideal S8192x1024 .f32 from V m c (Pipeline.arrRef spec0 5)) D.z
  o : Is2 (show FVec Ideal S1024x1024 .bf16 from V m c (Pipeline.arrRef spec0 6)) D.wo
  y : Is2 (show FVec Ideal S8192x512 .f32 from V m c (Pipeline.arrRef spec0 7)) D.ob
  hs : Is2 (show FVec Ideal S512x128 .bf16 from V m c (Pipeline.arrRef spec0 8)) inHead
  pl : Is2 (show FVec Ideal S384x1024 .bf16 from V m c (Pipeline.arrRef spec0 9)) inLane

/-- What a point reads. -/
def blockAt {F : FTy → Type} [FloatOps F] (m : (ℓ : Loc nD τ sig) → Buf (Elt F) ℓ) (c : Dev nD) (t : Fin cfg0.N) : Block F where
  a := iblk m c 0 t
  b := iblk m c 1 t
  w := iblk m c 2 t
  x := iblk m c 3 t
  g := iblk m c 4 t
  z := iblk m c 5 t
  o := iblk m c 6 t
  y := iblk m c 7 t
  hs := iblk m c 8 t
  pl := iblk m c 9 t

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index3 : ∀ t : Fin grid0.N, win0_3.index t 0 = t.val ∧ win0_3.index t 1 = 0 := by decide +kernel
theorem index5 : ∀ t : Fin grid0.N, win0_5.index t 0 = t.val ∧ win0_5.index t 1 = 0 := by decide +kernel
theorem index7 : ∀ t : Fin grid0.N, win0_7.index t 0 = t.val ∧ win0_7.index t 1 = 0 := by decide +kernel
theorem index10 : ∀ t : Fin grid0.N, win0_10.index t 0 = t.val ∧ win0_10.index t 1 = 0 := by decide +kernel
theorem index11 : ∀ t : Fin grid0.N, win0_11.index t 0 = t.val ∧ win0_11.index t 1 = 0 := by decide +kernel
theorem index2 : ∀ t : Fin grid0.N, win0_2.index t 0 = 0 ∧ win0_2.index t 1 = 0 := by decide +kernel
theorem index4 : ∀ t : Fin grid0.N, win0_4.index t 0 = 0 ∧ win0_4.index t 1 = 0 := by decide +kernel
theorem index6 : ∀ t : Fin grid0.N, win0_6.index t 0 = 0 ∧ win0_6.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index13 : ∀ t : Fin grid0.N, win0_13.index t 0 = 0 ∧ win0_13.index t 1 = 0 := by decide +kernel
theorem index12 : ∀ t : Fin grid0.N, win0_12.index t 0 = 0 ∧ win0_12.index t 1 = t.val ∧ win0_12.index t 2 = 0 := by decide +kernel

variable {m : (ℓ : Loc nD τ sig) → Buf (Elt Ideal) ℓ} {c : Dev nD} {D : Data}

section

variable (hO : Operands m c D) (t : Fin cfg0.N)
include hO

set_option maxHeartbeats 2000000 in
/-- A point's blocks are its rows of the operands. -/
theorem reads_at : Reads D t.val (blockAt m c t) where
  a := rows2 hO.a _ (fun i => (win0_0.blk t).view.emb i) (fun _ => rfl) (fun i => by blk_simp; have := index0 t; omega)
    (fun i => by blk_simp; have := index0 t; omega)
  b := rows2 hO.b _ (fun i => (win0_1.blk t).view.emb i) (fun _ => rfl) (fun i => by blk_simp; have := index1 t; omega)
    (fun i => by blk_simp; have := index1 t; omega)
  w := (rows2 hO.w 0 (fun i => (win0_2.blk t).view.emb i) (fun _ => rfl) (fun i => by blk_simp; have := index2 t; omega)
    (fun i => by blk_simp; have := index2 t; omega)).congr fun a _ b _ => by rw [Nat.zero_add]
  x := rows2 hO.x _ (fun i => (win0_3.blk t).view.emb i) (fun _ => rfl) (fun i => by blk_simp; have := index3 t; omega)
    (fun i => by blk_simp; have := index3 t; omega)
  g := (rows2 hO.g 0 (fun i => (win0_4.blk t).view.emb i) (fun _ => rfl) (fun i => by blk_simp; have := index4 t; omega)
    (fun i => by blk_simp; have := index4 t; omega)).congr fun a _ b _ => by rw [Nat.zero_add]
  z := rows2 hO.z _ (fun i => (win0_5.blk t).view.emb i) (fun _ => rfl) (fun i => by blk_simp; have := index5 t; omega)
    (fun i => by blk_simp; have := index5 t; omega)
  o := (rows2 hO.o 0 (fun i => (win0_6.blk t).view.emb i) (fun _ => rfl) (fun i => by blk_simp; have := index6 t; omega)
    (fun i => by blk_simp; have := index6 t; omega)).congr fun a _ b _ => by rw [Nat.zero_add]
  y := rows2 hO.y _ (fun i => (win0_7.blk t).view.emb i) (fun _ => rfl) (fun i => by blk_simp; have := index7 t; omega)
    (fun i => by blk_simp; have := index7 t; omega)
  hs := (rows2 hO.hs 0 (fun i => (win0_8.blk t).view.emb i) (fun _ => rfl) (fun i => by blk_simp; have := index8 t; omega)
    (fun i => by blk_simp; have := index8 t; omega)).congr fun a _ b _ => by rw [Nat.zero_add]
  pl := (rows2 hO.pl 0 (fun i => (win0_9.blk t).view.emb i) (fun _ => rfl) (fun i => by blk_simp; have := index9 t; omega)
    (fun i => by blk_simp; have := index9 t; omega)).congr fun a _ b _ => by rw [Nat.zero_add]

end

/-! ## All points -/

/-- What is held after a point whose rows start at `256 q`. -/
structure Held (D : Data) (q : ℕ)
    (o : FVec Ideal S256x1024 .f32 × FVec Ideal S256x512 .f32 × FVec Ideal S8x256x128 .bf16 × FVec Ideal S1x1024 .f32) : Prop where
  row : Is2 o.1 fun a k => D.row (256 * q + a) k
  out : Is2 o.2.1 fun a j => D.out (256 * q + a) j
  pages : Is3 o.2.2.1 fun h a l => D.lane h (256 * q + a) l
  gain : Is2 o.2.2.2 fun _ k => ∑ t ∈ range (256 * (q + 1)), D.dh t k * D.n t k

/-- A point computes from its blocks and what the point before left. -/
theorem held_step {q : ℕ} {B : Block Ideal} (hB : Reads D q B)
    {d : FVec Ideal S1x1024 .f32} (hd : Is2 d fun _ k => ∑ t ∈ range (256 * q), D.dh t k * D.n t k)
    {o : FVec Ideal S256x1024 .f32 × FVec Ideal S256x512 .f32 × FVec Ideal S8x256x128 .bf16 × FVec Ideal S1x1024 .f32}
    (h : o = (B.row, B.out, B.pages, B.gain d)) : Held D q o := by
  subst h
  exact ⟨row_at hB, out_at hB, pages_at hB, gain_at hB hd⟩

/-- The first point starts from zeros. -/
theorem outs_first {F : FTy → Type} [FloatOps F] (m : (ℓ : Loc nD τ sig) → Buf (Elt F) ℓ) (c : Dev nD) (t : Fin cfg0.N) (h : t.val % 32 = 0) :
    outsAt0 m c t.val t.isLt = ((blockAt m c t).row, (blockAt m c t).out, (blockAt m c t).pages, (blockAt m c t).gain k0_pay2) :=
  (outsAt0_A m c t h).trans (congr (congrArg Prod.mk (out0_A_10_eq ..)) (congr (congrArg Prod.mk (out0_A_11_eq ..))
    (congr (congrArg Prod.mk (out0_A_12_eq ..)) (out0_A_13_eq ..))))

/-- Every other point goes on from the point before. -/
theorem outs_next {F : FTy → Type} [FloatOps F] (m : (ℓ : Loc nD τ sig) → Buf (Elt F) ℓ) (c : Dev nD) (n : ℕ) (hn : n + 1 < cfg0.N) (h : ¬(n + 1) % 32 = 0) :
    outsAt0 m c (n + 1) hn =
      let B := blockAt m c ⟨n + 1, hn⟩
      (B.row, B.out, B.pages, B.gain (outsAt0 m c n (Nat.lt_of_succ_lt hn)).2.2.2) :=
  (outsAt0_B m c ⟨n + 1, hn⟩ h).trans (congr (congrArg Prod.mk (out0_B_10_eq ..)) (congr (congrArg Prod.mk (out0_B_11_eq ..))
    (congr (congrArg Prod.mk (out0_B_12_eq ..)) (out0_B_13_eq ..))))

theorem held_at (hO : Operands m c D) : ∀ (n : ℕ) (hn : n < cfg0.N), Held D n (outsAt0 m c n hn)
  | 0, hn => by
    refine held_step (reads_at hO ⟨0, hn⟩) (fun i => ?_) (outs_first m c ⟨0, hn⟩ rfl)
    pointwise [k0_pay2]; simp
  | n + 1, hn => by
    have hN : cfg0.N = 32 := N_0
    have h := held_at hO n (Nat.lt_of_succ_lt hn)
    exact held_step (reads_at hO ⟨n + 1, hn⟩) h.gain (outs_next m c n hn (by omega))

/-! ## The results -/

variable (hO : Operands m c D)
include hO

theorem row_array : Is2 (show FVec Ideal S8192x1024 .f32 from (dats m 0 c).arrAt 10 cfg0.N) D.row := fun i => by
  refine (dats m 0 c).arrAt_forall_of_covers 10 (fun i v => v = ((D.row (i 0).val (i 1).val : ℝ) : EReal)) (by decide +kernel) (fun t hf y => ?_) i
  have e0 : ((win0_10.blk t).view.emb y 0 : ℕ) = 256 * t.val + (y 0).val := by blk_simp; have := index10 t; omega
  have e1 : ((win0_10.blk t).view.emb y 1 : ℕ) = (y 1).val := by blk_simp; have := index10 t; omega
  exact (congrFun (after0_10 m c t) _).trans (((held_at hO t.val t.isLt).row y).trans (by rw [e0, e1]))

theorem out_array : Is2 (show FVec Ideal S8192x512 .f32 from (dats m 0 c).arrAt 11 cfg0.N) D.out := fun i => by
  refine (dats m 0 c).arrAt_forall_of_covers 11 (fun i v => v = ((D.out (i 0).val (i 1).val : ℝ) : EReal)) (by decide +kernel) (fun t hf y => ?_) i
  have e0 : ((win0_11.blk t).view.emb y 0 : ℕ) = 256 * t.val + (y 0).val := by blk_simp; have := index11 t; omega
  have e1 : ((win0_11.blk t).view.emb y 1 : ℕ) = (y 1).val := by blk_simp; have := index11 t; omega
  exact (congrFun (after0_11 m c t) _).trans (((held_at hO t.val t.isLt).out y).trans (by rw [e0, e1]))

theorem page_array : Is3 (show FVec Ideal S8x8192x128 .bf16 from (dats m 0 c).arrAt 12 cfg0.N) D.lane := fun i => by
  refine (dats m 0 c).arrAt_forall_of_covers 12 (fun i v => v = ((D.lane (i 0).val (i 1).val (i 2).val : ℝ) : EReal)) (by decide +kernel) (fun t hf y => ?_) i
  have e0 : ((win0_12.blk t).view.emb y 0 : ℕ) = (y 0).val := by blk_simp; have := index12 t; omega
  have e1 : ((win0_12.blk t).view.emb y 1 : ℕ) = 256 * t.val + (y 1).val := by blk_simp; have := index12 t; omega
  have e2 : ((win0_12.blk t).view.emb y 2 : ℕ) = (y 2).val := by blk_simp; have := index12 t; omega
  exact (congrFun (after0_12 m c t) _).trans (((held_at hO t.val t.isLt).pages y).trans (by rw [e0, e1, e2]))

theorem gain_array : Is2 (show FVec Ideal S1x1024 .f32 from (dats m 0 c).arrAt 13 cfg0.N) fun _ k => D.dg k := fun i => by
  refine (dats m 0 c).arrAt_forall_of_covers 13 (fun i v => v = ((D.dg (i 1).val : ℝ) : EReal)) (by decide +kernel) (fun t hf y => ?_) i
  have hN : cfg0.N = 32 := N_0
  have ht : t.val = 31 := by have := (flush0_13 t).1 hf; have := t.isLt; omega
  have e1 : ((win0_13.blk t).view.emb y 1 : ℕ) = (y 1).val := by blk_simp; have := index13 t; omega
  exact (congrFun (after0_13 m c t) _).trans (((held_at hO t.val t.isLt).gain y).trans (by rw [e1, ht, Data.dg]))

end Cert.BwdMid

end
-- ==== Proof.MidHost.lean ====
/- The two matrices of 0 and 1 that the second norm's gradient is handed, as real numbers. -/
module

public import proofs.«01_k».proof.Proof.MidSpec
public import proofs.«01_k».proof.Proof.Reals
public import proofs.«01_k».proof.Proof.Gen.Kernel4Ideal.Frame
public import Idealize.ShloMosaic.Lib.StableHlo.RunRead
public import Idealize.ShloMosaic.Lib.KernelVsHost
public import Idealize.ShloMosaic.Lib.Pointwise

@[expose] public section

set_option maxRecDepth 16384

noncomputable section

namespace Cert.BwdMid

open Cert.Kernel4Ideal Cert.Kernel4Ideal.Gen
open Cert.KernelIdeal.Value (Is2)
open Idealize.ShloMosaic Idealize.ShloMosaic.TcCoe Idealize.ShloMosaic.WordCmp

variable {F : FTy → Type} [FloatOps F]

/-- Whether a column belongs to a head, -/
def heads : FVec F S512x128 .bf16 :=
  uitofp .bf16 (cmpi .eq
    (broadcastInDim S512x128 ![0, 1] bcast_S512x1_S512x128_0_1 (Host.divsi (broadcastInDim S512x1 ![0] bcast_S512_S512x1_0 (iotaInDim S512 32 0))
      (broadcastInDim S512x1 ![] bcast_S_S512x1 (constantI S_ 32 64#32))))
    (broadcastInDim S512x128 ![0, 1] bcast_S1x128_S512x128_0_1 (broadcastInDim S1x128 ![1] bcast_S128_S1x128_1 (iotaInDim S128 32 0))))

/-- the place of a row within its 128, -/
def within : IVec S384x1 32 :=
  broadcastInDim S384x1 ![0] bcast_S384_S384x1_0 (Host.remsi (iotaInDim S384 32 0) (broadcastInDim S384 ![] bcast_S_S384 (constantI S_ 32 128#32)))

/-- the column where it belongs, -/
def column : IVec S384x1 32 :=
  addi (addi (muli (broadcastInDim S384x1 ![] bcast_S_S384x1 (constantI S_ 32 128#32)) within)
      (broadcastInDim S384x1 ![] bcast_S_S384x1 (constantI S_ 32 64#32)))
    (broadcastInDim S384x1 ![0] bcast_S384_S384x1_0 (Host.divsi (iotaInDim S384 32 0) (broadcastInDim S384 ![] bcast_S_S384 (constantI S_ 32 128#32))))

/-- and whether a column is that one and the row one of the first eight. -/
def lanes : FVec F S384x1024 .bf16 :=
  uitofp .bf16 (andi
    (broadcastInDim S384x1024 ![0, 1] bcast_S384x1_S384x1024_0_1 (cmpi .slt within (broadcastInDim S384x1 ![] bcast_S_S384x1 (constantI S_ 32 8#32))))
    (cmpi .eq (broadcastInDim S384x1024 ![0, 1] bcast_S1x1024_S384x1024_0_1 (broadcastInDim S1x1024 ![1] bcast_S1024_S1x1024_1 (iotaInDim S1024 32 0)))
      (broadcastInDim S384x1024 ![0, 1] bcast_S384x1_S384x1024_0_1 column)))

section Host

variable (m : (ℓ : Loc nD τ sig) → Buf (Elt F) ℓ) (c : Dev nD)

theorem host_heads : V m c main_v15 = heads := by
  unfold V
  simp only [hostOps0, List.flatten_cons, List.flatten_nil, List.append_nil]
  after_reads_simp
  rfl

theorem host_lanes : V m c main_v39 = lanes := by
  unfold V
  simp only [hostOps0, List.flatten_cons, List.flatten_nil, List.append_nil]
  after_reads_simp
  rfl

end Host

/-! ## Their numbers -/

/-- A bit as a number. -/
theorem bit_is (b : Bool) : FloatOps.uitofp (F := Ideal) FTy.bf16 (BitVec.ofBool b) = ((if b then 1 else 0 : ℝ) : EReal) := by
  show ((_ : ℝ) : EReal) = _
  cases b <;> simp

theorem div64 : ∀ a : ℕ, a < 512 → IntOp.divsi .host (BitVec.ofNat 32 a) 64#32 = BitVec.ofNat 32 (a / 64) := by decide +kernel
theorem rem128 : ∀ a : ℕ, a < 384 → IntOp.remsi .host (BitVec.ofNat 32 a) 128#32 = BitVec.ofNat 32 (a % 128) := by decide +kernel
theorem place128 : ∀ a : ℕ, a < 384 → IntOp.addi (IntOp.addi (IntOp.muli (128#32) (BitVec.ofNat 32 (a % 128))) 64#32) (IntOp.divsi .host (BitVec.ofNat 32 a) 128#32)
    = BitVec.ofNat 32 (128 * (a % 128) + 64 + a / 128) := by decide +kernel

theorem both_bits (a b : Bool) : IntOp.andi (BitVec.ofBool a) (BitVec.ofBool b) = BitVec.ofBool (a && b) := by cases a <;> cases b <;> rfl

theorem heads_is : Is2 (heads (F := Ideal)) inHead := fun i => by
  pointwise [heads]
  obtain ⟨a, ea⟩ : ∃ a, (i 0).val = a := ⟨_, rfl⟩
  obtain ⟨b, eb⟩ : ∃ b, (i 1).val = b := ⟨_, rfl⟩
  have h0 : a < 512 := ea ▸ (i 0).isLt
  have h1 : b < 128 := eb ▸ (i 1).isLt
  rw [ea, eb, div64 a h0, cmpi_eq_ofNat (by omega) (by omega), bit_is, inHead]
  simp only [decide_eq_true_eq]

theorem lanes_is : Is2 (lanes (F := Ideal)) inLane := fun i => by
  pointwise [lanes, within, column]
  obtain ⟨a, ea⟩ : ∃ a, (i 0).val = a := ⟨_, rfl⟩
  obtain ⟨b, eb⟩ : ∃ b, (i 1).val = b := ⟨_, rfl⟩
  have h0 : a < 384 := ea ▸ (i 0).isLt
  have h1 : b < 1024 := eb ▸ (i 1).isLt
  rw [ea, eb, rem128 a h0, place128 a h0, cmpi_eq_ofNat (by omega) (by omega), cmpi_slt_ofNat (by omega) (by omega), both_bits, bit_is, inLane]
  simp only [Bool.and_eq_true, decide_eq_true_eq]

end Cert.BwdMid

end
-- ==== Proof.MidEqual.lean ====
/- Of finite arguments the results of the second norm's gradient are the plain gradient's, entry by entry. -/
module

public import proofs.«01_k».proof.Defs
public import proofs.«01_k».proof.Proof.MidRef
public import proofs.«01_k».proof.Proof.MidFold
public import proofs.«01_k».proof.Proof.MidHost
public import proofs.«01_k».proof.Proof.Equal
public import proofs.«01_k».proof.Proof.Gen.Kernel4
public import proofs.«01_k».proof.Proof.Gen.Reference4Ideal
public import proofs.«01_k».proof.Proof.Gen.Reference4Ideal.Run
public import proofs.«01_k».proof.Proof.Gen.Pre_finite4
public import Idealize.ShloMosaic.Lib.Claim

@[expose] public section

set_option maxRecDepth 16384

noncomputable section

namespace Cert.BwdMid

open Cert.KernelIdeal.Value (Is2 reals2 is2_reals real_of_finite)
open Cert.Reference4Ideal.Read Cert.Kernel4Ideal Cert.Kernel4Ideal.Gen
open Idealize.ShloMosaic Idealize.ShloMosaic.TcCoe Idealize.SL.Sem

/-- The real numbers in the arguments. -/
def realData (x : FVec Ideal ⟨2, ![8192, 1024]⟩ .f32) (g : FVec Ideal ⟨2, ![1, 1024]⟩ .f32) (w : FVec Ideal ⟨2, ![1024, 5632]⟩ .f32)
    (wo : FVec Ideal ⟨2, ![1024, 1024]⟩ .f32) (ob : FVec Ideal ⟨2, ![8192, 512]⟩ .f32) (da : FVec Ideal ⟨2, ![8192, 5632]⟩ .f32)
    (z : FVec Ideal ⟨2, ![8192, 1024]⟩ .f32) : Data where
  x := reals2 x
  g := reals2 g
  w := reals2 w
  da := reals2 da
  z := reals2 z
  wo := reals2 wo
  ob := reals2 ob

/-! ## What the call is handed -/

section Host

variable {F : FTy → Type} [FloatOps F] (m : (ℓ : Loc nD τ sig) → Buf (Elt F) ℓ) (c : Dev nD)

/-- The two halves of the cotangent's columns and the two matrices reach the call rounded, which changes no real number. -/
theorem host_left : V m c main_v1 = truncf .bf16 (extractStridedSlice S8192x2816 ![0, 0]
    (m ((c.tc : Thread nD τ).loc main_arg5) : FVec F S8192x5632 .f32) slices_S8192x5632_S8192x2816_0_0) bitsLt_bf16_f32 := by
  unfold V
  simp only [hostOps0, List.flatten_cons, List.flatten_nil, List.append_nil]
  after_reads_simp

theorem host_right : V m c main_v3 = truncf .bf16 (extractStridedSlice S8192x2816 ![0, 2816]
    (m ((c.tc : Thread nD τ).loc main_arg5) : FVec F S8192x5632 .f32) slices_S8192x5632_S8192x2816_0_2816) bitsLt_bf16_f32 := by
  unfold V
  simp only [hostOps0, List.flatten_cons, List.flatten_nil, List.append_nil]
  after_reads_simp

theorem host_up : V m c main_v4 = truncf .bf16 (m ((c.tc : Thread nD τ).loc main_arg2) : FVec F S1024x5632 .f32) bitsLt_bf16_f32 := by
  unfold V
  simp only [hostOps0, List.flatten_cons, List.flatten_nil, List.append_nil]
  after_reads_simp

theorem host_out : V m c main_v5 = truncf .bf16 (m ((c.tc : Thread nD τ).loc main_arg3) : FVec F S1024x1024 .f32) bitsLt_bf16_f32 := by
  unfold V
  simp only [hostOps0, List.flatten_cons, List.flatten_nil, List.append_nil]
  after_reads_simp

end Host

/-- Half of the columns of a table, from column `o` on. -/
theorem columns_is {o : ℕ} {x : FVec Ideal S8192x5632 .f32} {r : ℕ → ℕ → ℝ} (hx : Is2 x r) (h : S8192x5632.Slices ![0, o] S8192x2816) :
    Is2 (truncf .bf16 (extractStridedSlice S8192x2816 ![0, o] x h) bitsLt_bf16_f32 : FVec Ideal S8192x2816 .bf16) fun t j => r t (o + j) := fun i =>
  (hx _).trans (congrArg Real.toEReal (congr (congrArg r (show 0 + (i 0).val = _ by omega)) rfl))

section Results

variable {m : (ℓ : Loc nD τ sig) → Buf (Elt Ideal) ℓ} {c : Dev nD}

/-- Of finite arguments the kernel's arguments are real. -/
theorem args_of_finite (h : Cert.Pre_Kernel4Ideal_finite4 (hPre_finite4 := Cert.Pre_finite4.Gen.facts) m) :
    Args (realData (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)))
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := by
  obtain ⟨h0, h1, h2, h3, h4, h5, h6⟩ := h c
  exact ⟨is2_reals (real_of_finite h0), is2_reals (real_of_finite h1), is2_reals (real_of_finite h2), is2_reals (real_of_finite h3),
    is2_reals (real_of_finite h4), is2_reals (real_of_finite h5), is2_reals (real_of_finite h6)⟩

end Results

section Both

variable {m : (ℓ : Loc nD τ sig) → Buf (Elt Ideal) ℓ} {c : Dev nD} {y0 y6 : FVec Ideal S8192x1024 .f32} {y1 : FVec Ideal S1x1024 .f32}
  {y2 : FVec Ideal S1024x5632 .f32} {y3 : FVec Ideal S1024x1024 .f32} {y4 : FVec Ideal S8192x512 .f32} {y5 : FVec Ideal S8192x5632 .f32} {D : Data}
  (e0 : y0 = m ((c.tc : Thread nD τ).loc main_arg0)) (e1 : y1 = m ((c.tc : Thread nD τ).loc main_arg1))
  (e2 : y2 = m ((c.tc : Thread nD τ).loc main_arg2)) (e3 : y3 = m ((c.tc : Thread nD τ).loc main_arg3))
  (e4 : y4 = m ((c.tc : Thread nD τ).loc main_arg4)) (e5 : y5 = m ((c.tc : Thread nD τ).loc main_arg5)) (e6 : y6 = m ((c.tc : Thread nD τ).loc main_arg6))
  (hD : Args D y0 y1 y2 y3 y4 y5 y6)

include e0 e1 e2 e3 e4 e5 e6 hD

theorem launched : Operands m c D := by
  subst e0 e1 e2 e3 e4 e5 e6
  exact {
    a := fun i => (congrFun (host_left m c) i).trans ((columns_is hD.da _ i).trans (by simp only [Nat.zero_add]))
    b := fun i => (congrFun (host_right m c) i).trans (columns_is hD.da _ i)
    w := fun i => (congrFun (host_up m c) i).trans (hD.w i)
    x := fun i => (congrFun (V_main_arg0 m c) i).trans (hD.x i)
    g := fun i => (congrFun (V_main_arg1 m c) i).trans (hD.g i)
    z := fun i => (congrFun (V_main_arg6 m c) i).trans (hD.z i)
    o := fun i => (congrFun (host_out m c) i).trans (hD.wo i)
    y := fun i => (congrFun (V_main_arg4 m c) i).trans (hD.ob i)
    hs := fun i => (congrFun (host_heads m c) i).trans (heads_is i)
    pl := fun i => (congrFun (host_lanes m c) i).trans (lanes_is i) }

theorem equal_row : val_main_v40 (F := Ideal) y0 y1 y2 y5 y6 = (dats m 0 c).arrAt 10 cfg0.N :=
  (ref_row hD).unique (row_array (launched e0 e1 e2 e3 e4 e5 e6 hD))
theorem equal_out : val_main_v51 (F := Ideal) y0 y1 y2 y3 y5 y6 = (dats m 0 c).arrAt 11 cfg0.N :=
  (ref_out hD).unique (out_array (launched e0 e1 e2 e3 e4 e5 e6 hD))
theorem equal_lanes : val_main_v53 (F := Ideal) y0 y1 y2 y3 y4 y5 y6 = (dats m 0 c).arrAt 12 cfg0.N :=
  (ref_lanes hD).unique (page_array (launched e0 e1 e2 e3 e4 e5 e6 hD))
theorem equal_gain : val_main_v39 (F := Ideal) y0 y2 y5 = (dats m 0 c).arrAt 13 cfg0.N :=
  (ref_gain hD).unique (gain_array (launched e0 e1 e2 e3 e4 e5 e6 hD))

end Both

/-- Of finite arguments the kernel's results are the plain gradient's. -/
theorem equal_results : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := fun m ρ m' ρ' hpre hargs => by
  have hA := fun c => args_of_finite (c := c) hpre
  refine ⟨fun c => (dats m 0 c).arrAt 10 cfg0.N, fun c => (dats m 0 c).arrAt 11 cfg0.N, fun c => (dats m 0 c).arrAt 12 cfg0.N,
    fun c => (dats m 0 c).arrAt 13 cfg0.N, Cert.Kernel4Ideal.Value.run_blocks m ρ, ?_⟩
  refine (θ_run _ _ _).mono (fun _ h c => ?_) (Cert.Reference4Ideal.Value.run m' ρ')
  obtain ⟨e0, e1, e2, e3, e4, e5, e6⟩ := hargs c
  have hB := hA c
  rw [← e0, ← e1, ← e2, ← e3, ← e4, ← e5, ← e6] at hB
  exact ⟨(h c).1.trans ((val_main_v40_eq m' c).trans (equal_row e0 e1 e2 e3 e4 e5 e6 hB)),
    (h c).2.1.trans ((val_main_v51_eq m' c).trans (equal_out e0 e1 e2 e3 e4 e5 e6 hB)),
    (h c).2.2.1.trans ((val_main_v53_eq m' c).trans (equal_lanes e0 e1 e2 e3 e4 e5 e6 hB)),
    (h c).2.2.2.1.trans ((val_main_v39_eq _ _ _).trans (equal_gain e0 e1 e2 e3 e4 e5 e6 hB)), (h c).2.2.2.2⟩

end Cert.BwdMid

end
-- ==== Proof.FmSpec.lean ====
/- The forward pass between the mixers and the feed-forward, as functions of a row and a column over the extended reals: the
   mixers' outputs through their matrix, added to the skip connection's rows, the second norm, and the product with the
   feed-forward's first matrix. -/
module

public import Idealize.ShloMosaic.Lib.Pointwise
public import Idealize.ShloMosaic.Lib.Pipeline.Value

@[expose] public section

set_option maxRecDepth 16384

noncomputable section

namespace Cert.FwdMid

open Idealize.ShloMosaic

/-- What the call is handed: the skip connection's rows `x`, the two mixers' outputs `a` and `b`, their matrix `o`, the norm's
    gain `g` and the feed-forward's first matrix `u`. -/
structure Data where
  x : ℕ → ℕ → EReal
  a : ℕ → ℕ → EReal
  b : ℕ → ℕ → EReal
  o : ℕ → ℕ → EReal
  g : ℕ → ℕ → EReal
  u : ℕ → ℕ → EReal

/-- Two tables side by side, the first 512 columns wide. -/
def beside (a b : ℕ → ℕ → EReal) : ℕ → ℕ → EReal := fun t j => if j < 512 then a t j else b t (j - 512)

namespace Data

variable (D : Data)

/-- The rows after the mixers. -/
def x2 (t k : ℕ) : EReal := D.x t k + ∑ j : Fin 1024, beside D.a D.b t j.val * D.o j.val k

/-- One over the root of a row's mean square and the norm's small number. -/
def root (t : ℕ) : EReal :=
  Ideal.rsqrt (Ideal.div (∑ k : Fin 1024, D.x2 t k.val * D.x2 t k.val) (Ideal.ofBits .f32 0x44800000#32) + Ideal.ofBits .f32 0x358637BD#32)

/-- The normed rows. -/
def h2 (t k : ℕ) : EReal := D.x2 t k * D.root t * D.g 0 k

/-- Their product with the feed-forward's first matrix. -/
def up (t j : ℕ) : EReal := ∑ k : Fin 1024, D.h2 t k.val * D.u k.val j

end Data

/-- A sum over two tables side by side, as two sums. -/
theorem sum_beside (a b o : ℕ → ℕ → EReal) (t k : ℕ) : ∑ j : Fin 1024, beside a b t j.val * o j.val k =
    ∑ j : Fin 512, a t j.val * o j.val k + ∑ j : Fin 512, b t j.val * o (512 + j.val) k := by
  refine (Fin.sum_univ_add (a := 512) (b := 512) fun j => beside a b t j.val * o j.val k).trans (congrArg₂ (· + ·) ?_ ?_)
  · exact Finset.sum_congr rfl fun j _ => by rw [Fin.val_castAdd, beside, if_pos j.isLt]
  · exact Finset.sum_congr rfl fun j _ => by rw [Fin.val_natAdd, beside, if_neg (by omega), Nat.add_sub_cancel_left]

/-- An array whose entries are a table's. -/
def Has {A B : ℕ} (x : (⟨2, ![A, B]⟩ : Shape).Idx → EReal) (f : ℕ → ℕ → EReal) : Prop := ∀ i, x i = f (i 0).val (i 1).val

/-- An array's places named by natural numbers. -/
def places {A B : ℕ} (x : (⟨2, ![A, B]⟩ : Shape).Idx → EReal) : ℕ → ℕ → EReal :=
  fun t k => if h : t < A ∧ k < B then x (ValueIdx.ix2 ⟨t, h.1⟩ ⟨k, h.2⟩) else 0

theorem has_places {A B : ℕ} (x : (⟨2, ![A, B]⟩ : Shape).Idx → EReal) : Has x (places x) := fun i => by
  have e : (i 0).val < A ∧ (i 1).val < B := ⟨(i 0).isLt, (i 1).isLt⟩
  rw [places, dif_pos e]
  exact congrArg x (ValueIdx.eq_ix2 i)

/-- Two arrays side by side. -/
theorem beside_has {A : ℕ} {x y : (⟨2, ![A, 512]⟩ : Shape).Idx → EReal} {f g : ℕ → ℕ → EReal} (hx : Has x f) (hy : Has y g)
    (h : Shape.Concatenates [⟨2, ![A, 512]⟩, ⟨2, ![A, 512]⟩] ⟨2, ![A, 1024]⟩ 1) :
    Has (concatenate ⟨2, ![A, 1024]⟩ 1 [⟨_, x⟩, ⟨_, y⟩] h) (beside f g) := fun i => by
  have h0 : (i 0).val < A := (i 0).isLt
  have h1 : (i 1).val < 1024 := (i 1).isLt
  unfold beside
  by_cases hlt : (i 1).val < 512
  · rw [if_pos hlt, concatenate_pair_apply_left 1 x y h i rfl (ValueIdx.ix2 ⟨(i 0).val, h0⟩ ⟨(i 1).val, hlt⟩)
      (fun b => match b with | ⟨0, _⟩ => rfl | ⟨1, _⟩ => rfl), hx]
    rfl
  · rw [if_neg hlt, concatenate_pair_apply_right 1 x y h i rfl rfl (ValueIdx.ix2 ⟨(i 0).val, h0⟩ ⟨(i 1).val - 512, by omega⟩)
      (fun b => match b with | ⟨0, _⟩ => fun _ => rfl | ⟨1, _⟩ => fun h => absurd rfl h)
      (show (i 1).val - 512 + 512 = (i 1).val by omega), hy]
    rfl

end Cert.FwdMid

end
-- ==== Proof.FmRef.lean ====
/- The reference of the forward pass between the mixers and the feed-forward, line by line. -/
module

public import proofs.«01_k».proof.Proof.FmSpec
public import proofs.«01_k».proof.Proof.Gen.Reference5Ideal.Read
public import Idealize.ShloMosaic.Lib.KernelVsHost

@[expose] public section

set_option maxRecDepth 16384

noncomputable section

namespace Cert.FwdMid

open Cert.Reference5Ideal Cert.Reference5Ideal.Gen Cert.Reference5Ideal.Read
open Idealize.ShloMosaic Idealize.ShloMosaic.TcCoe
open Finset

/-- The reference's arguments. -/
structure Args (D : Data) (x0 : FVec Ideal S8192x1024 .f32) (x1 x2 : FVec Ideal S8192x512 .f32) (x3 : FVec Ideal S1024x1024 .f32)
    (x4 : FVec Ideal S1x1024 .f32) (x5 : FVec Ideal S1024x5632 .f32) : Prop where
  x : Has x0 D.x
  a : Has x1 D.a
  b : Has x2 D.b
  o : Has x3 D.o
  g : Has x4 D.g
  u : Has x5 D.u

variable {D : Data} {x0 : FVec Ideal S8192x1024 .f32} {x1 x2 : FVec Ideal S8192x512 .f32} {x3 : FVec Ideal S1024x1024 .f32}
  {x4 : FVec Ideal S1x1024 .f32} {x5 : FVec Ideal S1024x5632 .f32} (hA : Args D x0 x1 x2 x3 x4 x5)
include hA

theorem ref_cat : Has (val_main_v0 (F := Ideal) x1 x2) (beside D.a D.b) := beside_has hA.a hA.b _

theorem ref_x2 : Has (val_main_v2 (F := Ideal) x0 x1 x2 x3) D.x2 := fun i => by
  have e := ref_cat hA
  pointwise [val_main_v2, val_main_v1]
  rw [hA.x]
  exact congrArg (D.x (i 0).val (i 1).val + ·) (sum_congr rfl fun k _ => by rw [e, hA.o]; rfl)

theorem ref_root (i : S8192x1.Idx) : val_main_v11 (F := Ideal) x0 x1 x2 x3 i = D.root (i 0).val := by
  have e := ref_x2 hA
  pointwise [val_main_v11, val_main_v10, val_main_v9, val_main_v8, val_main_v7, val_main_v6, val_main_v5, val_main_v4]
  refine congrArg (fun s => Ideal.rsqrt (Ideal.div s (Ideal.ofBits .f32 0x44800000#32) + Ideal.ofBits .f32 0x358637BD#32))
    ((congrArg (· + _) Ideal.ofBits_zero_f32).trans ((zero_add _).trans (sum_congr rfl fun k _ => ?_)))
  rw [e]
  rfl

theorem ref_h : Has (val_main_v16 (F := Ideal) x0 x1 x2 x3 x4) D.h2 := fun i => by
  have e := ref_x2 hA
  have e' := ref_root hA
  pointwise [val_main_v16, val_main_v15, val_main_v14, val_main_v13, val_main_v12, val_main_v3]
  rw [e, e', hA.g]
  rfl

theorem ref_h2 : Has (val_main_v17 (F := Ideal) x0 x1 x2 x3 x4) D.h2 := ref_h hA

theorem ref_up : Has (val_main_v18 (F := Ideal) x0 x1 x2 x3 x4 x5) D.up := fun i => by
  have e := ref_h hA
  pointwise [val_main_v18]
  exact sum_congr rfl fun k _ => by rw [e, hA.u]; rfl

end Cert.FwdMid

end
-- ==== Proof.FmTile.lean ====
/- One block of 512 rows of the forward pass between the mixers and the feed-forward. -/
module

public import proofs.«01_k».proof.Proof.FmSpec
public import proofs.«01_k».proof.Proof.Gen.Kernel5Ideal.Skeleton

@[expose] public section

set_option maxRecDepth 16384

noncomputable section

namespace Cert.FwdMid

open Cert.Kernel5Ideal Cert.Kernel5Ideal.Gen
open Idealize.ShloMosaic
open Finset

/-- The block's rows are rows `512 q` on of the data. -/
structure Reads (D : Data) (q : ℕ) (a : FVec Ideal S512x512 .bf16) (b : FVec Ideal S512x512 .f32) (x : FVec Ideal S512x1024 .f32)
    (o : FVec Ideal S1024x1024 .bf16) (g : FVec Ideal S1x1024 .f32) (u : FVec Ideal S1024x5632 .bf16) : Prop where
  a : Has a fun t j => D.a (512 * q + t) j
  b : Has b fun t j => D.b (512 * q + t) j
  x : Has x fun t k => D.x (512 * q + t) k
  o : Has o D.o
  g : Has g D.g
  u : Has u D.u

variable {D : Data} {q : ℕ} {a : FVec Ideal S512x512 .bf16} {b : FVec Ideal S512x512 .f32} {x : FVec Ideal S512x1024 .f32}
  {o : FVec Ideal S1024x1024 .bf16} {g : FVec Ideal S1x1024 .f32} {u : FVec Ideal S1024x5632 .bf16} (hR : Reads D q a b x o g u)
include hR

theorem tile_x2 : Has (k0_pay1 (F := Ideal) a b x o) fun t k => D.x2 (512 * q + t) k := fun i => by
  pointwise [k0_pay1]
  rw [hR.x]
  refine congrArg (D.x (512 * q + (i 0).val) (i 1).val + ·) ((congrArg₂ (· + ·) ?_ ?_).trans (sum_beside D.a D.b D.o _ _).symm)
  · exact sum_congr rfl fun k _ => by rw [hR.a, hR.o]; rfl
  · exact sum_congr rfl fun k _ => by rw [hR.b, hR.o]; rfl

theorem tile_h2 : Has (k0_pay2 (F := Ideal) a b x o g) fun t k => D.h2 (512 * q + t) k := fun i => by
  have e := tile_x2 hR
  pointwise [k0_pay2]
  rw [e, hR.g]
  refine congrArg (fun s => D.x2 (512 * q + (i 0).val) (i 1).val * Ideal.rsqrt (Ideal.div s (Ideal.ofBits .f32 0x44800000#32) +
    Ideal.ofBits .f32 0x358637BD#32) * D.g 0 (i 1).val) (sum_congr rfl fun k _ => ?_)
  rw [e]
  rfl

theorem tile_up : Has (k0_pay3 (F := Ideal) a b x o g u) fun t j => D.up (512 * q + t) j := fun i => by
  have e := tile_h2 hR
  pointwise [k0_pay3]
  exact sum_congr rfl fun k _ => by rw [e, hR.u]; rfl

end Cert.FwdMid

end
-- ==== Proof.FmFold.lean ====
/- What the points of the forward pass between the mixers and the feed-forward write back. -/
module

public import proofs.«01_k».proof.Proof.FmTile
public import Idealize.ShloMosaic.Lib.Pipeline.ValueKit.Geometry
public import proofs.«01_k».proof.Proof.Gen.Kernel5Ideal.Value

@[expose] public section

set_option maxRecDepth 16384

noncomputable section

namespace Cert.FwdMid

open Cert.Kernel5Ideal Cert.Kernel5Ideal.Gen Cert.Kernel5Ideal.Value
open Idealize.ShloMosaic Idealize.ShloMosaic.TcCoe

theorem zeros : (![0, 0] : Fin 2 → ℕ) = fun _ => 0 := funext fun a => by fin_cases a <;> rfl

/-! ## The blocks -/

/-- The call's operands hold the arguments. -/
structure Operands (m : (ℓ : Loc nD τ sig) → Buf (Elt Ideal) ℓ) (c : Dev nD) (D : Data) : Prop where
  x : Has (show FVec Ideal S8192x1024 .f32 from V m c (Pipeline.arrRef spec0 0)) D.x
  a : Has (show FVec Ideal S8192x512 .bf16 from V m c (Pipeline.arrRef spec0 1)) D.a
  b : Has (show FVec Ideal S8192x512 .f32 from V m c (Pipeline.arrRef spec0 2)) D.b
  o : Has (show FVec Ideal S1024x1024 .bf16 from V m c (Pipeline.arrRef spec0 3)) D.o
  g : Has (show FVec Ideal S1x1024 .f32 from V m c (Pipeline.arrRef spec0 4)) D.g
  u : Has (show FVec Ideal S1024x5632 .bf16 from V m c (Pipeline.arrRef spec0 5)) D.u

/-- The part of an array that a block shows. -/
theorem rows_has {A B A' B' : ℕ} {x : (⟨2, ![A, B]⟩ : Shape).Idx → EReal} {f : ℕ → ℕ → EReal} (hx : Has x f) (p : ℕ)
    {y : (⟨2, ![A', B']⟩ : Shape).Idx → EReal} (em : (⟨2, ![A', B']⟩ : Shape).Idx → (⟨2, ![A, B]⟩ : Shape).Idx) (hy : ∀ i, y i = x (em i))
    (h0 : ∀ i, (em i 0).val = p + (i 0).val) (h1 : ∀ i, (em i 1).val = (i 1).val) : Has y fun t k => f (p + t) k := fun i => by
  rw [hy, hx, h0, h1]

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel
theorem index8 : ∀ t : Fin grid0.N, win0_8.index t 0 = t.val ∧ win0_8.index t 1 = 0 := by decide +kernel

variable {m : (ℓ : Loc nD τ sig) → Buf (Elt Ideal) ℓ} {c : Dev nD} {D : Data} (hO : Operands m c D)
include hO

set_option maxHeartbeats 2000000 in
/-- A point's blocks are its rows of the operands. -/
theorem reads_at (t : Fin cfg0.N) :
    Reads D t.val (iblk m c 1 t) (iblk m c 2 t) (iblk m c 0 t) (iblk m c 3 t) (iblk m c 4 t) (iblk m c 5 t) where
  x := rows_has hO.x _ (fun i => (win0_0.blk t).view.emb i) (fun _ => rfl) (fun i => by blk_simp; have := index0 t; omega)
    (fun i => by blk_simp; have := index0 t; omega)
  a := rows_has hO.a _ (fun i => (win0_1.blk t).view.emb i) (fun _ => rfl) (fun i => by blk_simp; have := index1 t; omega)
    (fun i => by blk_simp; have := index1 t; omega)
  b := rows_has hO.b _ (fun i => (win0_2.blk t).view.emb i) (fun _ => rfl) (fun i => by blk_simp; have := index2 t; omega)
    (fun i => by blk_simp; have := index2 t; omega)
  o := fun i => (rows_has hO.o 0 (fun i => (win0_3.blk t).view.emb i) (fun _ => rfl) (fun i => by blk_simp; have := index3 t; omega)
    (fun i => by blk_simp; have := index3 t; omega) i).trans (by simp only [Nat.zero_add])
  g := fun i => (rows_has hO.g 0 (fun i => (win0_4.blk t).view.emb i) (fun _ => rfl) (fun i => by blk_simp; have := index4 t; omega)
    (fun i => by blk_simp; have := index4 t; omega) i).trans (by simp only [Nat.zero_add])
  u := fun i => (rows_has hO.u 0 (fun i => (win0_5.blk t).view.emb i) (fun _ => rfl) (fun i => by blk_simp; have := index5 t; omega)
    (fun i => by blk_simp; have := index5 t; omega) i).trans (by simp only [Nat.zero_add])

/-! ## What a point leaves -/

theorem left_x2 (t : Fin cfg0.N) : Has (show FVec Ideal S512x1024 .f32 from (dats m 0 c).after 6 t) fun a k => D.x2 (512 * t.val + a) k := fun i => by
  refine (congrFun ((after0_6 m c t).trans ?_) i).trans (tile_x2 (reads_at hO t) i)
  unfold out0_6
  rw [View.canon_unit_zero (S := S512x1024) zeros]
  simp only [View.ld_unit_zero (S := S512x1024) zeros, View.ld_unit_zero (S := S512x512) zeros, View.ld_unit_zero (S := S1024x1024) zeros]

theorem left_h2 (t : Fin cfg0.N) : Has (show FVec Ideal S512x1024 .bf16 from (dats m 0 c).after 7 t) fun a k => D.h2 (512 * t.val + a) k := fun i => by
  refine (congrFun ((after0_7 m c t).trans ?_) i).trans (tile_h2 (reads_at hO t) i)
  unfold out0_7
  rw [View.canon_unit_zero (S := S512x1024) zeros]
  simp only [View.ld_unit_zero (S := S512x1024) zeros, View.ld_unit_zero (S := S512x512) zeros, View.ld_unit_zero (S := S1024x1024) zeros,
    View.ld_unit_zero (S := S1x1024) zeros]

theorem left_up (t : Fin cfg0.N) : Has (show FVec Ideal S512x5632 .f32 from (dats m 0 c).after 8 t) fun a j => D.up (512 * t.val + a) j := fun i => by
  refine (congrFun ((after0_8 m c t).trans ?_) i).trans (tile_up (reads_at hO t) i)
  unfold out0_8
  rw [View.canon_unit_zero (S := S512x5632) zeros]
  simp only [View.ld_unit_zero (S := S512x1024) zeros, View.ld_unit_zero (S := S512x512) zeros, View.ld_unit_zero (S := S1024x1024) zeros,
    View.ld_unit_zero (S := S1x1024) zeros, View.ld_unit_zero (S := S1024x5632) zeros]

/-! ## The results -/

theorem x2_array : Has (show FVec Ideal S8192x1024 .f32 from (dats m 0 c).arrAt 6 cfg0.N) D.x2 := fun i => by
  refine (dats m 0 c).arrAt_forall_of_covers 6 (fun i v => v = D.x2 (i 0).val (i 1).val) (by decide +kernel) (fun t hf y => ?_) i
  have e0 : ((win0_6.blk t).view.emb y 0 : ℕ) = 512 * t.val + (y 0).val := by blk_simp; have := index6 t; omega
  have e1 : ((win0_6.blk t).view.emb y 1 : ℕ) = (y 1).val := by blk_simp; have := index6 t; omega
  exact (left_x2 hO t y).trans (by rw [e0, e1])

theorem h2_array : Has (show FVec Ideal S8192x1024 .bf16 from (dats m 0 c).arrAt 7 cfg0.N) D.h2 := fun i => by
  refine (dats m 0 c).arrAt_forall_of_covers 7 (fun i v => v = D.h2 (i 0).val (i 1).val) (by decide +kernel) (fun t hf y => ?_) i
  have e0 : ((win0_7.blk t).view.emb y 0 : ℕ) = 512 * t.val + (y 0).val := by blk_simp; have := index7 t; omega
  have e1 : ((win0_7.blk t).view.emb y 1 : ℕ) = (y 1).val := by blk_simp; have := index7 t; omega
  exact (left_h2 hO t y).trans (by rw [e0, e1])

theorem up_array : Has (show FVec Ideal S8192x5632 .f32 from (dats m 0 c).arrAt 8 cfg0.N) D.up := fun i => by
  refine (dats m 0 c).arrAt_forall_of_covers 8 (fun i v => v = D.up (i 0).val (i 1).val) (by decide +kernel) (fun t hf y => ?_) i
  have e0 : ((win0_8.blk t).view.emb y 0 : ℕ) = 512 * t.val + (y 0).val := by blk_simp; have := index8 t; omega
  have e1 : ((win0_8.blk t).view.emb y 1 : ℕ) = (y 1).val := by blk_simp; have := index8 t; omega
  exact (left_up hO t y).trans (by rw [e0, e1])

end Cert.FwdMid

end
-- ==== Proof.FmEqual.lean ====
/- The results of the forward pass between the mixers and the feed-forward are the plain reference's, entry by entry, whatever
   the arguments. -/
module

public import proofs.«01_k».proof.Defs
public import proofs.«01_k».proof.Proof.FmRef
public import proofs.«01_k».proof.Proof.FmFold
public import proofs.«01_k».proof.Proof.Gen.Kernel5
public import proofs.«01_k».proof.Proof.Gen.Reference5Ideal
public import proofs.«01_k».proof.Proof.Gen.Reference5Ideal.Run
public import Idealize.ShloMosaic.Lib.StableHlo.RunRead
public import Idealize.ShloMosaic.Lib.Claim

@[expose] public section

set_option maxRecDepth 16384

noncomputable section

namespace Cert.FwdMid

open Cert.Reference5Ideal.Read Cert.Kernel5Ideal Cert.Kernel5Ideal.Gen
open Idealize.ShloMosaic Idealize.ShloMosaic.TcCoe Idealize.SL.Sem

/-! ## What the call is handed -/

section Host

variable {F : FTy → Type} [FloatOps F] (m : (ℓ : Loc nD τ sig) → Buf (Elt F) ℓ) (c : Dev nD)

/-- The first mixer's output and the two matrices reach the call rounded, which changes no extended real. -/
theorem host_mixed : V m c main_v0 = truncf .bf16 (m ((c.tc : Thread nD τ).loc main_arg1) : FVec F S8192x512 .f32) bitsLt_bf16_f32 := by
  unfold V
  simp only [hostOps0, List.flatten_cons, List.flatten_nil, List.append_nil]
  after_reads_simp

theorem host_out : V m c main_v1 = truncf .bf16 (m ((c.tc : Thread nD τ).loc main_arg3) : FVec F S1024x1024 .f32) bitsLt_bf16_f32 := by
  unfold V
  simp only [hostOps0, List.flatten_cons, List.flatten_nil, List.append_nil]
  after_reads_simp

theorem host_up : V m c main_v2 = truncf .bf16 (m ((c.tc : Thread nD τ).loc main_arg5) : FVec F S1024x5632 .f32) bitsLt_bf16_f32 := by
  unfold V
  simp only [hostOps0, List.flatten_cons, List.flatten_nil, List.append_nil]
  after_reads_simp

end Host

/-- The arguments' places. -/
def dataOf (x0 : FVec Ideal S8192x1024 .f32) (x1 x2 : FVec Ideal S8192x512 .f32) (x3 : FVec Ideal S1024x1024 .f32)
    (x4 : FVec Ideal S1x1024 .f32) (x5 : FVec Ideal S1024x5632 .f32) : Data where
  x := places x0
  a := places x1
  b := places x2
  o := places x3
  g := places x4
  u := places x5

section Both

variable {m : (ℓ : Loc nD τ sig) → Buf (Elt Ideal) ℓ} {c : Dev nD} {y0 : FVec Ideal S8192x1024 .f32} {y1 y2 : FVec Ideal S8192x512 .f32}
  {y3 : FVec Ideal S1024x1024 .f32} {y4 : FVec Ideal S1x1024 .f32} {y5 : FVec Ideal S1024x5632 .f32}

theorem args : Args (dataOf y0 y1 y2 y3 y4 y5) y0 y1 y2 y3 y4 y5 :=
  ⟨has_places y0, has_places y1, has_places y2, has_places y3, has_places y4, has_places y5⟩

variable (e0 : y0 = m ((c.tc : Thread nD τ).loc main_arg0)) (e1 : y1 = m ((c.tc : Thread nD τ).loc main_arg1))
  (e2 : y2 = m ((c.tc : Thread nD τ).loc main_arg2)) (e3 : y3 = m ((c.tc : Thread nD τ).loc main_arg3))
  (e4 : y4 = m ((c.tc : Thread nD τ).loc main_arg4)) (e5 : y5 = m ((c.tc : Thread nD τ).loc main_arg5))

include e0 e1 e2 e3 e4 e5

theorem launched : Operands m c (dataOf y0 y1 y2 y3 y4 y5) := by
  subst e0 e1 e2 e3 e4 e5
  exact {
    x := fun i => (congrFun (V_main_arg0 m c) i).trans (has_places _ i)
    a := fun i => (congrFun (host_mixed m c) i).trans (has_places _ i)
    b := fun i => (congrFun (V_main_arg2 m c) i).trans (has_places _ i)
    o := fun i => (congrFun (host_out m c) i).trans (has_places _ i)
    g := fun i => (congrFun (V_main_arg4 m c) i).trans (has_places _ i)
    u := fun i => (congrFun (host_up m c) i).trans (has_places _ i) }

theorem equal_x2 : val_main_v2 (F := Ideal) y0 y1 y2 y3 = (dats m 0 c).arrAt 6 cfg0.N :=
  funext fun i => (ref_x2 (args (y4 := y4) (y5 := y5)) i).trans (x2_array (launched e0 e1 e2 e3 e4 e5) i).symm
theorem equal_h2 : val_main_v17 (F := Ideal) y0 y1 y2 y3 y4 = (dats m 0 c).arrAt 7 cfg0.N :=
  funext fun i => (ref_h2 (args (y5 := y5)) i).trans (h2_array (launched e0 e1 e2 e3 e4 e5) i).symm
theorem equal_up : val_main_v18 (F := Ideal) y0 y1 y2 y3 y4 y5 = (dats m 0 c).arrAt 8 cfg0.N :=
  funext fun i => (ref_up args i).trans (up_array (launched e0 e1 e2 e3 e4 e5) i).symm

end Both

/-- The kernel's results are the plain reference's. -/
theorem equal_results : Cert.algebraic_Kernel5Ideal_Reference5Ideal (hKernel5Ideal := Cert.Kernel5Ideal.Gen.facts)
    (hReference5Ideal := Cert.Reference5Ideal.Gen.facts) := fun m ρ m' ρ' _ hargs => by
  refine ⟨fun c => (dats m 0 c).arrAt 6 cfg0.N, fun c => (dats m 0 c).arrAt 7 cfg0.N, fun c => (dats m 0 c).arrAt 8 cfg0.N,
    Cert.Kernel5Ideal.Value.run_blocks m ρ, ?_⟩
  refine (θ_run _ _ _).mono (fun _ h c => ?_) (Cert.Reference5Ideal.Value.run m' ρ')
  obtain ⟨e0, e1, e2, e3, e4, e5⟩ := hargs c
  exact ⟨(h c).1.trans ((val_main_v2_eq ..).trans (equal_x2 e0 e1 e2 e3 e4 e5)),
    (h c).2.1.trans ((val_main_v17_eq ..).trans (equal_h2 e0 e1 e2 e3 e4 e5)),
    (h c).2.2.1.trans ((val_main_v18_eq ..).trans (equal_up e0 e1 e2 e3 e4 e5)), (h c).2.2.2⟩

end Cert.FwdMid

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel5
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Equal
public import proofs.«01_k».proof.Proof.InEqual
public import proofs.«01_k».proof.Proof.FfEqual
public import proofs.«01_k».proof.Proof.MidEqual
public import proofs.«01_k».proof.Proof.FmEqual
public import Idealize.ShloMosaic.Lib.Claim

@[expose] public section

noncomputable section

namespace Cert.Proof

open Idealize.ShloMosaic Idealize.SL.Sem
open Cert.KernelIdeal Cert.KernelIdeal.Value Cert.KernelIdeal.Gen

/-- The named constant at bit patterns: the pattern of its literal. -/
@[reducible] def literal : Named Bits := ⟨fun _ _ {φ} w => FloatOps.ofBits φ w⟩

/-- The kernel as printed runs, leaves its arguments and every counter as they were: the idealized program's run
    at bit patterns, where the named constant is its literal and the two programs are the same. -/
theorem frame_Kernel : Cert.quiescent_Kernel (hKernel := Cert.Kernel.Gen.facts) := fun m ρ _ =>
  cast (by sl_kernel_rfl) (@Cert.KernelIdeal.Value.frame_main Bits _ literal m ρ)

/-- The reference runs, leaves its arguments and every counter as they were. -/
theorem frame_Reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2.2.2.2, sem_eq_zero_of_no_sems rfl r.2⟩)
    (Cert.ReferenceIdeal.Value.run m ρ)

/-- Of finite arguments the kernel's results are the plain gradient's. -/
theorem equal_results : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m ρ m' ρ' hpre hargs => by
  have hD := fun c => args_of_real _ _ _ _ _ (real_of_finite (hpre c).1) (real_of_finite (hpre c).2.1) (real_of_finite (hpre c).2.2.1)
    (real_of_finite (hpre c).2.2.2.1) (real_of_finite (hpre c).2.2.2.2)
  refine ⟨fun c => outQ (F := Ideal) ((dats m 0 c).arrAt 5 cfg0.N), fun c => outK (F := Ideal) ((dats m 0 c).arrAt 6 cfg0.N), fun c => outV (F := Ideal) ((dats m 0 c).arrAt 7 cfg0.N),
    fun c => outC (F := Ideal) ((dats m 0 c).arrAt 5 cfg0.N) ((dats m 0 c).arrAt 6 cfg0.N), ?_, ?_⟩
  · exact (θ_run _ _ _).mono (fun _ h c => ⟨(h.1 c).1, (h.1 c).2.1, (h.1 c).2.2.1, (h.1 c).2.2.2, h.2.1 c⟩)
      (θ_run_and (run_results m ρ) (frame_main m ρ))
  · refine (θ_run _ _ _).mono (fun _ h c => ?_) (Cert.ReferenceIdeal.Value.run m' ρ')
    obtain ⟨e0, e1, e2, e3, e4⟩ := hargs c
    have hq := equal_q e0 e1 e2 e3 e4 (by rw [e0, e1, e2, e3, e4]; exact hD c)
    have hk := equal_k e0 e1 e2 e3 e4 (by rw [e0, e1, e2, e3, e4]; exact hD c)
    have hv := equal_v e0 e1 e2 e3 e4 (by rw [e0, e1, e2, e3, e4]; exact hD c)
    have hc := equal_c e0 e1 e2 e3 e4 (by rw [e0, e1, e2, e3, e4]; exact hD c)
    exact ⟨(h c).1.trans ((Cert.ReferenceIdeal.Read.val_main_v80_eq m' c).trans hq),
      (h c).2.1.trans ((Cert.ReferenceIdeal.Read.val_main_v78_eq m' c).trans hk),
      (h c).2.2.1.trans ((Cert.ReferenceIdeal.Read.val_main_v52_eq m' c).trans hv),
      (h c).2.2.2.1.trans ((Cert.ReferenceIdeal.Read.val_main_v74_eq m' c).trans hc), (h c).2.2.2.2⟩

/-- The entry gradient's kernel as printed runs, leaves its arguments and every counter as they were: no operation was
    replaced in the idealized program. -/
theorem frame_Kernel2 : Cert.quiescent_Kernel2 (hKernel2 := Cert.Kernel2.Gen.facts) := fun m ρ _ =>
  cast (by sl_kernel_rfl) (@Cert.Kernel2Ideal.Gen.frame Bits _ m ρ)

/-- Its reference runs, leaves its arguments and every counter as they were. -/
theorem frame_Reference2 (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0) :=
  (θ_run Cert.Reference2Ideal.defs _ _).mono (fun r h => ⟨fun c => (h c).2.2.2.2, sem_eq_zero_of_no_sems rfl r.2⟩)
    (Cert.Reference2Ideal.Value.run m ρ)

/-- The feed-forward's kernel as printed runs, leaves its arguments and every counter as they were: no operation was
    replaced in the idealized program. -/
theorem frame_Kernel3 : Cert.quiescent_Kernel3 (hKernel3 := Cert.Kernel3.Gen.facts) := fun m ρ _ =>
  cast (by sl_kernel_rfl) (@Cert.Kernel3Ideal.Gen.frame Bits _ m ρ)

/-- Its reference runs, leaves its arguments and every counter as they were. -/
theorem frame_Reference3 (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0) :=
  (θ_run Cert.Reference3Ideal.defs _ _).mono (fun r h => ⟨fun c => (h c).2.2.2.2.2, sem_eq_zero_of_no_sems rfl r.2⟩)
    (Cert.Reference3Ideal.Value.run m ρ)

/-- The second norm's kernel as printed runs, leaves its arguments and every counter as they were: no operation was
    replaced in the idealized program. -/
theorem frame_Kernel4 : Cert.quiescent_Kernel4 (hKernel4 := Cert.Kernel4.Gen.facts) := fun m ρ _ =>
  cast (by sl_kernel_rfl) (@Cert.Kernel4Ideal.Gen.frame Bits _ m ρ)

/-- Its reference runs, leaves its arguments and every counter as they were. -/
theorem frame_Reference4 (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0) :=
  (θ_run Cert.Reference4Ideal.defs _ _).mono (fun r h => ⟨fun c => (h c).2.2.2.2, sem_eq_zero_of_no_sems rfl r.2⟩)
    (Cert.Reference4Ideal.Value.run m ρ)

/-- The kernel between the mixers and the feed-forward as printed runs, leaves its arguments and every counter as they were: no
    operation was replaced in the idealized program. -/
theorem frame_Kernel5 : Cert.quiescent_Kernel5 (hKernel5 := Cert.Kernel5.Gen.facts) := fun m ρ _ =>
  cast (by sl_kernel_rfl) (@Cert.Kernel5Ideal.Gen.frame Bits _ m ρ)

/-- Its reference runs, leaves its arguments and every counter as they were. -/
theorem frame_Reference5 (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0) :=
  (θ_run Cert.Reference5Ideal.defs _ _).mono (fun r h => ⟨fun c => (h c).2.2.2, sem_eq_zero_of_no_sems rfl r.2⟩)
    (Cert.Reference5Ideal.Value.run m ρ)

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite.Gen.facts, Cert.Pre_finite2.Gen.facts, Cert.Pre_finite3.Gen.facts, Cert.Pre_finite4.Gen.facts,
    frame_Kernel, fun m ρ _ => Cert.KernelIdeal.Value.frame_main m ρ, fun m ρ _ => Cert.KernelIdeal.Value.frame_main m ρ,
    fun m ρ _ => frame_Reference m ρ, fun m ρ _ => frame_Reference m ρ,
    frame_Kernel2, fun m ρ _ => Cert.Kernel2Ideal.Gen.frame m ρ, fun m ρ _ => Cert.Kernel2Ideal.Gen.frame m ρ,
    fun m ρ _ => frame_Reference2 m ρ, fun m ρ _ => frame_Reference2 m ρ,
    frame_Kernel3, fun m ρ _ => Cert.Kernel3Ideal.Gen.frame m ρ, fun m ρ _ => Cert.Kernel3Ideal.Gen.frame m ρ,
    fun m ρ _ => frame_Reference3 m ρ, fun m ρ _ => frame_Reference3 m ρ,
    frame_Kernel4, fun m ρ _ => Cert.Kernel4Ideal.Gen.frame m ρ, fun m ρ _ => Cert.Kernel4Ideal.Gen.frame m ρ,
    fun m ρ _ => frame_Reference4 m ρ, fun m ρ _ => frame_Reference4 m ρ,
    frame_Kernel5, fun m ρ _ => Cert.Kernel5Ideal.Gen.frame m ρ, fun m ρ _ => frame_Reference5 m ρ,
    IdealRules.named_const.statement Cert.KernelIdeal.κ "mask" .f32 0xF149F2CA#32 ⊥ rfl, equal_results, trivial, Cert.BwdIn.equal_results,
    trivial, Cert.FwdFfn.equal_results, trivial, Cert.BwdMid.equal_results, trivial, Cert.FwdMid.equal_results⟩

end Cert.Proof

end
